-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_LastS (m : (ℓ : Loc Cert.LastS.nD Cert.LastS.τ Cert.LastS.sig) → Buf (Elt Bits) ℓ) : Prop :=
  True

def Pre_LastSIdeal (m : (ℓ : Loc Cert.LastSIdeal.nD Cert.LastSIdeal.τ Cert.LastSIdeal.sig) → Buf (Elt Ideal) ℓ) : Prop :=
  True

def Pre_LastSRefIdeal (m : (ℓ : Loc Cert.LastSRefIdeal.nD Cert.LastSRefIdeal.τ Cert.LastSRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_Recall (m : (ℓ : Loc Cert.Recall.nD Cert.Recall.τ Cert.Recall.sig) → Buf (Elt Bits) ℓ) : Prop :=
  True

def Pre_RecallIdeal (m : (ℓ : Loc Cert.RecallIdeal.nD Cert.RecallIdeal.τ Cert.RecallIdeal.sig) → Buf (Elt Ideal) ℓ) : Prop :=
  True

def Pre_RecallIdeal_mem_finite [hPre_mem_finite : Cert.Pre_mem_finite.Facts] (m : (ℓ : Loc Cert.RecallIdeal.nD Cert.RecallIdeal.τ Cert.RecallIdeal.sig) → Buf (Elt Ideal) ℓ) : Prop :=
  ∀ c : Dev Cert.RecallIdeal.nD,
    (Cert.Pre_mem_finite.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1)) (m ((c.tc : Thread Cert.RecallIdeal.nD Cert.RecallIdeal.τ).loc Cert.RecallIdeal.main_arg2))).1 = (fun _ => 1#1)
    ∧ (Cert.Pre_mem_finite.fn (F := Ideal) (m ((c.tc : Thread Cert.RecallIdeal.nD Cert.RecallIdeal.τ).loc Cert.RecallIdeal.main_arg0)) (m ((c.tc : Thread Cert.RecallIdeal.nD Cert.RecallIdeal.τ).loc Cert.RecallIdeal.main_arg1)) (m ((c.tc : Thread Cert.RecallIdeal.nD Cert.RecallIdeal.τ).loc Cert.RecallIdeal.main_arg2))).2 = (fun _ => 1#1)

def Pre_RecallRefIdeal (m : (ℓ : Loc Cert.RecallRefIdeal.nD Cert.RecallRefIdeal.τ Cert.RecallRefIdeal.sig) → Buf (Elt Ideal) ℓ) : Prop :=
  True

def Pre_RecallRefIdeal_mem_finite [hPre_mem_finite : Cert.Pre_mem_finite.Facts] (m : (ℓ : Loc Cert.RecallRefIdeal.nD Cert.RecallRefIdeal.τ Cert.RecallRefIdeal.sig) → Buf (Elt Ideal) ℓ) : Prop :=
  ∀ c : Dev Cert.RecallRefIdeal.nD,
    (Cert.Pre_mem_finite.fn (F := Ideal) (m ((c.tc : Thread Cert.RecallRefIdeal.nD Cert.RecallRefIdeal.τ).loc Cert.RecallRefIdeal.main_arg0)) (m ((c.tc : Thread Cert.RecallRefIdeal.nD Cert.RecallRefIdeal.τ).loc Cert.RecallRefIdeal.main_arg1)) (m ((c.tc : Thread Cert.RecallRefIdeal.nD Cert.RecallRefIdeal.τ).loc Cert.RecallRefIdeal.main_arg2))).1 = (fun _ => 1#1)
    ∧ (Cert.Pre_mem_finite.fn (F := Ideal) (m ((c.tc : Thread Cert.RecallRefIdeal.nD Cert.RecallRefIdeal.τ).loc Cert.RecallRefIdeal.main_arg0)) (m ((c.tc : Thread Cert.RecallRefIdeal.nD Cert.RecallRefIdeal.τ).loc Cert.RecallRefIdeal.main_arg1)) (m ((c.tc : Thread Cert.RecallRefIdeal.nD Cert.RecallRefIdeal.τ).loc Cert.RecallRefIdeal.main_arg2))).2 = (fun _ => 1#1)

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_moba_finite [hPre_moba_finite : Cert.Pre_moba_finite.Facts] (m : (ℓ : Loc Cert.MobaIdeal.nD Cert.MobaIdeal.τ Cert.MobaIdeal.sig) → Buf (Elt Ideal) ℓ) : Prop :=
  ∀ c : Dev Cert.MobaIdeal.nD,
    (Cert.Pre_moba_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).1 = (fun _ => 1#1)
    ∧ (Cert.Pre_moba_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))).2 = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_moba_finite [hPre_moba_finite : Cert.Pre_moba_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_moba_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).1 = (fun _ => 1#1)
    ∧ (Cert.Pre_moba_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2.2 = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_LastS [hLastS : Cert.LastS.Facts] : Prop :=
  ∀ (m : (ℓ : Loc Cert.LastS.nD Cert.LastS.τ Cert.LastS.sig) → Buf (Elt Bits) ℓ) (g : Dev Cert.LastS.nD → PrngReg), Pre_LastS m →
    θ_run (Cert.LastS.defs (F := Bits)) (onTc (τ := Cert.LastS.τ) (Cert.LastS.main (F := Bits))) ⟨m, fun _ => 0, g⟩ (fun r => (∀ c : Dev Cert.LastS.nD,
      r.2.mem ((c.tc : Thread Cert.LastS.nD Cert.LastS.τ).loc Cert.LastS.main_arg0) = m ((c.tc : Thread Cert.LastS.nD Cert.LastS.τ).loc Cert.LastS.main_arg0)
      ∧ r.2.mem ((c.tc : Thread Cert.LastS.nD Cert.LastS.τ).loc Cert.LastS.main_arg1) = m ((c.tc : Thread Cert.LastS.nD Cert.LastS.τ).loc Cert.LastS.main_arg1)
      ∧ r.2.mem ((c.tc : Thread Cert.LastS.nD Cert.LastS.τ).loc Cert.LastS.main_arg2) = m ((c.tc : Thread Cert.LastS.nD Cert.LastS.τ).loc Cert.LastS.main_arg2)
      ∧ r.2.mem ((c.tc : Thread Cert.LastS.nD Cert.LastS.τ).loc Cert.LastS.main_arg3) = m ((c.tc : Thread Cert.LastS.nD Cert.LastS.τ).loc Cert.LastS.main_arg3)
      ∧ r.2.mem ((c.tc : Thread Cert.LastS.nD Cert.LastS.τ).loc Cert.LastS.main_arg4) = m ((c.tc : Thread Cert.LastS.nD Cert.LastS.τ).loc Cert.LastS.main_arg4)
      ∧ r.2.mem ((c.tc : Thread Cert.LastS.nD Cert.LastS.τ).loc Cert.LastS.main_arg5) = m ((c.tc : Thread Cert.LastS.nD Cert.LastS.τ).loc Cert.LastS.main_arg5)
      ∧ r.2.mem ((c.tc : Thread Cert.LastS.nD Cert.LastS.τ).loc Cert.LastS.main_arg6) = m ((c.tc : Thread Cert.LastS.nD Cert.LastS.τ).loc Cert.LastS.main_arg6)
      ∧ r.2.mem ((c.tc : Thread Cert.LastS.nD Cert.LastS.τ).loc Cert.LastS.main_arg7) = m ((c.tc : Thread Cert.LastS.nD Cert.LastS.τ).loc Cert.LastS.main_arg7))
      ∧ r.2.sem = fun _ => 0)

def quiescent_LastSIdeal [hLastSIdeal : Cert.LastSIdeal.Facts] : Prop :=
  ∀ (m : (ℓ : Loc Cert.LastSIdeal.nD Cert.LastSIdeal.τ Cert.LastSIdeal.sig) → Buf (Elt Ideal) ℓ) (g : Dev Cert.LastSIdeal.nD → PrngReg), Pre_LastSIdeal m →
    θ_run (Cert.LastSIdeal.defs (F := Ideal)) (onTc (τ := Cert.LastSIdeal.τ) (Cert.LastSIdeal.main (F := Ideal))) ⟨m, fun _ => 0, g⟩ (fun r => (∀ c : Dev Cert.LastSIdeal.nD,
      r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
      ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
      ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
      ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3)
      ∧ r.2.mem ((c.tc : Thread Cert.LastSIdeal.nD Cert.LastSIdeal.τ).loc Cert.LastSIdeal.main_arg4) = m ((c.tc : Thread Cert.LastSIdeal.nD Cert.LastSIdeal.τ).loc Cert.LastSIdeal.main_arg4)
      ∧ r.2.mem ((c.tc : Thread Cert.LastSIdeal.nD Cert.LastSIdeal.τ).loc Cert.LastSIdeal.main_arg5) = m ((c.tc : Thread Cert.LastSIdeal.nD Cert.LastSIdeal.τ).loc Cert.LastSIdeal.main_arg5)
      ∧ r.2.mem ((c.tc : Thread Cert.LastSIdeal.nD Cert.LastSIdeal.τ).loc Cert.LastSIdeal.main_arg6) = m ((c.tc : Thread Cert.LastSIdeal.nD Cert.LastSIdeal.τ).loc Cert.LastSIdeal.main_arg6)
      ∧ r.2.mem ((c.tc : Thread Cert.LastSIdeal.nD Cert.LastSIdeal.τ).loc Cert.LastSIdeal.main_arg7) = m ((c.tc : Thread Cert.LastSIdeal.nD Cert.LastSIdeal.τ).loc Cert.LastSIdeal.main_arg7))
      ∧ r.2.sem = fun _ => 0)

def quiescent_LastSRefIdeal [hLastSRefIdeal : Cert.LastSRefIdeal.Facts] : Prop :=
  ∀ (m : (ℓ : Loc Cert.LastSRefIdeal.nD Cert.LastSRefIdeal.τ Cert.LastSRefIdeal.sig) → Buf (Elt Ideal) ℓ) (g : Dev Cert.LastSRefIdeal.nD → PrngReg), Pre_LastSRefIdeal m →
    θ_run (Cert.LastSRefIdeal.defs (F := Ideal)) (onTc (τ := Cert.LastSRefIdeal.τ) (Cert.LastSRefIdeal.main (F := Ideal))) ⟨m, fun _ => 0, g⟩ (fun r => (∀ c : Dev Cert.LastSRefIdeal.nD,
      r.2.mem ((c.tc : Thread Cert.LastSRefIdeal.nD Cert.LastSRefIdeal.τ).loc Cert.LastSRefIdeal.main_arg0) = m ((c.tc : Thread Cert.LastSRefIdeal.nD Cert.LastSRefIdeal.τ).loc Cert.LastSRefIdeal.main_arg0)
      ∧ r.2.mem ((c.tc : Thread Cert.LastSRefIdeal.nD Cert.LastSRefIdeal.τ).loc Cert.LastSRefIdeal.main_arg1) = m ((c.tc : Thread Cert.LastSRefIdeal.nD Cert.LastSRefIdeal.τ).loc Cert.LastSRefIdeal.main_arg1)
      ∧ r.2.mem ((c.tc : Thread Cert.LastSRefIdeal.nD Cert.LastSRefIdeal.τ).loc Cert.LastSRefIdeal.main_arg2) = m ((c.tc : Thread Cert.LastSRefIdeal.nD Cert.LastSRefIdeal.τ).loc Cert.LastSRefIdeal.main_arg2)
      ∧ r.2.mem ((c.tc : Thread Cert.LastSRefIdeal.nD Cert.LastSRefIdeal.τ).loc Cert.LastSRefIdeal.main_arg3) = m ((c.tc : Thread Cert.LastSRefIdeal.nD Cert.LastSRefIdeal.τ).loc Cert.LastSRefIdeal.main_arg3)
      ∧ r.2.mem ((c.tc : Thread Cert.LastSRefIdeal.nD Cert.LastSRefIdeal.τ).loc Cert.LastSRefIdeal.main_arg4) = m ((c.tc : Thread Cert.LastSRefIdeal.nD Cert.LastSRefIdeal.τ).loc Cert.LastSRefIdeal.main_arg4)
      ∧ r.2.mem ((c.tc : Thread Cert.LastSRefIdeal.nD Cert.LastSRefIdeal.τ).loc Cert.LastSRefIdeal.main_arg5) = m ((c.tc : Thread Cert.LastSRefIdeal.nD Cert.LastSRefIdeal.τ).loc Cert.LastSRefIdeal.main_arg5)
      ∧ r.2.mem ((c.tc : Thread Cert.LastSRefIdeal.nD Cert.LastSRefIdeal.τ).loc Cert.LastSRefIdeal.main_arg6) = m ((c.tc : Thread Cert.LastSRefIdeal.nD Cert.LastSRefIdeal.τ).loc Cert.LastSRefIdeal.main_arg6)
      ∧ r.2.mem ((c.tc : Thread Cert.LastSRefIdeal.nD Cert.LastSRefIdeal.τ).loc Cert.LastSRefIdeal.main_arg7) = m ((c.tc : Thread Cert.LastSRefIdeal.nD Cert.LastSRefIdeal.τ).loc Cert.LastSRefIdeal.main_arg7))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2))
      ∧ r.2.sem = fun _ => 0)

def quiescent_Recall [hRecall : Cert.Recall.Facts] : Prop :=
  ∀ (m : (ℓ : Loc Cert.Recall.nD Cert.Recall.τ Cert.Recall.sig) → Buf (Elt Bits) ℓ) (g : Dev Cert.Recall.nD → PrngReg), Pre_Recall m →
    θ_run (Cert.Recall.defs (F := Bits)) (onTc (τ := Cert.Recall.τ) (Cert.Recall.main (F := Bits))) ⟨m, fun _ => 0, g⟩ (fun r => (∀ c : Dev Cert.Recall.nD,
      r.2.mem ((c.tc : Thread Cert.Recall.nD Cert.Recall.τ).loc Cert.Recall.main_arg0) = m ((c.tc : Thread Cert.Recall.nD Cert.Recall.τ).loc Cert.Recall.main_arg0)
      ∧ r.2.mem ((c.tc : Thread Cert.Recall.nD Cert.Recall.τ).loc Cert.Recall.main_arg1) = m ((c.tc : Thread Cert.Recall.nD Cert.Recall.τ).loc Cert.Recall.main_arg1)
      ∧ r.2.mem ((c.tc : Thread Cert.Recall.nD Cert.Recall.τ).loc Cert.Recall.main_arg2) = m ((c.tc : Thread Cert.Recall.nD Cert.Recall.τ).loc Cert.Recall.main_arg2))
      ∧ r.2.sem = fun _ => 0)

def quiescent_RecallIdeal [hRecallIdeal : Cert.RecallIdeal.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1)
      ∧ r.2.mem ((c.tc : Thread Cert.RecallIdeal.nD Cert.RecallIdeal.τ).loc Cert.RecallIdeal.main_arg2) = m ((c.tc : Thread Cert.RecallIdeal.nD Cert.RecallIdeal.τ).loc Cert.RecallIdeal.main_arg2))
      ∧ r.2.sem = fun _ => 0)

def quiescent_RecallIdeal_pre_mem_finite [hRecallIdeal : Cert.RecallIdeal.Facts] [hPre_mem_finite : Cert.Pre_mem_finite.Facts] : Prop :=
  ∀ (m : (ℓ : Loc Cert.RecallIdeal.nD Cert.RecallIdeal.τ Cert.RecallIdeal.sig) → Buf (Elt Ideal) ℓ) (g : Dev Cert.RecallIdeal.nD → PrngReg), Pre_RecallIdeal_mem_finite m →
    θ_run (Cert.RecallIdeal.defs (F := Ideal)) (onTc (τ := Cert.RecallIdeal.τ) (Cert.RecallIdeal.main (F := Ideal))) ⟨m, fun _ => 0, g⟩ (fun r => (∀ c : Dev Cert.RecallIdeal.nD,
      r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
      ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1)
      ∧ r.2.mem ((c.tc : Thread Cert.RecallIdeal.nD Cert.RecallIdeal.τ).loc Cert.RecallIdeal.main_arg2) = m ((c.tc : Thread Cert.RecallIdeal.nD Cert.RecallIdeal.τ).loc Cert.RecallIdeal.main_arg2))
      ∧ r.2.sem = fun _ => 0)

def quiescent_RecallRefIdeal [hRecallRefIdeal : Cert.RecallRefIdeal.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1)
      ∧ r.2.mem ((c.tc : Thread Cert.RecallRefIdeal.nD Cert.RecallRefIdeal.τ).loc Cert.RecallRefIdeal.main_arg2) = m ((c.tc : Thread Cert.RecallRefIdeal.nD Cert.RecallRefIdeal.τ).loc Cert.RecallRefIdeal.main_arg2))
      ∧ r.2.sem = fun _ => 0)

def quiescent_RecallRefIdeal_pre_mem_finite [hRecallRefIdeal : Cert.RecallRefIdeal.Facts] [hPre_mem_finite : Cert.Pre_mem_finite.Facts] : Prop :=
  ∀ (m : (ℓ : Loc Cert.RecallRefIdeal.nD Cert.RecallRefIdeal.τ Cert.RecallRefIdeal.sig) → Buf (Elt Ideal) ℓ) (g : Dev Cert.RecallRefIdeal.nD → PrngReg), Pre_RecallRefIdeal_mem_finite m →
    θ_run (Cert.RecallRefIdeal.defs (F := Ideal)) (onTc (τ := Cert.RecallRefIdeal.τ) (Cert.RecallRefIdeal.main (F := Ideal))) ⟨m, fun _ => 0, g⟩ (fun r => (∀ c : Dev Cert.RecallRefIdeal.nD,
      r.2.mem ((c.tc : Thread Cert.RecallRefIdeal.nD Cert.RecallRefIdeal.τ).loc Cert.RecallRefIdeal.main_arg0) = m ((c.tc : Thread Cert.RecallRefIdeal.nD Cert.RecallRefIdeal.τ).loc Cert.RecallRefIdeal.main_arg0)
      ∧ r.2.mem ((c.tc : Thread Cert.RecallRefIdeal.nD Cert.RecallRefIdeal.τ).loc Cert.RecallRefIdeal.main_arg1) = m ((c.tc : Thread Cert.RecallRefIdeal.nD Cert.RecallRefIdeal.τ).loc Cert.RecallRefIdeal.main_arg1)
      ∧ r.2.mem ((c.tc : Thread Cert.RecallRefIdeal.nD Cert.RecallRefIdeal.τ).loc Cert.RecallRefIdeal.main_arg2) = m ((c.tc : Thread Cert.RecallRefIdeal.nD Cert.RecallRefIdeal.τ).loc Cert.RecallRefIdeal.main_arg2))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_moba_finite [hMobaIdeal : Cert.MobaIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_moba_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_moba_finite [hMobaRefIdeal : Cert.MobaRefIdeal.Facts] [hPre_moba_finite : Cert.Pre_moba_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_moba_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v7_0)) (v1 : (c : Dev Cert.ConvIdeal.nD) → Buf (Elt Ideal) ((c.tc : Thread Cert.ConvIdeal.nD Cert.ConvIdeal.τ).loc Cert.ConvIdeal.main_v7_1)) (v2 : (c : Dev Cert.ConvIdeal.nD) → Buf (Elt Ideal) ((c.tc : Thread Cert.ConvIdeal.nD Cert.ConvIdeal.τ).loc Cert.ConvIdeal.main_v7_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v7_0) = v0 c
          ∧ r.2.mem ((c.tc : Thread Cert.ConvIdeal.nD Cert.ConvIdeal.τ).loc Cert.ConvIdeal.main_v7_1) = v1 c
          ∧ r.2.mem ((c.tc : Thread Cert.ConvIdeal.nD Cert.ConvIdeal.τ).loc Cert.ConvIdeal.main_v7_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v52) = v0 c
          ∧ r.2.mem ((c.tc : Thread Cert.ConvRefIdeal.nD Cert.ConvRefIdeal.τ).loc Cert.ConvRefIdeal.main_v54) = v1 c
          ∧ r.2.mem ((c.tc : Thread Cert.ConvRefIdeal.nD Cert.ConvRefIdeal.τ).loc Cert.ConvRefIdeal.main_v50) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)) →
    ∃ (v0 : (c : Dev Cert.ConvSIdeal.nD) → Buf (Elt Ideal) ((c.tc : Thread Cert.ConvSIdeal.nD Cert.ConvSIdeal.τ).loc Cert.ConvSIdeal.main_v16_0)) (v1 : (c : Dev Cert.ConvSIdeal.nD) → Buf (Elt Ideal) ((c.tc : Thread Cert.ConvSIdeal.nD Cert.ConvSIdeal.τ).loc Cert.ConvSIdeal.main_v16_1)) (v2 : (c : Dev Cert.ConvSIdeal.nD) → Buf (Elt Ideal) ((c.tc : Thread Cert.ConvSIdeal.nD Cert.ConvSIdeal.τ).loc Cert.ConvSIdeal.main_v16_2)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v16_0) = v0 c
          ∧ r.2.mem ((c.tc : Thread Cert.ConvSIdeal.nD Cert.ConvSIdeal.τ).loc Cert.ConvSIdeal.main_v16_1) = v1 c
          ∧ r.2.mem ((c.tc : Thread Cert.ConvSIdeal.nD Cert.ConvSIdeal.τ).loc Cert.ConvSIdeal.main_v16_2) = v2 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v50) = v0 c
          ∧ r.2.mem ((c.tc : Thread Cert.ConvSRefIdeal.nD Cert.ConvSRefIdeal.τ).loc Cert.ConvSRefIdeal.main_v51) = v1 c
          ∧ r.2.mem ((c.tc : Thread Cert.ConvSRefIdeal.nD Cert.ConvSRefIdeal.τ).loc Cert.ConvSRefIdeal.main_v52) = v2 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v31) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v8)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v8) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v44) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def preserves_LastS_LastSIdeal : Prop :=
  True

def algebraic_LastSIdeal_LastSRefIdeal [hLastSIdeal : Cert.LastSIdeal.Facts] [hLastSRefIdeal : Cert.LastSRefIdeal.Facts] : Prop :=
  ∀ (m : (ℓ : Loc Cert.LastSIdeal.nD Cert.LastSIdeal.τ Cert.LastSIdeal.sig) → Buf (Elt Ideal) ℓ) (g : Dev Cert.LastSIdeal.nD → PrngReg)
    (m' : (ℓ : Loc Cert.LastSRefIdeal.nD Cert.LastSRefIdeal.τ Cert.LastSRefIdeal.sig) → Buf (Elt Ideal) ℓ) (g' : Dev Cert.LastSRefIdeal.nD → PrngReg), Pre_LastSIdeal m →
    (∀ c : Dev Cert.LastSIdeal.nD,
      m' ((c.tc : Thread Cert.LastSRefIdeal.nD Cert.LastSRefIdeal.τ).loc Cert.LastSRefIdeal.main_arg0) = m ((c.tc : Thread Cert.LastSIdeal.nD Cert.LastSIdeal.τ).loc Cert.LastSIdeal.main_arg0)
      ∧ m' ((c.tc : Thread Cert.LastSRefIdeal.nD Cert.LastSRefIdeal.τ).loc Cert.LastSRefIdeal.main_arg1) = m ((c.tc : Thread Cert.LastSIdeal.nD Cert.LastSIdeal.τ).loc Cert.LastSIdeal.main_arg1)
      ∧ m' ((c.tc : Thread Cert.LastSRefIdeal.nD Cert.LastSRefIdeal.τ).loc Cert.LastSRefIdeal.main_arg2) = m ((c.tc : Thread Cert.LastSIdeal.nD Cert.LastSIdeal.τ).loc Cert.LastSIdeal.main_arg2)
      ∧ m' ((c.tc : Thread Cert.LastSRefIdeal.nD Cert.LastSRefIdeal.τ).loc Cert.LastSRefIdeal.main_arg3) = m ((c.tc : Thread Cert.LastSIdeal.nD Cert.LastSIdeal.τ).loc Cert.LastSIdeal.main_arg3)
      ∧ m' ((c.tc : Thread Cert.LastSRefIdeal.nD Cert.LastSRefIdeal.τ).loc Cert.LastSRefIdeal.main_arg4) = m ((c.tc : Thread Cert.LastSIdeal.nD Cert.LastSIdeal.τ).loc Cert.LastSIdeal.main_arg4)
      ∧ m' ((c.tc : Thread Cert.LastSRefIdeal.nD Cert.LastSRefIdeal.τ).loc Cert.LastSRefIdeal.main_arg5) = m ((c.tc : Thread Cert.LastSIdeal.nD Cert.LastSIdeal.τ).loc Cert.LastSIdeal.main_arg5)
      ∧ m' ((c.tc : Thread Cert.LastSRefIdeal.nD Cert.LastSRefIdeal.τ).loc Cert.LastSRefIdeal.main_arg6) = m ((c.tc : Thread Cert.LastSIdeal.nD Cert.LastSIdeal.τ).loc Cert.LastSIdeal.main_arg6)
      ∧ m' ((c.tc : Thread Cert.LastSRefIdeal.nD Cert.LastSRefIdeal.τ).loc Cert.LastSRefIdeal.main_arg7) = m ((c.tc : Thread Cert.LastSIdeal.nD Cert.LastSIdeal.τ).loc Cert.LastSIdeal.main_arg7)) →
    ∃ (v0 : (c : Dev Cert.LastSIdeal.nD) → Buf (Elt Ideal) ((c.tc : Thread Cert.LastSIdeal.nD Cert.LastSIdeal.τ).loc Cert.LastSIdeal.main_v8)),
      θ_run (Cert.LastSIdeal.defs (F := Ideal)) (onTc (τ := Cert.LastSIdeal.τ) (Cert.LastSIdeal.main (F := Ideal))) ⟨m, fun _ => 0, g⟩ (fun r => ∀ c : Dev Cert.LastSIdeal.nD,
          r.2.mem ((c.tc : Thread Cert.LastSIdeal.nD Cert.LastSIdeal.τ).loc Cert.LastSIdeal.main_v8) = v0 c
          ∧ r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
          ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
          ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2)
          ∧ r.2.mem ((c.tc : Thread Cert.LastSIdeal.nD Cert.LastSIdeal.τ).loc Cert.LastSIdeal.main_arg3) = m ((c.tc : Thread Cert.LastSIdeal.nD Cert.LastSIdeal.τ).loc Cert.LastSIdeal.main_arg3)
          ∧ r.2.mem ((c.tc : Thread Cert.LastSIdeal.nD Cert.LastSIdeal.τ).loc Cert.LastSIdeal.main_arg4) = m ((c.tc : Thread Cert.LastSIdeal.nD Cert.LastSIdeal.τ).loc Cert.LastSIdeal.main_arg4)
          ∧ r.2.mem ((c.tc : Thread Cert.LastSIdeal.nD Cert.LastSIdeal.τ).loc Cert.LastSIdeal.main_arg5) = m ((c.tc : Thread Cert.LastSIdeal.nD Cert.LastSIdeal.τ).loc Cert.LastSIdeal.main_arg5)
          ∧ r.2.mem ((c.tc : Thread Cert.LastSIdeal.nD Cert.LastSIdeal.τ).loc Cert.LastSIdeal.main_arg6) = m ((c.tc : Thread Cert.LastSIdeal.nD Cert.LastSIdeal.τ).loc Cert.LastSIdeal.main_arg6)
          ∧ r.2.mem ((c.tc : Thread Cert.LastSIdeal.nD Cert.LastSIdeal.τ).loc Cert.LastSIdeal.main_arg7) = m ((c.tc : Thread Cert.LastSIdeal.nD Cert.LastSIdeal.τ).loc Cert.LastSIdeal.main_arg7))
      ∧ θ_run (Cert.LastSRefIdeal.defs (F := Ideal)) (onTc (τ := Cert.LastSRefIdeal.τ) (Cert.LastSRefIdeal.main (F := Ideal))) ⟨m', fun _ => 0, g'⟩ (fun r => ∀ c : Dev Cert.LastSRefIdeal.nD,
          r.2.mem ((c.tc : Thread Cert.LastSRefIdeal.nD Cert.LastSRefIdeal.τ).loc Cert.LastSRefIdeal.main_v42) = v0 c
          ∧ r.2.mem ((c.tc : Thread Cert.LastSRefIdeal.nD Cert.LastSRefIdeal.τ).loc Cert.LastSRefIdeal.main_arg0) = m' ((c.tc : Thread Cert.LastSRefIdeal.nD Cert.LastSRefIdeal.τ).loc Cert.LastSRefIdeal.main_arg0)
          ∧ r.2.mem ((c.tc : Thread Cert.LastSRefIdeal.nD Cert.LastSRefIdeal.τ).loc Cert.LastSRefIdeal.main_arg1) = m' ((c.tc : Thread Cert.LastSRefIdeal.nD Cert.LastSRefIdeal.τ).loc Cert.LastSRefIdeal.main_arg1)
          ∧ r.2.mem ((c.tc : Thread Cert.LastSRefIdeal.nD Cert.LastSRefIdeal.τ).loc Cert.LastSRefIdeal.main_arg2) = m' ((c.tc : Thread Cert.LastSRefIdeal.nD Cert.LastSRefIdeal.τ).loc Cert.LastSRefIdeal.main_arg2)
          ∧ r.2.mem ((c.tc : Thread Cert.LastSRefIdeal.nD Cert.LastSRefIdeal.τ).loc Cert.LastSRefIdeal.main_arg3) = m' ((c.tc : Thread Cert.LastSRefIdeal.nD Cert.LastSRefIdeal.τ).loc Cert.LastSRefIdeal.main_arg3)
          ∧ r.2.mem ((c.tc : Thread Cert.LastSRefIdeal.nD Cert.LastSRefIdeal.τ).loc Cert.LastSRefIdeal.main_arg4) = m' ((c.tc : Thread Cert.LastSRefIdeal.nD Cert.LastSRefIdeal.τ).loc Cert.LastSRefIdeal.main_arg4)
          ∧ r.2.mem ((c.tc : Thread Cert.LastSRefIdeal.nD Cert.LastSRefIdeal.τ).loc Cert.LastSRefIdeal.main_arg5) = m' ((c.tc : Thread Cert.LastSRefIdeal.nD Cert.LastSRefIdeal.τ).loc Cert.LastSRefIdeal.main_arg5)
          ∧ r.2.mem ((c.tc : Thread Cert.LastSRefIdeal.nD Cert.LastSRefIdeal.τ).loc Cert.LastSRefIdeal.main_arg6) = m' ((c.tc : Thread Cert.LastSRefIdeal.nD Cert.LastSRefIdeal.τ).loc Cert.LastSRefIdeal.main_arg6)
          ∧ r.2.mem ((c.tc : Thread Cert.LastSRefIdeal.nD Cert.LastSRefIdeal.τ).loc Cert.LastSRefIdeal.main_arg7) = m' ((c.tc : Thread Cert.LastSRefIdeal.nD Cert.LastSRefIdeal.τ).loc Cert.LastSRefIdeal.main_arg7))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v3_0)) (v1 : (c : Dev Cert.KeysIdeal.nD) → Buf (Elt Ideal) ((c.tc : Thread Cert.KeysIdeal.nD Cert.KeysIdeal.τ).loc Cert.KeysIdeal.main_v3_1)) (v2 : (c : Dev Cert.KeysIdeal.nD) → Buf (Elt Ideal) ((c.tc : Thread Cert.KeysIdeal.nD Cert.KeysIdeal.τ).loc Cert.KeysIdeal.main_v3_2)) (v3 : (c : Dev Cert.KeysIdeal.nD) → Buf (Elt Ideal) ((c.tc : Thread Cert.KeysIdeal.nD Cert.KeysIdeal.τ).loc Cert.KeysIdeal.main_v3_3)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v3_0) = v0 c
          ∧ r.2.mem ((c.tc : Thread Cert.KeysIdeal.nD Cert.KeysIdeal.τ).loc Cert.KeysIdeal.main_v3_1) = v1 c
          ∧ r.2.mem ((c.tc : Thread Cert.KeysIdeal.nD Cert.KeysIdeal.τ).loc Cert.KeysIdeal.main_v3_2) = v2 c
          ∧ r.2.mem ((c.tc : Thread Cert.KeysIdeal.nD Cert.KeysIdeal.τ).loc Cert.KeysIdeal.main_v3_3) = v3 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v17) = v0 c
          ∧ r.2.mem ((c.tc : Thread Cert.KeysRefIdeal.nD Cert.KeysRefIdeal.τ).loc Cert.KeysRefIdeal.main_v18) = v1 c
          ∧ r.2.mem ((c.tc : Thread Cert.KeysRefIdeal.nD Cert.KeysRefIdeal.τ).loc Cert.KeysRefIdeal.main_v19) = v2 c
          ∧ r.2.mem ((c.tc : Thread Cert.KeysRefIdeal.nD Cert.KeysRefIdeal.τ).loc Cert.KeysRefIdeal.main_v20) = v3 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)) (v2 : (c : Dev Cert.KvIdeal.nD) → Buf (Elt Ideal) ((c.tc : Thread Cert.KvIdeal.nD Cert.KvIdeal.τ).loc Cert.KvIdeal.main_v2_2)) (v3 : (c : Dev Cert.KvIdeal.nD) → Buf (Elt Ideal) ((c.tc : Thread Cert.KvIdeal.nD Cert.KvIdeal.τ).loc Cert.KvIdeal.main_v2_3)) (v4 : (c : Dev Cert.KvIdeal.nD) → Buf (Elt Ideal) ((c.tc : Thread Cert.KvIdeal.nD Cert.KvIdeal.τ).loc Cert.KvIdeal.main_v2_4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_v2_2) = v2 c
          ∧ r.2.mem ((c.tc : Thread Cert.KvIdeal.nD Cert.KvIdeal.τ).loc Cert.KvIdeal.main_v2_3) = v3 c
          ∧ r.2.mem ((c.tc : Thread Cert.KvIdeal.nD Cert.KvIdeal.τ).loc Cert.KvIdeal.main_v2_4) = v4 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_v15) = v1 c
          ∧ r.2.mem ((c.tc : Thread Cert.KvRefIdeal.nD Cert.KvRefIdeal.τ).loc Cert.KvRefIdeal.main_v59) = v2 c
          ∧ r.2.mem ((c.tc : Thread Cert.KvRefIdeal.nD Cert.KvRefIdeal.τ).loc Cert.KvRefIdeal.main_v60) = v3 c
          ∧ r.2.mem ((c.tc : Thread Cert.KvRefIdeal.nD Cert.KvRefIdeal.τ).loc Cert.KvRefIdeal.main_v20) = v4 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)) →
    ∃ (v0 : (c : Dev Cert.KvSIdeal.nD) → Buf (Elt Ideal) ((c.tc : Thread Cert.KvSIdeal.nD Cert.KvSIdeal.τ).loc Cert.KvSIdeal.main_v3_0)) (v1 : (c : Dev Cert.KvSIdeal.nD) → Buf (Elt Ideal) ((c.tc : Thread Cert.KvSIdeal.nD Cert.KvSIdeal.τ).loc Cert.KvSIdeal.main_v3_1)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v3_0) = v0 c
          ∧ r.2.mem ((c.tc : Thread Cert.KvSIdeal.nD Cert.KvSIdeal.τ).loc Cert.KvSIdeal.main_v3_1) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v15) = v0 c
          ∧ r.2.mem ((c.tc : Thread Cert.KvSRefIdeal.nD Cert.KvSRefIdeal.τ).loc Cert.KvSRefIdeal.main_v16) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2))

def preserves_Recall_RecallIdeal : Prop :=
  True

def algebraic_RecallIdeal_RecallRefIdeal_pre_mem_finite [hRecallIdeal : Cert.RecallIdeal.Facts] [hRecallRefIdeal : Cert.RecallRefIdeal.Facts] [hPre_mem_finite : Cert.Pre_mem_finite.Facts] : Prop :=
  ∀ (m : (ℓ : Loc Cert.RecallIdeal.nD Cert.RecallIdeal.τ Cert.RecallIdeal.sig) → Buf (Elt Ideal) ℓ) (g : Dev Cert.RecallIdeal.nD → PrngReg)
    (m' : (ℓ : Loc Cert.RecallRefIdeal.nD Cert.RecallRefIdeal.τ Cert.RecallRefIdeal.sig) → Buf (Elt Ideal) ℓ) (g' : Dev Cert.RecallRefIdeal.nD → PrngReg), Pre_RecallIdeal_mem_finite m →
    (∀ c : Dev Cert.RecallIdeal.nD,
      m' ((c.tc : Thread Cert.RecallRefIdeal.nD Cert.RecallRefIdeal.τ).loc Cert.RecallRefIdeal.main_arg0) = m ((c.tc : Thread Cert.RecallIdeal.nD Cert.RecallIdeal.τ).loc Cert.RecallIdeal.main_arg0)
      ∧ m' ((c.tc : Thread Cert.RecallRefIdeal.nD Cert.RecallRefIdeal.τ).loc Cert.RecallRefIdeal.main_arg1) = m ((c.tc : Thread Cert.RecallIdeal.nD Cert.RecallIdeal.τ).loc Cert.RecallIdeal.main_arg1)
      ∧ m' ((c.tc : Thread Cert.RecallRefIdeal.nD Cert.RecallRefIdeal.τ).loc Cert.RecallRefIdeal.main_arg2) = m ((c.tc : Thread Cert.RecallIdeal.nD Cert.RecallIdeal.τ).loc Cert.RecallIdeal.main_arg2)) →
    ∃ (v0 : (c : Dev Cert.RecallIdeal.nD) → Buf (Elt Ideal) ((c.tc : Thread Cert.RecallIdeal.nD Cert.RecallIdeal.τ).loc Cert.RecallIdeal.main_v0)),
      θ_run (Cert.RecallIdeal.defs (F := Ideal)) (onTc (τ := Cert.RecallIdeal.τ) (Cert.RecallIdeal.main (F := Ideal))) ⟨m, fun _ => 0, g⟩ (fun r => ∀ c : Dev Cert.RecallIdeal.nD,
          r.2.mem ((c.tc : Thread Cert.RecallIdeal.nD Cert.RecallIdeal.τ).loc Cert.RecallIdeal.main_v0) = v0 c
          ∧ r.2.mem ((c.tc : Thread Cert.RecallIdeal.nD Cert.RecallIdeal.τ).loc Cert.RecallIdeal.main_arg0) = m ((c.tc : Thread Cert.RecallIdeal.nD Cert.RecallIdeal.τ).loc Cert.RecallIdeal.main_arg0)
          ∧ r.2.mem ((c.tc : Thread Cert.RecallIdeal.nD Cert.RecallIdeal.τ).loc Cert.RecallIdeal.main_arg1) = m ((c.tc : Thread Cert.RecallIdeal.nD Cert.RecallIdeal.τ).loc Cert.RecallIdeal.main_arg1)
          ∧ r.2.mem ((c.tc : Thread Cert.RecallIdeal.nD Cert.RecallIdeal.τ).loc Cert.RecallIdeal.main_arg2) = m ((c.tc : Thread Cert.RecallIdeal.nD Cert.RecallIdeal.τ).loc Cert.RecallIdeal.main_arg2))
      ∧ θ_run (Cert.RecallRefIdeal.defs (F := Ideal)) (onTc (τ := Cert.RecallRefIdeal.τ) (Cert.RecallRefIdeal.main (F := Ideal))) ⟨m', fun _ => 0, g'⟩ (fun r => ∀ c : Dev Cert.RecallRefIdeal.nD,
          r.2.mem ((c.tc : Thread Cert.RecallRefIdeal.nD Cert.RecallRefIdeal.τ).loc Cert.RecallRefIdeal.main_v23) = v0 c
          ∧ r.2.mem ((c.tc : Thread Cert.RecallRefIdeal.nD Cert.RecallRefIdeal.τ).loc Cert.RecallRefIdeal.main_arg0) = m' ((c.tc : Thread Cert.RecallRefIdeal.nD Cert.RecallRefIdeal.τ).loc Cert.RecallRefIdeal.main_arg0)
          ∧ r.2.mem ((c.tc : Thread Cert.RecallRefIdeal.nD Cert.RecallRefIdeal.τ).loc Cert.RecallRefIdeal.main_arg1) = m' ((c.tc : Thread Cert.RecallRefIdeal.nD Cert.RecallRefIdeal.τ).loc Cert.RecallRefIdeal.main_arg1)
          ∧ r.2.mem ((c.tc : Thread Cert.RecallRefIdeal.nD Cert.RecallRefIdeal.τ).loc Cert.RecallRefIdeal.main_arg2) = m' ((c.tc : Thread Cert.RecallRefIdeal.nD Cert.RecallRefIdeal.τ).loc Cert.RecallRefIdeal.main_arg2))

def preserves_Moba_MobaIdeal : Prop :=
  IdealRules.named_const.Statement Cert.MobaIdeal.κ "mask" .f32 0xF1800000#32 ⊥

def algebraic_MobaIdeal_MobaRefIdeal_pre_moba_finite [hMobaIdeal : Cert.MobaIdeal.Facts] [hMobaRefIdeal : Cert.MobaRefIdeal.Facts] [hPre_moba_finite : Cert.Pre_moba_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_moba_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v30) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v11_0)) (v1 : (c : Dev Cert.GateIdeal.nD) → Buf (Elt Ideal) ((c.tc : Thread Cert.GateIdeal.nD Cert.GateIdeal.τ).loc Cert.GateIdeal.main_v11_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11_0) = v0 c
          ∧ r.2.mem ((c.tc : Thread Cert.GateIdeal.nD Cert.GateIdeal.τ).loc Cert.GateIdeal.main_v11_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v99) = v0 c
          ∧ r.2.mem ((c.tc : Thread Cert.GateRefIdeal.nD Cert.GateRefIdeal.τ).loc Cert.GateRefIdeal.main_v100) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hPost : Cert.Post.Facts) (hPostIdeal : Cert.PostIdeal.Facts) (hPostRefIdeal : Cert.PostRefIdeal.Facts) (hLast : Cert.Last.Facts) (hLastIdeal : Cert.LastIdeal.Facts) (hLastRefIdeal : Cert.LastRefIdeal.Facts) (hLastS : Cert.LastS.Facts) (hLastSIdeal : Cert.LastSIdeal.Facts) (hLastSRefIdeal : Cert.LastSRefIdeal.Facts) (hKeys : Cert.Keys.Facts) (hKeysIdeal : Cert.KeysIdeal.Facts) (hKeysRefIdeal : Cert.KeysRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hRecall : Cert.Recall.Facts) (hRecallIdeal : Cert.RecallIdeal.Facts) (hRecallRefIdeal : Cert.RecallRefIdeal.Facts) (hMoba : Cert.Moba.Facts) (hMobaIdeal : Cert.MobaIdeal.Facts) (hMobaRefIdeal : Cert.MobaRefIdeal.Facts) (hGate : Cert.Gate.Facts) (hGateIdeal : Cert.GateIdeal.Facts) (hGateRefIdeal : Cert.GateRefIdeal.Facts) (hPre_mem_finite : Cert.Pre_mem_finite.Facts) (hPre_moba_finite : Cert.Pre_moba_finite.Facts) (hPre_gate_finite : Cert.Pre_gate_finite.Facts),
    quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_Post (hPost := hPost)
    ∧ quiescent_PostIdeal (hPostIdeal := hPostIdeal)
    ∧ quiescent_PostRefIdeal (hPostRefIdeal := hPostRefIdeal)
    ∧ quiescent_Last (hLast := hLast)
    ∧ quiescent_LastIdeal (hLastIdeal := hLastIdeal)
    ∧ quiescent_LastRefIdeal (hLastRefIdeal := hLastRefIdeal)
    ∧ quiescent_LastS (hLastS := hLastS)
    ∧ quiescent_LastSIdeal (hLastSIdeal := hLastSIdeal)
    ∧ quiescent_LastSRefIdeal (hLastSRefIdeal := hLastSRefIdeal)
    ∧ quiescent_Keys (hKeys := hKeys)
    ∧ quiescent_KeysIdeal (hKeysIdeal := hKeysIdeal)
    ∧ quiescent_KeysRefIdeal (hKeysRefIdeal := hKeysRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_Recall (hRecall := hRecall)
    ∧ quiescent_RecallIdeal (hRecallIdeal := hRecallIdeal)
    ∧ quiescent_RecallIdeal_pre_mem_finite (hRecallIdeal := hRecallIdeal) (hPre_mem_finite := hPre_mem_finite)
    ∧ quiescent_RecallRefIdeal (hRecallRefIdeal := hRecallRefIdeal)
    ∧ quiescent_RecallRefIdeal_pre_mem_finite (hRecallRefIdeal := hRecallRefIdeal) (hPre_mem_finite := hPre_mem_finite)
    ∧ quiescent_Moba (hMoba := hMoba)
    ∧ quiescent_MobaIdeal (hMobaIdeal := hMobaIdeal)
    ∧ quiescent_MobaIdeal_pre_moba_finite (hMobaIdeal := hMobaIdeal) (hPre_moba_finite := hPre_moba_finite)
    ∧ quiescent_MobaRefIdeal (hMobaRefIdeal := hMobaRefIdeal)
    ∧ quiescent_MobaRefIdeal_pre_moba_finite (hMobaRefIdeal := hMobaRefIdeal) (hPre_moba_finite := hPre_moba_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
    ∧ preserves_Post_PostIdeal
    ∧ algebraic_PostIdeal_PostRefIdeal (hPostIdeal := hPostIdeal) (hPostRefIdeal := hPostRefIdeal)
    ∧ preserves_Last_LastIdeal
    ∧ algebraic_LastIdeal_LastRefIdeal (hLastIdeal := hLastIdeal) (hLastRefIdeal := hLastRefIdeal)
    ∧ preserves_LastS_LastSIdeal
    ∧ algebraic_LastSIdeal_LastSRefIdeal (hLastSIdeal := hLastSIdeal) (hLastSRefIdeal := hLastSRefIdeal)
    ∧ preserves_Keys_KeysIdeal
    ∧ algebraic_KeysIdeal_KeysRefIdeal (hKeysIdeal := hKeysIdeal) (hKeysRefIdeal := hKeysRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_Recall_RecallIdeal
    ∧ algebraic_RecallIdeal_RecallRefIdeal_pre_mem_finite (hRecallIdeal := hRecallIdeal) (hRecallRefIdeal := hRecallRefIdeal) (hPre_mem_finite := hPre_mem_finite)
    ∧ preserves_Moba_MobaIdeal
    ∧ algebraic_MobaIdeal_MobaRefIdeal_pre_moba_finite (hMobaIdeal := hMobaIdeal) (hMobaRefIdeal := hMobaRefIdeal) (hPre_moba_finite := hPre_moba_finite)
    ∧ preserves_Gate_GateIdeal
    ∧ algebraic_GateIdeal_GateRefIdeal_pre_gate_finite (hGateIdeal := hGateIdeal) (hGateRefIdeal := hGateRefIdeal) (hPre_gate_finite := hPre_gate_finite)
-- ==== Pre_gate_finite.lean ====
abbrev S16384x1024 : Shape := ⟨2, ![16384, 1024]⟩
abbrev S4x1024 : Shape := ⟨2, ![4, 1024]⟩
abbrev S2x1024x2048 : Shape := ⟨3, ![2, 1024, 2048]⟩
abbrev S2x8x48x384 : Shape := ⟨4, ![2, 8, 48, 384]⟩
abbrev S8x16 : Shape := ⟨2, ![8, 16]⟩
abbrev S1x1024 : Shape := ⟨2, ![1, 1024]⟩
abbrev S1024 : Shape := ⟨1, ![1024]⟩
abbrev S_ : Shape := ⟨0, ![]⟩
abbrev S1x1024x1024 : Shape := ⟨3, ![1, 1024, 1024]⟩
abbrev S1024x1024 : Shape := ⟨2, ![1024, 1024]⟩
abbrev S2x8x48x128 : Shape := ⟨4, ![2, 8, 48, 128]⟩

class Facts : Prop where
  slices_S4x1024_S1x1024_2_0 : S4x1024.Slices ![2, 0] S1x1024
  shapeCasts_S1x1024_S1024 : S1x1024.ShapeCasts S1024
  bcast_S_S1024 : S_.BroadcastsInDim S1024 (![] : Fin 0 → Fin S1024.rank)
  slices_S2x1024x2048_S1x1024x1024_0_0_0 : S2x1024x2048.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  slices_S2x8x48x384_S2x8x48x128_0_0_0_0 : S2x8x48x384.Slices ![0, 0, 0, 0] S2x8x48x128
  bcast_S_S2x8x48x128 : S_.BroadcastsInDim S2x8x48x128 (![] : Fin 0 → Fin S2x8x48x128.rank)
  slices_S2x8x48x384_S2x8x48x128_0_0_0_256 : S2x8x48x384.Slices ![0, 0, 0, 256] S2x8x48x128

variable [Facts]

def fn {F : FTy → Type} [FloatOps F] (main_arg0 : FVec F S16384x1024 .f32) (main_arg1 : FVec F S4x1024 .f32) (main_arg2 : FVec F S2x1024x2048 .f32) (main_arg3 : FVec F S2x8x48x384 .bf16) (main_arg4 : FVec F S8x16 .f32) : IVec S1024 1 × IVec S1024x1024 1 × IVec S2x8x48x128 1 × IVec S2x8x48x128 1 :=
  let main_v0 : FVec F S1x1024 .f32 := (extractStridedSlice S1x1024 ![2, 0] · slices_S4x1024_S1x1024_2_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x1024 .f32 := (extractStridedSlice S1x1024x1024 ![0, 0, 0] · slices_S2x1024x2048_S1x1024x1024_0_0_0) main_arg2
  let main_v6 : FVec F S1024x1024 .f32 := shapeCast S1024x1024 main_v5 shapeCasts_S1x1024x1024_S1024x1024
  let main_v7 : FVec F S1024x1024 .f32 := Host.absf main_v6
  let main_cst_0 : FVec F S_ .f32 := constant S_ .f32 0x7F800000#32
  let main_v8 : FVec F S1024x1024 .f32 := broadcastInDim S1024x1024 ![] bcast_S_S1024x1024 main_cst_0
  let main_v9 : IVec S1024x1024 1 := cmpf .olt main_v7 main_v8
  let main_v10 : FVec F S2x8x48x128 .bf16 := (extractStridedSlice S2x8x48x128 ![0, 0, 0, 0] · slices_S2x8x48x384_S2x8x48x128_0_0_0_0) main_arg3
  let main_v11 : FVec F S2x8x48x128 .bf16 := Host.absf main_v10
  let main_cst_1 : FVec F S_ .bf16 := constant S_ .bf16 0x7F80#16
  let main_v12 : FVec F S2x8x48x128 .bf16 := broadcastInDim S2x8x48x128 ![] bcast_S_S2x8x48x128 main_cst_1
  let main_v13 : IVec S2x8x48x128 1 := cmpf .olt main_v11 main_v12
  let main_v14 : FVec F S2x8x48x128 .bf16 := (extractStridedSlice S2x8x48x128 ![0, 0, 0, 256] · slices_S2x8x48x384_S2x8x48x128_0_0_0_256) main_arg3
  let main_v15 : FVec F S2x8x48x128 .bf16 := Host.absf main_v14
  let main_cst_2 : FVec F S_ .bf16 := constant S_ .bf16 0x7F80#16
  let main_v16 : FVec F S2x8x48x128 .bf16 := broadcastInDim S2x8x48x128 ![] bcast_S_S2x8x48x128 main_cst_2
  let main_v17 : IVec S2x8x48x128 1 := cmpf .olt main_v15 main_v16
  (main_v4, main_v9, main_v13, main_v17)
-- ==== Pre_mem_finite.lean ====
abbrev S16384x1024 : Shape := ⟨2, ![16384, 1024]⟩
abbrev S512x1024 : Shape := ⟨2, ![512, 1024]⟩
abbrev S_ : Shape := ⟨0, ![]⟩

class Facts : Prop where
  bcast_S_S16384x1024 : S_.BroadcastsInDim S16384x1024 (![] : Fin 0 → Fin S16384x1024.rank)
  bcast_S_S512x1024 : S_.BroadcastsInDim S512x1024 (![] : Fin 0 → Fin S512x1024.rank)

variable [Facts]

def fn {F : FTy → Type} [FloatOps F] (main_arg0 : FVec F S16384x1024 .bf16) (main_arg1 : FVec F S512x1024 .bf16) (main_arg2 : FVec F S512x1024 .bf16) : IVec S16384x1024 1 × IVec S512x1024 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  (main_v2, main_v5)
-- ==== Pre_moba_finite.lean ====
abbrev S4096x8192 : Shape := ⟨2, ![4096, 8192]⟩
abbrev S16384x2048 : Shape := ⟨2, ![16384, 2048]⟩
abbrev S64x1024x256 : Shape := ⟨3, ![64, 1024, 256]⟩
abbrev S_ : Shape := ⟨0, ![]⟩

class Facts : Prop where
  bcast_S_S4096x8192 : S_.BroadcastsInDim S4096x8192 (![] : Fin 0 → Fin S4096x8192.rank)
  bcast_S_S16384x2048 : S_.BroadcastsInDim S16384x2048 (![] : Fin 0 → Fin S16384x2048.rank)

variable [Facts]

def fn {F : FTy → Type} [FloatOps F] (main_arg0 : FVec F S4096x8192 .bf16) (main_arg1 : FVec F S16384x2048 .bf16) (main_arg2 : FVec F S64x1024x256 .bf16) : IVec S4096x8192 1 × IVec S16384x2048 1 :=
  let main_v0 : FVec F S4096x8192 .bf16 := Host.absf main_arg0
  let main_cst : FVec F S_ .bf16 := constant S_ .bf16 0x7F80#16
  let main_v1 : FVec F S4096x8192 .bf16 := broadcastInDim S4096x8192 ![] bcast_S_S4096x8192 main_cst
  let main_v2 : IVec S4096x8192 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  (main_v2, main_v5)
-- ==== Conv.lean ====
abbrev S2x8192x1024 : Shape := ⟨3, ![2, 8192, 1024]⟩
abbrev S4x1024 : Shape := ⟨2, ![4, 1024]⟩
abbrev S2x1024x4096 : Shape := ⟨3, ![2, 1024, 4096]⟩
abbrev S2x3x1024 : Shape := ⟨3, ![2, 3, 1024]⟩
abbrev S16384x1024 : Shape := ⟨2, ![16384, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S256x1024 : Shape := ⟨2, ![256, 1024]⟩
abbrev S512x1024 : Shape := ⟨2, ![512, 1024]⟩
abbrev S1x1024x4096 : Shape := ⟨3, ![1, 1024, 4096]⟩
abbrev S8x1024 : Shape := ⟨2, ![8, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S2x1024x4096, .f32⟩
  | .hbm, ⟨3, _⟩ => ⟨S2x3x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S2x1024x4096, .bf16⟩
  | .hbm, ⟨8, _⟩ => ⟨S1x3x1024, .f32⟩
  | .hbm, ⟨9, _⟩ => ⟨S3x1024, .f32⟩
  | .hbm, ⟨10, _⟩ => ⟨S1x1024, .f32⟩
  | .hbm, ⟨11, _⟩ => ⟨S16384x1024, .bf16⟩
  | .hbm, ⟨12, _⟩ => ⟨S16384x1024, .bf16⟩
  | .hbm, ⟨13, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S3x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S2x8192x1024 : Shape := ⟨3, ![2, 8192, 1024]⟩
abbrev S4x1024 : Shape := ⟨2, ![4, 1024]⟩
abbrev S2x1024x4096 : Shape := ⟨3, ![2, 1024, 4096]⟩
abbrev S2x3x1024 : Shape := ⟨3, ![2, 3, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x3x1024 : Shape := ⟨3, ![1, 3, 1024]⟩
abbrev S3x1024 : Shape := ⟨2, ![3, 1024]⟩
abbrev S2x2x1024 : Shape := ⟨3, ![2, 2, 1024]⟩
abbrev S2x8194x1024 : Shape := ⟨3, ![2, 8194, 1024]⟩
abbrev S2x16x512x1024 : Shape := ⟨4, ![2, 16, 512, 1024]⟩
abbrev S2x16x8x1024 : Shape := ⟨4, ![2, 16, 8, 1024]⟩
abbrev S256x1024 : Shape := ⟨2, ![256, 1024]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S2x1024x4096, .f32⟩
  | .hbm, ⟨3, _⟩ => ⟨S2x3x1024, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x4096, .f32⟩
  | .hbm, ⟨23, _⟩ => ⟨S1024x4096, .f32⟩
  | .hbm, ⟨24, _⟩ => ⟨S2x8192x4096, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S1x3x1024, .f32⟩
  | .hbm, ⟨31, _⟩ => ⟨S3x1024, .f32⟩
  | .hbm, ⟨32, _⟩ => ⟨S_, .f32⟩
  | .hbm, ⟨33, _⟩ => ⟨S2x2x1024, .f32⟩
  | .hbm, ⟨34, _⟩ => ⟨S2x8194x1024, .f32⟩
  | .hbm, ⟨35, _⟩ => ⟨S1x1024, .f32⟩
  | .hbm, ⟨36, _⟩ => ⟨S1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S1x1024, .f32⟩
  | .hbm, ⟨42, _⟩ => ⟨S1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S1x1024, .f32⟩
  | .hbm, ⟨49, _⟩ => ⟨S1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x16x512x1024, .f32⟩
  | .hbm, ⟨57, _⟩ => ⟨S2x16x8x1024, .f32⟩
  | .hbm, ⟨58, _⟩ => ⟨S256x1024, .f32⟩
  | .hbm, ⟨59, _⟩ => ⟨S16384x1024, .f32⟩
  | .hbm, ⟨60, _⟩ => ⟨S16384x1024, .bf16⟩
  | .hbm, ⟨61, _⟩ => ⟨S16384x1024, .f32⟩
  | .hbm, ⟨62, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩

abbrev nD : Nat := 1
abbrev τ : Topo := Topo.v7x

variable {F : FTy → Type} [FloatOps F]
-- ==== ConvS.lean ====
abbrev S128x4x1024 : Shape := ⟨3, ![128, 4, 1024]⟩
abbrev S4x1024 : Shape := ⟨2, ![4, 1024]⟩
abbrev S2x1024x4096 : Shape := ⟨3, ![2, 1024, 4096]⟩
abbrev S2x3x1024 : Shape := ⟨3, ![2, 3, 1024]⟩
abbrev S2x128x2x1024 : Shape := ⟨4, ![2, 128, 2, 1024]⟩
abbrev S512x1024 : Shape := ⟨2, ![512, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S1x128x2x1024 : Shape := ⟨4, ![1, 128, 2, 1024]⟩
abbrev S128x2x1024 : Shape := ⟨3, ![128, 2, 1024]⟩
abbrev S_ : Shape := ⟨0, ![]⟩
abbrev S128x3x1024 : Shape := ⟨3, ![128, 3, 1024]⟩
abbrev S128x1x1024 : Shape := ⟨3, ![128, 1, 1024]⟩
abbrev S1x1024x4096 : Shape := ⟨3, ![1, 1024, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 25
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S4x1024, .f32⟩
  | .hbm, ⟨2, _⟩ => ⟨S2x1024x4096, .f32⟩
  | .hbm, ⟨3, _⟩ => ⟨S2x3x1024, .f32⟩
  | .hbm, ⟨4, _⟩ => ⟨S2x128x2x1024, .f32⟩
  | .hbm, ⟨5, _⟩ => ⟨S512x1024, .f32⟩
  | .hbm, ⟨6, _⟩ => ⟨S1x1024, .f32⟩
  | .hbm, ⟨7, _⟩ => ⟨S1024, .f32⟩
  | .hbm, ⟨8, _⟩ => ⟨S2x1024x4096, .bf16⟩
  | .hbm, ⟨9, _⟩ => ⟨S1x3x1024, .f32⟩
  | .hbm, ⟨10, _⟩ => ⟨S3x1024, .f32⟩
  | .hbm, ⟨11, _⟩ => ⟨S1x128x2x1024, .f32⟩
  | .hbm, ⟨12, _⟩ => ⟨S128x2x1024, .f32⟩
  | .hbm, ⟨13, _⟩ => ⟨S_, .f32⟩
  | .hbm, ⟨14, _⟩ => ⟨S128x3x1024, .f32⟩
  | .hbm, ⟨15, _⟩ => ⟨S128x1x1024, .f32⟩
  | .hbm, ⟨16, _⟩ => ⟨S128x4x1024, .f32⟩
  | .hbm, ⟨17, _⟩ => ⟨S512x1024, .f32⟩
  | .hbm, ⟨18, _⟩ => ⟨S128x2x1024, .f32⟩
  | .hbm, ⟨19, _⟩ => ⟨S128x4x1024, .f32⟩
  | .hbm, ⟨20, _⟩ => ⟨S512x1024, .f32⟩
  | .hbm, ⟨21, _⟩ => ⟨S1x1024, .f32⟩
  | .hbm, ⟨22, _⟩ => ⟨S512x1024, .bf16⟩
  | .hbm, ⟨23, _⟩ => ⟨S512x1024, .f32⟩
  | .hbm, ⟨24, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024x4096, .bf16⟩
  | .local _ .vmem, ⟨3, _⟩ => ⟨S3x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvSRefIdeal.lean ====
abbrev S128x4x1024 : Shape := ⟨3, ![128, 4, 1024]⟩
abbrev S4x1024 : Shape := ⟨2, ![4, 1024]⟩
abbrev S2x1024x4096 : Shape := ⟨3, ![2, 1024, 4096]⟩
abbrev S2x3x1024 : Shape := ⟨3, ![2, 3, 1024]⟩
abbrev S2x128x2x1024 : Shape := ⟨4, ![2, 128, 2, 1024]⟩
abbrev S1x1024 : Shape := ⟨2, ![1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S128x4x4096 : Shape := ⟨3, ![128, 4, 4096]⟩
abbrev S1x3x1024 : Shape := ⟨3, ![1, 3, 1024]⟩
abbrev S3x1024 : Shape := ⟨2, ![3, 1024]⟩
abbrev S1x128x2x1024 : Shape := ⟨4, ![1, 128, 2, 1024]⟩
abbrev S128x2x1024 : Shape := ⟨3, ![128, 2, 1024]⟩
abbrev S128x6x1024 : Shape := ⟨3, ![128, 6, 1024]⟩
abbrev S512x1024 : Shape := ⟨2, ![512, 1024]⟩

abbrev nBuf : Space → Nat
  | .hbm => 61
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S4x1024, .f32⟩
  | .hbm, ⟨2, _⟩ => ⟨S2x1024x4096, .f32⟩
  | .hbm, ⟨3, _⟩ => ⟨S2x3x1024, .f32⟩
  | .hbm, ⟨4, _⟩ => ⟨S2x128x2x1024, .f32⟩
  | .hbm, ⟨5, _⟩ => ⟨S1x1024, .f32⟩
  | .hbm, ⟨6, _⟩ => ⟨S1024, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S1x1024x4096, .f32⟩
  | .hbm, ⟨24, _⟩ => ⟨S1024x4096, .f32⟩
  | .hbm, ⟨25, _⟩ => ⟨S128x4x4096, .f32⟩
  | .hbm, ⟨26, _⟩ => ⟨S128x4x1024, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S128x4x1024, .f32⟩
  | .hbm, ⟨31, _⟩ => ⟨S1x3x1024, .f32⟩
  | .hbm, ⟨32, _⟩ => ⟨S3x1024, .f32⟩
  | .hbm, ⟨33, _⟩ => ⟨S1x128x2x1024, .f32⟩
  | .hbm, ⟨34, _⟩ => ⟨S128x2x1024, .f32⟩
  | .hbm, ⟨35, _⟩ => ⟨S128x6x1024, .f32⟩
  | .hbm, ⟨36, _⟩ => ⟨S1x1024, .f32⟩
  | .hbm, ⟨37, _⟩ => ⟨S1024, .f32⟩
  | .hbm, ⟨38, _⟩ => ⟨S128x4x1024, .f32⟩
  | .hbm, ⟨39, _⟩ => ⟨S1x1x1024, .f32⟩
  | .hbm, ⟨40, _⟩ => ⟨S128x4x1024, .f32⟩
  | .hbm, ⟨41, _⟩ => ⟨S128x4x1024, .f32⟩
  | .hbm, ⟨42, _⟩ => ⟨S1x1024, .f32⟩
  | .hbm, ⟨43, _⟩ => ⟨S1024, .f32⟩
  | .hbm, ⟨44, _⟩ => ⟨S128x4x1024, .f32⟩
  | .hbm, ⟨45, _⟩ => ⟨S1x1x1024, .f32⟩
  | .hbm, ⟨46, _⟩ => ⟨S128x4x1024, .f32⟩
  | .hbm, ⟨47, _⟩ => ⟨S128x4x1024, .f32⟩
  | .hbm, ⟨48, _⟩ => ⟨S128x4x1024, .f32⟩
  | .hbm, ⟨49, _⟩ => ⟨S1x1024, .f32⟩
  | .hbm, ⟨50, _⟩ => ⟨S1024, .f32⟩
  | .hbm, ⟨51, _⟩ => ⟨S128x4x1024, .f32⟩
  | .hbm, ⟨52, _⟩ => ⟨S1x1x1024, .f32⟩
  | .hbm, ⟨53, _⟩ => ⟨S128x4x1024, .f32⟩
  | .hbm, ⟨54, _⟩ => ⟨S128x4x1024, .f32⟩
  | .hbm, ⟨55, _⟩ => ⟨S128x4x1024, .f32⟩
  | .hbm, ⟨56, _⟩ => ⟨S128x4x1024, .f32⟩
  | .hbm, ⟨57, _⟩ => ⟨S512x1024, .f32⟩
  | .hbm, ⟨58, _⟩ => ⟨S512x1024, .bf16⟩
  | .hbm, ⟨59, _⟩ => ⟨S512x1024, .f32⟩
  | .hbm, ⟨60, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩

abbrev nD : Nat := 1
abbrev τ : Topo := Topo.v7x

variable {F : FTy → Type} [FloatOps F]
-- ==== Post.lean ====
abbrev S2x8192x1024 : Shape := ⟨3, ![2, 8192, 1024]⟩
abbrev S16384x1024 : Shape := ⟨2, ![16384, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S512x1024 : Shape := ⟨2, ![512, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .bf16⟩
  | .hbm, ⟨2, _⟩ => ⟨S16384x1024, .bf16⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S16384x1024, .f32⟩
  | .hbm, ⟨9, _⟩ => ⟨S2x2048x1024, .bf16⟩
  | .hbm, ⟨10, _⟩ => ⟨S1x1024, .f32⟩
  | .hbm, ⟨11, _⟩ => ⟨S1024, .f32⟩
  | .hbm, ⟨12, _⟩ => ⟨S4x1024x4096, .bf16⟩
  | .hbm, ⟨13, _⟩ => ⟨S4x4096x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x1024, .bf16⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S2x8192x1024 : Shape := ⟨3, ![2, 8192, 1024]⟩
abbrev S16384x1024 : Shape := ⟨2, ![16384, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S16384x2048 : Shape := ⟨2, ![16384, 2048]⟩
abbrev S1x2048x1024 : Shape := ⟨3, ![1, 2048, 1024]⟩
abbrev S2048x1024 : Shape := ⟨2, ![2048, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .bf16⟩
  | .hbm, ⟨2, _⟩ => ⟨S16384x1024, .bf16⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S1x2048x1024, .f32⟩
  | .hbm, ⟨13, _⟩ => ⟨S2048x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024x4096, .f32⟩
  | .hbm, ⟨35, _⟩ => ⟨S1024x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S1x4096x1024, .f32⟩
  | .hbm, ⟨42, _⟩ => ⟨S4096x1024, .f32⟩
  | .hbm, ⟨43, _⟩ => ⟨S16384x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Last.lean ====
abbrev S2x8192x1024 : Shape := ⟨3, ![2, 8192, 1024]⟩
abbrev S16384x1024 : Shape := ⟨2, ![16384, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S512x1024 : Shape := ⟨2, ![512, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .bf16⟩
  | .hbm, ⟨2, _⟩ => ⟨S16384x1024, .bf16⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S16384x1024, .f32⟩
  | .hbm, ⟨9, _⟩ => ⟨S2x2048x1024, .bf16⟩
  | .hbm, ⟨10, _⟩ => ⟨S1x1024, .f32⟩
  | .hbm, ⟨11, _⟩ => ⟨S1024, .f32⟩
  | .hbm, ⟨12, _⟩ => ⟨S4x1024x4096, .bf16⟩
  | .hbm, ⟨13, _⟩ => ⟨S4x4096x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x1024, .bf16⟩
  | .local _ .vmem, ⟨7, _⟩ => ⟨S1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastRefIdeal.lean ====
abbrev S2x8192x1024 : Shape := ⟨3, ![2, 8192, 1024]⟩
abbrev S16384x1024 : Shape := ⟨2, ![16384, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S16384x2048 : Shape := ⟨2, ![16384, 2048]⟩
abbrev S1x2048x1024 : Shape := ⟨3, ![1, 2048, 1024]⟩
abbrev S2048x1024 : Shape := ⟨2, ![2048, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x1024, .bf16⟩
  | .hbm, ⟨2, _⟩ => ⟨S16384x1024, .bf16⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S1x2048x1024, .f32⟩
  | .hbm, ⟨13, _⟩ => ⟨S2048x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024x4096, .f32⟩
  | .hbm, ⟨35, _⟩ => ⟨S1024x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S1x4096x1024, .f32⟩
  | .hbm, ⟨42, _⟩ => ⟨S4096x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== LastS.lean ====
abbrev S128x4x1024 : Shape := ⟨3, ![128, 4, 1024]⟩
abbrev S512x1024 : Shape := ⟨2, ![512, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S512x1024, .f32⟩
  | .hbm, ⟨2, _⟩ => ⟨S512x1024, .f32⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S512x1024, .f32⟩
  | .hbm, ⟨9, _⟩ => ⟨S2x2048x1024, .bf16⟩
  | .hbm, ⟨10, _⟩ => ⟨S1x1024, .f32⟩
  | .hbm, ⟨11, _⟩ => ⟨S1024, .f32⟩
  | .hbm, ⟨12, _⟩ => ⟨S4x1024x4096, .bf16⟩
  | .hbm, ⟨13, _⟩ => ⟨S4x4096x1024, .bf16⟩
  | .hbm, ⟨14, _⟩ => ⟨S1x1024, .f32⟩
  | .hbm, ⟨15, _⟩ => ⟨S1x1024, .f32⟩
  | .hbm, ⟨16, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x2048x1024, .bf16⟩
  | .local _ .vmem, ⟨4, _⟩ => ⟨S1x1024, .f32⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== LastSRefIdeal.lean ====
abbrev S128x4x1024 : Shape := ⟨3, ![128, 4, 1024]⟩
abbrev S512x1024 : Shape := ⟨2, ![512, 1024]⟩
abbrev S2x2048x1024 : Shape := ⟨3, ![2, 2048, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S512x2048 : Shape := ⟨2, ![512, 2048]⟩
abbrev S1x2048x1024 : Shape := ⟨3, ![1, 2048, 1024]⟩
abbrev S2048x1024 : Shape := ⟨2, ![2048, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1x1024x4096 : Shape := ⟨3, ![1, 1024, 4096]⟩
abbrev S1024x4096 : Shape := ⟨2, ![1024, 4096]⟩
abbrev S512x4096 : Shape := ⟨2, ![512, 4096]⟩
abbrev S1x4096x1024 : Shape := ⟨3, ![1, 4096, 1024]⟩
abbrev S4096x1024 : Shape := ⟨2, ![4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x1024, .f32⟩
  | .hbm, ⟨2, _⟩ => ⟨S512x1024, .f32⟩
  | .hbm, ⟨3, _⟩ => ⟨S2x2048x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S512x1024, .f32⟩
  | .hbm, ⟨9, _⟩ => ⟨S512x2048, .f32⟩
  | .hbm, ⟨10, _⟩ => ⟨S1x2048x1024, .f32⟩
  | .hbm, ⟨11, _⟩ => ⟨S2048x1024, .f32⟩
  | .hbm, ⟨12, _⟩ => ⟨S512x1024, .f32⟩
  | .hbm, ⟨13, _⟩ => ⟨S512x1024, .f32⟩
  | .hbm, ⟨14, _⟩ => ⟨S1x1024, .f32⟩
  | .hbm, ⟨15, _⟩ => ⟨S1024, .f32⟩
  | .hbm, ⟨16, _⟩ => ⟨S512x1024, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x1024, .f32⟩
  | .hbm, ⟨28, _⟩ => ⟨S512x1024, .f32⟩
  | .hbm, ⟨29, _⟩ => ⟨S1x1024, .f32⟩
  | .hbm, ⟨30, _⟩ => ⟨S512x1024, .f32⟩
  | .hbm, ⟨31, _⟩ => ⟨S512x1024, .f32⟩
  | .hbm, ⟨32, _⟩ => ⟨S1x1024x4096, .f32⟩
  | .hbm, ⟨33, _⟩ => ⟨S1024x4096, .f32⟩
  | .hbm, ⟨34, _⟩ => ⟨S512x4096, .f32⟩
  | .hbm, ⟨35, _⟩ => ⟨S_, .f32⟩
  | .hbm, ⟨36, _⟩ => ⟨S512x4096, .f32⟩
  | .hbm, ⟨37, _⟩ => ⟨S512x4096, .f32⟩
  | .hbm, ⟨38, _⟩ => ⟨S512x4096, .f32⟩
  | .hbm, ⟨39, _⟩ => ⟨S1x4096x1024, .f32⟩
  | .hbm, ⟨40, _⟩ => ⟨S4096x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S512x1024, .f32⟩
  | .hbm, ⟨55, _⟩ => ⟨S512x1024, .f32⟩
  | .hbm, ⟨56, _⟩ => ⟨S1x1024, .f32⟩
  | .hbm, ⟨57, _⟩ => ⟨S512x1024, .f32⟩
  | .hbm, ⟨58, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Keys.lean ====
abbrev S2x256x1024 : Shape := ⟨3, ![2, 256, 1024]⟩
abbrev S4x1024 : Shape := ⟨2, ![4, 1024]⟩
abbrev S4x1024x2048 : Shape := ⟨3, ![4, 1024, 2048]⟩
abbrev S512x1024 : Shape := ⟨2, ![512, 1024]⟩
abbrev S4x1x1024 : Shape := ⟨3, ![4, 1, 1024]⟩
abbrev S4x512x1024 : Shape := ⟨3, ![4, 512, 1024]⟩
abbrev S1x1x1024 : Shape := ⟨3, ![1, 1, 1024]⟩
abbrev S1x1024x2048 : Shape := ⟨3, ![1, 1024, 2048]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 10
  | .vmem => 13
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x2048, .f32⟩
  | .hbm, ⟨3, _⟩ => ⟨S512x1024, .f32⟩
  | .hbm, ⟨4, _⟩ => ⟨S4x1024x2048, .bf16⟩
  | .hbm, ⟨5, _⟩ => ⟨S4x1x1024, .f32⟩
  | .hbm, ⟨6, _⟩ => ⟨S4x512x1024, .f32⟩
  | .hbm, ⟨7, _⟩ => ⟨S4x512x1024, .f32⟩
  | .hbm, ⟨8, _⟩ => ⟨S4x512x1024, .bf16⟩
  | .hbm, ⟨9, _⟩ => ⟨S4x512x1024, .bf16⟩
  | .local _ .vmem, ⟨0, _⟩ => ⟨S512x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1024x2048, .bf16⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeysRefIdeal.lean ====
abbrev S2x256x1024 : Shape := ⟨3, ![2, 256, 1024]⟩
abbrev S4x1024 : Shape := ⟨2, ![4, 1024]⟩
abbrev S4x1024x2048 : Shape := ⟨3, ![4, 1024, 2048]⟩
abbrev S1x2x256x1024 : Shape := ⟨4, ![1, 2, 256, 1024]⟩
abbrev S4x1x1x1024 : Shape := ⟨4, ![4, 1, 1, 1024]⟩
abbrev S_ : Shape := ⟨0, ![]⟩
abbrev S1x2x256 : Shape := ⟨3, ![1, 2, 256]⟩
abbrev S1x2x256x1 : Shape := ⟨4, ![1, 2, 256, 1]⟩
abbrev S4x2x256x1024 : Shape := ⟨4, ![4, 2, 256, 1024]⟩
abbrev S4x2x256x2048 : Shape := ⟨4, ![4, 2, 256, 2048]⟩
abbrev S4x512x2048 : Shape := ⟨3, ![4, 512, 2048]⟩
abbrev S4x512x1024 : Shape := ⟨3, ![4, 512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x2048, .f32⟩
  | .hbm, ⟨3, _⟩ => ⟨S1x2x256x1024, .f32⟩
  | .hbm, ⟨4, _⟩ => ⟨S4x1x1x1024, .f32⟩
  | .hbm, ⟨5, _⟩ => ⟨S1x2x256x1024, .f32⟩
  | .hbm, ⟨6, _⟩ => ⟨S_, .f32⟩
  | .hbm, ⟨7, _⟩ => ⟨S1x2x256, .f32⟩
  | .hbm, ⟨8, _⟩ => ⟨S1x2x256x1, .f32⟩
  | .hbm, ⟨9, _⟩ => ⟨S_, .f32⟩
  | .hbm, ⟨10, _⟩ => ⟨S1x2x256x1, .f32⟩
  | .hbm, ⟨11, _⟩ => ⟨S1x2x256x1, .f32⟩
  | .hbm, ⟨12, _⟩ => ⟨S_, .f32⟩
  | .hbm, ⟨13, _⟩ => ⟨S1x2x256x1, .f32⟩
  | .hbm, ⟨14, _⟩ => ⟨S1x2x256x1, .f32⟩
  | .hbm, ⟨15, _⟩ => ⟨S1x2x256x1, .f32⟩
  | .hbm, ⟨16, _⟩ => ⟨S1x2x256x1024, .f32⟩
  | .hbm, ⟨17, _⟩ => ⟨S1x2x256x1024, .f32⟩
  | .hbm, ⟨18, _⟩ => ⟨S4x2x256x1024, .f32⟩
  | .hbm, ⟨19, _⟩ => ⟨S4x2x256x1024, .f32⟩
  | .hbm, ⟨20, _⟩ => ⟨S4x2x256x1024, .f32⟩
  | .hbm, ⟨21, _⟩ => ⟨S4x2x256x2048, .f32⟩
  | .hbm, ⟨22, _⟩ => ⟨S4x512x2048, .f32⟩
  | .hbm, ⟨23, _⟩ => ⟨S4x512x1024, .f32⟩
  | .hbm, ⟨24, _⟩ => ⟨S4x512x1024, .f32⟩
  | .hbm, ⟨25, _⟩ => ⟨S4x512x1024, .bf16⟩
  | .hbm, ⟨26, _⟩ => ⟨S4x512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kv.lean ====
abbrev S16384x1024 : Shape := ⟨2, ![16384, 1024]⟩
abbrev S1024 : Shape := ⟨1, ![1024]⟩
abbrev S1024x2048 : Shape := ⟨2, ![1024, 2048]⟩
abbrev S8x128 : Shape := ⟨2, ![8, 128]⟩
abbrev S1x1024 : Shape := ⟨2, ![1, 1024]⟩
abbrev S16384x2048 : Shape := ⟨2, ![16384, 2048]⟩
abbrev S64x1024x256 : Shape := ⟨3, ![64, 1024, 256]⟩
abbrev S64x1x1024 : Shape := ⟨3, ![64, 1, 1024]⟩
abbrev S256x1024 : Shape := ⟨2, ![256, 1024]⟩
abbrev S256x2048 : Shape := ⟨2, ![256, 2048]⟩
abbrev S1x1024x256 : Shape := ⟨3, ![1, 1024, 256]⟩
abbrev S1x1x1024 : Shape := ⟨3, ![1, 1, 1024]⟩
abbrev S256 : Shape := ⟨1, ![256]⟩
abbrev S256x1 : Shape := ⟨2, ![256, 1]⟩
abbrev S1024x256 : Shape := ⟨2, ![1024, 256]⟩
abbrev S256x128 : Shape := ⟨2, ![256, 128]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x128, .f32⟩
  | .hbm, ⟨4, _⟩ => ⟨S1024x2048, .bf16⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x2048, .bf16⟩
  | .hbm, ⟨9, _⟩ => ⟨S64x1024x256, .bf16⟩
  | .hbm, ⟨10, _⟩ => ⟨S64x1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2048, .bf16⟩
  | .local _ .vmem, ⟨10, _⟩ => ⟨S256x2048, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1x1024, .f32⟩
  | .local _ .vmem, ⟨14, _⟩ => ⟨S1x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvRefIdeal.lean ====
abbrev S16384x1024 : Shape := ⟨2, ![16384, 1024]⟩
abbrev S1024 : Shape := ⟨1, ![1024]⟩
abbrev S1024x2048 : Shape := ⟨2, ![1024, 2048]⟩
abbrev S8x128 : Shape := ⟨2, ![8, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S64x256x1024 : Shape := ⟨3, ![64, 256, 1024]⟩
abbrev S64x1024 : Shape := ⟨2, ![64, 1024]⟩
abbrev S64x1x1024 : Shape := ⟨3, ![64, 1, 1024]⟩
abbrev S8192 : Shape := ⟨1, ![8192]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1x8192x1x128 : Shape := ⟨4, ![1, 8192, 1, 128]⟩
abbrev S1x1x8x128 : Shape := ⟨4, ![1, 1, 8, 128]⟩
abbrev S1x8192x8x128 : Shape := ⟨4, ![1, 8192, 8, 128]⟩
abbrev S2x8192x8x128 : Shape := ⟨4, ![2, 8192, 8, 128]⟩
abbrev S2x8192x8x256 : Shape := ⟨4, ![2, 8192, 8, 256]⟩
abbrev S64x1024x256 : Shape := ⟨3, ![64, 1024, 256]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x128, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2048, .f32⟩
  | .hbm, ⟨21, _⟩ => ⟨S16384x1024, .f32⟩
  | .hbm, ⟨22, _⟩ => ⟨S16384x1024, .f32⟩
  | .hbm, ⟨23, _⟩ => ⟨S64x256x1024, .f32⟩
  | .hbm, ⟨24, _⟩ => ⟨S_, .f32⟩
  | .hbm, ⟨25, _⟩ => ⟨S64x1024, .f32⟩
  | .hbm, ⟨26, _⟩ => ⟨S64x1x1024, .f32⟩
  | .hbm, ⟨27, _⟩ => ⟨S_, .f32⟩
  | .hbm, ⟨28, _⟩ => ⟨S64x1x1024, .f32⟩
  | .hbm, ⟨29, _⟩ => ⟨S64x1x1024, .f32⟩
  | .hbm, ⟨30, _⟩ => ⟨S8192, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S_, .i1⟩
  | .hbm, ⟨47, _⟩ => ⟨S8192, .i1⟩
  | .hbm, ⟨48, _⟩ => ⟨S8192, .i1⟩
  | .hbm, ⟨49, _⟩ => ⟨S8192, .i1⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S128, .i32⟩
  | .hbm, ⟨54, _⟩ => ⟨S1x128, .i32⟩
  | .hbm, ⟨55, _⟩ => ⟨S_, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x128, .i32⟩
  | .hbm, ⟨75, _⟩ => ⟨S8192x128, .i32⟩
  | .hbm, ⟨76, _⟩ => ⟨S8192x128, .i1⟩
  | .hbm, ⟨77, _⟩ => ⟨S_, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S_, .i32⟩
  | .hbm, ⟨83, _⟩ => ⟨S1x128, .i32⟩
  | .hbm, ⟨84, _⟩ => ⟨S1x128, .i1⟩
  | .hbm, ⟨85, _⟩ => ⟨S_, .i32⟩
  | .hbm, ⟨86, _⟩ => ⟨S1x128, .i32⟩
  | .hbm, ⟨87, _⟩ => ⟨S1x128, .i1⟩
  | .hbm, ⟨88, _⟩ => ⟨S1x128, .i1⟩
  | .hbm, ⟨89, _⟩ => ⟨S8192, .i32⟩
  | .hbm, ⟨90, _⟩ => ⟨S8192, .f32⟩
  | .hbm, ⟨91, _⟩ => ⟨S8192x1, .f32⟩
  | .hbm, ⟨92, _⟩ => ⟨S8192x128, .f32⟩
  | .hbm, ⟨93, _⟩ => ⟨S8192x128, .i1⟩
  | .hbm, ⟨94, _⟩ => ⟨S8192x128, .f32⟩
  | .hbm, ⟨95, _⟩ => ⟨S8192x128, .f32⟩
  | .hbm, ⟨96, _⟩ => ⟨S_, .i32⟩
  | .hbm, ⟨97, _⟩ => ⟨S1x128, .i32⟩
  | .hbm, ⟨98, _⟩ => ⟨S1x128, .i1⟩
  | .hbm, ⟨99, _⟩ => ⟨S_, .i32⟩
  | .hbm, ⟨100, _⟩ => ⟨S1x128, .i32⟩
  | .hbm, ⟨101, _⟩ => ⟨S1x128, .i1⟩
  | .hbm, ⟨102, _⟩ => ⟨S1x128, .i1⟩
  | .hbm, ⟨103, _⟩ => ⟨S8192, .f32⟩
  | .hbm, ⟨104, _⟩ => ⟨S8192x1, .f32⟩
  | .hbm, ⟨105, _⟩ => ⟨S8192x128, .i1⟩
  | .hbm, ⟨106, _⟩ => ⟨S8192x128, .f32⟩
  | .hbm, ⟨107, _⟩ => ⟨S8192x128, .f32⟩
  | .hbm, ⟨108, _⟩ => ⟨S1x8192x1x128, .f32⟩
  | .hbm, ⟨109, _⟩ => ⟨S1x1x8x128, .f32⟩
  | .hbm, ⟨110, _⟩ => ⟨S1x8192x8x128, .f32⟩
  | .hbm, ⟨111, _⟩ => ⟨S1x8192x8x128, .f32⟩
  | .hbm, ⟨112, _⟩ => ⟨S1x8192x8x128, .f32⟩
  | .hbm, ⟨113, _⟩ => ⟨S2x8192x8x128, .f32⟩
  | .hbm, ⟨114, _⟩ => ⟨S2x8192x8x128, .f32⟩
  | .hbm, ⟨115, _⟩ => ⟨S2x8192x8x256, .f32⟩
  | .hbm, ⟨116, _⟩ => ⟨S64x256x1024, .f32⟩
  | .hbm, ⟨117, _⟩ => ⟨S64x1024x256, .f32⟩
  | .hbm, ⟨118, _⟩ => ⟨S16384x2048, .f32⟩
  | .hbm, ⟨119, _⟩ => ⟨S16384x2048, .bf16⟩
  | .hbm, ⟨120, _⟩ => ⟨S64x1024x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_cst_6 : Ref sig .tc := ⟨.hbm, 78, rfl⟩
abbrev main_call2_v0 : Ref sig .tc := ⟨.hbm, 79, rfl⟩
abbrev main_call2_v1 : Ref sig .tc := ⟨.hbm, 80, rfl⟩
abbrev main_v30 : Ref sig .tc := ⟨.hbm, 81, rfl⟩
abbrev main_c_7 : Ref sig .tc := ⟨.hbm, 82, rfl⟩
abbrev main_v31 : Ref sig .tc := ⟨.hbm, 83, rfl⟩
abbrev main_v32 : Ref sig .tc := ⟨.hbm, 84, rfl⟩
abbrev main_c_8 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v39 : Ref sig .tc := ⟨.hbm, 95, rfl⟩
abbrev main_c_9 : Ref sig .tc := ⟨.hbm, 96, rfl⟩
abbrev main_v40 : Ref sig .tc := ⟨.hbm, 97, rfl⟩
abbrev main_v41 : Ref sig .tc := ⟨.hbm, 98, rfl⟩
abbrev main_c_10 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_call4_v0 : Ref sig .tc := ⟨.hbm, 105, rfl⟩
abbrev main_call4_v1 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩

abbrev nD : Nat := 1
abbrev τ : Topo := Topo.v7x

variable {F : FTy → Type} [FloatOps F]
-- ==== KvS.lean ====
abbrev S128x4x1024 : Shape := ⟨3, ![128, 4, 1024]⟩
abbrev S1024 : Shape := ⟨1, ![1024]⟩
abbrev S1024x2048 : Shape := ⟨2, ![1024, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S1024x2048, .bf16⟩
  | .hbm, ⟨5, _⟩ => ⟨S1x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== KvSRefIdeal.lean ====
abbrev S128x4x1024 : Shape := ⟨3, ![128, 4, 1024]⟩
abbrev S1024 : Shape := ⟨1, ![1024]⟩
abbrev S1024x2048 : Shape := ⟨2, ![1024, 2048]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2048 : Shape := ⟨2, ![512, 2048]⟩

abbrev nBuf : Space → Nat
  | .hbm => 23
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x2048, .f32⟩
  | .hbm, ⟨21, _⟩ => ⟨S512x1024, .f32⟩
  | .hbm, ⟨22, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Recall.lean ====
abbrev S16384x1024 : Shape := ⟨2, ![16384, 1024]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S512x1024, .bf16⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RecallRefIdeal.lean ====
abbrev S16384x1024 : Shape := ⟨2, ![16384, 1024]⟩
abbrev S512x1024 : Shape := ⟨2, ![512, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S512x1024, .bf16⟩
  | .hbm, ⟨3, _⟩ => ⟨S2x8192x4x256, .bf16⟩
  | .hbm, ⟨4, _⟩ => ⟨S2x8192x4x256, .f32⟩
  | .hbm, ⟨5, _⟩ => ⟨S2x256x4x256, .bf16⟩
  | .hbm, ⟨6, _⟩ => ⟨S2x256x4x256, .f32⟩
  | .hbm, ⟨7, _⟩ => ⟨S2x256x4x256, .bf16⟩
  | .hbm, ⟨8, _⟩ => ⟨S2x256x4x256, .f32⟩
  | .hbm, ⟨9, _⟩ => ⟨S2x4x8192x256, .f32⟩
  | .hbm, ⟨10, _⟩ => ⟨S_, .f32⟩
  | .hbm, ⟨11, _⟩ => ⟨S2x4x8192x256, .f32⟩
  | .hbm, ⟨12, _⟩ => ⟨S2x4x8192x256, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S2x4x8192x1, .f32⟩
  | .hbm, ⟨19, _⟩ => ⟨S2x4x8192x256, .f32⟩
  | .hbm, ⟨20, _⟩ => ⟨S2x4x8192x256, .f32⟩
  | .hbm, ⟨21, _⟩ => ⟨S2x4x8192x256, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x256x8192, .f32⟩
  | .hbm, ⟨28, _⟩ => ⟨S2x8192x4x256, .f32⟩
  | .hbm, ⟨29, _⟩ => ⟨S16384x1024, .f32⟩
  | .hbm, ⟨30, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Moba.lean ====
abbrev S4096x8192 : Shape := ⟨2, ![4096, 8192]⟩
abbrev S16384x2048 : Shape := ⟨2, ![16384, 2048]⟩
abbrev S64x1024x256 : Shape := ⟨3, ![64, 1024, 256]⟩
abbrev S16384x1024 : Shape := ⟨2, ![16384, 1024]⟩
abbrev S256x1024 : Shape := ⟨2, ![256, 1024]⟩
abbrev S8192x256 : Shape := ⟨2, ![8192, 256]⟩
abbrev S32x128x256 : Shape := ⟨3, ![32, 128, 256]⟩
abbrev S1024x128 : Shape := ⟨2, ![1024, 128]⟩
abbrev S16x512 : Shape := ⟨2, ![16, 512]⟩
abbrev S512x256 : Shape := ⟨2, ![512, 256]⟩
abbrev S512x1024 : Shape := ⟨2, ![512, 1024]⟩
abbrev S8x64x1024 : Shape := ⟨3, ![8, 64, 1024]⟩
abbrev S64x1024 : Shape := ⟨2, ![64, 1024]⟩
abbrev S1024 : Shape := ⟨1, ![1024]⟩
abbrev S1x1024 : Shape := ⟨2, ![1, 1024]⟩
abbrev S1x128x256 : Shape := ⟨3, ![1, 128, 256]⟩
abbrev S128x256 : Shape := ⟨2, ![128, 256]⟩
abbrev S128x512 : Shape := ⟨2, ![128, 512]⟩
abbrev S144x512 : Shape := ⟨2, ![144, 512]⟩
abbrev S144x1024 : Shape := ⟨2, ![144, 1024]⟩
abbrev S256x512 : Shape := ⟨2, ![256, 512]⟩
abbrev S512x512 : Shape := ⟨2, ![512, 512]⟩
abbrev S1x512 : Shape := ⟨2, ![1, 512]⟩
abbrev S8x64x512 : Shape := ⟨3, ![8, 64, 512]⟩
abbrev S64x512 : Shape := ⟨2, ![64, 512]⟩
abbrev S512 : Shape := ⟨1, ![512]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S16384x2048, .bf16⟩
  | .hbm, ⟨2, _⟩ => ⟨S64x1024x256, .bf16⟩
  | .hbm, ⟨3, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S8192x256, .bf16⟩
  | .local _ .vmem, ⟨3, _⟩ => ⟨S8192x256, .bf16⟩
  | .local _ .vmem, ⟨4, _⟩ => ⟨S32x128x256, .bf16⟩
  | .local _ .vmem, ⟨5, _⟩ => ⟨S32x128x256, .bf16⟩
  | .local _ .vmem, ⟨6, _⟩ => ⟨S1024x128, .bf16⟩
  | .local _ .vmem, ⟨7, _⟩ => ⟨S1024x128, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c2_i32 : BitVec 32 := 2#32
  let v2 : BitVec 32 := Scalar.muli arg2 c2_i32
  let c512_i32 : BitVec 32 := 512#32
  let v3 : BitVec 32 := Scalar.muli v2 c512_i32
  v3
def k0_off1 (i : grid0.Coords) : Fin 2 → Nat :=
  let arg2 : BitVec 32 := BitVec.ofNat 32 (i 2).val
  let c2_i32 : BitVec 32 := 2#32
  let v2 : BitVec 32 := Scalar.muli arg2 c2_i32
  let c512_i32 : BitVec 32 := 512#32
  let v3 : BitVec 32 := Scalar.muli v2 c512_i32
  let v4 : BitVec 32 := v3
  let v5 : Index := Scalar.indexCast v4
  let c0_1 : Index := 0#32
  ![v5.toNat, 0]
def k0_off2 (i : grid0.Coords) (c0_i32_7 : BitVec 32) : Fin 3 → Nat :=
  let arg2 : BitVec 32 := BitVec.ofNat 32 (i 2).val
  let c2_i32 : BitVec 32 := 2#32
  let v2 : BitVec 32 := Scalar.muli arg2 c2_i32
  let c2_i32_6 : BitVec 32 := 2#32
  let v23 : BitVec 32 := Scalar.muli v2 c2_i32_6
  let v24 : BitVec 32 := Scalar.addi v23 c0_i32_7
  let v25 : Index := Scalar.indexCast v24
  let c0_8 : Index := 0#32
  let c0_9 : Index := 0#32
  ![v25.toNat, 0, 0]
def k0_mult2 (i : grid0.Coords) : BitVec 32 :=
  let arg2 : BitVec 32 := BitVec.ofNat 32 (i 2).val
  let c2_i32 : BitVec 32 := 2#32
  let v2 : BitVec 32 := Scalar.muli arg2 c2_i32
  let c1_i32_14 : BitVec 32 := 1#32
  let v40 : BitVec 32 := Scalar.addi v2 c1_i32_14
  let c512_i32_15 : BitVec 32 := 512#32
  let v41 : BitVec 32 := Scalar.muli v40 c512_i32_15
  v41
def k0_off3 (i : grid0.Coords) : Fin 2 → Nat :=
  let arg2 : BitVec 32 := BitVec.ofNat 32 (i 2).val
  let c2_i32 : BitVec 32 := 2#32
  let v2 : BitVec 32 := Scalar.muli arg2 c2_i32
  let c1_i32_14 : BitVec 32 := 1#32
  let v40 : BitVec 32 := Scalar.addi v2 c1_i32_14
  let c512_i32_15 : BitVec 32 := 512#32
  let v41 : BitVec 32 := Scalar.muli v40 c512_i32_15
  let v42 : BitVec 32 := v41
  let v43 : Index := Scalar.indexCast v42
  let c0_16 : Index := 0#32
  ![v43.toNat, 0]
def k0_off4 (i : grid0.Coords) (c0_i32_25 : BitVec 32) : Fin 3 → Nat :=
  let arg2 : BitVec 32 := BitVec.ofNat 32 (i 2).val
  let c2_i32 : BitVec 32 := 2#32
  let v2 : BitVec 32 := Scalar.muli arg2 c2_i32
  let c1_i32_23 : BitVec 32 := 1#32
  let v70 : BitVec 32 := Scalar.addi v2 c1_i32_23
  let c2_i32_24 : BitVec 32 := 2#32
  let v71 : BitVec 32 := Scalar.muli v70 c2_i32_24
  let v72 : BitVec 32 := Scalar.addi v71 c0_i32_25
  let v73 : Index := Scalar.indexCast v72
  let c0_26 : Index := 0#32
  let c0_27 : Index := 0#32
  ![v73.toNat, 0, 0]
@[reducible] def k0_t1_loop (i : grid0.Coords) : Scf.Loop 32 :=
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_38 : BitVec 32 := 1#32
  ⟨c0_i32_36, v100, c1_i32_38⟩
def k0_mult3 (i : grid0.Coords) (k0_t1 : Fin (k0_t1_loop i).trips) : BitVec 32 :=
  let c2_i32_42 : BitVec 32 := 2#32
  let c0_i32_36 : BitVec 32 := 0#32
  let c1_i32_38 : BitVec 32 := 1#32
  let arg7 : BitVec 32 := Scf.iv c0_i32_36 c1_i32_38 k0_t1
  let v120 : BitVec 32 := Scalar.muli c2_i32_42 arg7
  let c512_i32_43 : BitVec 32 := 512#32
  let v121 : BitVec 32 := Scalar.muli v120 c512_i32_43
  v121
def k0_off5 (i : grid0.Coords) (k0_t1 : Fin (k0_t1_loop i).trips) : Fin 2 → Nat :=
  let c2_i32_42 : BitVec 32 := 2#32
  let c0_i32_36 : BitVec 32 := 0#32
  let c1_i32_38 : BitVec 32 := 1#32
  let arg7 : BitVec 32 := Scf.iv c0_i32_36 c1_i32_38 k0_t1
  let v120 : BitVec 32 := Scalar.muli c2_i32_42 arg7
  let c512_i32_43 : BitVec 32 := 512#32
  let v121 : BitVec 32 := Scalar.muli v120 c512_i32_43
  let v122 : BitVec 32 := v121
  let v123 : Index := Scalar.indexCast v122
  let c0_44 : Index := 0#32
  ![v123.toNat, 0]
def k0_mult4 (i : grid0.Coords) (k0_t1 : Fin (k0_t1_loop i).trips) : BitVec 32 :=
  let c2_i32_48 : BitVec 32 := 2#32
  let c0_i32_36 : BitVec 32 := 0#32
  let c1_i32_38 : BitVec 32 := 1#32
  let arg7 : BitVec 32 := Scf.iv c0_i32_36 c1_i32_38 k0_t1
  let v131 : BitVec 32 := Scalar.muli c2_i32_48 arg7
  let c1_i32_49 : BitVec 32 := 1#32
  let v132 : BitVec 32 := Scalar.addi v131 c1_i32_49
  let c512_i32_50 : BitVec 32 := 512#32
  let v133 : BitVec 32 := Scalar.muli v132 c512_i32_50
  v133
def k0_off6 (i : grid0.Coords) (k0_t1 : Fin (k0_t1_loop i).trips) : Fin 2 → Nat :=
  let c2_i32_48 : BitVec 32 := 2#32
  let c0_i32_36 : BitVec 32 := 0#32
  let c1_i32_38 : BitVec 32 := 1#32
  let arg7 : BitVec 32 := Scf.iv c0_i32_36 c1_i32_38 k0_t1
  let v131 : BitVec 32 := Scalar.muli c2_i32_48 arg7
  let c1_i32_49 : BitVec 32 := 1#32
  let v132 : BitVec 32 := Scalar.addi v131 c1_i32_49
  let c512_i32_50 : BitVec 32 := 512#32
  let v133 : BitVec 32 := Scalar.muli v132 c512_i32_50
  let v134 : BitVec 32 := v133
  let v135 : Index := Scalar.indexCast v134
  let c0_51 : Index := 0#32
  ![v135.toNat, 0]
def k0_off7 (i : grid0.Coords) (k0_t1 : Fin (k0_t1_loop i).trips) (c0_i32_57 : BitVec 32) : Fin 3 → Nat :=
  let c2_i32_55 : BitVec 32 := 2#32
  let c0_i32_36 : BitVec 32 := 0#32
  let c1_i32_38 : BitVec 32 := 1#32
  let arg7 : BitVec 32 := Scf.iv c0_i32_36 c1_i32_38 k0_t1
  let v151 : BitVec 32 := Scalar.muli c2_i32_55 arg7
  let c2_i32_56 : BitVec 32 := 2#32
  let v152 : BitVec 32 := Scalar.muli v151 c2_i32_56
  let v153 : BitVec 32 := Scalar.addi v152 c0_i32_57
  let v154 : Index := Scalar.indexCast v153
  let c0_58 : Index := 0#32
  let c0_59 : Index := 0#32
  ![v154.toNat, 0, 0]
def k0_off8 (i : grid0.Coords) (k0_t1 : Fin (k0_t1_loop i).trips) (c0_i32_68 : BitVec 32) : Fin 3 → Nat :=
  let c2_i32_65 : BitVec 32 := 2#32
  let c0_i32_36 : BitVec 32 := 0#32
  let c1_i32_38 : BitVec 32 := 1#32
  let arg7 : BitVec 32 := Scf.iv c0_i32_36 c1_i32_38 k0_t1
  let v174 : BitVec 32 := Scalar.muli c2_i32_65 arg7
  let c1_i32_66 : BitVec 32 := 1#32
  let v175 : BitVec 32 := Scalar.addi v174 c1_i32_66
  let c2_i32_67 : BitVec 32 := 2#32
  let v176 : BitVec 32 := Scalar.muli v175 c2_i32_67
  let v177 : BitVec 32 := Scalar.addi v176 c0_i32_68
  let v178 : Index := Scalar.indexCast v177
  let c0_69 : Index := 0#32
  let c0_70 : Index := 0#32
  ![v178.toNat, 0, 0]
@[reducible] def k0_t2_loop (i : grid0.Coords) : Scf.Loop 32 :=
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let v97 : BitVec 32 := Scalar.addi c0_i32_36 v96
  let c1_i32_39 : BitVec 32 := 1#32
  ⟨v100, v97, c1_i32_39⟩
def k0_mult5 (i : grid0.Coords) (k0_t2 : Fin (k0_t2_loop i).trips) : BitVec 32 :=
  let c2_i32_42 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v120 : BitVec 32 := Scalar.muli c2_i32_42 arg7
  let c512_i32_43 : BitVec 32 := 512#32
  let v121 : BitVec 32 := Scalar.muli v120 c512_i32_43
  v121
def k0_off9 (i : grid0.Coords) (k0_t2 : Fin (k0_t2_loop i).trips) : Fin 2 → Nat :=
  let c2_i32_42 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v120 : BitVec 32 := Scalar.muli c2_i32_42 arg7
  let c512_i32_43 : BitVec 32 := 512#32
  let v121 : BitVec 32 := Scalar.muli v120 c512_i32_43
  let v122 : BitVec 32 := v121
  let v123 : Index := Scalar.indexCast v122
  let c0_44 : Index := 0#32
  ![v123.toNat, 0]
def k0_mult6 (i : grid0.Coords) (k0_t2 : Fin (k0_t2_loop i).trips) : BitVec 32 :=
  let c2_i32_48 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v131 : BitVec 32 := Scalar.muli c2_i32_48 arg7
  let c1_i32_49 : BitVec 32 := 1#32
  let v132 : BitVec 32 := Scalar.addi v131 c1_i32_49
  let c512_i32_50 : BitVec 32 := 512#32
  let v133 : BitVec 32 := Scalar.muli v132 c512_i32_50
  v133
def k0_off10 (i : grid0.Coords) (k0_t2 : Fin (k0_t2_loop i).trips) : Fin 2 → Nat :=
  let c2_i32_48 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v131 : BitVec 32 := Scalar.muli c2_i32_48 arg7
  let c1_i32_49 : BitVec 32 := 1#32
  let v132 : BitVec 32 := Scalar.addi v131 c1_i32_49
  let c512_i32_50 : BitVec 32 := 512#32
  let v133 : BitVec 32 := Scalar.muli v132 c512_i32_50
  let v134 : BitVec 32 := v133
  let v135 : Index := Scalar.indexCast v134
  let c0_51 : Index := 0#32
  ![v135.toNat, 0]
def k0_off11 (i : grid0.Coords) (k0_t2 : Fin (k0_t2_loop i).trips) (c0_i32_57 : BitVec 32) : Fin 3 → Nat :=
  let c2_i32_55 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v151 : BitVec 32 := Scalar.muli c2_i32_55 arg7
  let c2_i32_56 : BitVec 32 := 2#32
  let v152 : BitVec 32 := Scalar.muli v151 c2_i32_56
  let v153 : BitVec 32 := Scalar.addi v152 c0_i32_57
  let v154 : Index := Scalar.indexCast v153
  let c0_58 : Index := 0#32
  let c0_59 : Index := 0#32
  ![v154.toNat, 0, 0]
def k0_off12 (i : grid0.Coords) (k0_t2 : Fin (k0_t2_loop i).trips) (c0_i32_68 : BitVec 32) : Fin 3 → Nat :=
  let c2_i32_65 : BitVec 32 := 2#32
  let c0_i32_36 : BitVec 32 := 0#32
  let arg2 : BitVec 32 := BitVec.ofNat 32 (i 2).val
  let c1_i32_35 : BitVec 32 := 1#32
  let v95 : BitVec 32 := Scalar.muli arg2 c1_i32_35
  let v96 : BitVec 32 := Scalar.subi v95 c0_i32_36
  let c1_i32_37 : BitVec 32 := 1#32
  let v98 : BitVec 32 := Scalar.divsi v96 c1_i32_37
  let v99 : BitVec 32 := Scalar.muli v98 c1_i32_37
  let v100 : BitVec 32 := Scalar.addi c0_i32_36 v99
  let c1_i32_39 : BitVec 32 := 1#32
  let arg7 : BitVec 32 := Scf.iv v100 c1_i32_39 k0_t2
  let v174 : BitVec 32 := Scalar.muli c2_i32_65 arg7
  let c1_i32_66 : BitVec 32 := 1#32
  let v175 : BitVec 32 := Scalar.addi v174 c1_i32_66
  let c2_i32_67 : BitVec 32 := 2#32
  let v176 : BitVec 32 := Scalar.muli v175 c2_i32_67
  let v177 : BitVec 32 := Scalar.addi v176 c0_i32_68
  let v178 : Index := Scalar.indexCast v177
  let c0_69 : Index := 0#32
  let c0_70 : Index := 0#32
  ![v178.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MobaIdeal.lean ====
variable {F : FTy → Type} [FloatOps F] [Named F]
def κ : String → Option EReal := fun
  | "mask" => some ⊥
  | _ => none
-- ==== MobaRefIdeal.lean ====
abbrev S4096x8192 : Shape := ⟨2, ![4096, 8192]⟩
abbrev S16384x2048 : Shape := ⟨2, ![16384, 2048]⟩
abbrev S64x1024x256 : Shape := ⟨3, ![64, 1024, 256]⟩
abbrev S2x8x256x8192 : Shape := ⟨4, ![2, 8, 256, 8192]⟩
abbrev S2x8192x8x256 : Shape := ⟨4, ![2, 8192, 8, 256]⟩
abbrev S2x32x8x128x256 : Shape := ⟨5, ![2, 32, 8, 128, 256]⟩
abbrev S2x32x256x8x128 : Shape := ⟨5, ![2, 32, 256, 8, 128]⟩
abbrev S2x8192x8x128 : Shape := ⟨4, ![2, 8192, 8, 128]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S16384x2048, .bf16⟩
  | .hbm, ⟨2, _⟩ => ⟨S64x1024x256, .bf16⟩
  | .hbm, ⟨3, _⟩ => ⟨S2x8x256x8192, .bf16⟩
  | .hbm, ⟨4, _⟩ => ⟨S2x8x256x8192, .f32⟩
  | .hbm, ⟨5, _⟩ => ⟨S2x8192x8x256, .bf16⟩
  | .hbm, ⟨6, _⟩ => ⟨S2x8192x8x256, .f32⟩
  | .hbm, ⟨7, _⟩ => ⟨S2x32x8x128x256, .bf16⟩
  | .hbm, ⟨8, _⟩ => ⟨S2x32x256x8x128, .bf16⟩
  | .hbm, ⟨9, _⟩ => ⟨S2x8192x8x128, .bf16⟩
  | .hbm, ⟨10, _⟩ => ⟨S2x8192x8x128, .f32⟩
  | .hbm, ⟨11, _⟩ => ⟨S2x8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S2x8x8192x8192, .i1⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192, .f32⟩
  | .hbm, ⟨25, _⟩ => ⟨S_, .f32⟩
  | .hbm, ⟨26, _⟩ => ⟨S2x8x8192, .f32⟩
  | .hbm, ⟨27, _⟩ => ⟨S2x8x8192, .f32⟩
  | .hbm, ⟨28, _⟩ => ⟨S2x8x8192x1, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S2x8x8192x1, .f32⟩
  | .hbm, ⟨35, _⟩ => ⟨S2x8x8192x8192, .f32⟩
  | .hbm, ⟨36, _⟩ => ⟨S2x8x8192x8192, .f32⟩
  | .hbm, ⟨37, _⟩ => ⟨S2x8x128x8192, .f32⟩
  | .hbm, ⟨38, _⟩ => ⟨S2x8192x8x128, .f32⟩
  | .hbm, ⟨39, _⟩ => ⟨S16384x1024, .f32⟩
  | .hbm, ⟨40, _⟩ => ⟨S16384x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Gate.lean ====
abbrev S16384x1024 : Shape := ⟨2, ![16384, 1024]⟩
abbrev S4x1024 : Shape := ⟨2, ![4, 1024]⟩
abbrev S2x1024x2048 : Shape := ⟨3, ![2, 1024, 2048]⟩
abbrev S2x8x48x384 : Shape := ⟨4, ![2, 8, 48, 384]⟩
abbrev S8x16 : Shape := ⟨2, ![8, 16]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S8x16x1 : Shape := ⟨3, ![8, 16, 1]⟩
abbrev S8x16x128 : Shape := ⟨3, ![8, 16, 128]⟩
abbrev S4096x8192 : Shape := ⟨2, ![4096, 8192]⟩
abbrev S512x1024 : Shape := ⟨2, ![512, 1024]⟩
abbrev S1x8x48x384 : Shape := ⟨4, ![1, 8, 48, 384]⟩
abbrev S2048x512 : Shape := ⟨2, ![2048, 512]⟩
abbrev S512 : Shape := ⟨1, ![512]⟩
abbrev S512x1 : Shape := ⟨2, ![512, 1]⟩
abbrev S1024x512 : Shape := ⟨2, ![1024, 512]⟩
abbrev S16x512 : Shape := ⟨2, ![16, 512]⟩
abbrev S72x512 : Shape := ⟨2, ![72, 512]⟩
abbrev S48x512 : Shape := ⟨2, ![48, 512]⟩
abbrev S128x512 : Shape := ⟨2, ![128, 512]⟩
abbrev S1x1x48x384 : Shape := ⟨4, ![1, 1, 48, 384]⟩
abbrev S48x384 : Shape := ⟨2, ![48, 384]⟩
abbrev S384x512 : Shape := ⟨2, ![384, 512]⟩
abbrev S1x512 : Shape := ⟨2, ![1, 512]⟩
abbrev S40x512 : Shape := ⟨2, ![40, 512]⟩
abbrev S1x16x128 : Shape := ⟨3, ![1, 16, 128]⟩
abbrev S16x128 : Shape := ⟨2, ![16, 128]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S2x1024x2048, .f32⟩
  | .hbm, ⟨3, _⟩ => ⟨S2x8x48x384, .bf16⟩
  | .hbm, ⟨4, _⟩ => ⟨S8x16, .f32⟩
  | .hbm, ⟨5, _⟩ => ⟨S2x1024x2048, .bf16⟩
  | .hbm, ⟨6, _⟩ => ⟨S1x1024, .f32⟩
  | .hbm, ⟨7, _⟩ => ⟨S1024, .f32⟩
  | .hbm, ⟨8, _⟩ => ⟨S1x1024x1024, .bf16⟩
  | .hbm, ⟨9, _⟩ => ⟨S1024x1024, .bf16⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S8x16x1, .f32⟩
  | .hbm, ⟨14, _⟩ => ⟨S8x16x128, .f32⟩
  | .hbm, ⟨15, _⟩ => ⟨S1x1024, .f32⟩
  | .hbm, ⟨16, _⟩ => ⟨S4096x8192, .bf16⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x8x48x384, .bf16⟩
  | .local _ .vmem, ⟨6, _⟩ => ⟨S1x8x48x384, .bf16⟩
  | .local _ .vmem, ⟨7, _⟩ => ⟨S8x16x128, .f32⟩
  | .local _ .vmem, ⟨8, _⟩ => ⟨S2048x512, .bf16⟩
  | .local _ .vmem, ⟨9, _⟩ => ⟨S2048x512, .bf16⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x48x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GateRefIdeal.lean ====
abbrev S16384x1024 : Shape := ⟨2, ![16384, 1024]⟩
abbrev S4x1024 : Shape := ⟨2, ![4, 1024]⟩
abbrev S2x1024x2048 : Shape := ⟨3, ![2, 1024, 2048]⟩
abbrev S2x8x48x384 : Shape := ⟨4, ![2, 8, 48, 384]⟩
abbrev S8x16 : Shape := ⟨2, ![8, 16]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2048 : Shape := ⟨3, ![1, 1024, 2048]⟩
abbrev S1024x2048 : Shape := ⟨2, ![1024, 2048]⟩
abbrev S16384x2048 : Shape := ⟨2, ![16384, 2048]⟩
abbrev S2x8192x8x128 : Shape := ⟨4, ![2, 8192, 8, 128]⟩
abbrev S2x8x48x128 : Shape := ⟨4, ![2, 8, 48, 128]⟩
abbrev S2x8x48x8192 : Shape := ⟨4, ![2, 8, 48, 8192]⟩
abbrev S8192 : Shape := ⟨1, ![8192]⟩
abbrev S48 : Shape := ⟨1, ![48]⟩
abbrev S48x1 : Shape := ⟨2, ![48, 1]⟩
abbrev S1x8192 : Shape := ⟨2, ![1, 8192]⟩
abbrev S48x8192 : Shape := ⟨2, ![48, 8192]⟩
abbrev S2x8x1x48x8192 : Shape := ⟨5, ![2, 8, 1, 48, 8192]⟩
abbrev S2x8x48x1x8192 : Shape := ⟨5, ![2, 8, 48, 1, 8192]⟩
abbrev S2x8x48x48x8192 : Shape := ⟨5, ![2, 8, 48, 48, 8192]⟩
abbrev S1x48 : Shape := ⟨2, ![1, 48]⟩
abbrev S48x48 : Shape := ⟨2, ![48, 48]⟩
abbrev S48x48x1 : Shape := ⟨3, ![48, 48, 1]⟩
abbrev S1x1x48x48x1 : Shape := ⟨5, ![1, 1, 48, 48, 1]⟩
abbrev S1x1x48x8192 : Shape := ⟨4, ![1, 1, 48, 8192]⟩
abbrev S2x8x40x8192 : Shape := ⟨4, ![2, 8, 40, 8192]⟩
abbrev S16 : Shape := ⟨1, ![16]⟩
abbrev S16x1 : Shape := ⟨2, ![16, 1]⟩
abbrev S16x8192 : Shape := ⟨2, ![16, 8192]⟩
abbrev S1x16x8192 : Shape := ⟨3, ![1, 16, 8192]⟩
abbrev S8x16x1 : Shape := ⟨3, ![8, 16, 1]⟩
abbrev S8x16x8192 : Shape := ⟨3, ![8, 16, 8192]⟩
abbrev S2x8x16x8192 : Shape := ⟨4, ![2, 8, 16, 8192]⟩
abbrev S2x8x72x8192 : Shape := ⟨4, ![2, 8, 72, 8192]⟩
abbrev S2x8x128x8192 : Shape := ⟨4, ![2, 8, 128, 8192]⟩
abbrev S2x8x256x8192 : Shape := ⟨4, ![2, 8, 256, 8192]⟩
abbrev S4096x8192 : Shape := ⟨2, ![4096, 8192]⟩

abbrev nBuf : Space → Nat
  | .hbm => 174
  | .vmem => 0
  | .smem => 0
  | _ => 0

abbrev hbmTy0_0 (i : Nat) : BufTy := match i % 128 with
  | 0 => ⟨S16384x1024, .f32⟩
  | 1 => ⟨S4x1024, .f32⟩
  | 2 => ⟨S2x1024x2048, .f32⟩
  | 3 => ⟨S2x8x48x384, .bf16⟩
  | 4 => ⟨S8x16, .f32⟩
  | 5 => ⟨S1x1024, .f32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x1024x2048, .f32⟩
  | 24 => ⟨S1024x2048, .f32⟩
  | 25 => ⟨S16384x2048, .f32⟩
  | 26 => ⟨S16384x1024, .f32⟩
  | 27 => ⟨S16384x1024, .f32⟩
  | 28 => ⟨S2x8192x8x128, .f32⟩
  | 29 => ⟨S2x8x48x128, .bf16⟩
  | 30 => ⟨S2x8x48x128, .f32⟩
  | 31 => ⟨S2x8x48x128, .bf16⟩
  | 32 => ⟨S2x8x48x128, .f32⟩
  | 33 => ⟨S2x8x48x128, .f32⟩
  | 34 => ⟨S2x8x48x8192, .f32⟩
  | 35 => ⟨S8192, .i32⟩
  | 36 => ⟨S48, .i32⟩
  | 37 => ⟨S48x1, .i32⟩
  | 38 => ⟨S_, .i32⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S8192, .i32⟩
  | 47 => ⟨S8192, .i32⟩
  | 48 => ⟨S_, .i32⟩
  | 49 => ⟨S8192, .i32⟩
  | 50 => ⟨S8192, .i1⟩
  | 51 => ⟨S8192, .i1⟩
  | 52 => ⟨S_, .i32⟩
  | 53 => ⟨S8192, .i32⟩
  | 54 => ⟨S8192, .i32⟩
  | 55 => ⟨S8192, .i32⟩
  | 56 => ⟨S1x8192, .i32⟩
  | 57 => ⟨S48x8192, .i32⟩
  | 58 => ⟨S48x8192, .i32⟩
  | 59 => ⟨S48x8192, .i1⟩
  | 60 => ⟨S_, .f32⟩
  | 61 => ⟨S_, .f32⟩
  | 62 => ⟨S2x8x48x8192, .i1⟩
  | 63 => ⟨S2x8x48x8192, .f32⟩
  | 64 => ⟨S2x8x48x8192, .f32⟩
  | 65 => ⟨S2x8x1x48x8192, .f32⟩
  | 66 => ⟨S2x8x48x1x8192, .f32⟩
  | 67 => ⟨S2x8x48x48x8192, .f32⟩
  | 68 => ⟨S2x8x48x48x8192, .f32⟩
  | 69 => ⟨S2x8x48x48x8192, .i1⟩
  | 70 => ⟨S2x8x1x48x8192, .f32⟩
  | 71 => ⟨S2x8x48x1x8192, .f32⟩
  | 72 => ⟨S2x8x48x48x8192, .f32⟩
  | 73 => ⟨S2x8x48x48x8192, .f32⟩
  | 74 => ⟨S2x8x48x48x8192, .i1⟩
  | 75 => ⟨S1x48, .i32⟩
  | 76 => ⟨S48x1, .i32⟩
  | 77 => ⟨S48x48, .i32⟩
  | 78 => ⟨S48x48, .i32⟩
  | 79 => ⟨S48x48, .i1⟩
  | 80 => ⟨S48x48x1, .i1⟩
  | 81 => ⟨S1x1x48x48x1, .i1⟩
  | 82 => ⟨S2x8x48x48x8192, .i1⟩
  | 83 => ⟨S2x8x48x48x8192, .i1⟩
  | 84 => ⟨S2x8x48x48x8192, .i1⟩
  | 85 => ⟨S_, .f32⟩
  | 86 => ⟨S_, .f32⟩
  | 87 => ⟨S2x8x48x48x8192, .f32⟩
  | 88 => ⟨S2x8x48x48x8192, .f32⟩
  | 89 => ⟨S2x8x48x48x8192, .f32⟩
  | 90 => ⟨S2x8x48x48x8192, .f32⟩
  | 91 => ⟨S_, .f32⟩
  | 92 => ⟨S2x8x48x8192, .f32⟩
  | 93 => ⟨S_, .f32⟩
  | 94 => ⟨S2x8x48x8192, .f32⟩
  | 95 => ⟨S2x8x48x8192, .i1⟩
  | 96 => ⟨S1x1x48x8192, .i1⟩
  | 97 => ⟨S2x8x48x8192, .i1⟩
  | 98 => ⟨S2x8x48x8192, .i1⟩
  | 99 => ⟨S_, .f32⟩
  | 100 => ⟨S_, .f32⟩
  | 101 => ⟨S2x8x48x8192, .f32⟩
  | 102 => ⟨S2x8x48x8192, .f32⟩
  | 103 => ⟨S2x8x48x8192, .f32⟩
  | 104 => ⟨S2x8x40x8192, .f32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i1⟩
  | 119 => ⟨S_, .i32⟩
  | 120 => ⟨S_, .i1⟩
  | 121 => ⟨S8192, .i1⟩
  | 122 => ⟨S8192, .i1⟩
  | 123 => ⟨S8192, .i1⟩
  | 124 => ⟨S8192, .i32⟩
  | 125 => ⟨S8192, .i32⟩
  | 126 => ⟨S8192, .i32⟩
  | 127 => ⟨S16, .i32⟩
  | _ => ⟨S16384x1024, .f32⟩

abbrev hbmTy0_1 (i : Nat) : BufTy := match i % 128 with
  | 0 => ⟨S16x1, .i32⟩
  | 1 => ⟨S_, .i32⟩
  | 2 => ⟨S16x1, .i32⟩
  | 3 => ⟨S16x1, .i1⟩
  | 4 => ⟨S_, .i32⟩
  | 5 => ⟨S16x1, .i32⟩
  | 6 => ⟨S16x1, .i1⟩
  | 7 => ⟨S16x1, .i1⟩
  | 8 => ⟨S8192, .i32⟩
  | 9 => ⟨S8192, .f32⟩
  | 10 => ⟨S8192, .f32⟩
  | 11 => ⟨S_, .i32⟩
  | 12 => ⟨S16x1, .i32⟩
  | 13 => ⟨S16x1, .i1⟩
  | 14 => ⟨S_, .i32⟩
  | 15 => ⟨S16x1, .i32⟩
  | 16 => ⟨S16x1, .i1⟩
  | 17 => ⟨S16x1, .i1⟩
  | 18 => ⟨S8192, .f32⟩
  | 19 => ⟨S8192, .f32⟩
  | 20 => ⟨S_, .f32⟩
  | 21 => ⟨S_, .f32⟩
  | 22 => ⟨S16x8192, .i1⟩
  | 23 => ⟨S16x8192, .f32⟩
  | 24 => ⟨S16x8192, .f32⟩
  | 25 => ⟨S16x8192, .f32⟩
  | 26 => ⟨S16x8192, .i1⟩
  | 27 => ⟨S16x8192, .f32⟩
  | 28 => ⟨S16x8192, .f32⟩
  | 29 => ⟨S1x16x8192, .f32⟩
  | 30 => ⟨S8x16x1, .f32⟩
  | 31 => ⟨S8x16x8192, .f32⟩
  | 32 => ⟨S8x16x8192, .f32⟩
  | 33 => ⟨S8x16x8192, .f32⟩
  | 34 => ⟨S2x8x16x8192, .f32⟩
  | 35 => ⟨S_, .f32⟩
  | 36 => ⟨S2x8x72x8192, .f32⟩
  | 37 => ⟨S2x8x128x8192, .f32⟩
  | 38 => ⟨S_, .f32⟩
  | 39 => ⟨S2x8x128x8192, .f32⟩
  | 40 => ⟨S2x8x128x8192, .f32⟩
  | 41 => ⟨S2x8x40x8192, .f32⟩
  | 42 => ⟨S2x8x256x8192, .f32⟩
  | 43 => ⟨S4096x8192, .f32⟩
  | 44 => ⟨S4096x8192, .bf16⟩
  | 45 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_3 : Ref sig .tc := ⟨.hbm, 85, rfl⟩
abbrev main_cst_4 : Ref sig .tc := ⟨.hbm, 86, rfl⟩
abbrev main_call2_v0 : Ref sig .tc := ⟨.hbm, 87, rfl⟩
abbrev main_call2_v1 : Ref sig .tc := ⟨.hbm, 88, rfl⟩
abbrev main_v56 : Ref sig .tc := ⟨.hbm, 89, rfl⟩
abbrev main_v57 : Ref sig .tc := ⟨.hbm, 90, rfl⟩
abbrev main_cst_5 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_cst_8 : Ref sig .tc := ⟨.hbm, 100, rfl⟩
abbrev main_call3_v0 : Ref sig .tc := ⟨.hbm, 101, rfl⟩
abbrev main_call3_v1 : Ref sig .tc := ⟨.hbm, 102, rfl⟩
abbrev main_v64 : Ref sig .tc := ⟨.hbm, 103, rfl⟩
abbrev main_v65 : Ref sig .tc := ⟨.hbm, 104, rfl⟩
abbrev main_c_9 : Ref sig .tc := ⟨.hbm, 105, rfl⟩
abbrev main_call4_v0 : Ref sig .tc := ⟨.hbm, 106, rfl⟩
abbrev main_call4_c : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_1 : Ref sig .tc := ⟨.hbm, 113, rfl⟩
abbrev main_call4_v5 : Ref sig .tc := ⟨.hbm, 114, rfl⟩
abbrev main_call4_v6 : Ref sig .tc := ⟨.hbm, 115, rfl⟩
abbrev main_call4_c_2 : Ref sig .tc := ⟨.hbm, 116, rfl⟩
abbrev main_call4_v7 : Ref sig .tc := ⟨.hbm, 117, rfl⟩
abbrev main_call4_v8 : Ref sig .tc := ⟨.hbm, 118, rfl⟩
abbrev main_call4_c_3 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_c_10 : Ref sig .tc := ⟨.hbm, 129, rfl⟩
abbrev main_v69 : Ref sig .tc := ⟨.hbm, 130, rfl⟩
abbrev main_v70 : Ref sig .tc := ⟨.hbm, 131, rfl⟩
abbrev main_c_11 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_c_12 : Ref sig .tc := ⟨.hbm, 139, rfl⟩
abbrev main_v77 : Ref sig .tc := ⟨.hbm, 140, rfl⟩
abbrev main_v78 : Ref sig .tc := ⟨.hbm, 141, rfl⟩
abbrev main_c_13 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_14 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_v84 : Ref sig .tc := ⟨.hbm, 153, rfl⟩
abbrev main_call6_v0 : Ref sig .tc := ⟨.hbm, 154, rfl⟩
abbrev main_call6_v1 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_15 : Ref sig .tc := ⟨.hbm, 163, rfl⟩
abbrev main_v92 : Ref sig .tc := ⟨.hbm, 164, rfl⟩
abbrev main_v93 : Ref sig .tc := ⟨.hbm, 165, rfl⟩
abbrev main_cst_16 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩

abbrev nD : Nat := 1
abbrev τ : Topo := Topo.v7x

variable {F : FTy → Type} [FloatOps F]
-- ==== Proof.Layer.lean ====
module

public import Idealize.ShloMosaic.Lib.Pointwise

/-! The mathematics that the layer's calls share, over the extended reals: the root-mean-square norm of a row, the
squared-ReLU feed-forward row, and the row that follows the mixer (output projection, then feed-forward). -/

@[expose] public section

set_option maxRecDepth 16384

noncomputable section

namespace Cert.Layer

open Idealize.ShloMosaic

/-- The norm of the row `v` with gain `g`: `v / sqrt (mean v² + ε) · g`, the constants as the programs spell them. -/
def rms (v g : Fin 1024 → EReal) (j : Fin 1024) : EReal :=
  v j * Ideal.rsqrt (Ideal.div (∑ k, v k * v k) (Ideal.ofBits FTy.f32 1149239296#32) + Ideal.ofBits FTy.f32 925353388#32) * g j

/-- One hidden unit: the square of the positive part of the projection. -/
def act (n : Fin 1024 → EReal) (wu : Fin 1024 → Fin 4096 → EReal) (u : Fin 4096) : EReal :=
  max (∑ k, n k * wu k u) 0 * max (∑ k, n k * wu k u) 0

/-- The feed-forward part of a normed row. -/
def mlp (n : Fin 1024 → EReal) (wu : Fin 1024 → Fin 4096 → EReal) (wd : Fin 4096 → Fin 1024 → EReal) (j : Fin 1024) : EReal :=
  ∑ u, act n wu u * wd u j

/-- The residual row plus the projection of the two mixers' outputs, `wo`'s upper half for the first. -/
def hid (x a b : Fin 1024 → EReal) (wo : Fin 2048 → Fin 1024 → EReal) (j : Fin 1024) : EReal :=
  x j + (∑ k : Fin 1024, a k * wo ⟨k, by omega⟩ j + ∑ k : Fin 1024, b k * wo ⟨1024 + k, by omega⟩ j)

/-- The row after the output projection and the feed-forward part. -/
def row (x a b : Fin 1024 → EReal) (wo : Fin 2048 → Fin 1024 → EReal) (g : Fin 1024 → EReal)
    (wu : Fin 1024 → Fin 4096 → EReal) (wd : Fin 4096 → Fin 1024 → EReal) (j : Fin 1024) : EReal :=
  hid x a b wo j + mlp (rms (hid x a b wo) g) wu wd j

/-- A sum over 4096 units taken in four chunks of 1024. -/
theorem sum_chunks (f : Fin 4096 → EReal) :
    ∑ u, f u = ∑ u : Fin 1024, f ⟨u, by omega⟩ + ∑ u : Fin 1024, f ⟨1024 + u, by omega⟩
      + ∑ u : Fin 1024, f ⟨2048 + u, by omega⟩ + ∑ u : Fin 1024, f ⟨3072 + u, by omega⟩ := by
  have h1 := Fin.sum_univ_two_halves 2048 2048 rfl f
  have h2 := Fin.sum_univ_two_halves 1024 1024 rfl (fun k : Fin 2048 => f ⟨k, by omega⟩)
  have h3 := Fin.sum_univ_two_halves 1024 1024 rfl (fun k : Fin 2048 => f ⟨2048 + k, by omega⟩)
  simp only [← Nat.add_assoc, Nat.reduceAdd] at h1 h2 h3
  rw [h1, h2, h3, add_assoc (_ + _)]

/-- A row of the activations, `16384` rows of two sequences of `8192`. -/
def xRow (x : (⟨3, ![2, 8192, 1024]⟩ : Shape).Idx → EReal) (r : Fin 16384) (j : Fin 1024) : EReal :=
  x (ix3 ⟨r / 8192, by omega⟩ ⟨r % 8192, by omega⟩ j)

/-- The whole result after layer `lw`, the output projection being number `lo` of its stack. -/
def out (lw : Fin 4) (lo : Fin 2) (x0 : (⟨3, ![2, 8192, 1024]⟩ : Shape).Idx → EReal) (x1 x2 : (⟨2, ![16384, 1024]⟩ : Shape).Idx → EReal)
    (x3 : (⟨3, ![2, 2048, 1024]⟩ : Shape).Idx → EReal) (x4 : (⟨2, ![4, 1024]⟩ : Shape).Idx → EReal)
    (x5 : (⟨3, ![4, 1024, 4096]⟩ : Shape).Idx → EReal) (x6 : (⟨3, ![4, 4096, 1024]⟩ : Shape).Idx → EReal)
    (r : Fin 16384) : Fin 1024 → EReal :=
  row (xRow x0 r) (fun k => x1 (ix2 r k)) (fun k => x2 (ix2 r k)) (fun k j => x3 (ix3 lo k j)) (fun k => x4 (ix2 lw k))
    (fun k u => x5 (ix3 lw k u)) (fun u j => x6 (ix3 lw u j))

end Cert.Layer
-- ==== Proof.ConvMath.lean ====
module

public import proofs.«01_k».proof.Proof.Layer
public import Idealize.ShloMosaic.Lib.WordCmp

/-! The short-convolution mixer's mathematics, over the extended reals: a normed row's projection into the gate, the
convolution's input and the memory queries, and the three-tap causal convolution. -/

@[expose] public section

set_option maxRecDepth 16384

noncomputable section

namespace Cert.Layer

open Idealize.ShloMosaic

/-- A column of the projection of a normed row. -/
def proj {n : ℕ} (v g : Fin 1024 → EReal) (w : Fin 1024 → Fin n → EReal) (j : Fin n) : EReal := ∑ k, rms v g k * w k j

/-- The convolution's input: the product of the second and the third thousand of columns. -/
def gated (v g : Fin 1024 → EReal) (w : Fin 1024 → Fin 4096 → EReal) (j : Fin 1024) : EReal :=
  proj v g w ⟨1024 + j, by omega⟩ * proj v g w ⟨2048 + j, by omega⟩

/-- The mixer's value: the gate times the three taps, the oldest value first. -/
def tap3 (v g : Fin 1024 → EReal) (w : Fin 1024 → Fin 4096 → EReal) (cw : Fin 3 → Fin 1024 → EReal) (p2 p1 : EReal) (j : Fin 1024) : EReal :=
  proj v g w ⟨j, by omega⟩ * (cw 0 j * p2 + cw 1 j * p1 + cw 2 j * gated v g w j)

/-- A choice on a signed comparison of two small words is a choice on the numbers. -/
theorem select_slt {α : Type} (n k : ℕ) (hn : n < 2 ^ 31) (hk : k < 2 ^ 31) (a b : α) :
    Scalar.select (IntOp.cmpi .slt (BitVec.ofNat 32 n) (BitVec.ofNat 32 k)) a b = if n < k then a else b := by
  rw [WordCmp.cmpi_slt_ofNat (w := 32) hn hk]
  by_cases h : n < k <;> simp [Scalar.select, h]

variable (x0 : (⟨3, ![2, 8192, 1024]⟩ : Shape).Idx → EReal) (x1 : (⟨2, ![4, 1024]⟩ : Shape).Idx → EReal)
    (x2 : (⟨3, ![2, 1024, 4096]⟩ : Shape).Idx → EReal) (x3 : (⟨3, ![2, 3, 1024]⟩ : Shape).Idx → EReal)

/-- The convolution's input at a row. -/
def convU (r : Fin 16384) (j : Fin 1024) : EReal := gated (xRow x0 r) (fun k => x1 (ix2 0 k)) (fun k j => x2 (ix3 0 k j)) j

/-- The memory queries at a row. -/
def convQ (r : Fin 16384) (j : Fin 1024) : EReal :=
  proj (xRow x0 r) (fun k => x1 (ix2 0 k)) (fun k j => x2 (ix3 0 k j)) ⟨3072 + j, by omega⟩

/-- The mixer at a row: the two rows before it within its own sequence, zero before the sequence's start. -/
def convTok (r : Fin 16384) (j : Fin 1024) : EReal :=
  tap3 (xRow x0 r) (fun k => x1 (ix2 0 k)) (fun k j => x2 (ix3 0 k j)) (fun a j => x3 (ix3 0 a j))
    (if r.val % 8192 < 2 then 0 else convU x0 x1 x2 ⟨r - 2, by omega⟩ j)
    (if r.val % 8192 < 1 then 0 else convU x0 x1 x2 ⟨r - 1, by omega⟩ j) j

end Cert.Layer
-- ==== Proof.ConvBlock.lean ====
module

public import proofs.«01_k».proof.Proof.ConvMath
public import proofs.«01_k».proof.Proof.Gen.ConvIdeal.Value
public import Idealize.ShloMosaic.Lib.Pointwise
public import Idealize.ShloMosaic.Lib.Pipeline.ReadBack

@[expose] public section

set_option maxRecDepth 16384

noncomputable section

namespace Cert.ConvIdeal.BlockValue

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The gated values of a block. -/
def uBlk (x : Vec Ideal S512x1024 .f32) (g : Vec Ideal S1x1024 .f32) (w : Vec Ideal S1x1024x4096 .bf16) : FVec Ideal S512x1024 .f32 :=
  k0_pay4 x g (View.ld w (Rect.unit ![0, 0, 1024] S1x1024x1024.size inb_S1x1024x4096_S1x1024x1024_0_0_1024))
    (View.ld w (Rect.unit ![0, 0, 2048] S1x1024x1024.size inb_S1x1024x4096_S1x1024x1024_0_0_2048))

/-- The mixer's block, over the eight rows carried in. -/
def tokBlk (car : Vec Ideal S8x1024 .f32) (x : Vec Ideal S512x1024 .f32) (g : Vec Ideal S1x1024 .f32) (w : Vec Ideal S1x1024x4096 .bf16)
    (cw : Vec Ideal S3x1024 .f32) : FVec Ideal S512x1024 .bf16 :=
  k0_pay10 (k0_pay3 x g) (uBlk x g w)
    (k0_pay5 x g (View.ld w (Rect.unit ![0, 0, 1024] S1x1024x1024.size inb_S1x1024x4096_S1x1024x1024_0_0_1024))
      (View.ld w (Rect.unit ![0, 0, 2048] S1x1024x1024.size inb_S1x1024x4096_S1x1024x1024_0_0_2048)))
    (k0_pay6 x g (View.ld w (Rect.unit ![0, 0, 1024] S1x1024x1024.size inb_S1x1024x4096_S1x1024x1024_0_0_1024))
      (View.ld w (Rect.unit ![0, 0, 2048] S1x1024x1024.size inb_S1x1024x4096_S1x1024x1024_0_0_2048)))
    (iota .tc S512x1024 32 [0] iota_S512x1024_d0_w32) (k0_pay7 car) (k0_pay8 car) k0_pay9 cw
    (View.ld w (Rect.unit ![0, 0, 0] S1x1024x1024.size inb_S1x1024x4096_S1x1024x1024_0_0_0))

/-- The memory queries' block. -/
def qmBlk (x : Vec Ideal S512x1024 .f32) (g : Vec Ideal S1x1024 .f32) (w : Vec Ideal S1x1024x4096 .bf16) : FVec Ideal S512x1024 .bf16 :=
  k0_pay11 (k0_pay3 x g) (View.ld w (Rect.unit ![0, 0, 3072] S1x1024x1024.size inb_S1x1024x4096_S1x1024x1024_0_0_3072))

/-- The last eight rows of a block. -/
def lastBlk (x : Vec Ideal S512x1024 .f32) (g : Vec Ideal S1x1024 .f32) (w : Vec Ideal S1x1024x4096 .bf16) : FVec Ideal S8x1024 .f32 :=
  k0_pay12 (uBlk x g w)

theorem outA (c : Dev nD) (t : Fin cfg0.N) (h0 : t.val % 16 = 0) :
    outsAt0 m c t.val t.isLt = (tokBlk (k0_pay2 (F := Ideal)) (iblk m c 0 t) (iblk m c 1 t) (iblk m c 2 t) (iblk m c 3 t),
      qmBlk (iblk m c 0 t) (iblk m c 1 t) (iblk m c 2 t), lastBlk (iblk m c 0 t) (iblk m c 1 t) (iblk m c 2 t),
      k0_pay1 (lastBlk (iblk m c 0 t) (iblk m c 1 t) (iblk m c 2 t))) := by
  rw [outsAt0_A m c t h0]
  unfold out0_A_4 out0_A_5 out0_A_6 sout0_A_0
  rw [View.read_writes_eq_canon _ _ _ (cover0_A_4 c _ _ _ _ _ _ _ _ _ _ _ _ _ _ _ _ _ _ _ _ _ _),
    View.read_writes_eq_canon _ _ _ (cover0_A_5 c _ _ _ _ _ _ _ _ _ _ _ _ _ _ _ _ _ _ _ _ _ _),
    View.read_writes_eq_canon _ _ _ (cover0_A_6 c _ _ _ _ _ _ _ _ _ _ _ _ _ _ _ _ _ _ _ _ _ _),
    View.read_writes_eq_canon _ _ _ (scover0_A_0 c _ _ _ _ _ _ _ _ _ _ _ _ _ _ _ _ _ _ _ _ _ _)]
  unfold kernelRun0_A
  dsimp only
  sl_unfold_words
  simp only [View.canon_cons_unit_zero (S := S512x1024) hz2, View.canon_cons_unit_zero (S := S8x1024) hz2]
  simp only [View.readCov_cons_toLoadRect, View.readCov_unit_zero (S := S8x1024) _ hz2]
  simp only [View.readAt_eq_ld, (hs0_0 t).read_unread, (hs0_1 t).read_unread, (hs0_2 t).read_unread, (hs0_3 t).read_unread]
  simp only [View.ld_unit_zero (S := S512x1024) hz2, View.ld_unit_zero (S := S1x1024) hz2, View.ld_unit_zero (S := S3x1024) hz2]
  rfl

theorem outB (c : Dev nD) (t : Fin cfg0.N) (h0 : ¬ t.val % 16 = 0) :
    outsAt0 m c t.val t.isLt = (tokBlk (outsAt0 m c (t.val - 1) (Nat.lt_of_le_of_lt (Nat.sub_le _ _) t.isLt)).2.2.2
        (iblk m c 0 t) (iblk m c 1 t) (iblk m c 2 t) (iblk m c 3 t),
      qmBlk (iblk m c 0 t) (iblk m c 1 t) (iblk m c 2 t), lastBlk (iblk m c 0 t) (iblk m c 1 t) (iblk m c 2 t),
      k0_pay1 (lastBlk (iblk m c 0 t) (iblk m c 1 t) (iblk m c 2 t))) := by
  rw [outsAt0_B m c t h0]
  generalize (outsAt0 m c (t.val - 1) (Nat.lt_of_le_of_lt (Nat.sub_le _ _) t.isLt)).2.2.2 = acc
  unfold out0_B_4 out0_B_5 out0_B_6 sout0_B_0
  rw [View.read_writes_eq_canon _ _ _ (cover0_B_4 c _ _ _ _ _ _ _ _ _ _ _ _ _ _ _ _ _ _ _ _ _ _ _),
    View.read_writes_eq_canon _ _ _ (cover0_B_5 c _ _ _ _ _ _ _ _ _ _ _ _ _ _ _ _ _ _ _ _ _ _ _),
    View.read_writes_eq_canon _ _ _ (cover0_B_6 c _ _ _ _ _ _ _ _ _ _ _ _ _ _ _ _ _ _ _ _ _ _ _),
    View.read_writes_eq_canon _ _ _ (scover0_B_0 c _ _ _ _ _ _ _ _ _ _ _ _ _ _ _ _ _ _ _ _ _ _ _)]
  unfold kernelRun0_B
  dsimp only
  sl_unfold_words
  simp only [View.canon_cons_unit_zero (S := S512x1024) hz2, View.canon_cons_unit_zero (S := S8x1024) hz2]
  simp only [View.readAt_eq_ld, (hs0_0 t).read_unread, (hs0_1 t).read_unread, (hs0_2 t).read_unread, (hs0_3 t).read_unread,
    (Memref.isWhole_whole _).read_unread]
  simp only [View.ld_unit_zero (S := S512x1024) hz2, View.ld_unit_zero (S := S1x1024) hz2, View.ld_unit_zero (S := S3x1024) hz2,
    View.ld_unit_zero (S := S8x1024) hz2]
  rfl

end Cert.ConvIdeal.BlockValue

end
-- ==== Proof.ConvEntry.lean ====
module

public import proofs.«01_k».proof.Proof.ConvBlock

/-! The blocks of the short-convolution front, entry by entry. -/

@[expose] public section

set_option maxRecDepth 16384

noncomputable section

namespace Cert.ConvIdeal.BlockValue

open Cert.ConvIdeal Cert.ConvIdeal.Gen Idealize.ShloMosaic Idealize.ShloMosaic.TcCoe Idealize.SL.Sem

variable (x : Vec Ideal S512x1024 .f32) (g : Vec Ideal S1x1024 .f32) (w : Vec Ideal S1x1024x4096 .bf16)
    (cw : Vec Ideal S3x1024 .f32) (car : Vec Ideal S8x1024 .f32)

theorem norm_apply (r : Fin 512) (j : Fin 1024) :
    k0_pay3 x g (ix2 r j) = Layer.rms (fun j => x (ix2 r j)) (fun j => g (ix2 0 j)) j := by
  pointwise [k0_pay3, Layer.rms]

theorem uBlk_apply (r : Fin 512) (j : Fin 1024) :
    uBlk x g w (ix2 r j) = Layer.gated (fun j => x (ix2 r j)) (fun j => g (ix2 0 j)) (fun k j => w (ix3 0 k j)) j := by
  have hn := fun j => norm_apply x g r j
  unfold uBlk k0_pay4
  generalize k0_pay3 x g = n at hn ⊢
  pointwise
  unfold Layer.gated Layer.proj
  simp only [hn]

theorem qmBlk_apply (r : Fin 512) (j : Fin 1024) :
    qmBlk x g w (ix2 r j) = Layer.proj (fun j => x (ix2 r j)) (fun j => g (ix2 0 j)) (fun k j => w (ix3 0 k j)) ⟨3072 + j, by omega⟩ := by
  have hn := fun j => norm_apply x g r j
  unfold qmBlk k0_pay11
  generalize k0_pay3 x g = n at hn ⊢
  pointwise
  unfold Layer.proj
  simp only [hn]

theorem lastBlk_apply (r : Fin 8) (j : Fin 1024) : lastBlk x g w (ix2 r j) = uBlk x g w (ix2 ⟨504 + r, by omega⟩ j) := by
  unfold lastBlk k0_pay12
  pointwise

theorem carried_apply (r : Fin 8) (j : Fin 1024) : k0_pay1 (lastBlk x g w) (ix2 r j) = uBlk x g w (ix2 ⟨504 + r, by omega⟩ j) := by
  rw [← lastBlk_apply]
  pointwise [k0_pay1]

theorem zeros_apply (r : Fin 8) (j : Fin 1024) : k0_pay2 (F := Ideal) (ix2 r j) = 0 := by
  pointwise [k0_pay2]

/-- The mixer's block at an entry: rows one and two back come from the block, or at its top from the rows carried in. -/
theorem tokBlk_apply (r : Fin 512) (j : Fin 1024) :
    tokBlk car x g w cw (ix2 r j) = Layer.tap3 (fun j => x (ix2 r j)) (fun j => g (ix2 0 j)) (fun k j => w (ix3 0 k j))
      (fun a j => cw (ix2 a j))
      (if r.val < 1 then car (ix2 6 j) else if r.val < 2 then car (ix2 7 j) else uBlk x g w (ix2 ⟨r - 2, by omega⟩ j))
      (if r.val < 1 then car (ix2 7 j) else uBlk x g w (ix2 ⟨r - 1, by omega⟩ j)) j := by
  have hn := fun j => norm_apply x g r j
  have hu := fun j => uBlk_apply x g w r j
  unfold tokBlk k0_pay5 k0_pay6
  change k0_pay10 _ _ (dynamicRotate 0 1#32 none (uBlk x g w) _) (dynamicRotate 0 2#32 none (uBlk x g w) _) _ _ _ _ _ _ (ix2 r j) = _
  generalize uBlk x g w = u at hu ⊢
  generalize k0_pay3 x g = n at hn ⊢
  unfold k0_pay10 k0_pay7 k0_pay8 k0_pay9
  pointwise
  have c1 : ∀ y z : EReal, Scalar.select (IntOp.cmpi .slt (BitVec.ofNat 32 r.val) 1#32) y z = if r.val < 1 then y else z :=
    fun y z => Layer.select_slt r.val 1 (by omega) (by omega) y z
  have c2 : ∀ y z : EReal, Scalar.select (IntOp.cmpi .slt (BitVec.ofNat 32 r.val) 2#32) y z = if r.val < 2 then y else z :=
    fun y z => Layer.select_slt r.val 2 (by omega) (by omega) y z
  simp only [c1, c2]
  have e1 : ¬ r.val < 1 → (⟨(r.val + 512 - 1) % 512, Nat.mod_lt _ (by decide)⟩ : Fin 512) = ⟨r.val - 1, by omega⟩ := fun h => by
    apply Fin.ext; show (r.val + 512 - 1) % 512 = r.val - 1; omega
  have e2 : ¬ r.val < 2 → (⟨(r.val + 512 - 2) % 512, Nat.mod_lt _ (by decide)⟩ : Fin 512) = ⟨r.val - 2, by omega⟩ := fun h => by
    apply Fin.ext; show (r.val + 512 - 2) % 512 = r.val - 2; omega
  unfold Layer.tap3 Layer.proj
  simp only [hn, hu]
  by_cases h1 : r.val < 1
  · have h2 : r.val < 2 := by omega
    simp only [if_pos h1]
  · by_cases h2 : r.val < 2
    · simp only [if_neg h1, if_pos h2, e1 h1]
    · simp only [if_neg h1, if_neg h2, e1 h1, e2 h2]

end Cert.ConvIdeal.BlockValue
-- ==== Proof.ConvArray.lean ====
module

public import proofs.«01_k».proof.Proof.ConvEntry
public import Idealize.ShloMosaic.Lib.Pipeline.ValueKit

/-! The short-convolution front's three arrays after the run. -/

@[expose] public section

set_option maxRecDepth 16384

noncomputable section

namespace Cert.ConvIdeal.BlockValue

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- The index maps: rows go with the grid point, the weights stay. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] ∧ win0_6.index t = ![t.val, 0])

theorem lt32 (t : Fin cfg0.N) : t.val < 32 := t.isLt

/-- The row of the arrays that a row of a block is. -/
abbrev rowOf (t : Fin cfg0.N) (r : Fin 512) : Fin 16384 := ⟨512 * t.val + r.val, by have := lt32 t; omega⟩

/-- The arguments. -/
abbrev ax0 (c : Dev nD) := m ((c : Thread nD τ).loc main_arg0)
abbrev ax1 (c : Dev nD) := m ((c : Thread nD τ).loc main_arg1)
abbrev ax2 (c : Dev nD) := m ((c : Thread nD τ).loc main_arg2)
abbrev ax3 (c : Dev nD) := m ((c : Thread nD τ).loc main_arg3)

theorem in0 (c : Dev nD) (t : Fin cfg0.N) (r : Fin 512) : (fun j => iblk m c 0 t (ix2 r j)) = Layer.xRow (ax0 m c) (rowOf t r) := by
  funext k; unfold Layer.xRow; blk_ext! [iblk, V, idx t]

theorem in1 (c : Dev nD) (t : Fin cfg0.N) : (fun j => iblk m c 1 t (ix2 0 j)) = fun k => ax1 m c (ix2 0 k) := by
  funext k; blk_ext! [iblk, V, idx t]

theorem in2 (c : Dev nD) (t : Fin cfg0.N) : (fun k j => iblk m c 2 t (ix3 0 k j)) = fun k j => ax2 m c (ix3 0 k j) := by
  funext k j; blk_ext [iblk, V, idx t]

theorem in3 (c : Dev nD) (t : Fin cfg0.N) : (fun a j => iblk m c 3 t (ix2 a j)) = fun a j => ax3 m c (ix3 0 a j) := by
  funext k j; blk_ext! [iblk, V, idx t]

/-- A block of the convolution's input. -/
theorem u_eq (c : Dev nD) (t : Fin cfg0.N) (r : Fin 512) (j : Fin 1024) :
    uBlk (iblk m c 0 t) (iblk m c 1 t) (iblk m c 2 t) (ix2 r j) = Layer.convU (ax0 m c) (ax1 m c) (ax2 m c) (rowOf t r) j := by
  rw [uBlk_apply]
  unfold Layer.convU
  rw [← in0 m c t r, ← in1 m c t, ← in2 m c t]

theorem outs_qm (c : Dev nD) (t : Fin cfg0.N) :
    (outsAt0 m c t.val t.isLt).2.1 = qmBlk (iblk m c 0 t) (iblk m c 1 t) (iblk m c 2 t) := by
  by_cases h : t.val % 16 = 0
  · rw [outA m c t h]
  · rw [outB m c t h]

theorem outs_last (c : Dev nD) (t : Fin cfg0.N) :
    (outsAt0 m c t.val t.isLt).2.2.1 = lastBlk (iblk m c 0 t) (iblk m c 1 t) (iblk m c 2 t) := by
  by_cases h : t.val % 16 = 0
  · rw [outA m c t h]
  · rw [outB m c t h]

theorem outs_carried (c : Dev nD) (t : Fin cfg0.N) :
    (outsAt0 m c t.val t.isLt).2.2.2 = k0_pay1 (lastBlk (iblk m c 0 t) (iblk m c 1 t) (iblk m c 2 t)) := by
  by_cases h : t.val % 16 = 0
  · rw [outA m c t h]
  · rw [outB m c t h]

/-- The mixer's block: what is carried in is the block before it, or nothing at a sequence's start. -/
theorem tok_eq (c : Dev nD) (t : Fin cfg0.N) (r : Fin 512) (j : Fin 1024) :
    (outsAt0 m c t.val t.isLt).1 (ix2 r j) = Layer.convTok (ax0 m c) (ax1 m c) (ax2 m c) (ax3 m c) (rowOf t r) j := by
  have ht := lt32 t
  unfold Layer.convTok
  rw [← in0 m c t r, ← in1 m c t, ← in2 m c t, ← in3 m c t]
  by_cases h : t.val % 16 = 0
  · rw [outA m c t h]
    refine (tokBlk_apply _ _ _ _ _ r j).trans ?_
    rw [zeros_apply, zeros_apply, u_eq, u_eq]
    have hm : (rowOf t r).val % 8192 = r.val := by show (512 * t.val + r.val) % 8192 = r.val; omega
    rw [hm]
    by_cases h1 : r.val < 1
    · simp only [if_pos h1, if_pos (show r.val < 2 by omega)]
    · by_cases h2 : r.val < 2
      · simp only [if_neg h1, if_pos h2]
        rw [show rowOf t ⟨r.val - 1, by omega⟩ = ⟨(rowOf t r).val - 1, by omega⟩ from Fin.ext (by show 512 * t.val + (r.val - 1) = 512 * t.val + r.val - 1; omega)]
      · simp only [if_neg h1, if_neg h2]
        rw [show rowOf t ⟨r.val - 1, by omega⟩ = ⟨(rowOf t r).val - 1, by omega⟩ from Fin.ext (by show 512 * t.val + (r.val - 1) = 512 * t.val + r.val - 1; omega),
          show rowOf t ⟨r.val - 2, by omega⟩ = ⟨(rowOf t r).val - 2, by omega⟩ from Fin.ext (by show 512 * t.val + (r.val - 2) = 512 * t.val + r.val - 2; omega)]
  · rw [outB m c t h]
    refine (tokBlk_apply _ _ _ _ _ r j).trans ?_
    have hp : t.val - 1 < cfg0.N := Nat.lt_of_le_of_lt (Nat.sub_le _ _) t.isLt
    have hc := outs_carried m c ⟨t.val - 1, hp⟩
    rw [show (outsAt0 m c (t.val - 1) (Nat.lt_of_le_of_lt (Nat.sub_le _ _) t.isLt)).2.2.2 = _ from hc]
    rw [carried_apply, carried_apply, u_eq, u_eq, u_eq, u_eq]
    have hm : (rowOf t r).val % 8192 = 512 * (t.val % 16) + r.val := by show (512 * t.val + r.val) % 8192 = _; omega
    rw [hm, if_neg (show ¬ 512 * (t.val % 16) + r.val < 2 by omega), if_neg (show ¬ 512 * (t.val % 16) + r.val < 1 by omega)]
    have e2 : ∀ h : (rowOf t r).val - 2 < 16384, (if r.val < 1 then Layer.convU (ax0 m c) (ax1 m c) (ax2 m c) (rowOf ⟨t.val - 1, hp⟩ ⟨504 + (6 : Fin 8).val, by decide⟩) j
        else if r.val < 2 then Layer.convU (ax0 m c) (ax1 m c) (ax2 m c) (rowOf ⟨t.val - 1, hp⟩ ⟨504 + (7 : Fin 8).val, by decide⟩) j
        else Layer.convU (ax0 m c) (ax1 m c) (ax2 m c) (rowOf t ⟨r.val - 2, by omega⟩) j)
        = Layer.convU (ax0 m c) (ax1 m c) (ax2 m c) ⟨(rowOf t r).val - 2, h⟩ j := by
      intro _
      by_cases h1 : r.val < 1
      · rw [if_pos h1]
        exact congrArg (fun q => Layer.convU _ _ _ q j) (Fin.ext (by show 512 * (t.val - 1) + 510 = 512 * t.val + r.val - 2; omega))
      · by_cases h2 : r.val < 2
        · rw [if_neg h1, if_pos h2]
          exact congrArg (fun q => Layer.convU _ _ _ q j) (Fin.ext (by show 512 * (t.val - 1) + 511 = 512 * t.val + r.val - 2; omega))
        · rw [if_neg h1, if_neg h2]
          exact congrArg (fun q => Layer.convU _ _ _ q j) (Fin.ext (by show 512 * t.val + (r.val - 2) = 512 * t.val + r.val - 2; omega))
    have e1 : ∀ h : (rowOf t r).val - 1 < 16384, (if r.val < 1 then Layer.convU (ax0 m c) (ax1 m c) (ax2 m c) (rowOf ⟨t.val - 1, hp⟩ ⟨504 + (7 : Fin 8).val, by decide⟩) j
        else Layer.convU (ax0 m c) (ax1 m c) (ax2 m c) (rowOf t ⟨r.val - 1, by omega⟩) j)
        = Layer.convU (ax0 m c) (ax1 m c) (ax2 m c) ⟨(rowOf t r).val - 1, h⟩ j := by
      intro _
      by_cases h1 : r.val < 1
      · rw [if_pos h1]
        exact congrArg (fun q => Layer.convU _ _ _ q j) (Fin.ext (by show 512 * (t.val - 1) + 511 = 512 * t.val + r.val - 1; omega))
      · rw [if_neg h1]
        exact congrArg (fun q => Layer.convU _ _ _ q j) (Fin.ext (by show 512 * t.val + (r.val - 1) = 512 * t.val + r.val - 1; omega))
    congr 1
    · exact e2 (by omega)
    · exact e1 (by omega)

/-- The three arrays after the run, from the arguments. -/
def G4 (c : Dev nD) : S16384x1024.Idx → EReal := fun i => Layer.convTok (ax0 m c) (ax1 m c) (ax2 m c) (ax3 m c) (i 0) (i 1)
def G5 (c : Dev nD) : S16384x1024.Idx → EReal := fun i => Layer.convQ (ax0 m c) (ax1 m c) (ax2 m c) (i 0) (i 1)
def G6 (c : Dev nD) : S256x1024.Idx → EReal := fun i =>
  Layer.convU (ax0 m c) (ax1 m c) (ax2 m c) ⟨512 * ((i 0).val / 8) + 504 + (i 0).val % 8, by have : (i 0).val < 256 := (i 0).isLt; omega⟩ (i 1)

set_option maxHeartbeats 2000000 in
theorem final4 (c : Dev nD) : (dats m 0 c).arrAt 4 cfg0.N = G4 m c := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  have e : (win0_4.blk t).view.emb (ix2 r j) = ix2 (rowOf t r) j := by blk_ext [idx t]
  rw [e]
  exact tok_eq m c t r j

set_option maxHeartbeats 2000000 in
theorem final5 (c : Dev nD) : (dats m 0 c).arrAt 5 cfg0.N = G5 m c := by
  refine (dats m 0 c).arrAt_eq_of_covers 5 _ (by decide +kernel) fun t hf y => ?_
  blk_simp
  rw [after0_5, outs_qm]
  obtain ⟨r, j, rfl⟩ : ∃ (r : Fin 512) (j : Fin 1024), y = ix2 r j := ⟨y 0, y 1, eq_ix2 y⟩
  have e : (win0_5.blk t).view.emb (ix2 r j) = ix2 (rowOf t r) j := by blk_ext [idx t]
  rw [e]
  refine (qmBlk_apply _ _ _ r j).trans ?_
  rw [in0 m c t r, in1 m c t, in2 m c t]
  rfl

set_option maxHeartbeats 2000000 in
theorem final6 (c : Dev nD) : (dats m 0 c).arrAt 6 cfg0.N = G6 m c := by
  refine (dats m 0 c).arrAt_eq_of_covers 6 _ (by decide +kernel) fun t hf y => ?_
  blk_simp
  rw [after0_6, outs_last]
  have ht := lt32 t
  obtain ⟨r, j, rfl⟩ : ∃ (r : Fin 8) (j : Fin 1024), y = ix2 r j := ⟨y 0, y 1, eq_ix2 y⟩
  have e : (win0_6.blk t).view.emb (ix2 r j) = ix2 (⟨8 * t.val + r.val, by omega⟩ : Fin 256) j := by blk_ext [idx t]
  rw [e]
  refine (lastBlk_apply _ _ _ r j).trans ((u_eq m c t _ j).trans ?_)
  exact congrArg (fun q => Layer.convU _ _ _ q j) (Fin.ext (by
    show 512 * t.val + (504 + r.val) = 512 * ((8 * t.val + r.val) / 8) + 504 + (8 * t.val + r.val) % 8; omega))

end Cert.ConvIdeal.BlockValue
-- ==== Proof.ConvRefRow.lean ====
module

public import proofs.«01_k».proof.Proof.Gen.ConvRefIdeal.Run
public import proofs.«01_k».proof.Proof.Gen.ConvRefIdeal.Read
public import proofs.«01_k».proof.Proof.ConvMath
public import Idealize.ShloMosaic.Lib.Tactic.CleanTypes

/-! The reference of the short-convolution front, entry by entry. -/

@[expose] public section

set_option maxRecDepth 16384

noncomputable section

namespace Cert.ConvRefIdeal.RowValue

open Cert.ConvRefIdeal Cert.ConvRefIdeal.Gen Idealize.ShloMosaic Idealize.ShloMosaic.TcCoe Idealize.SL.Sem
open Cert.ConvRefIdeal.Read

variable (x0 : (⟨3, ![2, 8192, 1024]⟩ : Shape).Idx → EReal) (x1 : (⟨2, ![4, 1024]⟩ : Shape).Idx → EReal)
    (x2 : (⟨3, ![2, 1024, 4096]⟩ : Shape).Idx → EReal) (x3 : (⟨3, ![2, 3, 1024]⟩ : Shape).Idx → EReal)

theorem rms_apply (b : Fin 2) (s : Fin 8192) (j : Fin 1024) :
    val_main_v14 (F := Ideal) x0 x1 (ix3 b s j) = Layer.rms (fun j => x0 (ix3 b s j)) (fun j => x1 (ix2 0 j)) j := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Layer.rms]

theorem proj_apply (b : Fin 2) (s : Fin 8192) (j : Fin 4096) :
    val_main_v17 (F := Ideal) x0 x1 x2 (ix3 b s j)
    = Layer.proj (fun j => x0 (ix3 b s j)) (fun j => x1 (ix2 0 j)) (fun k j => x2 (ix3 0 k j)) j := by
  have hn := fun j => rms_apply x0 x1 b s j
  unfold val_main_v17
  generalize val_main_v14 (F := Ideal) x0 x1 = n at hn ⊢
  pointwise [val_main_v16, val_main_v15]
  unfold Layer.proj
  simp only [hn]

/-- The convolution's input at a row of a sequence. -/
theorem u_apply (b : Fin 2) (s : Fin 8192) (j : Fin 1024) :
    val_main_v22 (F := Ideal) x0 x1 x2 (ix3 b s j)
    = Layer.gated (fun j => x0 (ix3 b s j)) (fun j => x1 (ix2 0 j)) (fun k j => x2 (ix3 0 k j)) j := by
  have hp := fun j => proj_apply x0 x1 x2 b s j
  unfold val_main_v22 val_main_v19 val_main_v20
  generalize val_main_v17 (F := Ideal) x0 x1 x2 = p at hp ⊢
  pointwise
  unfold Layer.gated
  rw [hp, hp]

/-- The padded input: two rows of zeros, then the sequence. -/
theorem pad_apply (b : Fin 2) (s : Fin 8194) (j : Fin 1024) :
    val_main_v26 (F := Ideal) x0 x1 x2 (ix3 b s j)
    = if h : s.val < 2 then 0 else val_main_v22 (F := Ideal) x0 x1 x2 (ix3 b ⟨s - 2, by omega⟩ j) := by
  unfold val_main_v26
  generalize val_main_v22 (F := Ideal) x0 x1 x2 = u
  by_cases h : s.val < 2
  · rw [dif_pos h]
    pointwise [val_main_v25, val_main_cst_2]
    rw [dif_pos h]
  · rw [dif_neg h]
    pointwise
    rw [dif_neg h]

/-- A row of the convolution, over the padded input. -/
theorem tok_apply (b : Fin 2) (s : Fin 8192) (j : Fin 1024) :
    val_main_v47 (F := Ideal) x0 x1 x2 x3 (ix3 b s j)
    = Layer.tap3 (fun j => x0 (ix3 b s j)) (fun j => x1 (ix2 0 j)) (fun k j => x2 (ix3 0 k j)) (fun a j => x3 (ix3 0 a j))
      (val_main_v26 (F := Ideal) x0 x1 x2 (ix3 b ⟨s, by omega⟩ j)) (val_main_v26 (F := Ideal) x0 x1 x2 (ix3 b ⟨1 + s, by omega⟩ j)) j := by
  have hp := fun j => proj_apply x0 x1 x2 b s j
  have hu := u_apply x0 x1 x2 b s j
  have h2 := pad_apply x0 x1 x2 b ⟨2 + s.val, by omega⟩ j
  rw [dif_neg (by show ¬ 2 + s.val < 2; omega)] at h2
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v24 val_main_v23 val_main_v18
  generalize val_main_v26 (F := Ideal) x0 x1 x2 = q at h2 ⊢
  generalize val_main_v22 (F := Ideal) x0 x1 x2 = u at h2 hu ⊢
  generalize val_main_v17 (F := Ideal) x0 x1 x2 = p at hp ⊢
  pointwise
  unfold Layer.tap3
  have es : (⟨2 + s.val - 2, by omega⟩ : Fin 8192) = s := Fin.ext (by show 2 + s.val - 2 = s.val; omega)
  rw [h2, hp, ← hu]
  show _ * (_ + _ * u (ix3 b ⟨2 + s.val - 2, _⟩ j)) = _
  rw [es]

/-- The three results at a row: the row's sequence and its place there. -/
theorem tokR_apply (r : Fin 16384) (j : Fin 1024) :
    val_main_v52 (F := Ideal) x0 x1 x2 x3 (ix2 r j) = Layer.convTok x0 x1 x2 x3 r j := by
  have ht := tok_apply x0 x1 x2 x3 ⟨r / 8192, by omega⟩ ⟨r % 8192, by omega⟩ j
  rw [pad_apply, pad_apply] at ht
  have hu := fun b s => u_apply x0 x1 x2 b s j
  unfold val_main_v52 val_main_v51
  generalize val_main_v47 (F := Ideal) x0 x1 x2 x3 = q at ht ⊢
  pointwise
  refine Eq.trans ?_ (ht.trans ?_)
  · rfl
  · unfold Layer.convTok Layer.convU Layer.xRow
    simp only [hu]
    congr 1
    · by_cases h : r.val % 8192 < 2
      · rw [if_pos h, dif_pos h]
      · rw [if_neg h, dif_neg h]
        have e1 : (r.val - 2) / 8192 = r.val / 8192 := by omega
        have e2 : (r.val - 2) % 8192 = r.val % 8192 - 2 := by omega
        simp only [e1, e2]
    · by_cases h : r.val % 8192 < 1
      · rw [if_pos h, dif_pos (show 1 + r.val % 8192 < 2 by omega)]
      · rw [if_neg h, dif_neg (show ¬ 1 + r.val % 8192 < 2 by omega)]
        have e1 : (r.val - 1) / 8192 = r.val / 8192 := by omega
        have e2 : (r.val - 1) % 8192 = 1 + r.val % 8192 - 2 := by omega
        simp only [e1, e2]

theorem qmR_apply (r : Fin 16384) (j : Fin 1024) :
    val_main_v54 (F := Ideal) x0 x1 x2 (ix2 r j) = Layer.convQ x0 x1 x2 r j := by
  have hp := proj_apply x0 x1 x2 ⟨r / 8192, by omega⟩ ⟨r % 8192, by omega⟩ ⟨3072 + j, by omega⟩
  unfold val_main_v54 val_main_v53 val_main_v21
  generalize val_main_v17 (F := Ideal) x0 x1 x2 = p at hp ⊢
  pointwise
  exact hp

theorem lastR_apply (r : Fin 256) (j : Fin 1024) :
    val_main_v50 (F := Ideal) x0 x1 x2 (ix2 r j) = Layer.convU x0 x1 x2 ⟨512 * (r.val / 8) + 504 + r.val % 8, by omega⟩ j := by
  have hu := fun b s => u_apply x0 x1 x2 b s j
  unfold val_main_v50 val_main_v49 val_main_v48
  generalize val_main_v22 (F := Ideal) x0 x1 x2 = u at hu ⊢
  pointwise
  unfold Layer.convU Layer.xRow
  rw [hu]
  have e1 : (512 * (r.val / 8) + 504 + r.val % 8) / 8192 = r.val / 128 := by omega
  have e2 : (512 * (r.val / 8) + 504 + r.val % 8) % 8192 = r.val / 8 % 16 * 512 + (504 + r.val % 8) := by omega
  simp only [e1, e2]

end Cert.ConvRefIdeal.RowValue
-- ==== Proof.ConvClaim.lean ====
module

public import proofs.«01_k».proof.Defs
public import proofs.«01_k».proof.Proof.ConvArray
public import proofs.«01_k».proof.Proof.ConvRefRow
public import proofs.«01_k».proof.Proof.Gen.ConvIdeal
public import proofs.«01_k».proof.Proof.Gen.ConvRefIdeal
public import proofs.«01_k».proof.Proof.Gen.ConvRefIdeal.Run

@[expose] public section

set_option maxRecDepth 16384

noncomputable section

namespace Cert.ConvValue

open Idealize.ShloMosaic Idealize.ShloMosaic.TcCoe Idealize.SL.Sem

variable (m : (ℓ : Loc ConvIdeal.nD ConvIdeal.τ ConvIdeal.sig) → Buf (Elt Ideal) ℓ)
    (m' : (ℓ : Loc ConvRefIdeal.nD ConvRefIdeal.τ ConvRefIdeal.sig) → Buf (Elt Ideal) ℓ) (c : Dev ConvIdeal.nD)

/-- The two programs' arguments are the same. -/
abbrev same : Prop :=
    m' ((c.tc : Thread ConvRefIdeal.nD ConvRefIdeal.τ).loc ConvRefIdeal.main_arg0) = m ((c.tc : Thread ConvIdeal.nD ConvIdeal.τ).loc ConvIdeal.main_arg0)
    ∧ m' ((c.tc : Thread ConvRefIdeal.nD ConvRefIdeal.τ).loc ConvRefIdeal.main_arg1) = m ((c.tc : Thread ConvIdeal.nD ConvIdeal.τ).loc ConvIdeal.main_arg1)
    ∧ m' ((c.tc : Thread ConvRefIdeal.nD ConvRefIdeal.τ).loc ConvRefIdeal.main_arg2) = m ((c.tc : Thread ConvIdeal.nD ConvIdeal.τ).loc ConvIdeal.main_arg2)
    ∧ m' ((c.tc : Thread ConvRefIdeal.nD ConvRefIdeal.τ).loc ConvRefIdeal.main_arg3) = m ((c.tc : Thread ConvIdeal.nD ConvIdeal.τ).loc ConvIdeal.main_arg3)

set_option maxHeartbeats 2000000 in
/-- The reference's result 0 is the same function of the arguments. -/
theorem ref_eq0 (h : same m m' c) : ConvRefIdeal.Value.res_main_v52 m' c = ConvIdeal.BlockValue.G4 m c := by
  rw [ConvRefIdeal.Read.val_main_v52_eq, h.1, h.2.1, h.2.2.1, h.2.2.2]
  funext i
  obtain ⟨r, j, rfl⟩ : ∃ (r : Fin 16384) (j : Fin 1024), i = ix2 r j := ⟨i 0, i 1, eq_ix2 i⟩
  exact ConvRefIdeal.RowValue.tokR_apply _ _ _ _ r j

set_option maxHeartbeats 2000000 in
/-- The reference's result 1 is the same function of the arguments. -/
theorem ref_eq1 (h : same m m' c) : ConvRefIdeal.Read.val_main_v54 (F := Ideal) (m' ((c.tc : Thread ConvRefIdeal.nD ConvRefIdeal.τ).loc ConvRefIdeal.main_arg0)) (m' ((c.tc : Thread ConvRefIdeal.nD ConvRefIdeal.τ).loc ConvRefIdeal.main_arg1)) (m' ((c.tc : Thread ConvRefIdeal.nD ConvRefIdeal.τ).loc ConvRefIdeal.main_arg2)) = ConvIdeal.BlockValue.G5 m c := by
  rw [h.1, h.2.1, h.2.2.1]
  funext i
  obtain ⟨r, j, rfl⟩ : ∃ (r : Fin 16384) (j : Fin 1024), i = ix2 r j := ⟨i 0, i 1, eq_ix2 i⟩
  exact ConvRefIdeal.RowValue.qmR_apply _ _ _ r j

set_option maxHeartbeats 2000000 in
/-- The reference's result 2 is the same function of the arguments. -/
theorem ref_eq2 (h : same m m' c) : ConvRefIdeal.Read.val_main_v50 (F := Ideal) (m' ((c.tc : Thread ConvRefIdeal.nD ConvRefIdeal.τ).loc ConvRefIdeal.main_arg0)) (m' ((c.tc : Thread ConvRefIdeal.nD ConvRefIdeal.τ).loc ConvRefIdeal.main_arg1)) (m' ((c.tc : Thread ConvRefIdeal.nD ConvRefIdeal.τ).loc ConvRefIdeal.main_arg2)) = ConvIdeal.BlockValue.G6 m c := by
  rw [h.1, h.2.1, h.2.2.1]
  funext i
  obtain ⟨r, j, rfl⟩ : ∃ (r : Fin 256) (j : Fin 1024), i = ix2 r j := ⟨i 0, i 1, eq_ix2 i⟩
  exact ConvRefIdeal.RowValue.lastR_apply _ _ _ r j

/-- The short-convolution front of a layer: the kernel and the reference end with equal results. -/
theorem algebraic : Cert.algebraic_ConvIdeal_ConvRefIdeal := fun m g m' g' _  hag =>
  ⟨fun c => ConvIdeal.BlockValue.G4 m c, fun c => ConvIdeal.BlockValue.G5 m c, fun c => ConvIdeal.BlockValue.G6 m c,
    (θ_run _ _ _).mono (fun _ h c => ⟨(h c).1.trans (ConvIdeal.BlockValue.final4 m c), (h c).2.1.trans (ConvIdeal.BlockValue.final5 m c), (h c).2.2.1.trans (ConvIdeal.BlockValue.final6 m c), (h c).2.2.2⟩) (ConvIdeal.Value.run_blocks m g),
    (θ_run _ _ _).mono (fun _ h c => ⟨(h c).1.trans (ref_eq0 m m' c (hag c)), (h c).2.1.trans ((ConvRefIdeal.Read.val_main_v54_eq _ _ _).trans (ref_eq1 m m' c (hag c))), (h c).2.2.1.trans ((ConvRefIdeal.Read.val_main_v50_eq _ _ _).trans (ref_eq2 m m' c (hag c))), (h c).2.2.2⟩) (ConvRefIdeal.Value.run m' g')⟩

end Cert.ConvValue

end
-- ==== Proof.SampleMath.lean ====
module

public import proofs.«01_k».proof.Proof.ConvMath

/-! The rows of the sample group: 128 sequences of four tokens. -/

@[expose] public section

set_option maxRecDepth 16384

noncomputable section

namespace Cert.Layer

open Idealize.ShloMosaic

/-- A row of the sample group's activations. -/
def sRow (x : (⟨3, ![128, 4, 1024]⟩ : Shape).Idx → EReal) (r : Fin 512) (j : Fin 1024) : EReal :=
  x (ix3 ⟨r / 4, by omega⟩ ⟨r % 4, by omega⟩ j)

/-- The sample group's rows after the last layer, before the final norm. -/
def outS (x0 : (⟨3, ![128, 4, 1024]⟩ : Shape).Idx → EReal) (x1 x2 : (⟨2, ![512, 1024]⟩ : Shape).Idx → EReal)
    (x3 : (⟨3, ![2, 2048, 1024]⟩ : Shape).Idx → EReal) (x4 : (⟨2, ![4, 1024]⟩ : Shape).Idx → EReal)
    (x5 : (⟨3, ![4, 1024, 4096]⟩ : Shape).Idx → EReal) (x6 : (⟨3, ![4, 4096, 1024]⟩ : Shape).Idx → EReal)
    (r : Fin 512) : Fin 1024 → EReal :=
  row (sRow x0 r) (fun k => x1 (ix2 r k)) (fun k => x2 (ix2 r k)) (fun k j => x3 (ix3 1 k j)) (fun k => x4 (ix2 3 k))
    (fun k u => x5 (ix3 3 k u)) (fun u j => x6 (ix3 3 u j))

/-- The sample group's keys (the first thousand of columns) and values (the second). -/
def kvS (x0 : (⟨3, ![128, 4, 1024]⟩ : Shape).Idx → EReal) (x1 : (⟨1, ![1024]⟩ : Shape).Idx → EReal)
    (x2 : (⟨2, ![1024, 2048]⟩ : Shape).Idx → EReal) (r : Fin 512) : Fin 2048 → EReal :=
  proj (sRow x0 r) (fun k => x1 (ix1 k)) (fun k j => x2 (ix2 k j))

/-- The memory's keys and values in layer `l`. -/
def memKv (x0 : (⟨3, ![2, 256, 1024]⟩ : Shape).Idx → EReal) (x1 : (⟨2, ![4, 1024]⟩ : Shape).Idx → EReal)
    (x2 : (⟨3, ![4, 1024, 2048]⟩ : Shape).Idx → EReal) (l : Fin 4) (r : Fin 512) : Fin 2048 → EReal :=
  proj (fun k => x0 (ix3 ⟨r / 256, by omega⟩ ⟨r % 256, by omega⟩ k)) (fun k => x1 (ix2 l k)) (fun k j => x2 (ix3 l k j))

end Cert.Layer
-- ==== Proof.ConvSMath.lean ====
module

public import proofs.«01_k».proof.Proof.ConvMath
public import proofs.«01_k».proof.Proof.SampleMath

/-! The sample group's short convolution: the two values before a sequence's first tokens come from the state carried in. -/

@[expose] public section

set_option maxRecDepth 16384

noncomputable section

namespace Cert.Layer

open Idealize.ShloMosaic

variable (x0 : (⟨3, ![128, 4, 1024]⟩ : Shape).Idx → EReal) (x1 : (⟨2, ![4, 1024]⟩ : Shape).Idx → EReal)
    (x2 : (⟨3, ![2, 1024, 4096]⟩ : Shape).Idx → EReal) (x3 : (⟨3, ![2, 3, 1024]⟩ : Shape).Idx → EReal)
    (x4 : (⟨4, ![2, 128, 2, 1024]⟩ : Shape).Idx → EReal)

/-- A column of the projection of a sample row. -/
def smpP (r : Fin 512) (j : Fin 4096) : EReal := proj (sRow x0 r) (fun k => x1 (ix2 0 k)) (fun k j => x2 (ix3 0 k j)) j

/-- The convolution's input at a sample row. -/
def smpU (r : Fin 512) (j : Fin 1024) : EReal := smpP x0 x1 x2 r ⟨1024 + j, by omega⟩ * smpP x0 x1 x2 r ⟨2048 + j, by omega⟩

/-- The value one row before, and two rows before. -/
def before1 (r : Fin 512) (j : Fin 1024) : EReal :=
  if r.val % 4 < 1 then x4 (ix4 0 ⟨r.val / 4, by omega⟩ 1 j) else smpU x0 x1 x2 ⟨r.val - 1, by omega⟩ j
def before2 (r : Fin 512) (j : Fin 1024) : EReal :=
  if h : r.val % 4 < 2 then x4 (ix4 0 ⟨r.val / 4, by omega⟩ ⟨r.val % 4, by omega⟩ j) else smpU x0 x1 x2 ⟨r.val - 2, by omega⟩ j

/-- The mixer at a sample row. -/
def smpTok (r : Fin 512) (j : Fin 1024) : EReal :=
  smpP x0 x1 x2 r ⟨j, by omega⟩ * (x3 (ix3 0 0 j) * before2 x0 x1 x2 x4 r j + x3 (ix3 0 1 j) * before1 x0 x1 x2 x4 r j + x3 (ix3 0 2 j) * smpU x0 x1 x2 r j)

end Cert.Layer
-- ==== Proof.ConvSArray.lean ====
module

public import proofs.«01_k».proof.Proof.ConvSMath
public import proofs.«01_k».proof.Proof.Gen.ConvSIdeal.Value
public import Idealize.ShloMosaic.Lib.Pointwise
public import Idealize.ShloMosaic.Lib.Pipeline.ReadBack
public import Idealize.ShloMosaic.Lib.Pipeline.ValueKit

/-! The sample group's short convolution: the arrays after the run. -/

@[expose] public section

set_option maxRecDepth 16384

noncomputable section

namespace Cert.ConvSIdeal.BlockValue

open Cert.ConvSIdeal Cert.ConvSIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The index maps. -/
theorem idx : ∀ t : Fin cfg0.N, win0_0.index t = ![0, 0]
    ∧ win0_1.index t = ![0, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0] :=
  (by decide +kernel : ∀ t : Fin grid0.N, win0_0.index t = ![0, 0]
    ∧ win0_1.index t = ![0, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0])

/-- A row's position in its sequence, as the word computed from the row's number. -/
theorem pos_word : ∀ r : Fin 512,
    Scalar.select (IntOp.andi (IntOp.xori (IntOp.cmpi .slt (IntOp.remsi ArithUnit.vector (BitVec.ofNat 32 r.val) (Scalar.select (Scalar.cmpi CmpIPredicate.eq 4#32 0#32) 1#32 4#32)) 0#32)
        (Scalar.cmpi .slt (Scalar.select (Scalar.cmpi CmpIPredicate.eq 4#32 0#32) 1#32 4#32) 0#32))
      (IntOp.cmpi .ne (IntOp.remsi ArithUnit.vector (BitVec.ofNat 32 r.val) (Scalar.select (Scalar.cmpi CmpIPredicate.eq 4#32 0#32) 1#32 4#32)) 0#32))
      (IntOp.addi (IntOp.remsi ArithUnit.vector (BitVec.ofNat 32 r.val) (Scalar.select (Scalar.cmpi CmpIPredicate.eq 4#32 0#32) 1#32 4#32)) (Scalar.select (Scalar.cmpi CmpIPredicate.eq 4#32 0#32) 1#32 4#32))
      (IntOp.remsi ArithUnit.vector (BitVec.ofNat 32 r.val) (Scalar.select (Scalar.cmpi CmpIPredicate.eq 4#32 0#32) 1#32 4#32)) = BitVec.ofNat 32 (r.val % 4) := by decide +kernel

theorem sel1 {α : Type} (r : Fin 512) (a b : α) : Scalar.select (IntOp.cmpi .sge (BitVec.ofNat 32 (r.val % 4)) 1#32) a b = if r.val % 4 < 1 then b else a := by
  have h : ∀ r : Fin 512, IntOp.cmpi .sge (BitVec.ofNat 32 (r.val % 4)) 1#32 = if r.val % 4 < 1 then 0#1 else 1#1 := by decide +kernel
  rw [h]; split <;> simp [Scalar.select]

theorem sel2 {α : Type} (r : Fin 512) (a b : α) : Scalar.select (IntOp.cmpi .sge (BitVec.ofNat 32 (r.val % 4)) 2#32) a b = if r.val % 4 < 2 then b else a := by
  have h : ∀ r : Fin 512, IntOp.cmpi .sge (BitVec.ofNat 32 (r.val % 4)) 2#32 = if r.val % 4 < 2 then 0#1 else 1#1 := by decide +kernel
  rw [h]; split <;> simp [Scalar.select]

abbrev ax0 (c : Dev nD) : S128x4x1024.Idx → EReal := m ((c : Thread nD τ).loc main_arg0)
abbrev ax1 (c : Dev nD) : S4x1024.Idx → EReal := m ((c : Thread nD τ).loc main_arg1)
abbrev ax2 (c : Dev nD) : S2x1024x4096.Idx → EReal := m ((c : Thread nD τ).loc main_arg2)
abbrev ax3 (c : Dev nD) : S2x3x1024.Idx → EReal := m ((c : Thread nD τ).loc main_arg3)
abbrev ax4 (c : Dev nD) : S2x128x2x1024.Idx → EReal := m ((c : Thread nD τ).loc main_arg4)

theorem in0 (c : Dev nD) (t : Fin cfg0.N) (r : Fin 512) : (fun k => (iblk m c 0 t : Vec Ideal S512x1024 .f32) (ix2 r k)) = Layer.sRow (ax0 m c) r := by
  funext k; unfold Layer.sRow; blk_ext! [iblk, V, idx t]
theorem in1 (c : Dev nD) (t : Fin cfg0.N) : (fun k => (iblk m c 1 t : Vec Ideal S1x1024 .f32) (ix2 0 k)) = fun k => ax1 m c (ix2 0 k) := by
  funext k; blk_ext! [iblk, V, idx t]
theorem in2 (c : Dev nD) (t : Fin cfg0.N) : (fun k j => (iblk m c 2 t : Vec Ideal S1x1024x4096 .bf16) (ix3 0 k j)) = fun k j => ax2 m c (ix3 0 k j) := by
  funext k j; blk_ext [iblk, V, idx t]
theorem in3 (c : Dev nD) (t : Fin cfg0.N) (a : Fin 3) (j : Fin 1024) : (iblk m c 3 t : Vec Ideal S3x1024 .f32) (ix2 a j) = ax3 m c (ix3 0 a j) := by
  blk_ext! [iblk, V, idx t]
theorem in4 (c : Dev nD) (t : Fin cfg0.N) (r : Fin 512) (j : Fin 1024) :
    (iblk m c 4 t : Vec Ideal S512x1024 .f32) (ix2 r j) = if h : r.val % 4 < 1 then ax4 m c (ix4 0 ⟨r.val / 4, by omega⟩ ⟨1 + r.val % 4, by omega⟩ j) else (0 : EReal) := by
  have e : (win0_4.blk t).view.emb (ix2 r j) = ix2 r j := by blk_ext [idx t]
  have e' : (iblk m c 4 t : Vec Ideal S512x1024 .f32) (ix2 r j) = V m c (Pipeline.arrRef spec0 4) (ix2 r j) := congrArg (V m c (Pipeline.arrRef spec0 4)) e
  rw [e']
  entry_read
  pointwise
theorem in5 (c : Dev nD) (t : Fin cfg0.N) (r : Fin 512) (j : Fin 1024) :
    (iblk m c 5 t : Vec Ideal S512x1024 .f32) (ix2 r j) = if h : r.val % 4 < 2 then ax4 m c (ix4 0 ⟨r.val / 4, by omega⟩ ⟨r.val % 4, by omega⟩ j) else (0 : EReal) := by
  have e : (win0_5.blk t).view.emb (ix2 r j) = ix2 r j := by blk_ext [idx t]
  have e' : (iblk m c 5 t : Vec Ideal S512x1024 .f32) (ix2 r j) = V m c (Pipeline.arrRef spec0 5) (ix2 r j) := congrArg (V m c (Pipeline.arrRef spec0 5)) e
  rw [e']
  entry_read
  pointwise

/-- The projections of a block's row. -/
theorem pay1_apply (x : Vec Ideal S512x1024 .f32) (g : Vec Ideal S1x1024 .f32) (r : Fin 512) (j : Fin 1024) :
    k0_pay1 x g (ix2 r j) = Layer.rms (fun k => x (ix2 r k)) (fun k => g (ix2 0 k)) j := by
  pointwise [k0_pay1, Layer.rms]

/-- The products of a normed block with a slice of the weights. -/
theorem pay8_apply (h : FVec Ideal S512x1024 .bf16) (w : Vec Ideal S1x1024x1024 .bf16) (r : Fin 512) (j : Fin 1024) :
    k0_pay8 h w (ix2 r j) = ∑ k : Fin 1024, h (ix2 r k) * w (ix3 0 k j) := by
  pointwise [k0_pay8]

theorem pay2_apply (x : Vec Ideal S512x1024 .f32) (g : Vec Ideal S1x1024 .f32) (w w' : Vec Ideal S1x1024x1024 .bf16) (r : Fin 512) (j : Fin 1024) :
    k0_pay2 x g w w' (ix2 r j) = (∑ k : Fin 1024, k0_pay1 x g (ix2 r k) * w (ix3 0 k j)) * ∑ k : Fin 1024, k0_pay1 x g (ix2 r k) * w' (ix3 0 k j) := by
  unfold k0_pay2
  generalize k0_pay1 x g = h
  pointwise

theorem ldw (w : Vec Ideal S1x1024x4096 .bf16) (k j : Fin 1024) :
    View.ld w r0_2 (ix3 0 k j) = w (ix3 0 k ⟨1024 + j.val, by omega⟩) ∧ View.ld w r0_3 (ix3 0 k j) = w (ix3 0 k ⟨2048 + j.val, by omega⟩)
    ∧ View.ld w r0_5 (ix3 0 k j) = w (ix3 0 k ⟨j.val, by omega⟩) ∧ View.ld w r0_6 (ix3 0 k j) = w (ix3 0 k ⟨3072 + j.val, by omega⟩) := by
  refine ⟨?_, ?_, ?_, ?_⟩ <;> pointwise

/-- The projections, the convolution's input and the memory queries of the run's block. -/
theorem row_blk (c : Dev nD) (t : Fin cfg0.N) (r : Fin 512) (j : Fin 4096) :
    (∑ k : Fin 1024, k0_pay1 (iblk m c 0 t) (iblk m c 1 t) (ix2 r k) * (iblk m c 2 t : Vec Ideal S1x1024x4096 .bf16) (ix3 0 k j)) = Layer.smpP (ax0 m c) (ax1 m c) (ax2 m c) r j := by
  unfold Layer.smpP Layer.proj
  refine Finset.sum_congr rfl fun k _ => congrArg₂ (· * ·) ?_ (congrFun (congrFun (in2 m c t) k) j)
  rw [pay1_apply, in0 m c t r, in1 m c t]

theorem u_blk (c : Dev nD) (t : Fin cfg0.N) (r : Fin 512) (j : Fin 1024) :
    k0_pay2 (iblk m c 0 t) (iblk m c 1 t) (View.ld (iblk m c 2 t) r0_2) (View.ld (iblk m c 2 t) r0_3) (ix2 r j) = Layer.smpU (ax0 m c) (ax1 m c) (ax2 m c) r j := by
  rw [pay2_apply]
  unfold Layer.smpU
  rw [← row_blk m c t, ← row_blk m c t]
  refine congrArg₂ (· * ·) (Finset.sum_congr rfl fun k _ => ?_) (Finset.sum_congr rfl fun k _ => ?_)
  · rw [(ldw (iblk m c 2 t) k j).1]
  · rw [(ldw (iblk m c 2 t) k j).2.1]

/-- The three arrays after the run, from the arguments. -/
def G6 (c : Dev nD) : S512x1024.Idx → EReal := fun i => Layer.smpTok (ax0 m c) (ax1 m c) (ax2 m c) (ax3 m c) (ax4 m c) (i 0) (i 1)
def G7 (c : Dev nD) : S512x1024.Idx → EReal := fun i => Layer.smpP (ax0 m c) (ax1 m c) (ax2 m c) (i 0) ⟨3072 + (i 1).val, by have : (i 1).val < 1024 := (i 1).isLt; omega⟩
def G8 (c : Dev nD) : S512x1024.Idx → EReal := fun i => Layer.smpU (ax0 m c) (ax1 m c) (ax2 m c) (i 0) (i 1)

set_option maxHeartbeats 2000000 in
theorem final6 (c : Dev nD) : (dats m 0 c).arrAt 6 cfg0.N = G6 m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  have e : (win0_6.blk t).view.emb (ix2 r j) = ix2 r j := by blk_ext [idx t]
  rw [e]
  unfold out0_6
  rw [View.canon_cons_unit_zero (S := S512x1024) hz2]
  unfold k0_pay10 k0_pay11 k0_pay3 k0_pay4
  rw [View.ld_unit_zero (S := S512x1024) hz2, View.ld_unit_zero (S := S1x1024) hz2, View.ld_unit_zero (S := S3x1024) hz2]
  have hp : (∑ k : Fin 1024, k0_pay1 (iblk m c 0 t) (iblk m c 1 t) (ix2 r k) * View.ld (iblk m c 2 t : Vec Ideal S1x1024x4096 .bf16) r0_5 (ix3 0 k j)) = Layer.smpP (ax0 m c) (ax1 m c) (ax2 m c) r ⟨j.val, by omega⟩ :=
    Eq.trans (Finset.sum_congr rfl fun k _ => by rw [(ldw (iblk m c 2 t) k j).2.2.1]) (row_blk m c t r _)
  have hu := fun r => u_blk m c t r j
  have h3 := fun a => in3 m c t a j
  have h4 := in4 m c t r j
  have h5 := in5 m c t r j
  show _ = Layer.smpTok (ax0 m c) (ax1 m c) (ax2 m c) (ax3 m c) (ax4 m c) r j
  unfold Layer.smpTok Layer.before1 Layer.before2
  generalize k0_pay2 (iblk m c 0 t) (iblk m c 1 t) (View.ld (iblk m c 2 t) r0_2) (View.ld (iblk m c 2 t) r0_3) = u at hu ⊢
  generalize k0_pay1 (iblk m c 0 t) (iblk m c 1 t) = h at hp ⊢
  generalize View.ld (iblk m c 2 t) r0_5 = w at hp ⊢
  generalize (iblk m c 3 t : Vec Ideal S3x1024 .f32) = cw at h3 ⊢
  generalize (iblk m c 4 t : Vec Ideal S512x1024 .f32) = s1 at h4 ⊢
  generalize (iblk m c 5 t : Vec Ideal S512x1024 .f32) = s2 at h5 ⊢
  rw [← hp, ← hu r, ← h3 0, ← h3 1, ← h3 2]
  have q := pos_word r
  pointwise [k0_pay9, k0_pay5, k0_pay6, k0_pay7]
  simp only [q, sel1, sel2]
  congr 2
  congr 1
  · congr 1
    split
    · rename_i h2
      rw [h5, dif_pos h2]
    · rename_i h2
      rw [hu]
      exact congrArg (fun q => Layer.smpU _ _ _ q j) (Fin.ext (by show (r.val + 512 - 2) % 512 = r.val - 2; omega))
  · congr 1
    split
    · rename_i h2
      rw [h4, dif_pos h2]
      exact congrArg (fun q => ax4 m c (ix4 0 _ q j)) (Fin.ext (by show 1 + r.val % 4 = 1; omega))
    · rename_i h2
      rw [hu]
      exact congrArg (fun q => Layer.smpU _ _ _ q j) (Fin.ext (by show (r.val + 512 - 1) % 512 = r.val - 1; omega))

set_option maxHeartbeats 2000000 in
theorem final7 (c : Dev nD) : (dats m 0 c).arrAt 7 cfg0.N = G7 m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  have e : (win0_7.blk t).view.emb (ix2 r j) = ix2 r j := by blk_ext [idx t]
  rw [e]
  unfold out0_7
  rw [View.canon_cons_unit_zero (S := S512x1024) hz2]
  unfold k0_pay10
  rw [View.ld_unit_zero (S := S512x1024) hz2, View.ld_unit_zero (S := S1x1024) hz2]
  refine (pay8_apply _ _ r j).trans (Eq.trans ?_ (row_blk m c t r ⟨3072 + j.val, by omega⟩))
  refine Finset.sum_congr rfl fun k _ => ?_
  rw [(ldw (iblk m c 2 t) k j).2.2.2]

set_option maxHeartbeats 2000000 in
theorem final8 (c : Dev nD) : (dats m 0 c).arrAt 8 cfg0.N = G8 m c := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, eq_ix2 y⟩
  have e : (win0_8.blk t).view.emb (ix2 r j) = ix2 r j := by blk_ext [idx t]
  rw [e]
  unfold out0_8
  rw [View.canon_cons_unit_zero (S := S512x1024) hz2]
  unfold k0_pay11
  rw [View.ld_unit_zero (S := S512x1024) hz2, View.ld_unit_zero (S := S1x1024) hz2]
  exact u_blk m c t r j

end Cert.ConvSIdeal.BlockValue
-- ==== Proof.ConvSRefRow.lean ====
module

public import proofs.«01_k».proof.Proof.Gen.ConvSRefIdeal.Run
public import proofs.«01_k».proof.Proof.Gen.ConvSRefIdeal.Read
public import proofs.«01_k».proof.Proof.ConvSMath
public import Idealize.ShloMosaic.Lib.Tactic.CleanTypes

/-! The reference of the sample group's short convolution, entry by entry. -/

@[expose] public section

set_option maxRecDepth 16384

noncomputable section

namespace Cert.ConvSRefIdeal.RowValue

open Cert.ConvSRefIdeal Cert.ConvSRefIdeal.Gen Idealize.ShloMosaic Idealize.ShloMosaic.TcCoe Idealize.SL.Sem
open Cert.ConvSRefIdeal.Read

variable (x0 : (⟨3, ![128, 4, 1024]⟩ : Shape).Idx → EReal) (x1 : (⟨2, ![4, 1024]⟩ : Shape).Idx → EReal)
    (x2 : (⟨3, ![2, 1024, 4096]⟩ : Shape).Idx → EReal) (x3 : (⟨3, ![2, 3, 1024]⟩ : Shape).Idx → EReal)
    (x4 : (⟨4, ![2, 128, 2, 1024]⟩ : Shape).Idx → EReal)

/-- The row of a sequence's token. -/
abbrev rw' (b : Fin 128) (s : Fin 4) : Fin 512 := ⟨4 * b.val + s.val, by omega⟩

theorem row_eq (b : Fin 128) (s : Fin 4) : (fun k => x0 (ix3 b s k)) = Layer.sRow x0 (rw' b s) := by
  funext k
  unfold Layer.sRow
  exact congrArg x0 (congrArg₂ (fun a b => ix3 a b k) (Fin.ext (by show b.val = (4 * b.val + s.val) / 4; omega)) (Fin.ext (by show s.val = (4 * b.val + s.val) % 4; omega)))

theorem rms_apply (b : Fin 128) (s : Fin 4) (j : Fin 1024) :
    val_main_v14 (F := Ideal) x0 x1 (ix3 b s j) = Layer.rms (fun k => x0 (ix3 b s k)) (fun j => x1 (ix2 0 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.rms]

theorem proj_apply (b : Fin 128) (s : Fin 4) (j : Fin 4096) : val_main_v17 (F := Ideal) x0 x1 x2 (ix3 b s j) = Layer.smpP x0 x1 x2 (rw' b s) j := by
  have hn := fun j => rms_apply x0 x1 b s j
  unfold val_main_v17
  generalize val_main_v14 (F := Ideal) x0 x1 = n at hn ⊢
  pointwise [val_main_v16, val_main_v15]
  unfold Layer.smpP Layer.proj
  simp only [hn, row_eq x0 b s]

theorem u_apply (b : Fin 128) (s : Fin 4) (j : Fin 1024) : val_main_v22 (F := Ideal) x0 x1 x2 (ix3 b s j) = Layer.smpU x0 x1 x2 (rw' b s) j := by
  have hp := fun j => proj_apply x0 x1 x2 b s j
  unfold val_main_v22 val_main_v19 val_main_v20
  generalize val_main_v17 (F := Ideal) x0 x1 x2 = p at hp ⊢
  pointwise
  unfold Layer.smpU
  simp only [hp]

/-- The values with the state before them. -/
theorem cat_apply (b : Fin 128) (s : Fin 6) (j : Fin 1024) : val_main_v27 (F := Ideal) x0 x1 x2 x4 (ix3 b s j)
    = if h : s.val < 2 then x4 (ix4 0 b ⟨s.val, h⟩ j) else Layer.smpU x0 x1 x2 (rw' b ⟨s.val - 2, by omega⟩) j := by
  have hu := fun s => u_apply x0 x1 x2 b s j
  unfold val_main_v27 val_main_v26 val_main_v25
  generalize val_main_v22 (F := Ideal) x0 x1 x2 = u at hu ⊢
  simp only [← hu]
  pointwise

theorem tok3_apply (b : Fin 128) (s : Fin 4) (j : Fin 1024) : val_main_v48 (F := Ideal) x0 x1 x2 x3 x4 (ix3 b s j) = Layer.smpTok x0 x1 x2 x3 x4 (rw' b s) j := by
  have hp := fun j => proj_apply x0 x1 x2 b s j
  have hc := fun s => cat_apply x0 x1 x2 x4 b s j
  have e2 : Layer.before2 x0 x1 x2 x4 (rw' b s) j = val_main_v27 (F := Ideal) x0 x1 x2 x4 (ix3 b ⟨s.val, by omega⟩ j) := by
    rw [hc]; unfold Layer.before2
    by_cases h : s.val < 2
    · rw [dif_pos (show (rw' b s).val % 4 < 2 by show (4 * b.val + s.val) % 4 < 2; omega), dif_pos h]
      exact congrArg₂ (fun p q => x4 (ix4 0 p q j)) (Fin.ext (by show (4 * b.val + s.val) / 4 = b.val; omega)) (Fin.ext (by show (4 * b.val + s.val) % 4 = s.val; omega))
    · rw [dif_neg (show ¬ (rw' b s).val % 4 < 2 by show ¬ (4 * b.val + s.val) % 4 < 2; omega), dif_neg h]
      exact congrArg (fun q => Layer.smpU x0 x1 x2 q j) (Fin.ext (by show 4 * b.val + s.val - 2 = 4 * b.val + (s.val - 2); omega))
  have e1 : Layer.before1 x0 x1 x2 x4 (rw' b s) j = val_main_v27 (F := Ideal) x0 x1 x2 x4 (ix3 b ⟨1 + s.val, by omega⟩ j) := by
    rw [hc]; unfold Layer.before1
    by_cases h : s.val < 1
    · rw [if_pos (show (rw' b s).val % 4 < 1 by show (4 * b.val + s.val) % 4 < 1; omega), dif_pos (show 1 + s.val < 2 by omega)]
      exact congrArg₂ (fun p q => x4 (ix4 0 p q j)) (Fin.ext (by show (4 * b.val + s.val) / 4 = b.val; omega)) (Fin.ext (by show 1 = 1 + s.val; omega))
    · rw [if_neg (show ¬ (rw' b s).val % 4 < 1 by show ¬ (4 * b.val + s.val) % 4 < 1; omega), dif_neg (show ¬ 1 + s.val < 2 by omega)]
      exact congrArg (fun q => Layer.smpU x0 x1 x2 q j) (Fin.ext (by show 4 * b.val + s.val - 1 = 4 * b.val + (1 + s.val - 2); omega))
  have e0 : Layer.smpU x0 x1 x2 (rw' b s) j = val_main_v27 (F := Ideal) x0 x1 x2 x4 (ix3 b ⟨2 + s.val, by omega⟩ j) := by
    rw [hc, dif_neg (show ¬ 2 + s.val < 2 by omega)]
    exact congrArg (fun q => Layer.smpU x0 x1 x2 q j) (Fin.ext (by show 4 * b.val + s.val = 4 * b.val + (2 + s.val - 2); omega))
  unfold Layer.smpTok
  rw [e2, e1, e0]
  unfold val_main_v48 val_main_v18 val_main_v47 val_main_v46 val_main_v43 val_main_v40 val_main_v39 val_main_v36 val_main_v33 val_main_v30
  generalize val_main_v17 (F := Ideal) x0 x1 x2 = p at hp ⊢
  generalize val_main_v27 (F := Ideal) x0 x1 x2 x4 = q
  rw [← hp]
  pointwise [val_main_v45, val_main_v44, val_main_v42, val_main_v41, val_main_v38, val_main_v37, val_main_v35, val_main_v34, val_main_v32, val_main_v31, val_main_v29, val_main_v28, val_main_v24, val_main_v23]

theorem rw_eq (r : Fin 512) : rw' ⟨r.val / 4, by omega⟩ ⟨r.val % 4, by omega⟩ = r := Fin.ext (by show 4 * (r.val / 4) + r.val % 4 = r.val; omega)

theorem tok_apply (r : Fin 512) (j : Fin 1024) : val_main_v50 (F := Ideal) x0 x1 x2 x3 x4 (ix2 r j) = Layer.smpTok x0 x1 x2 x3 x4 r j := by
  have h := tok3_apply x0 x1 x2 x3 x4 ⟨r.val / 4, by omega⟩ ⟨r.val % 4, by omega⟩ j
  rw [rw_eq] at h
  unfold val_main_v50 val_main_v49
  generalize val_main_v48 (F := Ideal) x0 x1 x2 x3 x4 = q at h ⊢
  refine Eq.trans ?_ h
  pointwise

theorem qm_apply (r : Fin 512) (j : Fin 1024) : val_main_v51 (F := Ideal) x0 x1 x2 (ix2 r j) = Layer.smpP x0 x1 x2 r ⟨3072 + j.val, by omega⟩ := by
  have h := proj_apply x0 x1 x2 ⟨r.val / 4, by omega⟩ ⟨r.val % 4, by omega⟩ ⟨3072 + j.val, by omega⟩
  rw [rw_eq] at h
  unfold val_main_v51 val_main_v21
  generalize val_main_v17 (F := Ideal) x0 x1 x2 = q at h ⊢
  refine Eq.trans ?_ h
  pointwise

theorem us_apply (r : Fin 512) (j : Fin 1024) : val_main_v52 (F := Ideal) x0 x1 x2 (ix2 r j) = Layer.smpU x0 x1 x2 r j := by
  have h := u_apply x0 x1 x2 ⟨r.val / 4, by omega⟩ ⟨r.val % 4, by omega⟩ j
  rw [rw_eq] at h
  unfold val_main_v52
  generalize val_main_v22 (F := Ideal) x0 x1 x2 = q at h ⊢
  refine Eq.trans ?_ h
  pointwise

end Cert.ConvSRefIdeal.RowValue
-- ==== Proof.ConvSClaim.lean ====
module

public import proofs.«01_k».proof.Defs
public import proofs.«01_k».proof.Proof.ConvSArray
public import proofs.«01_k».proof.Proof.ConvSRefRow
public import proofs.«01_k».proof.Proof.Gen.ConvSIdeal
public import proofs.«01_k».proof.Proof.Gen.ConvSRefIdeal
public import proofs.«01_k».proof.Proof.Gen.ConvSRefIdeal.Run

@[expose] public section

set_option maxRecDepth 16384

noncomputable section

namespace Cert.ConvSValue

open Idealize.ShloMosaic Idealize.ShloMosaic.TcCoe Idealize.SL.Sem

variable (m : (ℓ : Loc ConvSIdeal.nD ConvSIdeal.τ ConvSIdeal.sig) → Buf (Elt Ideal) ℓ)
    (m' : (ℓ : Loc ConvSRefIdeal.nD ConvSRefIdeal.τ ConvSRefIdeal.sig) → Buf (Elt Ideal) ℓ) (c : Dev ConvSIdeal.nD)

/-- The two programs' arguments are the same. -/
abbrev same : Prop :=
    m' ((c.tc : Thread ConvSRefIdeal.nD ConvSRefIdeal.τ).loc ConvSRefIdeal.main_arg0) = m ((c.tc : Thread ConvSIdeal.nD ConvSIdeal.τ).loc ConvSIdeal.main_arg0)
    ∧ m' ((c.tc : Thread ConvSRefIdeal.nD ConvSRefIdeal.τ).loc ConvSRefIdeal.main_arg1) = m ((c.tc : Thread ConvSIdeal.nD ConvSIdeal.τ).loc ConvSIdeal.main_arg1)
    ∧ m' ((c.tc : Thread ConvSRefIdeal.nD ConvSRefIdeal.τ).loc ConvSRefIdeal.main_arg2) = m ((c.tc : Thread ConvSIdeal.nD ConvSIdeal.τ).loc ConvSIdeal.main_arg2)
    ∧ m' ((c.tc : Thread ConvSRefIdeal.nD ConvSRefIdeal.τ).loc ConvSRefIdeal.main_arg3) = m ((c.tc : Thread ConvSIdeal.nD ConvSIdeal.τ).loc ConvSIdeal.main_arg3)
    ∧ m' ((c.tc : Thread ConvSRefIdeal.nD ConvSRefIdeal.τ).loc ConvSRefIdeal.main_arg4) = m ((c.tc : Thread ConvSIdeal.nD ConvSIdeal.τ).loc ConvSIdeal.main_arg4)

set_option maxHeartbeats 2000000 in
/-- The reference's result 0 is the same function of the arguments. -/
theorem ref_eq0 (h : same m m' c) : ConvSRefIdeal.Value.res_main_v50 m' c = ConvSIdeal.BlockValue.G6 m c := by
  rw [ConvSRefIdeal.Read.val_main_v50_eq, h.1, h.2.1, h.2.2.1, h.2.2.2.1, h.2.2.2.2]
  funext i
  obtain ⟨r, j, rfl⟩ : ∃ (r : Fin 512) (j : Fin 1024), i = ix2 r j := ⟨i 0, i 1, eq_ix2 i⟩
  exact ConvSRefIdeal.RowValue.tok_apply _ _ _ _ _ r j

set_option maxHeartbeats 2000000 in
/-- The reference's result 1 is the same function of the arguments. -/
theorem ref_eq1 (h : same m m' c) : ConvSRefIdeal.Read.val_main_v51 (F := Ideal) (m' ((c.tc : Thread ConvSRefIdeal.nD ConvSRefIdeal.τ).loc ConvSRefIdeal.main_arg0)) (m' ((c.tc : Thread ConvSRefIdeal.nD ConvSRefIdeal.τ).loc ConvSRefIdeal.main_arg1)) (m' ((c.tc : Thread ConvSRefIdeal.nD ConvSRefIdeal.τ).loc ConvSRefIdeal.main_arg2)) = ConvSIdeal.BlockValue.G7 m c := by
  rw [h.1, h.2.1, h.2.2.1]
  funext i
  obtain ⟨r, j, rfl⟩ : ∃ (r : Fin 512) (j : Fin 1024), i = ix2 r j := ⟨i 0, i 1, eq_ix2 i⟩
  exact ConvSRefIdeal.RowValue.qm_apply _ _ _ r j

set_option maxHeartbeats 2000000 in
/-- The reference's result 2 is the same function of the arguments. -/
theorem ref_eq2 (h : same m m' c) : ConvSRefIdeal.Read.val_main_v52 (F := Ideal) (m' ((c.tc : Thread ConvSRefIdeal.nD ConvSRefIdeal.τ).loc ConvSRefIdeal.main_arg0)) (m' ((c.tc : Thread ConvSRefIdeal.nD ConvSRefIdeal.τ).loc ConvSRefIdeal.main_arg1)) (m' ((c.tc : Thread ConvSRefIdeal.nD ConvSRefIdeal.τ).loc ConvSRefIdeal.main_arg2)) = ConvSIdeal.BlockValue.G8 m c := by
  rw [h.1, h.2.1, h.2.2.1]
  funext i
  obtain ⟨r, j, rfl⟩ : ∃ (r : Fin 512) (j : Fin 1024), i = ix2 r j := ⟨i 0, i 1, eq_ix2 i⟩
  exact ConvSRefIdeal.RowValue.us_apply _ _ _ r j

/-- The sample group's short convolution: the kernel and the reference end with equal results. -/
theorem algebraic : Cert.algebraic_ConvSIdeal_ConvSRefIdeal := fun m g m' g' _  hag =>
  ⟨fun c => ConvSIdeal.BlockValue.G6 m c, fun c => ConvSIdeal.BlockValue.G7 m c, fun c => ConvSIdeal.BlockValue.G8 m c,
    (θ_run _ _ _).mono (fun _ h c => ⟨(h c).1.trans (ConvSIdeal.BlockValue.final6 m c), (h c).2.1.trans (ConvSIdeal.BlockValue.final7 m c), (h c).2.2.1.trans (ConvSIdeal.BlockValue.final8 m c), (h c).2.2.2⟩) (ConvSIdeal.Value.run_blocks m g),
    (θ_run _ _ _).mono (fun _ h c => ⟨(h c).1.trans (ref_eq0 m m' c (hag c)), (h c).2.1.trans ((ConvSRefIdeal.Read.val_main_v51_eq _ _ _).trans (ref_eq1 m m' c (hag c))), (h c).2.2.1.trans ((ConvSRefIdeal.Read.val_main_v52_eq _ _ _).trans (ref_eq2 m m' c (hag c))), (h c).2.2.2⟩) (ConvSRefIdeal.Value.run m' g')⟩

end Cert.ConvSValue

end
-- ==== Proof.PostBlock.lean ====
module

public import proofs.«01_k».proof.Proof.Gen.PostIdeal.Value
public import proofs.«01_k».proof.Proof.Layer

@[expose] public section

set_option maxRecDepth 16384

noncomputable section

namespace Cert.PostIdeal.BlockValue

open Cert.PostIdeal Cert.PostIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The body's payloads put together: what a block of rows becomes. -/
def body (x : Vec Ideal S512x1024 .f32) (a b : Vec Ideal S512x1024 .bf16) (wo : Vec Ideal S1x2048x1024 .bf16)
    (g : Vec Ideal S1x1024 .f32) (wu : Vec Ideal S1x1024x4096 .bf16) (wd : Vec Ideal S1x4096x1024 .bf16) :
    FVec Ideal S512x1024 .f32 :=
  let h := k0_pay2 x a (View.ld wo (Rect.unit ![0, 0, 0] S1x1024x1024.size inb_S1x2048x1024_S1x1024x1024_0_0_0)) b
    (View.ld wo (Rect.unit ![0, 1024, 0] S1x1024x1024.size inb_S1x2048x1024_S1x1024x1024_0_1024_0))
  k0_pay1 (k0_pay4 h g)
    (k0_pay6 (k0_pay3 h) (k0_pay4 h g)
      (k0_pay5 (View.ld wu (Rect.unit ![0, 0, 0] S1x1024x1024.size inb_S1x1024x4096_S1x1024x1024_0_0_0)))
      (View.ld wd (Rect.unit ![0, 0, 0] S1x1024x1024.size inb_S1x4096x1024_S1x1024x1024_0_0_0))
      (View.ld wu (Rect.unit ![0, 0, 1024] S1x1024x1024.size inb_S1x1024x4096_S1x1024x1024_0_0_1024))
      (View.ld wd (Rect.unit ![0, 1024, 0] S1x1024x1024.size inb_S1x4096x1024_S1x1024x1024_0_1024_0))
      (View.ld wu (Rect.unit ![0, 0, 2048] S1x1024x1024.size inb_S1x1024x4096_S1x1024x1024_0_0_2048))
      (View.ld wd (Rect.unit ![0, 2048, 0] S1x1024x1024.size inb_S1x4096x1024_S1x1024x1024_0_2048_0)))
    (k0_pay7 (View.ld wu (Rect.unit ![0, 0, 3072] S1x1024x1024.size inb_S1x1024x4096_S1x1024x1024_0_0_3072)))
    (View.ld wd (Rect.unit ![0, 3072, 0] S1x1024x1024.size inb_S1x4096x1024_S1x1024x1024_0_3072_0))

/-- What a grid point leaves in the output's block is the payloads of its input blocks. -/
theorem outsAt0_eq (c : Dev nD) (t : Fin cfg0.N) :
    outsAt0 m c t = body (iblk m c 0 t) (iblk m c 1 t) (iblk m c 2 t) (iblk m c 3 t) (iblk m c 4 t) (iblk m c 5 t) (iblk m c 6 t) := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  rw [View.canon_cons_unit_zero (S := S512x1024) hz2]
  simp only [View.readCov_unit_zero (S := S512x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread]
  rw [View.ld_unit_zero (S := S512x1024) hz2, View.ld_unit_zero (S := S512x1024) hz2, View.ld_unit_zero (S := S512x1024) hz2,
    View.ld_unit_zero (S := S1x1024) hz2]
  rfl

/-- The residual stage, at an entry of the block. -/
theorem hid_apply (x : Vec Ideal S512x1024 .f32) (a b : Vec Ideal S512x1024 .bf16) (wo : Vec Ideal S1x2048x1024 .bf16) (r : Fin 512) (j : Fin 1024) :
    k0_pay2 x a (View.ld wo (Rect.unit ![0, 0, 0] S1x1024x1024.size inb_S1x2048x1024_S1x1024x1024_0_0_0)) b
      (View.ld wo (Rect.unit ![0, 1024, 0] S1x1024x1024.size inb_S1x2048x1024_S1x1024x1024_0_1024_0)) (ix2 r j)
    = Layer.hid (fun j => x (ix2 r j)) (fun k => a (ix2 r k)) (fun k => b (ix2 r k)) (fun k j => wo (ix3 0 k j)) j := by
  pointwise [k0_pay2, Layer.hid]
  rw [add_assoc]

/-- The norm stage. -/
theorem rms_apply (h : Vec Ideal S512x1024 .f32) (g : Vec Ideal S1x1024 .f32) (r : Fin 512) (j : Fin 1024) :
    k0_pay4 h g (ix2 r j) = Layer.rms (fun j => h (ix2 r j)) (fun j => g (ix2 0 j)) j := by
  pointwise [k0_pay4, k0_pay3, Layer.rms]

/-- The whole block at an entry: the row's value. -/
theorem body_apply (x : Vec Ideal S512x1024 .f32) (a b : Vec Ideal S512x1024 .bf16) (wo : Vec Ideal S1x2048x1024 .bf16)
    (g : Vec Ideal S1x1024 .f32) (wu : Vec Ideal S1x1024x4096 .bf16) (wd : Vec Ideal S1x4096x1024 .bf16) (r : Fin 512) (j : Fin 1024) :
    body x a b wo g wu wd (ix2 r j) = Layer.row (fun j => x (ix2 r j)) (fun k => a (ix2 r k)) (fun k => b (ix2 r k))
      (fun k j => wo (ix3 0 k j)) (fun k => g (ix2 0 k)) (fun k u => wu (ix3 0 k u)) (fun u j => wd (ix3 0 u j)) j := by
  have hh := fun j => hid_apply x a b wo r j
  unfold body
  dsimp only
  generalize k0_pay2 x a _ b _ = h at hh ⊢
  have hn := fun j => rms_apply h g r j
  generalize k0_pay4 h g = n at hn ⊢
  pointwise [k0_pay1, k0_pay6, k0_pay3, k0_pay5, k0_pay7]
  unfold Layer.row Layer.mlp
  rw [Layer.sum_chunks]
  unfold Layer.act
  simp only [hn, hh, add_assoc]

end Cert.PostIdeal.BlockValue
-- ==== Proof.PostArray.lean ====
module

public import proofs.«01_k».proof.Proof.PostBlock
public import Idealize.ShloMosaic.Lib.Pipeline.ValueKit

@[expose] public section

set_option maxRecDepth 16384

noncomputable section

namespace Cert.PostIdeal.BlockValue

open Cert.PostIdeal Cert.PostIdeal.Gen Idealize.ShloMosaic Idealize.ShloMosaic.TcCoe Idealize.SL.Sem
open Idealize.ShloMosaic.Pipeline (Dat)

variable (m : (ℓ : Loc nD τ sig) → Buf (Elt Ideal) ℓ)

/-- The index maps: rows go with the grid point, the weights stay. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0, 0] ∧ win0_6.index t = ![0, 0, 0]
    ∧ win0_8.index t = ![t.val, 0] :=
  (by decide +kernel : ∀ t : Fin grid0.N, win0_0.index t = ![t.val, 0] ∧ win0_1.index t = ![t.val, 0] ∧ win0_2.index t = ![t.val, 0]
    ∧ win0_3.index t = ![0, 0, 0] ∧ win0_4.index t = ![0, 0] ∧ win0_5.index t = ![0, 0, 0] ∧ win0_6.index t = ![0, 0, 0]
    ∧ win0_8.index t = ![t.val, 0])

/-- The array after the run, from the arguments. -/
def G (c : Dev nD) : S16384x1024.Idx → EReal := fun i =>
  Layer.out 0 0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

set_option maxHeartbeats 2000000 in
/-- The output after the run. -/
theorem final (c : Dev nD) : (dats m 0 c).arrAt 8 cfg0.N = G m c := by
  refine (dats m 0 c).arrAt_eq_of_covers 8 _ (by decide +kernel) fun t hf y => ?_
  blk_simp
  rw [after0_8, outsAt0_eq]
  unfold G
  obtain ⟨r, j, rfl⟩ : ∃ (r : Fin 512) (j : Fin 1024), y = ix2 r j := ⟨y 0, y 1, eq_ix2 y⟩
  have hr : 512 * t.val + r.val < 16384 := by have h : t.val < 32 := t.isLt; omega
  have e : (win0_8.blk t).view.emb (ix2 r j) = ix2 (⟨512 * t.val + r.val, hr⟩ : Fin 16384) j := by blk_ext [idx t]
  rw [e]
  refine (body_apply _ _ _ _ _ _ _ r j).trans ?_
  unfold Layer.out
  congr 1
  · funext k; unfold Layer.xRow; blk_ext! [iblk, V, idx t]
  · funext k; blk_ext [iblk, V, idx t]
  · funext k; blk_ext [iblk, V, idx t]
  · funext k u; blk_ext [iblk, V, idx t]
  · funext k; blk_ext! [iblk, V, idx t]
  · funext k u; blk_ext [iblk, V, idx t]
  · funext k u; blk_ext [iblk, V, idx t]

end Cert.PostIdeal.BlockValue
-- ==== Proof.PostRefRow.lean ====
module

public import proofs.«01_k».proof.Proof.Gen.PostRefIdeal.Run
public import proofs.«01_k».proof.Proof.Gen.PostRefIdeal.Read
public import proofs.«01_k».proof.Proof.Layer
public import Idealize.ShloMosaic.Lib.Tactic.CleanTypes

@[expose] public section

set_option maxRecDepth 16384

noncomputable section

namespace Cert.PostRefIdeal.RowValue

open Cert.PostRefIdeal Cert.PostRefIdeal.Gen Idealize.ShloMosaic Idealize.ShloMosaic.TcCoe Idealize.SL.Sem
open Cert.PostRefIdeal.Read

variable (x0 : (⟨3, ![2, 8192, 1024]⟩ : Shape).Idx → EReal) (x1 x2 : (⟨2, ![16384, 1024]⟩ : Shape).Idx → EReal)
    (x3 : (⟨3, ![2, 2048, 1024]⟩ : Shape).Idx → EReal) (x4 : (⟨2, ![4, 1024]⟩ : Shape).Idx → EReal)
    (x5 : (⟨3, ![4, 1024, 4096]⟩ : Shape).Idx → EReal) (x6 : (⟨3, ![4, 4096, 1024]⟩ : Shape).Idx → EReal)

theorem hid_apply (r : Fin 16384) (j : Fin 1024) :
    val_main_v7 (F := Ideal) x0 x1 x2 x3 (ix2 r j)
    = Layer.hid (Layer.xRow x0 r) (fun k => x1 (ix2 r k)) (fun k => x2 (ix2 r k)) (fun k j => x3 (ix3 0 k j)) j := by
  pointwise [val_main_v7, val_main_v6, val_main_v5, val_main_v4, val_main_v3, val_main_v2, val_main_v1, val_main_v0, Layer.hid, Layer.xRow]

theorem rms_apply (r : Fin 16384) (j : Fin 1024) :
    val_main_v22 (F := Ideal) x0 x1 x2 x3 x4 (ix2 r j)
    = Layer.rms (fun j => val_main_v7 (F := Ideal) x0 x1 x2 x3 (ix2 r j)) (fun j => x4 (ix2 0 j)) j := by
  unfold val_main_v22 val_main_v21 val_main_v20 val_main_v19 val_main_v18 val_main_v17 val_main_v16 val_main_v15 val_main_v14 val_main_v13 val_main_v12 val_main_v11 val_main_v10 val_main_v9 val_main_v8 val_main_cst val_main_cst_0 val_main_cst_1
  generalize val_main_v7 (F := Ideal) x0 x1 x2 x3 = h
  pointwise [Layer.rms]

theorem out_apply (r : Fin 16384) (j : Fin 1024) :
    val_main_v31 (F := Ideal) x0 x1 x2 x3 x4 x5 x6 (ix2 r j) = Layer.out 0 0 x0 x1 x2 x3 x4 x5 x6 r j := by
  have hh := fun j => hid_apply x0 x1 x2 x3 r j
  have hn := fun j => rms_apply x0 x1 x2 x3 x4 r j
  unfold val_main_v31 val_main_v30 val_main_v29 val_main_v28 val_main_v27 val_main_v26 val_main_v25 val_main_v24 val_main_v23
  generalize val_main_v22 (F := Ideal) x0 x1 x2 x3 x4 = n at hn ⊢
  generalize val_main_v7 (F := Ideal) x0 x1 x2 x3 = h at hh hn ⊢
  pointwise [val_main_call0_v0, val_main_call0_cst]
  unfold Layer.out Layer.row Layer.mlp Layer.act
  simp only [hn, hh]

end Cert.PostRefIdeal.RowValue
-- ==== Proof.PostClaim.lean ====
module

public import proofs.«01_k».proof.Defs
public import proofs.«01_k».proof.Proof.PostArray
public import proofs.«01_k».proof.Proof.PostRefRow
public import proofs.«01_k».proof.Proof.Gen.PostIdeal
public import proofs.«01_k».proof.Proof.Gen.PostRefIdeal
public import proofs.«01_k».proof.Proof.Gen.PostRefIdeal.Run

@[expose] public section

set_option maxRecDepth 16384

noncomputable section

namespace Cert.PostValue

open Idealize.ShloMosaic Idealize.ShloMosaic.TcCoe Idealize.SL.Sem

set_option maxHeartbeats 2000000 in
/-- The reference's result is the same function of the arguments. -/
theorem ref_eq (m : (ℓ : Loc PostIdeal.nD PostIdeal.τ PostIdeal.sig) → Buf (Elt Ideal) ℓ)
    (m' : (ℓ : Loc PostRefIdeal.nD PostRefIdeal.τ PostRefIdeal.sig) → Buf (Elt Ideal) ℓ) (c : Dev PostIdeal.nD)
    (h0 : m' ((c.tc : Thread PostRefIdeal.nD PostRefIdeal.τ).loc PostRefIdeal.main_arg0) = m ((c.tc : Thread PostIdeal.nD PostIdeal.τ).loc PostIdeal.main_arg0))
    (h1 : m' ((c.tc : Thread PostRefIdeal.nD PostRefIdeal.τ).loc PostRefIdeal.main_arg1) = m ((c.tc : Thread PostIdeal.nD PostIdeal.τ).loc PostIdeal.main_arg1))
    (h2 : m' ((c.tc : Thread PostRefIdeal.nD PostRefIdeal.τ).loc PostRefIdeal.main_arg2) = m ((c.tc : Thread PostIdeal.nD PostIdeal.τ).loc PostIdeal.main_arg2))
    (h3 : m' ((c.tc : Thread PostRefIdeal.nD PostRefIdeal.τ).loc PostRefIdeal.main_arg3) = m ((c.tc : Thread PostIdeal.nD PostIdeal.τ).loc PostIdeal.main_arg3))
    (h4 : m' ((c.tc : Thread PostRefIdeal.nD PostRefIdeal.τ).loc PostRefIdeal.main_arg4) = m ((c.tc : Thread PostIdeal.nD PostIdeal.τ).loc PostIdeal.main_arg4))
    (h5 : m' ((c.tc : Thread PostRefIdeal.nD PostRefIdeal.τ).loc PostRefIdeal.main_arg5) = m ((c.tc : Thread PostIdeal.nD PostIdeal.τ).loc PostIdeal.main_arg5))
    (h6 : m' ((c.tc : Thread PostRefIdeal.nD PostRefIdeal.τ).loc PostRefIdeal.main_arg6) = m ((c.tc : Thread PostIdeal.nD PostIdeal.τ).loc PostIdeal.main_arg6)) :
    PostRefIdeal.Value.res_main_v31 m' c = PostIdeal.BlockValue.G m c := by
  rw [PostRefIdeal.Read.val_main_v31_eq, h0, h1, h2, h3, h4, h5, h6]
  funext i
  obtain ⟨r, j, rfl⟩ : ∃ (r : Fin 16384) (j : Fin 1024), i = ix2 r j := ⟨i 0, i 1, eq_ix2 i⟩
  exact PostRefIdeal.RowValue.out_apply _ _ _ _ _ _ _ r j

/-- The residual block of a layer: the kernel and the reference end with equal results. -/
theorem algebraic : Cert.algebraic_PostIdeal_PostRefIdeal := fun m g m' g' _ hag =>
  ⟨fun c => PostIdeal.BlockValue.G m c,
    (θ_run _ _ _).mono (fun _ h c => ⟨(h c).1.trans (PostIdeal.BlockValue.final m c), (h c).2⟩) (PostIdeal.Value.run_blocks m g),
    (θ_run _ _ _).mono (fun _ h c => ⟨(h c).1.trans (ref_eq m m' c (hag c).1 (hag c).2.1 (hag c).2.2.1 (hag c).2.2.2.1 (hag c).2.2.2.2.1 (hag c).2.2.2.2.2.1 (hag c).2.2.2.2.2.2.1), (h c).2⟩)
      (PostRefIdeal.Value.run m' g')⟩

end Cert.PostValue

end
-- ==== Proof.LastBlock.lean ====
module

public import proofs.«01_k».proof.Proof.Gen.LastIdeal.Value
public import proofs.«01_k».proof.Proof.Layer

@[expose] public section

set_option maxRecDepth 16384

noncomputable section

namespace Cert.LastIdeal.BlockValue

open Cert.LastIdeal Cert.LastIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The body's payloads put together: what a block of rows becomes. -/
def body (x : Vec Ideal S512x1024 .f32) (a b : Vec Ideal S512x1024 .bf16) (wo : Vec Ideal S1x2048x1024 .bf16)
    (g : Vec Ideal S1x1024 .f32) (wu : Vec Ideal S1x1024x4096 .bf16) (wd : Vec Ideal S1x4096x1024 .bf16) :
    FVec Ideal S512x1024 .f32 :=
  let h := k0_pay3 x a (View.ld wo (Rect.unit ![0, 0, 0] S1x1024x1024.size inb_S1x2048x1024_S1x1024x1024_0_0_0)) b
    (View.ld wo (Rect.unit ![0, 1024, 0] S1x1024x1024.size inb_S1x2048x1024_S1x1024x1024_0_1024_0))
  k0_pay1 (k0_pay5 h g)
    (k0_pay7 (k0_pay4 h) (k0_pay5 h g)
      (k0_pay6 (View.ld wu (Rect.unit ![0, 0, 0] S1x1024x1024.size inb_S1x1024x4096_S1x1024x1024_0_0_0)))
      (View.ld wd (Rect.unit ![0, 0, 0] S1x1024x1024.size inb_S1x4096x1024_S1x1024x1024_0_0_0))
      (View.ld wu (Rect.unit ![0, 0, 1024] S1x1024x1024.size inb_S1x1024x4096_S1x1024x1024_0_0_1024))
      (View.ld wd (Rect.unit ![0, 1024, 0] S1x1024x1024.size inb_S1x4096x1024_S1x1024x1024_0_1024_0))
      (View.ld wu (Rect.unit ![0, 0, 2048] S1x1024x1024.size inb_S1x1024x4096_S1x1024x1024_0_0_2048))
      (View.ld wd (Rect.unit ![0, 2048, 0] S1x1024x1024.size inb_S1x4096x1024_S1x1024x1024_0_2048_0)))
    (k0_pay8 (View.ld wu (Rect.unit ![0, 0, 3072] S1x1024x1024.size inb_S1x1024x4096_S1x1024x1024_0_0_3072)))
    (View.ld wd (Rect.unit ![0, 3072, 0] S1x1024x1024.size inb_S1x4096x1024_S1x1024x1024_0_3072_0))

/-- What a grid point leaves in the output's block is the payloads of its input blocks. -/
theorem outsAt0_eq (c : Dev nD) (t : Fin cfg0.N) :
    outsAt0 m c t = k0_pay2 (body (iblk m c 0 t) (iblk m c 1 t) (iblk m c 2 t) (iblk m c 3 t) (iblk m c 4 t) (iblk m c 5 t) (iblk m c 6 t)) (iblk m c 7 t) := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  rw [View.canon_cons_unit_zero (S := S512x1024) hz2]
  simp only [View.readCov_cons_toLoadRect, View.readCov_unit_zero (S := S512x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.ld_unit_zero (S := S512x1024) hz2, View.ld_unit_zero (S := S512x1024) hz2, View.ld_unit_zero (S := S512x1024) hz2,
    View.ld_unit_zero (S := S1x1024) hz2, View.ld_unit_zero (S := S1x1024) hz2]
  rfl

/-- The residual stage, at an entry of the block. -/
theorem hid_apply (x : Vec Ideal S512x1024 .f32) (a b : Vec Ideal S512x1024 .bf16) (wo : Vec Ideal S1x2048x1024 .bf16) (r : Fin 512) (j : Fin 1024) :
    k0_pay3 x a (View.ld wo (Rect.unit ![0, 0, 0] S1x1024x1024.size inb_S1x2048x1024_S1x1024x1024_0_0_0)) b
      (View.ld wo (Rect.unit ![0, 1024, 0] S1x1024x1024.size inb_S1x2048x1024_S1x1024x1024_0_1024_0)) (ix2 r j)
    = Layer.hid (fun j => x (ix2 r j)) (fun k => a (ix2 r k)) (fun k => b (ix2 r k)) (fun k j => wo (ix3 0 k j)) j := by
  pointwise [k0_pay3, Layer.hid]
  rw [add_assoc]

/-- The norm stage. -/
theorem rms_apply (h : Vec Ideal S512x1024 .f32) (g : Vec Ideal S1x1024 .f32) (r : Fin 512) (j : Fin 1024) :
    k0_pay5 h g (ix2 r j) = Layer.rms (fun j => h (ix2 r j)) (fun j => g (ix2 0 j)) j := by
  pointwise [k0_pay5, k0_pay4, Layer.rms]

/-- The final norm. -/
theorem fin_apply (h : Vec Ideal S512x1024 .f32) (g : Vec Ideal S1x1024 .f32) (r : Fin 512) (j : Fin 1024) :
    k0_pay2 h g (ix2 r j) = Layer.rms (fun j => h (ix2 r j)) (fun j => g (ix2 0 j)) j := by
  pointwise [k0_pay2, Layer.rms]

/-- The whole block before the final norm at an entry: the row's value. -/
theorem body_apply (x : Vec Ideal S512x1024 .f32) (a b : Vec Ideal S512x1024 .bf16) (wo : Vec Ideal S1x2048x1024 .bf16)
    (g : Vec Ideal S1x1024 .f32) (wu : Vec Ideal S1x1024x4096 .bf16) (wd : Vec Ideal S1x4096x1024 .bf16) (r : Fin 512) (j : Fin 1024) :
    body x a b wo g wu wd (ix2 r j) = Layer.row (fun j => x (ix2 r j)) (fun k => a (ix2 r k)) (fun k => b (ix2 r k))
      (fun k j => wo (ix3 0 k j)) (fun k => g (ix2 0 k)) (fun k u => wu (ix3 0 k u)) (fun u j => wd (ix3 0 u j)) j := by
  have hh := fun j => hid_apply x a b wo r j
  unfold body
  dsimp only
  generalize k0_pay3 x a _ b _ = h at hh ⊢
  have hn := fun j => rms_apply h g r j
  generalize k0_pay5 h g = n at hn ⊢
  pointwise [k0_pay1, k0_pay7, k0_pay4, k0_pay6, k0_pay8]
  unfold Layer.row Layer.mlp
  rw [Layer.sum_chunks]
  unfold Layer.act
  simp only [hn, hh, add_assoc]

end Cert.LastIdeal.BlockValue
-- ==== Proof.LastArray.lean ====
module

public import proofs.«01_k».proof.Proof.LastBlock
public import Idealize.ShloMosaic.Lib.Pipeline.ValueKit

@[expose] public section

set_option maxRecDepth 16384

noncomputable section

namespace Cert.LastIdeal.BlockValue

open Cert.LastIdeal Cert.LastIdeal.Gen Idealize.ShloMosaic Idealize.ShloMosaic.TcCoe Idealize.SL.Sem
open Idealize.ShloMosaic.Pipeline (Dat)

variable (m : (ℓ : Loc nD τ sig) → Buf (Elt Ideal) ℓ)

/-- The index maps: rows go with the grid point, the weights stay. -/
theorem idx : ∀ t : Fin cfg0.N, win0_0.index t = ![t.val, 0] ∧ win0_1.index t = ![t.val, 0] ∧ win0_2.index t = ![t.val, 0]
    ∧ win0_3.index t = ![1, 0, 0] ∧ win0_4.index t = ![0, 0] ∧ win0_5.index t = ![3, 0, 0] ∧ win0_6.index t = ![3, 0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![1, 0, 0] ∧ win0_4.index t = ![0, 0] ∧ win0_5.index t = ![3, 0, 0] ∧ win0_6.index t = ![3, 0, 0]
    ∧ win0_7.index t = ![0, 0] ∧ win0_8.index t = ![t.val, 0])

/-- The array after the run, from the arguments. -/
def G (c : Dev nD) : S16384x1024.Idx → EReal := fun i =>
  Layer.rms (Layer.out 3 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0))
    (fun k => m ((c : Thread nD τ).loc main_arg7) (ix1 k)) (i 1)

set_option maxHeartbeats 2000000 in
/-- The output after the run. -/
theorem final (c : Dev nD) : (dats m 0 c).arrAt 8 cfg0.N = G m c := by
  refine (dats m 0 c).arrAt_eq_of_covers 8 _ (by decide +kernel) fun t hf y => ?_
  blk_simp
  rw [after0_8, outsAt0_eq]
  unfold G
  obtain ⟨r, j, rfl⟩ : ∃ (r : Fin 512) (j : Fin 1024), y = ix2 r j := ⟨y 0, y 1, eq_ix2 y⟩
  have hr : 512 * t.val + r.val < 16384 := by have h : t.val < 32 := t.isLt; omega
  have e : (win0_8.blk t).view.emb (ix2 r j) = ix2 (⟨512 * t.val + r.val, hr⟩ : Fin 16384) j := by blk_ext [idx t]
  rw [e]
  refine (fin_apply _ _ r j).trans ?_
  refine congrArg₂ (fun v g => Layer.rms v g j) (funext fun k => (body_apply _ _ _ _ _ _ _ r k).trans ?_) (funext fun k => ?_)
  swap
  · blk_ext! [iblk, V, idx t]
  unfold Layer.out
  refine congrFun ?_ k
  congr 1
  · funext k; unfold Layer.xRow; blk_ext! [iblk, V, idx t]
  · funext k; blk_ext [iblk, V, idx t]
  · funext k; blk_ext [iblk, V, idx t]
  · funext k u; blk_ext [iblk, V, idx t]
  · funext k; blk_ext! [iblk, V, idx t]
  · funext k u; blk_ext [iblk, V, idx t]
  · funext k u; blk_ext [iblk, V, idx t]

end Cert.LastIdeal.BlockValue
-- ==== Proof.LastRefRow.lean ====
module

public import proofs.«01_k».proof.Proof.Gen.LastRefIdeal.Run
public import proofs.«01_k».proof.Proof.Gen.LastRefIdeal.Read
public import proofs.«01_k».proof.Proof.Layer
public import Idealize.ShloMosaic.Lib.Tactic.CleanTypes

@[expose] public section

set_option maxRecDepth 16384

noncomputable section

namespace Cert.LastRefIdeal.RowValue

open Cert.LastRefIdeal Cert.LastRefIdeal.Gen Idealize.ShloMosaic Idealize.ShloMosaic.TcCoe Idealize.SL.Sem
open Cert.LastRefIdeal.Read

variable (x0 : (⟨3, ![2, 8192, 1024]⟩ : Shape).Idx → EReal) (x1 x2 : (⟨2, ![16384, 1024]⟩ : Shape).Idx → EReal)
    (x3 : (⟨3, ![2, 2048, 1024]⟩ : Shape).Idx → EReal) (x4 : (⟨2, ![4, 1024]⟩ : Shape).Idx → EReal)
    (x5 : (⟨3, ![4, 1024, 4096]⟩ : Shape).Idx → EReal) (x6 : (⟨3, ![4, 4096, 1024]⟩ : Shape).Idx → EReal) (x7 : (⟨1, ![1024]⟩ : Shape).Idx → EReal)

theorem hid_apply (r : Fin 16384) (j : Fin 1024) :
    val_main_v7 (F := Ideal) x0 x1 x2 x3 (ix2 r j)
    = Layer.hid (Layer.xRow x0 r) (fun k => x1 (ix2 r k)) (fun k => x2 (ix2 r k)) (fun k j => x3 (ix3 1 k j)) j := by
  pointwise [val_main_v7, val_main_v6, val_main_v5, val_main_v4, val_main_v3, val_main_v2, val_main_v1, val_main_v0, Layer.hid, Layer.xRow]

theorem rms_apply (r : Fin 16384) (j : Fin 1024) :
    val_main_v22 (F := Ideal) x0 x1 x2 x3 x4 (ix2 r j)
    = Layer.rms (fun j => val_main_v7 (F := Ideal) x0 x1 x2 x3 (ix2 r j)) (fun j => x4 (ix2 3 j)) j := by
  unfold val_main_v22 val_main_v21 val_main_v20 val_main_v19 val_main_v18 val_main_v17 val_main_v16 val_main_v15 val_main_v14 val_main_v13 val_main_v12 val_main_v11 val_main_v10 val_main_v9 val_main_v8 val_main_cst val_main_cst_0 val_main_cst_1
  generalize val_main_v7 (F := Ideal) x0 x1 x2 x3 = h
  pointwise [Layer.rms]

theorem out_apply (r : Fin 16384) (j : Fin 1024) :
    val_main_v31 (F := Ideal) x0 x1 x2 x3 x4 x5 x6 (ix2 r j) = Layer.out 3 1 x0 x1 x2 x3 x4 x5 x6 r j := by
  have hh := fun j => hid_apply x0 x1 x2 x3 r j
  have hn := fun j => rms_apply x0 x1 x2 x3 x4 r j
  unfold val_main_v31 val_main_v30 val_main_v29 val_main_v28 val_main_v27 val_main_v26 val_main_v25 val_main_v24 val_main_v23
  generalize val_main_v22 (F := Ideal) x0 x1 x2 x3 x4 = n at hn ⊢
  generalize val_main_v7 (F := Ideal) x0 x1 x2 x3 = h at hh hn ⊢
  pointwise [val_main_call0_v0, val_main_call0_cst]
  unfold Layer.out Layer.row Layer.mlp Layer.act
  simp only [hn, hh]

theorem fin_apply (r : Fin 16384) (j : Fin 1024) :
    val_main_v44 (F := Ideal) x0 x1 x2 x3 x4 x5 x6 x7 (ix2 r j)
    = Layer.rms (Layer.out 3 1 x0 x1 x2 x3 x4 x5 x6 r) (fun j => x7 (ix1 j)) j := by
  have hh := fun j => out_apply x0 x1 x2 x3 x4 x5 x6 r j
  unfold val_main_v44 val_main_v43 val_main_v42 val_main_v41 val_main_v40 val_main_v39 val_main_v38 val_main_v37 val_main_v36 val_main_v35 val_main_v34 val_main_v33 val_main_v32 val_main_cst_2 val_main_cst_3 val_main_cst_4
  generalize val_main_v31 (F := Ideal) x0 x1 x2 x3 x4 x5 x6 = h at hh ⊢
  pointwise [Layer.rms]
  simp only [hh]

end Cert.LastRefIdeal.RowValue
-- ==== Proof.LastClaim.lean ====
module

public import proofs.«01_k».proof.Defs
public import proofs.«01_k».proof.Proof.LastArray
public import proofs.«01_k».proof.Proof.LastRefRow
public import proofs.«01_k».proof.Proof.Gen.LastIdeal
public import proofs.«01_k».proof.Proof.Gen.LastRefIdeal
public import proofs.«01_k».proof.Proof.Gen.LastRefIdeal.Run

@[expose] public section

set_option maxRecDepth 16384

noncomputable section

namespace Cert.LastValue

open Idealize.ShloMosaic Idealize.ShloMosaic.TcCoe Idealize.SL.Sem

set_option maxHeartbeats 2000000 in
/-- The reference's result is the same function of the arguments. -/
theorem ref_eq (m : (ℓ : Loc LastIdeal.nD LastIdeal.τ LastIdeal.sig) → Buf (Elt Ideal) ℓ)
    (m' : (ℓ : Loc LastRefIdeal.nD LastRefIdeal.τ LastRefIdeal.sig) → Buf (Elt Ideal) ℓ) (c : Dev LastIdeal.nD)
    (h0 : m' ((c.tc : Thread LastRefIdeal.nD LastRefIdeal.τ).loc LastRefIdeal.main_arg0) = m ((c.tc : Thread LastIdeal.nD LastIdeal.τ).loc LastIdeal.main_arg0))
    (h1 : m' ((c.tc : Thread LastRefIdeal.nD LastRefIdeal.τ).loc LastRefIdeal.main_arg1) = m ((c.tc : Thread LastIdeal.nD LastIdeal.τ).loc LastIdeal.main_arg1))
    (h2 : m' ((c.tc : Thread LastRefIdeal.nD LastRefIdeal.τ).loc LastRefIdeal.main_arg2) = m ((c.tc : Thread LastIdeal.nD LastIdeal.τ).loc LastIdeal.main_arg2))
    (h3 : m' ((c.tc : Thread LastRefIdeal.nD LastRefIdeal.τ).loc LastRefIdeal.main_arg3) = m ((c.tc : Thread LastIdeal.nD LastIdeal.τ).loc LastIdeal.main_arg3))
    (h4 : m' ((c.tc : Thread LastRefIdeal.nD LastRefIdeal.τ).loc LastRefIdeal.main_arg4) = m ((c.tc : Thread LastIdeal.nD LastIdeal.τ).loc LastIdeal.main_arg4))
    (h5 : m' ((c.tc : Thread LastRefIdeal.nD LastRefIdeal.τ).loc LastRefIdeal.main_arg5) = m ((c.tc : Thread LastIdeal.nD LastIdeal.τ).loc LastIdeal.main_arg5))
    (h6 : m' ((c.tc : Thread LastRefIdeal.nD LastRefIdeal.τ).loc LastRefIdeal.main_arg6) = m ((c.tc : Thread LastIdeal.nD LastIdeal.τ).loc LastIdeal.main_arg6))
    (h7 : m' ((c.tc : Thread LastRefIdeal.nD LastRefIdeal.τ).loc LastRefIdeal.main_arg7) = m ((c.tc : Thread LastIdeal.nD LastIdeal.τ).loc LastIdeal.main_arg7)) :
    LastRefIdeal.Value.res_main_v44 m' c = LastIdeal.BlockValue.G m c := by
  rw [LastRefIdeal.Read.val_main_v44_eq, h0, h1, h2, h3, h4, h5, h6, h7]
  funext i
  obtain ⟨r, j, rfl⟩ : ∃ (r : Fin 16384) (j : Fin 1024), i = ix2 r j := ⟨i 0, i 1, eq_ix2 i⟩
  exact LastRefIdeal.RowValue.fin_apply _ _ _ _ _ _ _ _ r j

/-- The last residual block with the final norm: the kernel and the reference end with equal results. -/
theorem algebraic : Cert.algebraic_LastIdeal_LastRefIdeal := fun m g m' g' _ hag =>
  ⟨fun c => LastIdeal.BlockValue.G m c,
    (θ_run _ _ _).mono (fun _ h c => ⟨(h c).1.trans (LastIdeal.BlockValue.final m c), (h c).2⟩) (LastIdeal.Value.run_blocks m g),
    (θ_run _ _ _).mono (fun _ h c => ⟨(h c).1.trans (ref_eq m m' c (hag c).1 (hag c).2.1 (hag c).2.2.1 (hag c).2.2.2.1 (hag c).2.2.2.2.1 (hag c).2.2.2.2.2.1 (hag c).2.2.2.2.2.2.1 (hag c).2.2.2.2.2.2.2), (h c).2⟩)
      (LastRefIdeal.Value.run m' g')⟩

end Cert.LastValue

end
-- ==== Proof.LastSBlock.lean ====
module

public import proofs.«01_k».proof.Proof.Gen.LastSIdeal.Value
public import proofs.«01_k».proof.Proof.SampleMath

@[expose] public section

set_option maxRecDepth 16384

noncomputable section

namespace Cert.LastSIdeal.BlockValue

open Cert.LastSIdeal Cert.LastSIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The body's payloads put together: what a block of rows becomes. -/
def body (x : Vec Ideal S512x1024 .f32) (a b : Vec Ideal S512x1024 .f32) (wo : Vec Ideal S1x2048x1024 .bf16)
    (g : Vec Ideal S1x1024 .f32) (wu : Vec Ideal S1x1024x4096 .bf16) (wd : Vec Ideal S1x4096x1024 .bf16) :
    FVec Ideal S512x1024 .f32 :=
  let h := k0_pay3 x a (View.ld wo (Rect.unit ![0, 0, 0] S1x1024x1024.size inb_S1x2048x1024_S1x1024x1024_0_0_0)) b
    (View.ld wo (Rect.unit ![0, 1024, 0] S1x1024x1024.size inb_S1x2048x1024_S1x1024x1024_0_1024_0))
  k0_pay1 (k0_pay5 h g)
    (k0_pay6 (k0_pay4 h) (k0_pay5 h g)
      (View.ld wu (Rect.unit ![0, 0, 0] S1x1024x1024.size inb_S1x1024x4096_S1x1024x1024_0_0_0))
      (View.ld wd (Rect.unit ![0, 0, 0] S1x1024x1024.size inb_S1x4096x1024_S1x1024x1024_0_0_0))
      (View.ld wu (Rect.unit ![0, 0, 1024] S1x1024x1024.size inb_S1x1024x4096_S1x1024x1024_0_0_1024))
      (View.ld wd (Rect.unit ![0, 1024, 0] S1x1024x1024.size inb_S1x4096x1024_S1x1024x1024_0_1024_0))
      (View.ld wu (Rect.unit ![0, 0, 2048] S1x1024x1024.size inb_S1x1024x4096_S1x1024x1024_0_0_2048))
      (View.ld wd (Rect.unit ![0, 2048, 0] S1x1024x1024.size inb_S1x4096x1024_S1x1024x1024_0_2048_0)))
    (View.ld wu (Rect.unit ![0, 0, 3072] S1x1024x1024.size inb_S1x1024x4096_S1x1024x1024_0_0_3072))
    (View.ld wd (Rect.unit ![0, 3072, 0] S1x1024x1024.size inb_S1x4096x1024_S1x1024x1024_0_3072_0))

/-- What a grid point leaves in the output's block is the payloads of its input blocks. -/
theorem outsAt0_eq (c : Dev nD) (t : Fin cfg0.N) :
    outsAt0 m c t = k0_pay2 (body (iblk m c 0 t) (iblk m c 1 t) (iblk m c 2 t) (iblk m c 3 t) (iblk m c 4 t) (iblk m c 5 t) (iblk m c 6 t)) (iblk m c 7 t) := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  rw [View.canon_cons_unit_zero (S := S512x1024) hz2]
  simp only [View.readCov_cons_toLoadRect, View.readCov_unit_zero (S := S512x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.ld_unit_zero (S := S512x1024) hz2, View.ld_unit_zero (S := S512x1024) hz2, View.ld_unit_zero (S := S512x1024) hz2,
    View.ld_unit_zero (S := S1x1024) hz2, View.ld_unit_zero (S := S1x1024) hz2]
  rfl

/-- The residual stage, at an entry of the block. -/
theorem hid_apply (x : Vec Ideal S512x1024 .f32) (a b : Vec Ideal S512x1024 .f32) (wo : Vec Ideal S1x2048x1024 .bf16) (r : Fin 512) (j : Fin 1024) :
    k0_pay3 x a (View.ld wo (Rect.unit ![0, 0, 0] S1x1024x1024.size inb_S1x2048x1024_S1x1024x1024_0_0_0)) b
      (View.ld wo (Rect.unit ![0, 1024, 0] S1x1024x1024.size inb_S1x2048x1024_S1x1024x1024_0_1024_0)) (ix2 r j)
    = Layer.hid (fun j => x (ix2 r j)) (fun k => a (ix2 r k)) (fun k => b (ix2 r k)) (fun k j => wo (ix3 0 k j)) j := by
  pointwise [k0_pay3, Layer.hid]
  rw [add_assoc]

/-- The norm stage. -/
theorem rms_apply (h : Vec Ideal S512x1024 .f32) (g : Vec Ideal S1x1024 .f32) (r : Fin 512) (j : Fin 1024) :
    k0_pay5 h g (ix2 r j) = Layer.rms (fun j => h (ix2 r j)) (fun j => g (ix2 0 j)) j := by
  pointwise [k0_pay5, k0_pay4, Layer.rms]

/-- The final norm. -/
theorem fin_apply (h : Vec Ideal S512x1024 .f32) (g : Vec Ideal S1x1024 .f32) (r : Fin 512) (j : Fin 1024) :
    k0_pay2 h g (ix2 r j) = Layer.rms (fun j => h (ix2 r j)) (fun j => g (ix2 0 j)) j := by
  pointwise [k0_pay2, Layer.rms]

/-- The whole block before the final norm at an entry: the row's value. -/
theorem body_apply (x : Vec Ideal S512x1024 .f32) (a b : Vec Ideal S512x1024 .f32) (wo : Vec Ideal S1x2048x1024 .bf16)
    (g : Vec Ideal S1x1024 .f32) (wu : Vec Ideal S1x1024x4096 .bf16) (wd : Vec Ideal S1x4096x1024 .bf16) (r : Fin 512) (j : Fin 1024) :
    body x a b wo g wu wd (ix2 r j) = Layer.row (fun j => x (ix2 r j)) (fun k => a (ix2 r k)) (fun k => b (ix2 r k))
      (fun k j => wo (ix3 0 k j)) (fun k => g (ix2 0 k)) (fun k u => wu (ix3 0 k u)) (fun u j => wd (ix3 0 u j)) j := by
  have hh := fun j => hid_apply x a b wo r j
  unfold body
  dsimp only
  generalize k0_pay3 x a _ b _ = h at hh ⊢
  have hn := fun j => rms_apply h g r j
  generalize k0_pay5 h g = n at hn ⊢
  pointwise [k0_pay1, k0_pay6, k0_pay4]
  unfold Layer.row Layer.mlp
  rw [Layer.sum_chunks]
  unfold Layer.act
  simp only [hn, hh, add_assoc]

end Cert.LastSIdeal.BlockValue
-- ==== Proof.LastSArray.lean ====
module

public import proofs.«01_k».proof.Proof.LastSBlock
public import Idealize.ShloMosaic.Lib.Pipeline.ValueKit

@[expose] public section

set_option maxRecDepth 16384

noncomputable section

namespace Cert.LastSIdeal.BlockValue

open Cert.LastSIdeal Cert.LastSIdeal.Gen Idealize.ShloMosaic Idealize.ShloMosaic.TcCoe Idealize.SL.Sem
open Idealize.ShloMosaic.Pipeline (Dat)

variable (m : (ℓ : Loc nD τ sig) → Buf (Elt Ideal) ℓ)

/-- The index maps: rows go with the grid point, the weights stay. -/
theorem idx : ∀ t : Fin cfg0.N, win0_0.index t = ![t.val, 0] ∧ win0_1.index t = ![t.val, 0] ∧ win0_2.index t = ![t.val, 0]
    ∧ win0_3.index t = ![1, 0, 0] ∧ win0_4.index t = ![0, 0] ∧ win0_5.index t = ![3, 0, 0] ∧ win0_6.index t = ![3, 0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![1, 0, 0] ∧ win0_4.index t = ![0, 0] ∧ win0_5.index t = ![3, 0, 0] ∧ win0_6.index t = ![3, 0, 0]
    ∧ win0_7.index t = ![0, 0] ∧ win0_8.index t = ![t.val, 0])

/-- The array after the run, from the arguments. -/
def G (c : Dev nD) : S512x1024.Idx → EReal := fun i =>
  Layer.rms (Layer.outS (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0))
    (fun k => m ((c : Thread nD τ).loc main_arg7) (ix1 k)) (i 1)

set_option maxHeartbeats 2000000 in
/-- The output after the run. -/
theorem final (c : Dev nD) : (dats m 0 c).arrAt 8 cfg0.N = G m c := by
  refine (dats m 0 c).arrAt_eq_of_covers 8 _ (by decide +kernel) fun t hf y => ?_
  blk_simp
  rw [after0_8, outsAt0_eq]
  unfold G
  obtain ⟨r, j, rfl⟩ : ∃ (r : Fin 512) (j : Fin 1024), y = ix2 r j := ⟨y 0, y 1, eq_ix2 y⟩
  have hr : 512 * t.val + r.val < 512 := by have h : t.val < 1 := t.isLt; omega
  have e : (win0_8.blk t).view.emb (ix2 r j) = ix2 (⟨512 * t.val + r.val, hr⟩ : Fin 512) j := by blk_ext [idx t]
  rw [e]
  refine (fin_apply _ _ r j).trans ?_
  refine congrArg₂ (fun v g => Layer.rms v g j) (funext fun k => (body_apply _ _ _ _ _ _ _ r k).trans ?_) (funext fun k => ?_)
  swap
  · blk_ext! [iblk, V, idx t]
  unfold Layer.outS
  refine congrFun ?_ k
  congr 1
  · funext k; unfold Layer.sRow; blk_ext! [iblk, V, idx t]
  · funext k; blk_ext [iblk, V, idx t]
  · funext k; blk_ext [iblk, V, idx t]
  · funext k u; blk_ext [iblk, V, idx t]
  · funext k; blk_ext! [iblk, V, idx t]
  · funext k u; blk_ext [iblk, V, idx t]
  · funext k u; blk_ext [iblk, V, idx t]

end Cert.LastSIdeal.BlockValue
-- ==== Proof.LastSRefRow.lean ====
module

public import proofs.«01_k».proof.Proof.Gen.LastSRefIdeal.Run
public import proofs.«01_k».proof.Proof.Gen.LastSRefIdeal.Read
public import proofs.«01_k».proof.Proof.SampleMath
public import Idealize.ShloMosaic.Lib.Tactic.CleanTypes

@[expose] public section

set_option maxRecDepth 16384

noncomputable section

namespace Cert.LastSRefIdeal.RowValue

open Cert.LastSRefIdeal Cert.LastSRefIdeal.Gen Idealize.ShloMosaic Idealize.ShloMosaic.TcCoe Idealize.SL.Sem
open Cert.LastSRefIdeal.Read

variable (x0 : (⟨3, ![128, 4, 1024]⟩ : Shape).Idx → EReal) (x1 x2 : (⟨2, ![512, 1024]⟩ : Shape).Idx → EReal)
    (x3 : (⟨3, ![2, 2048, 1024]⟩ : Shape).Idx → EReal) (x4 : (⟨2, ![4, 1024]⟩ : Shape).Idx → EReal)
    (x5 : (⟨3, ![4, 1024, 4096]⟩ : Shape).Idx → EReal) (x6 : (⟨3, ![4, 4096, 1024]⟩ : Shape).Idx → EReal) (x7 : (⟨1, ![1024]⟩ : Shape).Idx → EReal)

theorem hid_apply (r : Fin 512) (j : Fin 1024) :
    val_main_v5 (F := Ideal) x0 x1 x2 x3 (ix2 r j)
    = Layer.hid (Layer.sRow x0 r) (fun k => x1 (ix2 r k)) (fun k => x2 (ix2 r k)) (fun k j => x3 (ix3 1 k j)) j := by
  pointwise [val_main_v5, val_main_v4, val_main_v3, val_main_v2, val_main_v1, val_main_v0, Layer.hid, Layer.sRow]

theorem rms_apply (r : Fin 512) (j : Fin 1024) :
    val_main_v20 (F := Ideal) x0 x1 x2 x3 x4 (ix2 r j)
    = Layer.rms (fun j => val_main_v5 (F := Ideal) x0 x1 x2 x3 (ix2 r j)) (fun j => x4 (ix2 3 j)) j := by
  unfold val_main_v20 val_main_v19 val_main_v18 val_main_v17 val_main_v16 val_main_v15 val_main_v14 val_main_v13 val_main_v12 val_main_v11 val_main_v10 val_main_v9 val_main_v8 val_main_v7 val_main_v6 val_main_cst val_main_cst_0 val_main_cst_1
  generalize val_main_v5 (F := Ideal) x0 x1 x2 x3 = h
  pointwise [Layer.rms]

theorem out_apply (r : Fin 512) (j : Fin 1024) :
    val_main_v29 (F := Ideal) x0 x1 x2 x3 x4 x5 x6 (ix2 r j) = Layer.outS x0 x1 x2 x3 x4 x5 x6 r j := by
  have hh := fun j => hid_apply x0 x1 x2 x3 r j
  have hn := fun j => rms_apply x0 x1 x2 x3 x4 r j
  unfold val_main_v29 val_main_v28 val_main_v27 val_main_v26 val_main_v25 val_main_v24 val_main_v23 val_main_v22 val_main_v21
  generalize val_main_v20 (F := Ideal) x0 x1 x2 x3 x4 = n at hn ⊢
  generalize val_main_v5 (F := Ideal) x0 x1 x2 x3 = h at hh hn ⊢
  pointwise [val_main_call0_v0, val_main_call0_cst]
  unfold Layer.outS Layer.row Layer.mlp Layer.act
  simp only [hn, hh]

theorem fin_apply (r : Fin 512) (j : Fin 1024) :
    val_main_v42 (F := Ideal) x0 x1 x2 x3 x4 x5 x6 x7 (ix2 r j)
    = Layer.rms (Layer.outS x0 x1 x2 x3 x4 x5 x6 r) (fun j => x7 (ix1 j)) j := by
  have hh := fun j => out_apply x0 x1 x2 x3 x4 x5 x6 r j
  unfold val_main_v42 val_main_v41 val_main_v40 val_main_v39 val_main_v38 val_main_v37 val_main_v36 val_main_v35 val_main_v34 val_main_v33 val_main_v32 val_main_v31 val_main_v30 val_main_cst_2 val_main_cst_3 val_main_cst_4
  generalize val_main_v29 (F := Ideal) x0 x1 x2 x3 x4 x5 x6 = h at hh ⊢
  pointwise [Layer.rms]
  simp only [hh]

end Cert.LastSRefIdeal.RowValue
-- ==== Proof.LastSClaim.lean ====
module

public import proofs.«01_k».proof.Defs
public import proofs.«01_k».proof.Proof.LastSArray
public import proofs.«01_k».proof.Proof.LastSRefRow
public import proofs.«01_k».proof.Proof.Gen.LastSIdeal
public import proofs.«01_k».proof.Proof.Gen.LastSRefIdeal
public import proofs.«01_k».proof.Proof.Gen.LastSRefIdeal.Run

@[expose] public section

set_option maxRecDepth 16384

noncomputable section

namespace Cert.LastSValue

open Idealize.ShloMosaic Idealize.ShloMosaic.TcCoe Idealize.SL.Sem

variable (m : (ℓ : Loc LastSIdeal.nD LastSIdeal.τ LastSIdeal.sig) → Buf (Elt Ideal) ℓ)
    (m' : (ℓ : Loc LastSRefIdeal.nD LastSRefIdeal.τ LastSRefIdeal.sig) → Buf (Elt Ideal) ℓ) (c : Dev LastSIdeal.nD)

/-- The two programs' arguments are the same. -/
abbrev same : Prop :=
    m' ((c.tc : Thread LastSRefIdeal.nD LastSRefIdeal.τ).loc LastSRefIdeal.main_arg0) = m ((c.tc : Thread LastSIdeal.nD LastSIdeal.τ).loc LastSIdeal.main_arg0)
    ∧ m' ((c.tc : Thread LastSRefIdeal.nD LastSRefIdeal.τ).loc LastSRefIdeal.main_arg1) = m ((c.tc : Thread LastSIdeal.nD LastSIdeal.τ).loc LastSIdeal.main_arg1)
    ∧ m' ((c.tc : Thread LastSRefIdeal.nD LastSRefIdeal.τ).loc LastSRefIdeal.main_arg2) = m ((c.tc : Thread LastSIdeal.nD LastSIdeal.τ).loc LastSIdeal.main_arg2)
    ∧ m' ((c.tc : Thread LastSRefIdeal.nD LastSRefIdeal.τ).loc LastSRefIdeal.main_arg3) = m ((c.tc : Thread LastSIdeal.nD LastSIdeal.τ).loc LastSIdeal.main_arg3)
    ∧ m' ((c.tc : Thread LastSRefIdeal.nD LastSRefIdeal.τ).loc LastSRefIdeal.main_arg4) = m ((c.tc : Thread LastSIdeal.nD LastSIdeal.τ).loc LastSIdeal.main_arg4)
    ∧ m' ((c.tc : Thread LastSRefIdeal.nD LastSRefIdeal.τ).loc LastSRefIdeal.main_arg5) = m ((c.tc : Thread LastSIdeal.nD LastSIdeal.τ).loc LastSIdeal.main_arg5)
    ∧ m' ((c.tc : Thread LastSRefIdeal.nD LastSRefIdeal.τ).loc LastSRefIdeal.main_arg6) = m ((c.tc : Thread LastSIdeal.nD LastSIdeal.τ).loc LastSIdeal.main_arg6)
    ∧ m' ((c.tc : Thread LastSRefIdeal.nD LastSRefIdeal.τ).loc LastSRefIdeal.main_arg7) = m ((c.tc : Thread LastSIdeal.nD LastSIdeal.τ).loc LastSIdeal.main_arg7)

set_option maxHeartbeats 2000000 in
/-- The reference's result 0 is the same function of the arguments. -/
theorem ref_eq0 (h : same m m' c) : LastSRefIdeal.Value.res_main_v42 m' c = LastSIdeal.BlockValue.G m c := by
  rw [LastSRefIdeal.Read.val_main_v42_eq, h.1, h.2.1, h.2.2.1, h.2.2.2.1, h.2.2.2.2.1, h.2.2.2.2.2.1, h.2.2.2.2.2.2.1, h.2.2.2.2.2.2.2]
  funext i
  obtain ⟨r, j, rfl⟩ : ∃ (r : Fin 512) (j : Fin 1024), i = ix2 r j := ⟨i 0, i 1, eq_ix2 i⟩
  exact LastSRefIdeal.RowValue.fin_apply _ _ _ _ _ _ _ _ r j

/-- The last layer's residual block and the final norm, on the sample group: the kernel and the reference end with equal results. -/
theorem algebraic : Cert.algebraic_LastSIdeal_LastSRefIdeal := fun m g m' g' _  hag =>
  ⟨fun c => LastSIdeal.BlockValue.G m c,
    (θ_run _ _ _).mono (fun _ h c => ⟨(h c).1.trans (LastSIdeal.BlockValue.final m c), (h c).2⟩) (LastSIdeal.Value.run_blocks m g),
    (θ_run _ _ _).mono (fun _ h c => ⟨(h c).1.trans (ref_eq0 m m' c (hag c)), (h c).2⟩) (LastSRefIdeal.Value.run m' g')⟩

end Cert.LastSValue

end
-- ==== Proof.KeysArray.lean ====
module

public import proofs.«01_k».proof.Proof.SampleMath
public import proofs.«01_k».proof.Proof.Gen.KeysIdeal.Value
public import Idealize.ShloMosaic.Lib.Pointwise
public import Idealize.ShloMosaic.Lib.Pipeline.ReadBack
public import Idealize.ShloMosaic.Lib.Pipeline.ValueKit

/-! The memory's keys and values of all layers: the arrays after the run. -/

@[expose] public section

set_option maxRecDepth 16384

noncomputable section

namespace Cert.KeysIdeal.BlockValue

open Cert.KeysIdeal Cert.KeysIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel
theorem hz3 : (![0, 0, 0] : Fin 3 → ℕ) = fun _ => 0 := by decide +kernel

/-- The projection of a normed row, before it is split. -/
theorem proj_apply (x : Vec Ideal S512x1024 .f32) (g : Vec Ideal S1x1x1024 .f32) (w : Vec Ideal S1x1024x2048 .bf16) (r : Fin 512) (j : Fin 2048) :
    k0_pay2 x g w (ix2 r j) = Layer.proj (fun k => x (ix2 r k)) (fun k => g (ix3 0 0 k)) (fun k j => w (ix3 0 k j)) j := by
  pointwise [k0_pay2, Layer.proj, Layer.rms]

/-- The index maps: one layer to a grid point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0])

theorem lt4 (t : Fin cfg0.N) : t.val < 4 := t.isLt

/-- The projection from the blocks is the projection from the arguments. -/
theorem proj_blk (c : Dev nD) (t : Fin cfg0.N) (r : Fin 512) (j : Fin 2048) :
    k0_pay2 (iblk m c 0 t) (iblk m c 1 t) (iblk m c 2 t) (ix2 r j) = Layer.memKv (m ((c : Thread nD τ).loc main_arg0)) (m ((c : Thread nD τ).loc main_arg1)) (m ((c : Thread nD τ).loc main_arg2)) ⟨t.val, lt4 t⟩ r j := by
  refine (proj_apply _ _ _ r j).trans ?_
  unfold Layer.memKv
  congr 1
  · funext k; blk_ext! [iblk, V, idx t]
  · funext k; blk_ext! [iblk, V, idx t]
  · funext k j; blk_ext [iblk, V, idx t]

/-- The keys and the values after the run, from the arguments. -/
def GK (c : Dev nD) : S4x512x1024.Idx → EReal := fun i =>
  Layer.memKv (m ((c : Thread nD τ).loc main_arg0)) (m ((c : Thread nD τ).loc main_arg1)) (m ((c : Thread nD τ).loc main_arg2)) (i 0) (i 1) ⟨(i 2).val, by have : (i 2).val < 1024 := (i 2).isLt; omega⟩
def GV (c : Dev nD) : S4x512x1024.Idx → EReal := fun i =>
  Layer.memKv (m ((c : Thread nD τ).loc main_arg0)) (m ((c : Thread nD τ).loc main_arg1)) (m ((c : Thread nD τ).loc main_arg2)) (i 0) (i 1) ⟨1024 + (i 2).val, by have : (i 2).val < 1024 := (i 2).isLt; omega⟩

set_option maxHeartbeats 2000000 in
theorem final3 (c : Dev nD) : (dats m 0 c).arrAt 3 cfg0.N = GK m c := by
  refine (dats m 0 c).arrAt_eq_of_covers 3 _ (by decide +kernel) fun t hf y => ?_
  blk_simp
  rw [after0_3]
  obtain ⟨u, r, j, rfl⟩ : ∃ (u : Fin 1) (r : Fin 512) (j : Fin 1024), y = ix3 u r j := ⟨y 0, y 1, y 2, eq_ix3 y⟩
  have hu : u.val = 0 := by omega
  have e : (win0_3.blk t).view.emb (ix3 u r j) = ix3 (⟨t.val, lt4 t⟩ : Fin 4) r j := by blk_ext [idx t, hu]
  rw [e]
  unfold out0_3
  rw [View.canon_cons_unit_zero (S := S1x512x1024) hz3, View.ld_unit_zero (S := S512x1024) hz2, View.ld_unit_zero (S := S1x1x1024) hz3, View.ld_unit_zero (S := S1x1024x2048) hz3]
  have h := proj_blk m c t r ⟨j.val, by omega⟩
  unfold k0_pay5 k0_pay3
  generalize k0_pay2 (iblk m c 0 t) (iblk m c 1 t) (iblk m c 2 t) = p at h ⊢
  refine Eq.trans ?_ h
  pointwise

set_option maxHeartbeats 2000000 in
theorem final4 (c : Dev nD) : (dats m 0 c).arrAt 4 cfg0.N = GV m c := by
  refine (dats m 0 c).arrAt_eq_of_covers 4 _ (by decide +kernel) fun t hf y => ?_
  blk_simp
  rw [after0_4]
  obtain ⟨u, r, j, rfl⟩ : ∃ (u : Fin 1) (r : Fin 512) (j : Fin 1024), y = ix3 u r j := ⟨y 0, y 1, y 2, eq_ix3 y⟩
  have hu : u.val = 0 := by omega
  have e : (win0_4.blk t).view.emb (ix3 u r j) = ix3 (⟨t.val, lt4 t⟩ : Fin 4) r j := by blk_ext [idx t, hu]
  rw [e]
  unfold out0_4
  rw [View.canon_cons_unit_zero (S := S1x512x1024) hz3, View.ld_unit_zero (S := S512x1024) hz2, View.ld_unit_zero (S := S1x1x1024) hz3, View.ld_unit_zero (S := S1x1024x2048) hz3]
  have h := proj_blk m c t r ⟨1024 + j.val, by omega⟩
  unfold k0_pay6 k0_pay4
  generalize k0_pay2 (iblk m c 0 t) (iblk m c 1 t) (iblk m c 2 t) = p at h ⊢
  refine Eq.trans ?_ h
  pointwise

set_option maxHeartbeats 2000000 in
theorem final5 (c : Dev nD) : (dats m 0 c).arrAt 5 cfg0.N = GK m c := by
  refine (dats m 0 c).arrAt_eq_of_covers 5 _ (by decide +kernel) fun t hf y => ?_
  blk_simp
  rw [after0_5]
  obtain ⟨u, r, j, rfl⟩ : ∃ (u : Fin 1) (r : Fin 512) (j : Fin 1024), y = ix3 u r j := ⟨y 0, y 1, y 2, eq_ix3 y⟩
  have hu : u.val = 0 := by omega
  have e : (win0_5.blk t).view.emb (ix3 u r j) = ix3 (⟨t.val, lt4 t⟩ : Fin 4) r j := by blk_ext [idx t, hu]
  rw [e]
  unfold out0_5
  rw [View.canon_cons_unit_zero (S := S1x512x1024) hz3, View.ld_unit_zero (S := S512x1024) hz2, View.ld_unit_zero (S := S1x1x1024) hz3, View.ld_unit_zero (S := S1x1024x2048) hz3]
  have h := proj_blk m c t r ⟨j.val, by omega⟩
  unfold k0_pay7 k0_pay3
  generalize k0_pay2 (iblk m c 0 t) (iblk m c 1 t) (iblk m c 2 t) = p at h ⊢
  refine Eq.trans ?_ h
  pointwise

set_option maxHeartbeats 2000000 in
theorem final6 (c : Dev nD) : (dats m 0 c).arrAt 6 cfg0.N = GV m c := by
  refine (dats m 0 c).arrAt_eq_of_covers 6 _ (by decide +kernel) fun t hf y => ?_
  blk_simp
  rw [after0_6]
  obtain ⟨u, r, j, rfl⟩ : ∃ (u : Fin 1) (r : Fin 512) (j : Fin 1024), y = ix3 u r j := ⟨y 0, y 1, y 2, eq_ix3 y⟩
  have hu : u.val = 0 := by omega
  have e : (win0_6.blk t).view.emb (ix3 u r j) = ix3 (⟨t.val, lt4 t⟩ : Fin 4) r j := by blk_ext [idx t, hu]
  rw [e]
  unfold out0_6
  rw [View.canon_cons_unit_zero (S := S1x512x1024) hz3, View.ld_unit_zero (S := S512x1024) hz2, View.ld_unit_zero (S := S1x1x1024) hz3, View.ld_unit_zero (S := S1x1024x2048) hz3]
  have h := proj_blk m c t r ⟨1024 + j.val, by omega⟩
  unfold k0_pay1 k0_pay8 k0_pay4
  generalize k0_pay2 (iblk m c 0 t) (iblk m c 1 t) (iblk m c 2 t) = p at h ⊢
  refine Eq.trans ?_ h
  pointwise

end Cert.KeysIdeal.BlockValue
-- ==== Proof.KeysRefRow.lean ====
module

public import proofs.«01_k».proof.Proof.Gen.KeysRefIdeal.Run
public import proofs.«01_k».proof.Proof.Gen.KeysRefIdeal.Read
public import proofs.«01_k».proof.Proof.SampleMath
public import Idealize.ShloMosaic.Lib.Tactic.CleanTypes

/-! The reference of the memory's keys and values, entry by entry. -/

@[expose] public section

set_option maxRecDepth 16384

noncomputable section

namespace Cert.KeysRefIdeal.RowValue

open Cert.KeysRefIdeal Cert.KeysRefIdeal.Gen Idealize.ShloMosaic Idealize.ShloMosaic.TcCoe Idealize.SL.Sem
open Cert.KeysRefIdeal.Read

variable (x0 : (⟨3, ![2, 256, 1024]⟩ : Shape).Idx → EReal) (x1 : (⟨2, ![4, 1024]⟩ : Shape).Idx → EReal) (x2 : (⟨3, ![4, 1024, 2048]⟩ : Shape).Idx → EReal)

theorem rms_apply (l : Fin 4) (b : Fin 2) (r : Fin 256) (j : Fin 1024) :
    val_main_v14 (F := Ideal) x0 x1 (ix4 l b r j) = Layer.rms (fun j => x0 (ix3 b r j)) (fun j => x1 (ix2 l j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.rms]

theorem proj_apply (l : Fin 4) (r : Fin 512) (j : Fin 2048) : val_main_v16 (F := Ideal) x0 x1 x2 (ix3 l r j) = Layer.memKv x0 x1 x2 l r j := by
  have hn := fun b r j => rms_apply x0 x1 l b r j
  unfold val_main_v16 val_main_v15
  generalize val_main_v14 (F := Ideal) x0 x1 = n at hn ⊢
  pointwise
  unfold Layer.memKv Layer.proj
  simp only [hn]

theorem k_apply (l : Fin 4) (r : Fin 512) (j : Fin 1024) : val_main_v17 (F := Ideal) x0 x1 x2 (ix3 l r j) = Layer.memKv x0 x1 x2 l r ⟨j.val, by omega⟩ := by
  have hp := fun j => proj_apply x0 x1 x2 l r j
  unfold val_main_v17
  generalize val_main_v16 (F := Ideal) x0 x1 x2 = p at hp ⊢
  pointwise
  exact hp _

theorem v_apply (l : Fin 4) (r : Fin 512) (j : Fin 1024) : val_main_v18 (F := Ideal) x0 x1 x2 (ix3 l r j) = Layer.memKv x0 x1 x2 l r ⟨1024 + j.val, by omega⟩ := by
  have hp := fun j => proj_apply x0 x1 x2 l r j
  unfold val_main_v18
  generalize val_main_v16 (F := Ideal) x0 x1 x2 = p at hp ⊢
  pointwise
  exact hp _

theorem kb_apply (l : Fin 4) (r : Fin 512) (j : Fin 1024) : val_main_v19 (F := Ideal) x0 x1 x2 (ix3 l r j) = Layer.memKv x0 x1 x2 l r ⟨j.val, by omega⟩ := by
  have hp := fun j => proj_apply x0 x1 x2 l r j
  unfold val_main_v19 val_main_v17
  generalize val_main_v16 (F := Ideal) x0 x1 x2 = p at hp ⊢
  pointwise
  exact hp _

theorem vb_apply (l : Fin 4) (r : Fin 512) (j : Fin 1024) : val_main_v20 (F := Ideal) x0 x1 x2 (ix3 l r j) = Layer.memKv x0 x1 x2 l r ⟨1024 + j.val, by omega⟩ := by
  have hp := fun j => proj_apply x0 x1 x2 l r j
  unfold val_main_v20 val_main_v18
  generalize val_main_v16 (F := Ideal) x0 x1 x2 = p at hp ⊢
  pointwise
  exact hp _

end Cert.KeysRefIdeal.RowValue
-- ==== Proof.KeysClaim.lean ====
module

public import proofs.«01_k».proof.Defs
public import proofs.«01_k».proof.Proof.KeysArray
public import proofs.«01_k».proof.Proof.KeysRefRow
public import proofs.«01_k».proof.Proof.Gen.KeysIdeal
public import proofs.«01_k».proof.Proof.Gen.KeysRefIdeal
public import proofs.«01_k».proof.Proof.Gen.KeysRefIdeal.Run

@[expose] public section

set_option maxRecDepth 16384

noncomputable section

namespace Cert.KeysValue

open Idealize.ShloMosaic Idealize.ShloMosaic.TcCoe Idealize.SL.Sem

variable (m : (ℓ : Loc KeysIdeal.nD KeysIdeal.τ KeysIdeal.sig) → Buf (Elt Ideal) ℓ)
    (m' : (ℓ : Loc KeysRefIdeal.nD KeysRefIdeal.τ KeysRefIdeal.sig) → Buf (Elt Ideal) ℓ) (c : Dev KeysIdeal.nD)

/-- The two programs' arguments are the same. -/
abbrev same : Prop :=
    m' ((c.tc : Thread KeysRefIdeal.nD KeysRefIdeal.τ).loc KeysRefIdeal.main_arg0) = m ((c.tc : Thread KeysIdeal.nD KeysIdeal.τ).loc KeysIdeal.main_arg0)
    ∧ m' ((c.tc : Thread KeysRefIdeal.nD KeysRefIdeal.τ).loc KeysRefIdeal.main_arg1) = m ((c.tc : Thread KeysIdeal.nD KeysIdeal.τ).loc KeysIdeal.main_arg1)
    ∧ m' ((c.tc : Thread KeysRefIdeal.nD KeysRefIdeal.τ).loc KeysRefIdeal.main_arg2) = m ((c.tc : Thread KeysIdeal.nD KeysIdeal.τ).loc KeysIdeal.main_arg2)

set_option maxHeartbeats 2000000 in
/-- The reference's result 0 is the same function of the arguments. -/
theorem ref_eq0 (h : same m m' c) : KeysRefIdeal.Read.val_main_v17 (F := Ideal) (m' ((c.tc : Thread KeysRefIdeal.nD KeysRefIdeal.τ).loc KeysRefIdeal.main_arg0)) (m' ((c.tc : Thread KeysRefIdeal.nD KeysRefIdeal.τ).loc KeysRefIdeal.main_arg1)) (m' ((c.tc : Thread KeysRefIdeal.nD KeysRefIdeal.τ).loc KeysRefIdeal.main_arg2)) = KeysIdeal.BlockValue.GK m c := by
  rw [h.1, h.2.1, h.2.2]
  funext i
  obtain ⟨r, j, k, rfl⟩ : ∃ (r : Fin 4) (j : Fin 512) (k : Fin 1024), i = ix3 r j k := ⟨i 0, i 1, i 2, eq_ix3 i⟩
  exact KeysRefIdeal.RowValue.k_apply _ _ _ r j k

set_option maxHeartbeats 2000000 in
/-- The reference's result 1 is the same function of the arguments. -/
theorem ref_eq1 (h : same m m' c) : KeysRefIdeal.Read.val_main_v18 (F := Ideal) (m' ((c.tc : Thread KeysRefIdeal.nD KeysRefIdeal.τ).loc KeysRefIdeal.main_arg0)) (m' ((c.tc : Thread KeysRefIdeal.nD KeysRefIdeal.τ).loc KeysRefIdeal.main_arg1)) (m' ((c.tc : Thread KeysRefIdeal.nD KeysRefIdeal.τ).loc KeysRefIdeal.main_arg2)) = KeysIdeal.BlockValue.GV m c := by
  rw [h.1, h.2.1, h.2.2]
  funext i
  obtain ⟨r, j, k, rfl⟩ : ∃ (r : Fin 4) (j : Fin 512) (k : Fin 1024), i = ix3 r j k := ⟨i 0, i 1, i 2, eq_ix3 i⟩
  exact KeysRefIdeal.RowValue.v_apply _ _ _ r j k

set_option maxHeartbeats 2000000 in
/-- The reference's result 2 is the same function of the arguments. -/
theorem ref_eq2 (h : same m m' c) : KeysRefIdeal.Read.val_main_v19 (F := Ideal) (m' ((c.tc : Thread KeysRefIdeal.nD KeysRefIdeal.τ).loc KeysRefIdeal.main_arg0)) (m' ((c.tc : Thread KeysRefIdeal.nD KeysRefIdeal.τ).loc KeysRefIdeal.main_arg1)) (m' ((c.tc : Thread KeysRefIdeal.nD KeysRefIdeal.τ).loc KeysRefIdeal.main_arg2)) = KeysIdeal.BlockValue.GK m c := by
  rw [h.1, h.2.1, h.2.2]
  funext i
  obtain ⟨r, j, k, rfl⟩ : ∃ (r : Fin 4) (j : Fin 512) (k : Fin 1024), i = ix3 r j k := ⟨i 0, i 1, i 2, eq_ix3 i⟩
  exact KeysRefIdeal.RowValue.kb_apply _ _ _ r j k

set_option maxHeartbeats 2000000 in
/-- The reference's result 3 is the same function of the arguments. -/
theorem ref_eq3 (h : same m m' c) : KeysRefIdeal.Read.val_main_v20 (F := Ideal) (m' ((c.tc : Thread KeysRefIdeal.nD KeysRefIdeal.τ).loc KeysRefIdeal.main_arg0)) (m' ((c.tc : Thread KeysRefIdeal.nD KeysRefIdeal.τ).loc KeysRefIdeal.main_arg1)) (m' ((c.tc : Thread KeysRefIdeal.nD KeysRefIdeal.τ).loc KeysRefIdeal.main_arg2)) = KeysIdeal.BlockValue.GV m c := by
  rw [h.1, h.2.1, h.2.2]
  funext i
  obtain ⟨r, j, k, rfl⟩ : ∃ (r : Fin 4) (j : Fin 512) (k : Fin 1024), i = ix3 r j k := ⟨i 0, i 1, i 2, eq_ix3 i⟩
  exact KeysRefIdeal.RowValue.vb_apply _ _ _ r j k

/-- The memory's keys and values of all layers: the kernel and the reference end with equal results. -/
theorem algebraic : Cert.algebraic_KeysIdeal_KeysRefIdeal := fun m g m' g' _  hag =>
  ⟨fun c => KeysIdeal.BlockValue.GK m c, fun c => KeysIdeal.BlockValue.GV m c, fun c => KeysIdeal.BlockValue.GK m c, fun c => KeysIdeal.BlockValue.GV m c,
    (θ_run _ _ _).mono (fun _ h c => ⟨(h c).1.trans (KeysIdeal.BlockValue.final3 m c), (h c).2.1.trans (KeysIdeal.BlockValue.final4 m c), (h c).2.2.1.trans (KeysIdeal.BlockValue.final5 m c), (h c).2.2.2.1.trans (KeysIdeal.BlockValue.final6 m c), (h c).2.2.2.2⟩) (KeysIdeal.Value.run_blocks m g),
    (θ_run _ _ _).mono (fun _ h c => ⟨(h c).1.trans ((KeysRefIdeal.Read.val_main_v17_eq _ _ _).trans (ref_eq0 m m' c (hag c))), (h c).2.1.trans ((KeysRefIdeal.Read.val_main_v18_eq _ _ _).trans (ref_eq1 m m' c (hag c))), (h c).2.2.1.trans ((KeysRefIdeal.Read.val_main_v19_eq _ _ _).trans (ref_eq2 m m' c (hag c))), (h c).2.2.2.1.trans ((KeysRefIdeal.Read.val_main_v20_eq _ _ _).trans (ref_eq3 m m' c (hag c))), (h c).2.2.2.2⟩) (KeysRefIdeal.Value.run m' g')⟩

end Cert.KeysValue

end
-- ==== Proof.KvMath.lean ====
module

public import proofs.«01_k».proof.Proof.SampleMath

/-! The prompt group's shared keys and values: a row's projection, and the augmented keys' tail (block number, position digits). -/

@[expose] public section

set_option maxRecDepth 16384

noncomputable section

namespace Cert.Layer

open Idealize.ShloMosaic

/-- The prompt group's keys (the first thousand of columns) and values (the second). -/
def kvP (x0 : (⟨2, ![16384, 1024]⟩ : Shape).Idx → EReal) (x1 : (⟨1, ![1024]⟩ : Shape).Idx → EReal)
    (x2 : (⟨2, ![1024, 2048]⟩ : Shape).Idx → EReal) (r : Fin 16384) : Fin 2048 → EReal :=
  proj (fun k => x0 (ix2 r k)) (fun k => x1 (ix1 k)) (fun k j => x2 (ix2 k j))

/-- A column of the augmented keys' tail: one at the block's own column, the position's high digit from column 40 and its
    low digit from column 43; `p` the position, `low` its low digit, `b` its block, as words. -/
def tailW (p low b : BitVec 32) (c : Fin 128) : EReal :=
  Scalar.select (IntOp.andi (IntOp.cmpi .sge (BitVec.ofNat 32 c) 43#32) (IntOp.cmpi .slt (BitVec.ofNat 32 c) 46#32))
    (FloatOps.sitofp (F := Ideal) FTy.f32 low)
    (Scalar.select (IntOp.andi (IntOp.cmpi .sge (BitVec.ofNat 32 c) 40#32) (IntOp.cmpi .slt (BitVec.ofNat 32 c) 43#32))
      (FloatOps.sitofp (F := Ideal) FTy.f32 (IntOp.subi p low))
      (Scalar.select (IntOp.cmpi .eq (BitVec.ofNat 32 c) b) (1 : EReal) 0))

/-- The tail of position `s`. -/
def tail (s : ℕ) (c : Fin 128) : EReal := tailW (BitVec.ofNat 32 s) (BitVec.ofNat 32 (s % 128)) (BitVec.ofNat 32 (s / 256)) c

/-- An entry of the augmented keys: in each head's 256 columns the key's 128, then the tail plus the head's own row. -/
def augK (k : Fin 2048 → EReal) (s : ℕ) (kr : Fin 8 → Fin 128 → EReal) (j : Fin 2048) : EReal :=
  if h : j.val % 256 < 128 then k ⟨128 * (j.val / 256) + j.val % 256, by omega⟩
  else tail s ⟨j.val % 256 - 128, by omega⟩ + kr ⟨j.val / 256, by omega⟩ ⟨j.val % 256 - 128, by omega⟩

/-- The mean of a block of 256 rows, as a quotient. -/
def meanOf (f : Fin 256 → EReal) : EReal := Ideal.div (∑ r, f r) (Ideal.ofBits FTy.f32 0x43800000#32)

theorem bits_256 : Ideal.ofBits .f32 0x43800000#32 = ((256 : ℝ) : EReal) := by
  simp [Ideal.ofBits, Ideal.ieee, -EReal.coe_mul]; norm_num

theorem bits_inv256 : Ideal.ofBits .f32 0x3B800000#32 = ((1 / 256 : ℝ) : EReal) := by
  simp [Ideal.ofBits, Ideal.ieee, -EReal.coe_mul]; norm_num

/-- Times 1/256 is divided by 256. -/
theorem meanOf_eq (f : Fin 256 → EReal) : (∑ r, f r) * Ideal.ofBits FTy.f32 0x3B800000#32 = meanOf f := by
  unfold meanOf
  rw [bits_256, bits_inv256, Ideal.div_coe (by norm_num : (256 : ℝ) ≠ 0)]

end Cert.Layer
-- ==== Proof.KvBlock.lean ====
module

public import proofs.«01_k».proof.Proof.KvMath
public import proofs.«01_k».proof.Proof.Gen.KvIdeal.Value
public import Idealize.ShloMosaic.Lib.Pointwise
public import Idealize.ShloMosaic.Lib.Pipeline.ReadBack
public import Idealize.ShloMosaic.Lib.Pipeline.ValueKit

/-! The prompt group's shared keys and values: the blocks a grid point leaves. -/

@[expose] public section

set_option maxRecDepth 16384

noncomputable section

namespace Cert.KvIdeal.BlockValue

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel
theorem hz3 : (![0, 0, 0] : Fin 3 → ℕ) = fun _ => 0 := by decide +kernel

/-- The projection of a normed row, before it is split. -/
theorem proj_apply (x : Vec Ideal S256x1024 .f32) (g : Vec Ideal S1x1024 .f32) (w : Vec Ideal S1024x2048 .bf16) (r : Fin 256) (j : Fin 2048) :
    k0_pay1 x g w (ix2 r j) = Layer.proj (fun k => x (ix2 r k)) (fun k => g (ix2 0 k)) (fun k j => w (ix2 k j)) j := by
  pointwise [k0_pay1, Layer.proj, Layer.rms]

/-- The words of the grid point's block number. -/
theorem blk_word : ∀ t : Fin 64,
    Scalar.select (Scalar.andi (Scalar.xori (Scalar.cmpi CmpIPredicate.slt (Scalar.remsi (BitVec.ofNat 32 t.val) (Scalar.select (Scalar.cmpi CmpIPredicate.eq 32#32 0#32) 1#32 32#32)) 0#32)
        (Scalar.cmpi CmpIPredicate.slt (Scalar.select (Scalar.cmpi CmpIPredicate.eq 32#32 0#32) 1#32 32#32) 0#32))
      (Scalar.cmpi CmpIPredicate.ne (Scalar.remsi (BitVec.ofNat 32 t.val) (Scalar.select (Scalar.cmpi CmpIPredicate.eq 32#32 0#32) 1#32 32#32)) 0#32))
      (Scalar.addi (Scalar.remsi (BitVec.ofNat 32 t.val) (Scalar.select (Scalar.cmpi CmpIPredicate.eq 32#32 0#32) 1#32 32#32)) (Scalar.select (Scalar.cmpi CmpIPredicate.eq 32#32 0#32) 1#32 32#32))
      (Scalar.remsi (BitVec.ofNat 32 t.val) (Scalar.select (Scalar.cmpi CmpIPredicate.eq 32#32 0#32) 1#32 32#32))
    = BitVec.ofNat 32 (t.val % 32) := by decide +kernel

theorem pos_word : ∀ (b : Fin 32) (r : Fin 256), IntOp.addi (Scalar.muli (BitVec.ofNat 32 b.val) 256#32) (BitVec.ofNat 32 r.val) = BitVec.ofNat 32 (256 * b.val + r.val) := by
  decide +kernel

theorem low_word : ∀ (b : Fin 32) (r : Fin 256), IntOp.andi (BitVec.ofNat 32 (256 * b.val + r.val)) 127#32 = BitVec.ofNat 32 ((256 * b.val + r.val) % 128) := by
  decide +kernel

/-- The tail's block is the positions' tails. -/
theorem tail_apply (t : Fin 64) (r : Fin 256) (c : Fin 128) :
    k0_pay7 (F := Ideal) (BitVec.ofNat 32 t.val) (ix2 r c) = Layer.tail (256 * (t.val % 32) + r.val) c := by
  have hb := blk_word t
  have hp := pos_word ⟨t.val % 32, by omega⟩ r
  have hl := low_word ⟨t.val % 32, by omega⟩ r
  pointwise [k0_pay7]
  rw [hb]
  simp only [hp, hl]
  unfold Layer.tail Layer.tailW
  rw [show (256 * (t.val % 32) + r.val) / 256 = t.val % 32 by omega]

/-- The block of the augmented keys, spelt as one function. -/
def augBlk (k : FVec Ideal S256x1024 .f32) (tl : FVec Ideal S256x128 .f32) (kr : Vec Ideal S8x128 .f32) : S256x2048.Idx → Elt Ideal .bf16 := fun i =>
  if h : (i 1).val % 256 < 128 then k (ix2 (i 0) ⟨128 * ((i 1).val / 256) + (i 1).val % 256, by have : (i 1).val < 2048 := (i 1).isLt; omega⟩)
  else tl (ix2 (i 0) ⟨(i 1).val % 256 - 128, by omega⟩) + kr (ix2 ⟨(i 1).val / 256, by have : (i 1).val < 2048 := (i 1).isLt; omega⟩ ⟨(i 1).val % 256 - 128, by omega⟩)

theorem key_piece0 (k : FVec Ideal S256x1024 .f32) (tl : FVec Ideal S256x128 .f32) (kr : Vec Ideal S8x128 .f32) (x : S256x128.Idx) :
    k0_pay8 k x = augBlk k tl kr (r0_5.emb x) := by
  obtain ⟨r, j, rfl⟩ : ∃ (r : Fin 256) (j : Fin 128), x = ix2 r j := ⟨x 0, x 1, eq_ix2 x⟩
  rw [show r0_5.emb (ix2 r j) = ix2 r (⟨0 + j.val, by omega⟩ : Fin 2048) from by blk_ext]
  unfold augBlk
  rw [dif_pos (by show (0 + j.val) % 256 < 128; omega)]
  pointwise [k0_pay8]
  refine congrArg k (congrArg (ix2 r) (Fin.ext ?_))
  simp only
  omega

theorem tail_piece0 (k : FVec Ideal S256x1024 .f32) (tl : FVec Ideal S256x128 .f32) (kr : Vec Ideal S8x128 .f32) (x : S256x128.Idx) :
    k0_pay9 tl (View.ld kr r0_6) x = augBlk k tl kr (r0_7.emb x) := by
  obtain ⟨r, j, rfl⟩ : ∃ (r : Fin 256) (j : Fin 128), x = ix2 r j := ⟨x 0, x 1, eq_ix2 x⟩
  rw [show r0_7.emb (ix2 r j) = ix2 r (⟨128 + j.val, by omega⟩ : Fin 2048) from by blk_ext]
  unfold augBlk
  rw [dif_neg (by show ¬ (128 + j.val) % 256 < 128; omega)]
  pointwise [k0_pay9]
  have e1 : (128 + j.val) / 256 = 0 := by omega
  have e2 : (128 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece1 (k : FVec Ideal S256x1024 .f32) (tl : FVec Ideal S256x128 .f32) (kr : Vec Ideal S8x128 .f32) (x : S256x128.Idx) :
    k0_pay10 k x = augBlk k tl kr (r0_8.emb x) := by
  obtain ⟨r, j, rfl⟩ : ∃ (r : Fin 256) (j : Fin 128), x = ix2 r j := ⟨x 0, x 1, eq_ix2 x⟩
  rw [show r0_8.emb (ix2 r j) = ix2 r (⟨256 + j.val, by omega⟩ : Fin 2048) from by blk_ext]
  unfold augBlk
  rw [dif_pos (by show (256 + j.val) % 256 < 128; omega)]
  pointwise [k0_pay10]
  refine congrArg k (congrArg (ix2 r) (Fin.ext ?_))
  simp only
  omega

theorem tail_piece1 (k : FVec Ideal S256x1024 .f32) (tl : FVec Ideal S256x128 .f32) (kr : Vec Ideal S8x128 .f32) (x : S256x128.Idx) :
    k0_pay11 tl (View.ld kr r0_9) x = augBlk k tl kr (r0_10.emb x) := by
  obtain ⟨r, j, rfl⟩ : ∃ (r : Fin 256) (j : Fin 128), x = ix2 r j := ⟨x 0, x 1, eq_ix2 x⟩
  rw [show r0_10.emb (ix2 r j) = ix2 r (⟨384 + j.val, by omega⟩ : Fin 2048) from by blk_ext]
  unfold augBlk
  rw [dif_neg (by show ¬ (384 + j.val) % 256 < 128; omega)]
  pointwise [k0_pay11]
  have e1 : (384 + j.val) / 256 = 1 := by omega
  have e2 : (384 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece2 (k : FVec Ideal S256x1024 .f32) (tl : FVec Ideal S256x128 .f32) (kr : Vec Ideal S8x128 .f32) (x : S256x128.Idx) :
    k0_pay12 k x = augBlk k tl kr (r0_11.emb x) := by
  obtain ⟨r, j, rfl⟩ : ∃ (r : Fin 256) (j : Fin 128), x = ix2 r j := ⟨x 0, x 1, eq_ix2 x⟩
  rw [show r0_11.emb (ix2 r j) = ix2 r (⟨512 + j.val, by omega⟩ : Fin 2048) from by blk_ext]
  unfold augBlk
  rw [dif_pos (by show (512 + j.val) % 256 < 128; omega)]
  pointwise [k0_pay12]
  refine congrArg k (congrArg (ix2 r) (Fin.ext ?_))
  simp only
  omega

theorem tail_piece2 (k : FVec Ideal S256x1024 .f32) (tl : FVec Ideal S256x128 .f32) (kr : Vec Ideal S8x128 .f32) (x : S256x128.Idx) :
    k0_pay13 tl (View.ld kr r0_12) x = augBlk k tl kr (r0_13.emb x) := by
  obtain ⟨r, j, rfl⟩ : ∃ (r : Fin 256) (j : Fin 128), x = ix2 r j := ⟨x 0, x 1, eq_ix2 x⟩
  rw [show r0_13.emb (ix2 r j) = ix2 r (⟨640 + j.val, by omega⟩ : Fin 2048) from by blk_ext]
  unfold augBlk
  rw [dif_neg (by show ¬ (640 + j.val) % 256 < 128; omega)]
  pointwise [k0_pay13]
  have e1 : (640 + j.val) / 256 = 2 := by omega
  have e2 : (640 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece3 (k : FVec Ideal S256x1024 .f32) (tl : FVec Ideal S256x128 .f32) (kr : Vec Ideal S8x128 .f32) (x : S256x128.Idx) :
    k0_pay14 k x = augBlk k tl kr (r0_14.emb x) := by
  obtain ⟨r, j, rfl⟩ : ∃ (r : Fin 256) (j : Fin 128), x = ix2 r j := ⟨x 0, x 1, eq_ix2 x⟩
  rw [show r0_14.emb (ix2 r j) = ix2 r (⟨768 + j.val, by omega⟩ : Fin 2048) from by blk_ext]
  unfold augBlk
  rw [dif_pos (by show (768 + j.val) % 256 < 128; omega)]
  pointwise [k0_pay14]
  refine congrArg k (congrArg (ix2 r) (Fin.ext ?_))
  simp only
  omega

theorem tail_piece3 (k : FVec Ideal S256x1024 .f32) (tl : FVec Ideal S256x128 .f32) (kr : Vec Ideal S8x128 .f32) (x : S256x128.Idx) :
    k0_pay15 tl (View.ld kr r0_15) x = augBlk k tl kr (r0_16.emb x) := by
  obtain ⟨r, j, rfl⟩ : ∃ (r : Fin 256) (j : Fin 128), x = ix2 r j := ⟨x 0, x 1, eq_ix2 x⟩
  rw [show r0_16.emb (ix2 r j) = ix2 r (⟨896 + j.val, by omega⟩ : Fin 2048) from by blk_ext]
  unfold augBlk
  rw [dif_neg (by show ¬ (896 + j.val) % 256 < 128; omega)]
  pointwise [k0_pay15]
  have e1 : (896 + j.val) / 256 = 3 := by omega
  have e2 : (896 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece4 (k : FVec Ideal S256x1024 .f32) (tl : FVec Ideal S256x128 .f32) (kr : Vec Ideal S8x128 .f32) (x : S256x128.Idx) :
    k0_pay16 k x = augBlk k tl kr (r0_17.emb x) := by
  obtain ⟨r, j, rfl⟩ : ∃ (r : Fin 256) (j : Fin 128), x = ix2 r j := ⟨x 0, x 1, eq_ix2 x⟩
  rw [show r0_17.emb (ix2 r j) = ix2 r (⟨1024 + j.val, by omega⟩ : Fin 2048) from by blk_ext]
  unfold augBlk
  rw [dif_pos (by show (1024 + j.val) % 256 < 128; omega)]
  pointwise [k0_pay16]
  refine congrArg k (congrArg (ix2 r) (Fin.ext ?_))
  simp only
  omega

theorem tail_piece4 (k : FVec Ideal S256x1024 .f32) (tl : FVec Ideal S256x128 .f32) (kr : Vec Ideal S8x128 .f32) (x : S256x128.Idx) :
    k0_pay17 tl (View.ld kr r0_18) x = augBlk k tl kr (r0_19.emb x) := by
  obtain ⟨r, j, rfl⟩ : ∃ (r : Fin 256) (j : Fin 128), x = ix2 r j := ⟨x 0, x 1, eq_ix2 x⟩
  rw [show r0_19.emb (ix2 r j) = ix2 r (⟨1152 + j.val, by omega⟩ : Fin 2048) from by blk_ext]
  unfold augBlk
  rw [dif_neg (by show ¬ (1152 + j.val) % 256 < 128; omega)]
  pointwise [k0_pay17]
  have e1 : (1152 + j.val) / 256 = 4 := by omega
  have e2 : (1152 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece5 (k : FVec Ideal S256x1024 .f32) (tl : FVec Ideal S256x128 .f32) (kr : Vec Ideal S8x128 .f32) (x : S256x128.Idx) :
    k0_pay18 k x = augBlk k tl kr (r0_20.emb x) := by
  obtain ⟨r, j, rfl⟩ : ∃ (r : Fin 256) (j : Fin 128), x = ix2 r j := ⟨x 0, x 1, eq_ix2 x⟩
  rw [show r0_20.emb (ix2 r j) = ix2 r (⟨1280 + j.val, by omega⟩ : Fin 2048) from by blk_ext]
  unfold augBlk
  rw [dif_pos (by show (1280 + j.val) % 256 < 128; omega)]
  pointwise [k0_pay18]
  refine congrArg k (congrArg (ix2 r) (Fin.ext ?_))
  simp only
  omega

theorem tail_piece5 (k : FVec Ideal S256x1024 .f32) (tl : FVec Ideal S256x128 .f32) (kr : Vec Ideal S8x128 .f32) (x : S256x128.Idx) :
    k0_pay19 tl (View.ld kr r0_21) x = augBlk k tl kr (r0_22.emb x) := by
  obtain ⟨r, j, rfl⟩ : ∃ (r : Fin 256) (j : Fin 128), x = ix2 r j := ⟨x 0, x 1, eq_ix2 x⟩
  rw [show r0_22.emb (ix2 r j) = ix2 r (⟨1408 + j.val, by omega⟩ : Fin 2048) from by blk_ext]
  unfold augBlk
  rw [dif_neg (by show ¬ (1408 + j.val) % 256 < 128; omega)]
  pointwise [k0_pay19]
  have e1 : (1408 + j.val) / 256 = 5 := by omega
  have e2 : (1408 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece6 (k : FVec Ideal S256x1024 .f32) (tl : FVec Ideal S256x128 .f32) (kr : Vec Ideal S8x128 .f32) (x : S256x128.Idx) :
    k0_pay20 k x = augBlk k tl kr (r0_23.emb x) := by
  obtain ⟨r, j, rfl⟩ : ∃ (r : Fin 256) (j : Fin 128), x = ix2 r j := ⟨x 0, x 1, eq_ix2 x⟩
  rw [show r0_23.emb (ix2 r j) = ix2 r (⟨1536 + j.val, by omega⟩ : Fin 2048) from by blk_ext]
  unfold augBlk
  rw [dif_pos (by show (1536 + j.val) % 256 < 128; omega)]
  pointwise [k0_pay20]
  refine congrArg k (congrArg (ix2 r) (Fin.ext ?_))
  simp only
  omega

theorem tail_piece6 (k : FVec Ideal S256x1024 .f32) (tl : FVec Ideal S256x128 .f32) (kr : Vec Ideal S8x128 .f32) (x : S256x128.Idx) :
    k0_pay21 tl (View.ld kr r0_24) x = augBlk k tl kr (r0_25.emb x) := by
  obtain ⟨r, j, rfl⟩ : ∃ (r : Fin 256) (j : Fin 128), x = ix2 r j := ⟨x 0, x 1, eq_ix2 x⟩
  rw [show r0_25.emb (ix2 r j) = ix2 r (⟨1664 + j.val, by omega⟩ : Fin 2048) from by blk_ext]
  unfold augBlk
  rw [dif_neg (by show ¬ (1664 + j.val) % 256 < 128; omega)]
  pointwise [k0_pay21]
  have e1 : (1664 + j.val) / 256 = 6 := by omega
  have e2 : (1664 + j.val) % 256 - 128 = j.val := by omega
  refine congrArg₂ (· + ·) (congrArg tl (congrArg (ix2 r) (Fin.ext e2.symm))) (congrArg kr (congrArg₂ ix2 (Fin.ext e1.symm) (Fin.ext e2.symm)))

theorem key_piece7 (k : FVec Ideal S256x1024 .f32) (tl : FVec Ideal S256x128 .f32) (kr : Vec Ideal S8x128 .f32) (x : S256x128.Idx) :
    k0_pay22 k x = augBlk k tl kr (r0_26.emb x) := by
  obtain ⟨r, j, rfl⟩ : ∃ (r : Fin 256) (j : Fin 128), x = ix2 r j := ⟨x 0, x 1, eq_ix2 x⟩
  rw [show r0_26.emb (ix2 r j) = ix2 r (⟨1792 + j.val, by omega⟩ : Fin 2048) from by blk_ext]
  unfold augBlk
  rw [dif_pos (by show (1792 + j.val) % 256 < 128; omega)]
  pointwise [k0_pay22]
  refine congrArg k (congrArg (ix2 r) (Fin.ext ?_))
  simp only
  omega

theorem tail_piece7 (k : FVec Ideal S256x1024 .f32) (tl : FVec Ideal S256x128 .f32) (kr : Vec Ideal S8x128 .f32) (x : S256x128.Idx) :
    k0_pay23 tl (View.ld kr r0_27) x = augBlk k tl kr (r0_28.emb x) := by
  obtain ⟨r, j, rfl⟩ : ∃ (r : Fin 256) (j : Fin 128), x = ix2 r j := ⟨x 0, x 1, eq_ix2 x⟩
  rw [show r0_28.emb (ix2 r j) = ix2 r (⟨1920 + j.val, by omega⟩ : Fin 2048) from by blk_ext]
  unfold augBlk
  rw [dif_neg (by show ¬ (1920 + j.val) % 256 < 128; omega)]
  pointwise [k0_pay23]
  have e1 : (1920 + j.val) / 256 = 7 := by omega
  have e2 : (1920 + j.val) % 256 - 128 = j.val := by omega
  refine congrArg₂ (· + ·) (congrArg tl (congrArg (ix2 r) (Fin.ext e2.symm))) (congrArg kr (congrArg₂ ix2 (Fin.ext e1.symm) (Fin.ext e2.symm)))

/-- The augmented keys' block is that function. -/
theorem aug_eq (i : grid0.Coords) (x : Vec Ideal S256x1024 .f32) (g : Vec Ideal S1x1024 .f32) (w : Vec Ideal S1024x2048 .bf16) (kr : Vec Ideal S8x128 .f32) (y : S256x2048.Idx) :
    out0_6 i x g w kr y = augBlk (k0_pay2 (View.ld x r0_0) (View.ld g r0_1) (View.ld w r0_2)) (k0_pay7 (F := Ideal) (BitVec.ofNat 32 (i 0).val)) kr y := by
  unfold out0_6 k0_pay24 k0_pay25
  generalize k0_pay2 (View.ld x r0_0) (View.ld g r0_1) (View.ld w r0_2) = k
  generalize k0_pay7 (F := Ideal) (BitVec.ofNat 32 (i 0).val) = tl
  refine View.canon_apply_of_pieces (augBlk k tl kr) _ ?_ y (cover0_6 _ _ _ _ _ _ _ _ _ _ _ _ _ _ _ _ y)
  intro pc hpc
  rcases List.mem_cons.mp hpc with rfl | hpc
  · exact fun x => tail_piece7 k tl kr x
  rcases List.mem_cons.mp hpc with rfl | hpc
  · exact fun x => key_piece7 k tl kr x
  rcases List.mem_cons.mp hpc with rfl | hpc
  · exact fun x => tail_piece6 k tl kr x
  rcases List.mem_cons.mp hpc with rfl | hpc
  · exact fun x => key_piece6 k tl kr x
  rcases List.mem_cons.mp hpc with rfl | hpc
  · exact fun x => tail_piece5 k tl kr x
  rcases List.mem_cons.mp hpc with rfl | hpc
  · exact fun x => key_piece5 k tl kr x
  rcases List.mem_cons.mp hpc with rfl | hpc
  · exact fun x => tail_piece4 k tl kr x
  rcases List.mem_cons.mp hpc with rfl | hpc
  · exact fun x => key_piece4 k tl kr x
  rcases List.mem_cons.mp hpc with rfl | hpc
  · exact fun x => tail_piece3 k tl kr x
  rcases List.mem_cons.mp hpc with rfl | hpc
  · exact fun x => key_piece3 k tl kr x
  rcases List.mem_cons.mp hpc with rfl | hpc
  · exact fun x => tail_piece2 k tl kr x
  rcases List.mem_cons.mp hpc with rfl | hpc
  · exact fun x => key_piece2 k tl kr x
  rcases List.mem_cons.mp hpc with rfl | hpc
  · exact fun x => tail_piece1 k tl kr x
  rcases List.mem_cons.mp hpc with rfl | hpc
  · exact fun x => key_piece1 k tl kr x
  rcases List.mem_cons.mp hpc with rfl | hpc
  · exact fun x => tail_piece0 k tl kr x
  rcases List.mem_cons.mp hpc with rfl | hpc
  · exact fun x => key_piece0 k tl kr x
  nomatch hpc

end Cert.KvIdeal.BlockValue
-- ==== Proof.KvArray.lean ====
module

public import proofs.«01_k».proof.Proof.KvBlock

/-! The prompt group's shared keys and values: the arrays after the run. -/

@[expose] public section

set_option maxRecDepth 16384

noncomputable section

namespace Cert.KvIdeal.BlockValue

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ)

/-- The index maps. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0, 0]
    ∧ win0_8.index t = ![t.val, 0, 0] :=
  (by decide +kernel : ∀ t : Fin grid0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0, 0]
    ∧ win0_8.index t = ![t.val, 0, 0])

theorem lt64 (t : Fin cfg0.N) : t.val < 64 := t.isLt

theorem coord : ∀ t : Fin cfg0.N, (grid0.coords t 0).val = t.val :=
  (by decide +kernel : ∀ t : Fin grid0.N, (grid0.coords t 0).val = t.val)

/-- The row of the arrays that a row of a block is. -/
abbrev rowOf (t : Fin cfg0.N) (r : Fin 256) : Fin 16384 := ⟨256 * t.val + r.val, by have := lt64 t; omega⟩

/-- The projection from the blocks is the projection from the arguments. -/
theorem proj_blk (c : Dev nD) (t : Fin cfg0.N) (r : Fin 256) (j : Fin 2048) :
    k0_pay1 (iblk m c 0 t) (iblk m c 1 t) (iblk m c 2 t) (ix2 r j) = Layer.kvP (m ((c : Thread nD τ).loc main_arg0)) (m ((c : Thread nD τ).loc main_arg1)) (m ((c : Thread nD τ).loc main_arg2)) (rowOf t r) j := by
  refine (proj_apply _ _ _ r j).trans ?_
  unfold Layer.kvP
  congr 1
  · funext k; blk_ext [iblk, V, idx t]
  · funext k; blk_ext! [iblk, V, idx t]
  · funext k j; blk_ext [iblk, V, idx t]

theorem key_blk (c : Dev nD) (t : Fin cfg0.N) (r : Fin 256) (j : Fin 1024) :
    k0_pay2 (iblk m c 0 t) (iblk m c 1 t) (iblk m c 2 t) (ix2 r j) = Layer.kvP (m ((c : Thread nD τ).loc main_arg0)) (m ((c : Thread nD τ).loc main_arg1)) (m ((c : Thread nD τ).loc main_arg2)) (rowOf t r) ⟨j.val, by omega⟩ := by
  have h := proj_blk m c t r ⟨j.val, by omega⟩
  unfold k0_pay2
  generalize k0_pay1 (iblk m c 0 t) (iblk m c 1 t) (iblk m c 2 t) = p at h ⊢
  refine Eq.trans ?_ h
  pointwise

theorem val_blk (c : Dev nD) (t : Fin cfg0.N) (r : Fin 256) (j : Fin 1024) :
    k0_pay3 (iblk m c 0 t) (iblk m c 1 t) (iblk m c 2 t) (ix2 r j) = Layer.kvP (m ((c : Thread nD τ).loc main_arg0)) (m ((c : Thread nD τ).loc main_arg1)) (m ((c : Thread nD τ).loc main_arg2)) (rowOf t r) ⟨1024 + j.val, by omega⟩ := by
  have h := proj_blk m c t r ⟨1024 + j.val, by omega⟩
  unfold k0_pay3
  generalize k0_pay1 (iblk m c 0 t) (iblk m c 1 t) (iblk m c 2 t) = p at h ⊢
  refine Eq.trans ?_ h
  pointwise

/-- The arrays after the run, from the arguments: keys, values, augmented keys, values transposed by block, mean keys. -/
def G4 (c : Dev nD) : S16384x1024.Idx → EReal := fun i =>
  Layer.kvP (m ((c : Thread nD τ).loc main_arg0)) (m ((c : Thread nD τ).loc main_arg1)) (m ((c : Thread nD τ).loc main_arg2)) (i 0) ⟨(i 1).val, by have : (i 1).val < 1024 := (i 1).isLt; omega⟩
def G5 (c : Dev nD) : S16384x1024.Idx → EReal := fun i =>
  Layer.kvP (m ((c : Thread nD τ).loc main_arg0)) (m ((c : Thread nD τ).loc main_arg1)) (m ((c : Thread nD τ).loc main_arg2)) (i 0) ⟨1024 + (i 1).val, by have : (i 1).val < 1024 := (i 1).isLt; omega⟩
def G6 (c : Dev nD) : S16384x2048.Idx → EReal := fun i =>
  Layer.augK (Layer.kvP (m ((c : Thread nD τ).loc main_arg0)) (m ((c : Thread nD τ).loc main_arg1)) (m ((c : Thread nD τ).loc main_arg2)) (i 0)) ((i 0).val % 8192)
    (fun h d => m ((c : Thread nD τ).loc main_arg3) (ix2 h d)) (i 1)
def G7 (c : Dev nD) : S64x1024x256.Idx → EReal := fun i =>
  Layer.kvP (m ((c : Thread nD τ).loc main_arg0)) (m ((c : Thread nD τ).loc main_arg1)) (m ((c : Thread nD τ).loc main_arg2))
    ⟨256 * (i 0).val + (i 2).val, by have : (i 0).val < 64 := (i 0).isLt; have : (i 2).val < 256 := (i 2).isLt; omega⟩
    ⟨1024 + (i 1).val, by have : (i 1).val < 1024 := (i 1).isLt; omega⟩
def G8 (c : Dev nD) : S64x1x1024.Idx → EReal := fun i =>
  Layer.meanOf fun r => Layer.kvP (m ((c : Thread nD τ).loc main_arg0)) (m ((c : Thread nD τ).loc main_arg1)) (m ((c : Thread nD τ).loc main_arg2))
    ⟨256 * (i 0).val + r.val, by have : (i 0).val < 64 := (i 0).isLt; omega⟩
    ⟨(i 2).val, by have : (i 2).val < 1024 := (i 2).isLt; omega⟩

set_option maxHeartbeats 2000000 in
theorem final4 (c : Dev nD) : (dats m 0 c).arrAt 4 cfg0.N = G4 m c := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  have e : (win0_4.blk t).view.emb (ix2 r j) = ix2 (rowOf t r) j := by blk_ext [idx t]
  rw [e]
  unfold out0_4
  rw [View.canon_cons_unit_zero (S := S256x1024) hz2, View.ld_unit_zero (S := S256x1024) hz2, View.ld_unit_zero (S := S1x1024) hz2, View.ld_unit_zero (S := S1024x2048) hz2]
  exact key_blk m c t r j

set_option maxHeartbeats 2000000 in
theorem final5 (c : Dev nD) : (dats m 0 c).arrAt 5 cfg0.N = G5 m c := by
  refine (dats m 0 c).arrAt_eq_of_covers 5 _ (by decide +kernel) fun t hf y => ?_
  blk_simp
  rw [after0_5]
  obtain ⟨r, j, rfl⟩ : ∃ (r : Fin 256) (j : Fin 1024), y = ix2 r j := ⟨y 0, y 1, eq_ix2 y⟩
  have e : (win0_5.blk t).view.emb (ix2 r j) = ix2 (rowOf t r) j := by blk_ext [idx t]
  rw [e]
  unfold out0_5
  rw [View.canon_cons_unit_zero (S := S256x1024) hz2, View.ld_unit_zero (S := S256x1024) hz2, View.ld_unit_zero (S := S1x1024) hz2, View.ld_unit_zero (S := S1024x2048) hz2]
  exact val_blk m c t r j

set_option maxHeartbeats 2000000 in
theorem final6 (c : Dev nD) : (dats m 0 c).arrAt 6 cfg0.N = G6 m c := by
  refine (dats m 0 c).arrAt_eq_of_covers 6 _ (by decide +kernel) fun t hf y => ?_
  blk_simp
  rw [after0_6]
  obtain ⟨r, j, rfl⟩ : ∃ (r : Fin 256) (j : Fin 2048), y = ix2 r j := ⟨y 0, y 1, eq_ix2 y⟩
  have e : (win0_6.blk t).view.emb (ix2 r j) = ix2 (rowOf t r) j := by blk_ext [idx t]
  rw [e, aug_eq, coord t]
  rw [View.ld_unit_zero (S := S256x1024) hz2, View.ld_unit_zero (S := S1x1024) hz2, View.ld_unit_zero (S := S1024x2048) hz2]
  have hk := fun j => key_blk m c t r j
  have ht := fun d => tail_apply ⟨t.val, lt64 t⟩ r d
  have hr : ∀ (h : Fin 8) (d : Fin 128), iblk m c 3 t (ix2 h d) = m ((c : Thread nD τ).loc main_arg3) (ix2 h d) := by
    intro h d; blk_ext [iblk, V, idx t]
  have hs : (256 * t.val + r.val) % 8192 = 256 * (t.val % 32) + r.val := by omega
  show augBlk _ _ _ (ix2 r j) = Layer.augK _ ((256 * t.val + r.val) % 8192) _ j
  unfold augBlk Layer.augK
  rw [hs]
  by_cases hj : j.val % 256 < 128
  · rw [dif_pos (show ((ix2 r j : S256x2048.Idx) 1).val % 256 < 128 from hj), dif_pos hj]
    exact hk _
  · rw [dif_neg (show ¬ ((ix2 r j : S256x2048.Idx) 1).val % 256 < 128 from hj), dif_neg hj]
    exact congrArg₂ (· + ·) (ht _) (hr _ _)

set_option maxHeartbeats 2000000 in
theorem final7 (c : Dev nD) : (dats m 0 c).arrAt 7 cfg0.N = G7 m c := by
  refine (dats m 0 c).arrAt_eq_of_covers 7 _ (by decide +kernel) fun t hf y => ?_
  blk_simp
  rw [after0_7]
  obtain ⟨z, j, r, rfl⟩ : ∃ (z : Fin 1) (j : Fin 1024) (r : Fin 256), y = ix3 z j r := ⟨y 0, y 1, y 2, eq_ix3 y⟩
  obtain rfl : z = 0 := Fin.ext (by omega)
  have e : (win0_7.blk t).view.emb (ix3 0 j r) = ix3 ⟨t.val, lt64 t⟩ j r := by blk_ext [idx t]
  rw [e]
  unfold out0_7
  rw [View.canon_cons_unit_zero (S := S1x1024x256) hz3, View.ld_unit_zero (S := S256x1024) hz2, View.ld_unit_zero (S := S1x1024) hz2, View.ld_unit_zero (S := S1024x2048) hz2]
  have h := val_blk m c t r j
  unfold k0_pay4
  generalize k0_pay3 (iblk m c 0 t) (iblk m c 1 t) (iblk m c 2 t) = p at h ⊢
  refine Eq.trans ?_ h
  pointwise

set_option maxHeartbeats 2000000 in
theorem final8 (c : Dev nD) : (dats m 0 c).arrAt 8 cfg0.N = G8 m c := by
  refine (dats m 0 c).arrAt_eq_of_covers 8 _ (by decide +kernel) fun t hf y => ?_
  blk_simp
  rw [after0_8]
  obtain ⟨z, z', j, rfl⟩ : ∃ (z : Fin 1) (z' : Fin 1) (j : Fin 1024), y = ix3 z z' j := ⟨y 0, y 1, y 2, eq_ix3 y⟩
  obtain rfl : z = 0 := Fin.ext (by omega)
  obtain rfl : z' = 0 := Fin.ext (by omega)
  have e : (win0_8.blk t).view.emb (ix3 0 0 j) = ix3 ⟨t.val, lt64 t⟩ 0 j := by blk_ext [idx t]
  rw [e]
  unfold out0_8
  rw [View.canon_cons_unit_zero (S := S1x1x1024) hz3, View.ld_unit_zero (S := S256x1024) hz2, View.ld_unit_zero (S := S1x1024) hz2, View.ld_unit_zero (S := S1024x2048) hz2]
  have h := fun r => key_blk m c t r j
  unfold k0_pay6 k0_pay5
  generalize k0_pay2 (iblk m c 0 t) (iblk m c 1 t) (iblk m c 2 t) = p at h ⊢
  refine Eq.trans ?_ ((Layer.meanOf_eq fun r => p (ix2 r j)).trans (congrArg Layer.meanOf (funext h)))
  pointwise

end Cert.KvIdeal.BlockValue
-- ==== Proof.KvRefRow.lean ====
module

public import proofs.«01_k».proof.Proof.Gen.KvRefIdeal.Run
public import proofs.«01_k».proof.Proof.Gen.KvRefIdeal.Read
public import proofs.«01_k».proof.Proof.KvMath
public import Idealize.ShloMosaic.Lib.Tactic.CleanTypes

/-! The reference of the prompt group's keys and values, entry by entry. -/

@[expose] public section

set_option maxRecDepth 16384

noncomputable section

namespace Cert.KvRefIdeal.RowValue

open Cert.KvRefIdeal Cert.KvRefIdeal.Gen Idealize.ShloMosaic Idealize.ShloMosaic.TcCoe Idealize.SL.Sem
open Cert.KvRefIdeal.Read

variable (x0 : (⟨2, ![16384, 1024]⟩ : Shape).Idx → EReal) (x1 : (⟨1, ![1024]⟩ : Shape).Idx → EReal) (x2 : (⟨2, ![1024, 2048]⟩ : Shape).Idx → EReal)
  (x3 : (⟨2, ![8, 128]⟩ : Shape).Idx → EReal)

theorem rms_apply (r : Fin 16384) (j : Fin 1024) :
    val_main_v12 (F := Ideal) x0 x1 (ix2 r j) = Layer.rms (fun k => x0 (ix2 r k)) (fun j => x1 (ix1 j)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Layer.rms]

theorem proj_apply (r : Fin 16384) (j : Fin 2048) : val_main_v13 (F := Ideal) x0 x1 x2 (ix2 r j) = Layer.kvP x0 x1 x2 r j := by
  have hn := fun j => rms_apply x0 x1 r j
  unfold val_main_v13
  generalize val_main_v12 (F := Ideal) x0 x1 = n at hn ⊢
  pointwise
  unfold Layer.kvP Layer.proj
  simp only [hn]

theorem k_apply (r : Fin 16384) (j : Fin 1024) : val_main_v14 (F := Ideal) x0 x1 x2 (ix2 r j) = Layer.kvP x0 x1 x2 r ⟨j.val, by omega⟩ := by
  have hp := fun j => proj_apply x0 x1 x2 r j
  unfold val_main_v14
  generalize val_main_v13 (F := Ideal) x0 x1 x2 = p at hp ⊢
  pointwise
  exact hp _

theorem v_apply (r : Fin 16384) (j : Fin 1024) : val_main_v15 (F := Ideal) x0 x1 x2 (ix2 r j) = Layer.kvP x0 x1 x2 r ⟨1024 + j.val, by omega⟩ := by
  have hp := fun j => proj_apply x0 x1 x2 r j
  unfold val_main_v15
  generalize val_main_v13 (F := Ideal) x0 x1 x2 = p at hp ⊢
  pointwise
  exact hp _

/-- The transposed values. -/
theorem vt_apply (b : Fin 64) (j : Fin 1024) (r : Fin 256) :
    val_main_v60 (F := Ideal) x0 x1 x2 (ix3 b j r) = Layer.kvP x0 x1 x2 ⟨256 * b.val + r.val, by omega⟩ ⟨1024 + j.val, by omega⟩ := by
  have hp := v_apply x0 x1 x2 ⟨256 * b.val + r.val, by omega⟩ j
  unfold val_main_v60 val_main_v57 val_main_v56
  generalize val_main_v15 (F := Ideal) x0 x1 x2 = p at hp ⊢
  refine Eq.trans ?_ hp
  pointwise
  simp only [Nat.mul_comm]

/-- The mean keys. -/
theorem mean_apply (b : Fin 64) (z : Fin 1) (j : Fin 1024) :
    val_main_v20 (F := Ideal) x0 x1 x2 (ix3 b z j) = Layer.meanOf fun r => Layer.kvP x0 x1 x2 ⟨256 * b.val + r.val, by omega⟩ ⟨j.val, by omega⟩ := by
  have hp := fun r : Fin 256 => k_apply x0 x1 x2 ⟨256 * b.val + r.val, by omega⟩ j
  unfold val_main_v20 val_main_v18 val_main_v17 val_main_v16
  generalize val_main_v14 (F := Ideal) x0 x1 x2 = p at hp ⊢
  refine Eq.trans ?_ (congrArg Layer.meanOf (funext hp))
  unfold Layer.meanOf
  pointwise [val_main_v19, val_main_cst_3, val_main_cst_2]
  simp only [Nat.mul_comm]

/-- A position's low digit. -/
theorem low_apply (r : Fin 8192) : val_main_v22 (F := Ideal) (ix1 r) = BitVec.ofNat 32 (r.val % 128) := by
  have e : val_main_call0_v0 (F := Ideal) = fun _ => 128#32 := rfl
  pointwise [val_main_v22, val_main_v21, val_main_call0_c, val_main_call0_v1, val_main_call0_c_0, val_main_call0_v2, val_main_call0_v3, val_main_call0_v4, val_main_call0_c_1, val_main_call0_v5, val_main_call0_v6, val_main_call0_c_2, val_main_call0_v7, val_main_call0_v8, val_main_call0_c_3, val_main_call0_v9, val_main_call0_v10, val_main_call0_v11, val_main_call0_v12, val_main_call0_v13, val_main_call0_v14, e]
  revert r
  decide +kernel

/-- A position's block. -/
theorem blk_apply (r : Fin 8192) : val_main_v25 (F := Ideal) (ix1 r) = BitVec.ofNat 32 (r.val / 256) := by
  have e : val_main_call1_v0 (F := Ideal) = fun _ => 256#32 := rfl
  pointwise [val_main_v25, val_main_v21, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13, e]
  revert r
  decide +kernel

theorem one_apply (r : Fin 8192) (d : Fin 128) :
    val_main_v30 (F := Ideal) (ix2 r d) = Scalar.select (IntOp.cmpi .eq (BitVec.ofNat 32 d) (BitVec.ofNat 32 (r.val / 256))) (1 : EReal) 0 := by
  have hb := blk_apply r
  unfold val_main_v30 val_main_v29 val_main_v28 val_main_v26
  generalize val_main_v25 (F := Ideal) = b at hb ⊢
  rw [← hb]
  pointwise [val_main_call2_v0, val_main_call2_v1, val_main_cst_5, val_main_cst_6, val_main_v27, val_main_v24, val_main_v23]

/-- The augmented keys' tail. -/
theorem tail_apply (r : Fin 8192) (d : Fin 128) : val_main_v47 (F := Ideal) (ix2 r d) = Layer.tail r.val d := by
  have h1 := one_apply r d
  have hl := low_apply r
  have e : val_main_call3_v0 (F := Ideal) = val_main_v30 (F := Ideal) := rfl
  unfold Layer.tail Layer.tailW
  rw [← h1, ← hl]
  unfold val_main_v47 val_main_v39 val_main_call3_v2 val_main_call4_v1 val_main_v46 val_main_v45 val_main_v38 val_main_v37 val_main_v36
  rw [e]
  generalize val_main_v22 (F := Ideal) = l
  generalize val_main_v30 (F := Ideal) = o
  pointwise [val_main_call4_v0, val_main_v44, val_main_v43, val_main_v42, val_main_v41, val_main_v40, val_main_c_10, val_main_c_9, val_main_call3_v1, val_main_v35, val_main_v34, val_main_v33, val_main_c_8, val_main_v32, val_main_v31, val_main_c_7, val_main_v24, val_main_v23, val_main_v21]

/-- The augmented keys. -/
theorem aug_apply (r : Fin 16384) (j : Fin 2048) :
    val_main_v59 (F := Ideal) x0 x1 x2 x3 (ix2 r j) = Layer.augK (Layer.kvP x0 x1 x2 r) (r.val % 8192) (fun h d => x3 (ix2 h d)) j := by
  have hk := fun d => k_apply x0 x1 x2 r d
  have ht := fun d => tail_apply ⟨r.val % 8192, by omega⟩ d
  unfold val_main_v59 val_main_v58 val_main_v55 val_main_v54 val_main_v53 val_main_v52 val_main_v51 val_main_v50 val_main_v49 val_main_v48 Layer.augK
  generalize val_main_v14 (F := Ideal) x0 x1 x2 = k at hk ⊢
  generalize val_main_v47 (F := Ideal) = tl at ht ⊢
  split
  · rename_i h
    refine Eq.trans ?_ (hk ⟨128 * (j.val / 256) + j.val % 256, by omega⟩)
    pointwise
    rw [dif_pos h]
    simp only [Nat.mul_comm]
  · rename_i h
    refine Eq.trans ?_ (congrArg (· + _) (ht _))
    pointwise
    rw [dif_neg h]

end Cert.KvRefIdeal.RowValue
-- ==== Proof.KvClaim.lean ====
module

public import proofs.«01_k».proof.Defs
public import proofs.«01_k».proof.Proof.KvArray
public import proofs.«01_k».proof.Proof.KvRefRow
public import proofs.«01_k».proof.Proof.Gen.KvIdeal
public import proofs.«01_k».proof.Proof.Gen.KvRefIdeal
public import proofs.«01_k».proof.Proof.Gen.KvRefIdeal.Run

@[expose] public section

set_option maxRecDepth 16384

noncomputable section

namespace Cert.KvValue

open Idealize.ShloMosaic Idealize.ShloMosaic.TcCoe Idealize.SL.Sem

variable (m : (ℓ : Loc KvIdeal.nD KvIdeal.τ KvIdeal.sig) → Buf (Elt Ideal) ℓ)
    (m' : (ℓ : Loc KvRefIdeal.nD KvRefIdeal.τ KvRefIdeal.sig) → Buf (Elt Ideal) ℓ) (c : Dev KvIdeal.nD)

/-- The two programs' arguments are the same. -/
abbrev same : Prop :=
    m' ((c.tc : Thread KvRefIdeal.nD KvRefIdeal.τ).loc KvRefIdeal.main_arg0) = m ((c.tc : Thread KvIdeal.nD KvIdeal.τ).loc KvIdeal.main_arg0)
    ∧ m' ((c.tc : Thread KvRefIdeal.nD KvRefIdeal.τ).loc KvRefIdeal.main_arg1) = m ((c.tc : Thread KvIdeal.nD KvIdeal.τ).loc KvIdeal.main_arg1)
    ∧ m' ((c.tc : Thread KvRefIdeal.nD KvRefIdeal.τ).loc KvRefIdeal.main_arg2) = m ((c.tc : Thread KvIdeal.nD KvIdeal.τ).loc KvIdeal.main_arg2)
    ∧ m' ((c.tc : Thread KvRefIdeal.nD KvRefIdeal.τ).loc KvRefIdeal.main_arg3) = m ((c.tc : Thread KvIdeal.nD KvIdeal.τ).loc KvIdeal.main_arg3)

set_option maxHeartbeats 2000000 in
/-- The reference's result 0 is the same function of the arguments. -/
theorem ref_eq0 (h : same m m' c) : KvRefIdeal.Read.val_main_v14 (F := Ideal) (m' ((c.tc : Thread KvRefIdeal.nD KvRefIdeal.τ).loc KvRefIdeal.main_arg0)) (m' ((c.tc : Thread KvRefIdeal.nD KvRefIdeal.τ).loc KvRefIdeal.main_arg1)) (m' ((c.tc : Thread KvRefIdeal.nD KvRefIdeal.τ).loc KvRefIdeal.main_arg2)) = KvIdeal.BlockValue.G4 m c := by
  rw [h.1, h.2.1, h.2.2.1]
  funext i
  obtain ⟨r, j, rfl⟩ : ∃ (r : Fin 16384) (j : Fin 1024), i = ix2 r j := ⟨i 0, i 1, eq_ix2 i⟩
  exact KvRefIdeal.RowValue.k_apply _ _ _ r j

set_option maxHeartbeats 2000000 in
/-- The reference's result 1 is the same function of the arguments. -/
theorem ref_eq1 (h : same m m' c) : KvRefIdeal.Read.val_main_v15 (F := Ideal) (m' ((c.tc : Thread KvRefIdeal.nD KvRefIdeal.τ).loc KvRefIdeal.main_arg0)) (m' ((c.tc : Thread KvRefIdeal.nD KvRefIdeal.τ).loc KvRefIdeal.main_arg1)) (m' ((c.tc : Thread KvRefIdeal.nD KvRefIdeal.τ).loc KvRefIdeal.main_arg2)) = KvIdeal.BlockValue.G5 m c := by
  rw [h.1, h.2.1, h.2.2.1]
  funext i
  obtain ⟨r, j, rfl⟩ : ∃ (r : Fin 16384) (j : Fin 1024), i = ix2 r j := ⟨i 0, i 1, eq_ix2 i⟩
  exact KvRefIdeal.RowValue.v_apply _ _ _ r j

set_option maxHeartbeats 2000000 in
/-- The reference's result 2 is the same function of the arguments. -/
theorem ref_eq2 (h : same m m' c) : KvRefIdeal.Value.res_main_v59 m' c = KvIdeal.BlockValue.G6 m c := by
  rw [KvRefIdeal.Read.val_main_v59_eq, h.1, h.2.1, h.2.2.1, h.2.2.2]
  funext i
  obtain ⟨r, j, rfl⟩ : ∃ (r : Fin 16384) (j : Fin 2048), i = ix2 r j := ⟨i 0, i 1, eq_ix2 i⟩
  exact KvRefIdeal.RowValue.aug_apply _ _ _ _ r j

set_option maxHeartbeats 2000000 in
/-- The reference's result 3 is the same function of the arguments. -/
theorem ref_eq3 (h : same m m' c) : KvRefIdeal.Read.val_main_v60 (F := Ideal) (m' ((c.tc : Thread KvRefIdeal.nD KvRefIdeal.τ).loc KvRefIdeal.main_arg0)) (m' ((c.tc : Thread KvRefIdeal.nD KvRefIdeal.τ).loc KvRefIdeal.main_arg1)) (m' ((c.tc : Thread KvRefIdeal.nD KvRefIdeal.τ).loc KvRefIdeal.main_arg2)) = KvIdeal.BlockValue.G7 m c := by
  rw [h.1, h.2.1, h.2.2.1]
  funext i
  obtain ⟨r, j, k, rfl⟩ : ∃ (r : Fin 64) (j : Fin 1024) (k : Fin 256), i = ix3 r j k := ⟨i 0, i 1, i 2, eq_ix3 i⟩
  exact KvRefIdeal.RowValue.vt_apply _ _ _ r j k

set_option maxHeartbeats 2000000 in
/-- The reference's result 4 is the same function of the arguments. -/
theorem ref_eq4 (h : same m m' c) : KvRefIdeal.Read.val_main_v20 (F := Ideal) (m' ((c.tc : Thread KvRefIdeal.nD KvRefIdeal.τ).loc KvRefIdeal.main_arg0)) (m' ((c.tc : Thread KvRefIdeal.nD KvRefIdeal.τ).loc KvRefIdeal.main_arg1)) (m' ((c.tc : Thread KvRefIdeal.nD KvRefIdeal.τ).loc KvRefIdeal.main_arg2)) = KvIdeal.BlockValue.G8 m c := by
  rw [h.1, h.2.1, h.2.2.1]
  funext i
  obtain ⟨r, j, k, rfl⟩ : ∃ (r : Fin 64) (j : Fin 1) (k : Fin 1024), i = ix3 r j k := ⟨i 0, i 1, i 2, eq_ix3 i⟩
  exact KvRefIdeal.RowValue.mean_apply _ _ _ r j k

/-- The prompt group's shared keys and values: the kernel and the reference end with equal results. -/
theorem algebraic : Cert.algebraic_KvIdeal_KvRefIdeal := fun m g m' g' _  hag =>
  ⟨fun c => KvIdeal.BlockValue.G4 m c, fun c => KvIdeal.BlockValue.G5 m c, fun c => KvIdeal.BlockValue.G6 m c, fun c => KvIdeal.BlockValue.G7 m c, fun c => KvIdeal.BlockValue.G8 m c,
    (θ_run _ _ _).mono (fun _ h c => ⟨(h c).1.trans (KvIdeal.BlockValue.final4 m c), (h c).2.1.trans (KvIdeal.BlockValue.final5 m c), (h c).2.2.1.trans (KvIdeal.BlockValue.final6 m c), (h c).2.2.2.1.trans (KvIdeal.BlockValue.final7 m c), (h c).2.2.2.2.1.trans (KvIdeal.BlockValue.final8 m c), (h c).2.2.2.2.2⟩) (KvIdeal.Value.run_blocks m g),
    (θ_run _ _ _).mono (fun _ h c => ⟨(h c).1.trans ((KvRefIdeal.Read.val_main_v14_eq _ _ _).trans (ref_eq0 m m' c (hag c))), (h c).2.1.trans ((KvRefIdeal.Read.val_main_v15_eq _ _ _).trans (ref_eq1 m m' c (hag c))), (h c).2.2.1.trans (ref_eq2 m m' c (hag c)), (h c).2.2.2.1.trans ((KvRefIdeal.Read.val_main_v60_eq _ _ _).trans (ref_eq3 m m' c (hag c))), (h c).2.2.2.2.1.trans ((KvRefIdeal.Read.val_main_v20_eq _ _ _).trans (ref_eq4 m m' c (hag c))), (h c).2.2.2.2.2⟩) (KvRefIdeal.Value.run m' g')⟩

end Cert.KvValue

end
-- ==== Proof.KvSArray.lean ====
module

public import proofs.«01_k».proof.Proof.SampleMath
public import proofs.«01_k».proof.Proof.Gen.KvSIdeal.Value
public import Idealize.ShloMosaic.Lib.Pointwise
public import Idealize.ShloMosaic.Lib.Pipeline.ReadBack
public import Idealize.ShloMosaic.Lib.Pipeline.ValueKit

/-! The sample group's shared keys and values: the arrays after the run. -/

@[expose] public section

set_option maxRecDepth 16384

noncomputable section

namespace Cert.KvSIdeal.BlockValue

open Cert.KvSIdeal Cert.KvSIdeal.Gen Idealize.ShloMosaic Idealize.ShloMosaic.TcCoe Idealize.SL.Sem
open Idealize.ShloMosaic.Pipeline (Dat)

variable (m : (ℓ : Loc nD τ sig) → Buf (Elt Ideal) ℓ)

theorem hz2 : (![0, 0] : Fin 2 → ℕ) = fun _ => 0 := by decide +kernel

/-- The projection of a normed row, before it is split. -/
theorem proj_apply (x : Vec Ideal S512x1024 .f32) (g : Vec Ideal S1x1024 .f32) (w : Vec Ideal S1024x2048 .bf16) (r : Fin 512) (j : Fin 2048) :
    k0_pay1 x g w (ix2 r j) = Layer.proj (fun k => x (ix2 r k)) (fun k => g (ix2 0 k)) (fun k j => w (ix2 k j)) j := by
  pointwise [k0_pay1, Layer.proj, Layer.rms]

/-- The index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0])

theorem lt1 (t : Fin cfg0.N) : t.val < 1 := t.isLt

/-- The row of the arrays that a row of a block is. -/
abbrev rowOf (t : Fin cfg0.N) (r : Fin 512) : Fin 512 := ⟨512 * t.val + r.val, by have := lt1 t; omega⟩

/-- The projection from the blocks is the projection from the arguments. -/
theorem proj_blk (c : Dev nD) (t : Fin cfg0.N) (r : Fin 512) (j : Fin 2048) :
    k0_pay1 (iblk m c 0 t) (iblk m c 1 t) (iblk m c 2 t) (ix2 r j)
    = Layer.kvS (m ((c : Thread nD τ).loc main_arg0)) (m ((c : Thread nD τ).loc main_arg1)) (m ((c : Thread nD τ).loc main_arg2)) (rowOf t r) j := by
  refine (proj_apply _ _ _ r j).trans ?_
  unfold Layer.kvS
  congr 1
  · funext k; unfold Layer.sRow; blk_ext! [iblk, V, idx t]
  · funext k; blk_ext! [iblk, V, idx t]
  · funext k j; blk_ext [iblk, V, idx t]

/-- The keys and the values after the run, from the arguments. -/
def G3 (c : Dev nD) : S512x1024.Idx → EReal := fun i =>
  Layer.kvS (m ((c : Thread nD τ).loc main_arg0)) (m ((c : Thread nD τ).loc main_arg1)) (m ((c : Thread nD τ).loc main_arg2)) (i 0)
    ⟨(i 1).val, by have : (i 1).val < 1024 := (i 1).isLt; omega⟩
def G4 (c : Dev nD) : S512x1024.Idx → EReal := fun i =>
  Layer.kvS (m ((c : Thread nD τ).loc main_arg0)) (m ((c : Thread nD τ).loc main_arg1)) (m ((c : Thread nD τ).loc main_arg2)) (i 0)
    ⟨1024 + (i 1).val, by have : (i 1).val < 1024 := (i 1).isLt; omega⟩

set_option maxHeartbeats 2000000 in
theorem final3 (c : Dev nD) : (dats m 0 c).arrAt 3 cfg0.N = G3 m c := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, eq_ix2 y⟩
  have e : (win0_3.blk t).view.emb (ix2 r j) = ix2 (rowOf t r) j := by blk_ext [idx t]
  rw [e]
  unfold out0_3
  rw [View.canon_cons_unit_zero (S := S512x1024) hz2, View.ld_unit_zero (S := S512x1024) hz2, View.ld_unit_zero (S := S1x1024) hz2, View.ld_unit_zero (S := S1024x2048) hz2]
  have h := proj_blk m c t r ⟨j.val, by omega⟩
  unfold k0_pay2
  generalize k0_pay1 (iblk m c 0 t) (iblk m c 1 t) (iblk m c 2 t) = p at h ⊢
  refine Eq.trans ?_ h
  pointwise

set_option maxHeartbeats 2000000 in
theorem final4 (c : Dev nD) : (dats m 0 c).arrAt 4 cfg0.N = G4 m c := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  have e : (win0_4.blk t).view.emb (ix2 r j) = ix2 (rowOf t r) j := by blk_ext [idx t]
  rw [e]
  unfold out0_4
  rw [View.canon_cons_unit_zero (S := S512x1024) hz2, View.ld_unit_zero (S := S512x1024) hz2, View.ld_unit_zero (S := S1x1024) hz2, View.ld_unit_zero (S := S1024x2048) hz2]
  have h := proj_blk m c t r ⟨1024 + j.val, by omega⟩
  unfold k0_pay3
  generalize k0_pay1 (iblk m c 0 t) (iblk m c 1 t) (iblk m c 2 t) = p at h ⊢
  refine Eq.trans ?_ h
  pointwise

end Cert.KvSIdeal.BlockValue
-- ==== Proof.KvSRefRow.lean ====
module

public import proofs.«01_k».proof.Proof.Gen.KvSRefIdeal.Run
public import proofs.«01_k».proof.Proof.Gen.KvSRefIdeal.Read
public import proofs.«01_k».proof.Proof.SampleMath
public import Idealize.ShloMosaic.Lib.Tactic.CleanTypes

/-! The reference of the sample group's keys and values, entry by entry. -/

@[expose] public section

set_option maxRecDepth 16384

noncomputable section

namespace Cert.KvSRefIdeal.RowValue

open Cert.KvSRefIdeal Cert.KvSRefIdeal.Gen Idealize.ShloMosaic Idealize.ShloMosaic.TcCoe Idealize.SL.Sem
open Cert.KvSRefIdeal.Read

variable (x0 : (⟨3, ![128, 4, 1024]⟩ : Shape).Idx → EReal) (x1 : (⟨1, ![1024]⟩ : Shape).Idx → EReal) (x2 : (⟨2, ![1024, 2048]⟩ : Shape).Idx → EReal)

theorem rms_apply (r : Fin 512) (j : Fin 1024) :
    val_main_v13 (F := Ideal) x0 x1 (ix2 r j) = Layer.rms (Layer.sRow x0 r) (fun j => x1 (ix1 j)) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.rms, Layer.sRow]

theorem proj_apply (r : Fin 512) (j : Fin 2048) : val_main_v14 (F := Ideal) x0 x1 x2 (ix2 r j) = Layer.kvS x0 x1 x2 r j := by
  have hn := fun j => rms_apply x0 x1 r j
  unfold val_main_v14
  generalize val_main_v13 (F := Ideal) x0 x1 = n at hn ⊢
  pointwise
  unfold Layer.kvS Layer.proj
  simp only [hn]

theorem k_apply (r : Fin 512) (j : Fin 1024) : val_main_v15 (F := Ideal) x0 x1 x2 (ix2 r j) = Layer.kvS x0 x1 x2 r ⟨j.val, by omega⟩ := by
  have hp := fun j => proj_apply x0 x1 x2 r j
  unfold val_main_v15
  generalize val_main_v14 (F := Ideal) x0 x1 x2 = p at hp ⊢
  pointwise
  exact hp _

theorem v_apply (r : Fin 512) (j : Fin 1024) : val_main_v16 (F := Ideal) x0 x1 x2 (ix2 r j) = Layer.kvS x0 x1 x2 r ⟨1024 + j.val, by omega⟩ := by
  have hp := fun j => proj_apply x0 x1 x2 r j
  unfold val_main_v16
  generalize val_main_v14 (F := Ideal) x0 x1 x2 = p at hp ⊢
  pointwise
  exact hp _

end Cert.KvSRefIdeal.RowValue
-- ==== Proof.KvSClaim.lean ====
module

public import proofs.«01_k».proof.Defs
public import proofs.«01_k».proof.Proof.KvSArray
public import proofs.«01_k».proof.Proof.KvSRefRow
public import proofs.«01_k».proof.Proof.Gen.KvSIdeal
public import proofs.«01_k».proof.Proof.Gen.KvSRefIdeal
public import proofs.«01_k».proof.Proof.Gen.KvSRefIdeal.Run

@[expose] public section

set_option maxRecDepth 16384

noncomputable section

namespace Cert.KvSValue

open Idealize.ShloMosaic Idealize.ShloMosaic.TcCoe Idealize.SL.Sem

variable (m : (ℓ : Loc KvSIdeal.nD KvSIdeal.τ KvSIdeal.sig) → Buf (Elt Ideal) ℓ)
    (m' : (ℓ : Loc KvSRefIdeal.nD KvSRefIdeal.τ KvSRefIdeal.sig) → Buf (Elt Ideal) ℓ) (c : Dev KvSIdeal.nD)

/-- The two programs' arguments are the same. -/
abbrev same : Prop :=
    m' ((c.tc : Thread KvSRefIdeal.nD KvSRefIdeal.τ).loc KvSRefIdeal.main_arg0) = m ((c.tc : Thread KvSIdeal.nD KvSIdeal.τ).loc KvSIdeal.main_arg0)
    ∧ m' ((c.tc : Thread KvSRefIdeal.nD KvSRefIdeal.τ).loc KvSRefIdeal.main_arg1) = m ((c.tc : Thread KvSIdeal.nD KvSIdeal.τ).loc KvSIdeal.main_arg1)
    ∧ m' ((c.tc : Thread KvSRefIdeal.nD KvSRefIdeal.τ).loc KvSRefIdeal.main_arg2) = m ((c.tc : Thread KvSIdeal.nD KvSIdeal.τ).loc KvSIdeal.main_arg2)

set_option maxHeartbeats 2000000 in
/-- The reference's result 0 is the same function of the arguments. -/
theorem ref_eq0 (h : same m m' c) : KvSRefIdeal.Read.val_main_v15 (F := Ideal) (m' ((c.tc : Thread KvSRefIdeal.nD KvSRefIdeal.τ).loc KvSRefIdeal.main_arg0)) (m' ((c.tc : Thread KvSRefIdeal.nD KvSRefIdeal.τ).loc KvSRefIdeal.main_arg1)) (m' ((c.tc : Thread KvSRefIdeal.nD KvSRefIdeal.τ).loc KvSRefIdeal.main_arg2)) = KvSIdeal.BlockValue.G3 m c := by
  rw [h.1, h.2.1, h.2.2]
  funext i
  obtain ⟨r, j, rfl⟩ : ∃ (r : Fin 512) (j : Fin 1024), i = ix2 r j := ⟨i 0, i 1, eq_ix2 i⟩
  exact KvSRefIdeal.RowValue.k_apply _ _ _ r j

set_option maxHeartbeats 2000000 in
/-- The reference's result 1 is the same function of the arguments. -/
theorem ref_eq1 (h : same m m' c) : KvSRefIdeal.Read.val_main_v16 (F := Ideal) (m' ((c.tc : Thread KvSRefIdeal.nD KvSRefIdeal.τ).loc KvSRefIdeal.main_arg0)) (m' ((c.tc : Thread KvSRefIdeal.nD KvSRefIdeal.τ).loc KvSRefIdeal.main_arg1)) (m' ((c.tc : Thread KvSRefIdeal.nD KvSRefIdeal.τ).loc KvSRefIdeal.main_arg2)) = KvSIdeal.BlockValue.G4 m c := by
  rw [h.1, h.2.1, h.2.2]
  funext i
  obtain ⟨r, j, rfl⟩ : ∃ (r : Fin 512) (j : Fin 1024), i = ix2 r j := ⟨i 0, i 1, eq_ix2 i⟩
  exact KvSRefIdeal.RowValue.v_apply _ _ _ r j

/-- The sample group's shared keys and values: the kernel and the reference end with equal results. -/
theorem algebraic : Cert.algebraic_KvSIdeal_KvSRefIdeal := fun m g m' g' _  hag =>
  ⟨fun c => KvSIdeal.BlockValue.G3 m c, fun c => KvSIdeal.BlockValue.G4 m c,
    (θ_run _ _ _).mono (fun _ h c => ⟨(h c).1.trans (KvSIdeal.BlockValue.final3 m c), (h c).2.1.trans (KvSIdeal.BlockValue.final4 m c), (h c).2.2⟩) (KvSIdeal.Value.run_blocks m g),
    (θ_run _ _ _).mono (fun _ h c => ⟨(h c).1.trans ((KvSRefIdeal.Read.val_main_v15_eq _ _ _).trans (ref_eq0 m m' c (hag c))), (h c).2.1.trans ((KvSRefIdeal.Read.val_main_v16_eq _ _ _).trans (ref_eq1 m m' c (hag c))), (h c).2.2⟩) (KvSRefIdeal.Value.run m' g')⟩

end Cert.KvSValue

end
-- ==== Proof.Finite.lean ====
module

public import Idealize.ShloMosaic.Lib.Pointwise

/-! Entries that are real numbers, as a comparison of absolute values with infinity states it. -/

@[expose] public section

noncomputable section

namespace Softmax

open Idealize.ShloMosaic

/-- The word of plus infinity in sixteen bits. -/
theorem posInf : Ideal.ofBits FTy.bf16 32640#16 = (⊤ : EReal) := by
  simp [Ideal.ofBits, Ideal.ieee]

/-- An absolute value below infinity is that of a real number. -/
theorem real_of_lt (x : EReal) (h : Ideal.cmp .olt (max x (-x)) (Ideal.ofBits FTy.bf16 32640#16) = 1#1) : ∃ r : ℝ, x = r := by
  rw [posInf] at h
  have h' : max x (-x) < ⊤ := by
    by_contra hn
    simp [Ideal.cmp, hn] at h
  induction x using EReal.rec with
  | bot => simp at h'
  | top => simp at h'
  | coe r => exact ⟨r, rfl⟩

/-- Sums of products of real numbers are real. -/
theorem real_dot {κ : Type} (S : Finset κ) (f g : κ → EReal) (hf : ∀ k, ∃ r : ℝ, f k = r) (hg : ∀ k, ∃ r : ℝ, g k = r) :
    ∃ r : ℝ, ∑ k ∈ S, f k * g k = r := by
  classical
  choose a ha using hf
  choose b hb using hg
  refine ⟨∑ k ∈ S, a k * b k, ?_⟩
  simp only [ha, hb]
  induction S using Finset.induction_on with
  | empty => simp
  | insert k S hk ih => rw [Finset.sum_insert hk, Finset.sum_insert hk, ih, EReal.coe_add, EReal.coe_mul]

end Softmax

end
-- ==== Proof.Softmax.lean ====
module

public import Idealize.ShloMosaic.PureOps.Ideal

/-! Softmax attention over the extended reals, whole and in parts.

A row of scores holds reals and `⊥` (a key the query may not see). The weighted sum of the values by `exp (score - m)`
is taken at a maximum `m`; two such sums over disjoint sets of keys join at the larger maximum, and the sum over the
keys that are seen, divided by the weights' own sum, is the softmax-weighted sum over all keys. -/

@[expose] public section

noncomputable section

namespace Softmax

open Idealize.ShloMosaic

variable {κ : Type} [DecidableEq κ]

/-- A nonnegative real goes into a sum of extended reals. -/
theorem coe_mul_sum {r : ℝ} (hr : 0 ≤ r) (S : Finset κ) (f : κ → EReal) : (r : EReal) * ∑ k ∈ S, f k = ∑ k ∈ S, (r : EReal) * f k := by
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

/-- A sum of reals, read as extended reals. -/
theorem coe_sum (S : Finset κ) (f : κ → ℝ) : ∑ k ∈ S, (f k : EReal) = ((∑ k ∈ S, f k : ℝ) : EReal) := by
  induction S using Finset.induction_on with
  | empty => simp
  | insert a S ha ih => rw [Finset.sum_insert ha, Finset.sum_insert ha, EReal.coe_add, ih]

/-- The sum of the values `v` over the keys `S`, each weighted by the exponential of its score less `m`. -/
def wsum (s v : κ → EReal) (S : Finset κ) (m : EReal) : EReal := ∑ k ∈ S, Ideal.exp (s k - m) * v k

/-- A maximum and the weighted sum taken at it. -/
def State (s v : κ → EReal) (S : Finset κ) (m a : EReal) : Prop := m = S.sup s ∧ a = wsum s v S m

theorem State.empty (s v : κ → EReal) : State s v ∅ ⊥ 0 := ⟨rfl, rfl⟩

theorem State.of (s v : κ → EReal) (S : Finset κ) : State s v S (S.sup s) (wsum s v S (S.sup s)) := ⟨rfl, rfl⟩

theorem sup_ne_top {s : κ → EReal} (hs : ∀ k, s k ≠ ⊤) (S : Finset κ) : S.sup s ≠ ⊤ := by
  have h : S.sup s < ⊤ := (Finset.sup_lt_iff bot_lt_top).2 fun k _ => lt_top_iff_ne_top.2 (hs k)
  exact h.ne

/-- The exponentials of two successive differences multiply to that of the whole. -/
theorem exp_mul_exp (x : EReal) (hx : x ≠ ⊤) (p m : ℝ) : Ideal.exp ((p : EReal) - m) * Ideal.exp (x - p) = Ideal.exp (x - m) := by
  induction x using EReal.rec with
  | bot => simp
  | top => exact absurd rfl hx
  | coe x =>
    rw [← EReal.coe_sub, ← EReal.coe_sub, ← EReal.coe_sub, Ideal.exp_coe, Ideal.exp_coe, Ideal.exp_coe, ← EReal.coe_mul, ← Real.exp_add]
    congr 2
    ring

/-- A sum taken at the maximum of its keys, rescaled to a larger one. -/
theorem rescale {s v : κ → EReal} (hs : ∀ k, s k ≠ ⊤) (S : Finset κ) (m : EReal) (hm : m ≠ ⊤) (h : S.sup s ≤ m) :
    Ideal.exp (S.sup s - m) * wsum s v S (S.sup s) = wsum s v S m := by
  have hp := sup_ne_top hs S
  generalize hq : S.sup s = p at h hp
  induction p using EReal.rec with
  | top => exact absurd rfl hp
  | bot =>
    have hb : ∀ k ∈ S, s k = ⊥ := fun k hk => le_bot_iff.1 (hq ▸ Finset.le_sup hk)
    have e : wsum s v S m = 0 := Finset.sum_eq_zero fun k hk => by rw [hb k hk]; simp
    rw [e]; simp
  | coe p =>
    induction m using EReal.rec with
    | top => exact absurd rfl hm
    | bot => exact absurd (le_bot_iff.1 h) (EReal.coe_ne_bot p)
    | coe m =>
      have e : Ideal.exp ((p : EReal) - m) = ((Real.exp (p - m) : ℝ) : EReal) := by rw [← EReal.coe_sub, Ideal.exp_coe]
      unfold wsum
      rw [e, coe_mul_sum (Real.exp_pos _).le, ← e]
      refine Finset.sum_congr rfl fun k _ => ?_
      rw [← mul_assoc, exp_mul_exp _ (hs k)]

theorem wsum_union {s v : κ → EReal} {S T : Finset κ} (h : Disjoint S T) (m : EReal) : wsum s v (S ∪ T) m = wsum s v S m + wsum s v T m :=
  Finset.sum_union h

/-- A state takes further keys. -/
theorem State.step {s v : κ → EReal} (hs : ∀ k, s k ≠ ⊤) {S T : Finset κ} (h : Disjoint S T) {m a : EReal} (H : State s v S m a) :
    State s v (S ∪ T) (max m (T.sup s)) (Ideal.exp (m - max m (T.sup s)) * a + wsum s v T (max m (T.sup s))) := by
  obtain ⟨rfl, rfl⟩ := H
  have e : S.sup s ⊔ T.sup s = (S ∪ T).sup s := Finset.sup_union.symm
  refine ⟨e, ?_⟩
  rw [rescale hs S _ (e ▸ sup_ne_top hs _) le_sup_left, wsum_union h]

/-- Two states join. -/
theorem State.join {s v : κ → EReal} (hs : ∀ k, s k ≠ ⊤) {S T : Finset κ} (h : Disjoint S T) {m a m' a' : EReal} (H : State s v S m a)
    (H' : State s v T m' a') :
    State s v (S ∪ T) (max m m') (Ideal.exp (m - max m m') * a + Ideal.exp (m' - max m m') * a') := by
  obtain ⟨rfl, rfl⟩ := H
  obtain ⟨rfl, rfl⟩ := H'
  have e : S.sup s ⊔ T.sup s = (S ∪ T).sup s := Finset.sup_union.symm
  have ht : S.sup s ⊔ T.sup s ≠ ⊤ := e ▸ sup_ne_top hs _
  refine ⟨e, ?_⟩
  rw [rescale hs S _ ht le_sup_left, rescale hs T _ ht le_sup_right, wsum_union h]

/-- The softmax-weighted sum of the values over all keys. -/
def attn [Fintype κ] (s v : κ → EReal) : EReal :=
  ∑ k, Ideal.div (Ideal.exp (s k - Finset.univ.sup s)) (∑ k, Ideal.exp (s k - Finset.univ.sup s)) * v k

/-- The weights' sum at a real maximum is a positive real. -/
theorem total_pos {s : κ → EReal} (hs : ∀ k, s k ≠ ⊤) (S : Finset κ) {M : ℝ} (hM : S.sup s = M) :
    ∃ L : ℝ, 0 < L ∧ ∑ k ∈ S, Ideal.exp (s k - M) = (L : EReal) := by
  have hr : ∀ k, ∃ e : ℝ, 0 ≤ e ∧ Ideal.exp (s k - M) = (e : EReal) := fun k => by
    have := hs k
    generalize s k = x at this
    induction x using EReal.rec with
    | bot => exact ⟨0, le_rfl, by simp⟩
    | top => exact absurd rfl this
    | coe x => exact ⟨Real.exp (x - M), (Real.exp_pos _).le, by rw [← EReal.coe_sub, Ideal.exp_coe]⟩
  choose e he0 he using hr
  have hne : S.Nonempty := Finset.nonempty_iff_ne_empty.2 fun h => by
    rw [h, Finset.sup_empty] at hM; exact EReal.coe_ne_bot M hM.symm
  obtain ⟨k, hk, hkM⟩ := Finset.exists_mem_eq_sup S hne s
  refine ⟨∑ k ∈ S, e k, ?_, ?_⟩
  · refine lt_of_lt_of_le ?_ (Finset.single_le_sum (fun i _ => he0 i) hk)
    have h1 : ((e k : ℝ) : EReal) = ((1 : ℝ) : EReal) := by
      rw [← he k, ← hkM, hM, ← EReal.coe_sub, Ideal.exp_coe, sub_self, Real.exp_zero]
    have h2 : e k = 1 := by exact_mod_cast h1
    rw [h2]; exact one_pos
  · rw [Finset.sum_congr rfl fun k _ => he k, coe_sum]

/-- The keys that are seen decide the softmax-weighted sum: the weighted sum over them, divided by the weights' sum. -/
theorem attn_eq [Fintype κ] {s v : κ → EReal} (hs : ∀ k, s k ≠ ⊤) {S : Finset κ} (hb : ∀ k, k ∉ S → s k = ⊥) {k₀ : κ} (hk₀ : k₀ ∈ S)
    (h₀ : s k₀ ≠ ⊥) {m a l : EReal} (Ha : State s v S m a) (Hl : State s (fun _ => 1) S m l) : Ideal.div a l = attn s v := by
  have hsup : (Finset.univ : Finset κ).sup s = S.sup s := by
    refine le_antisymm (Finset.sup_le fun k _ => ?_) (Finset.sup_mono (Finset.subset_univ S))
    by_cases hk : k ∈ S
    · exact Finset.le_sup hk
    · rw [hb k hk]; exact bot_le
  obtain ⟨M, hM⟩ : ∃ M : ℝ, S.sup s = M := by
    have h1 := sup_ne_top hs S
    have h2 : S.sup s ≠ ⊥ := fun h => h₀ (le_bot_iff.1 (h ▸ Finset.le_sup hk₀))
    exact ⟨(S.sup s).toReal, (EReal.coe_toReal h1 h2).symm⟩
  have hout : ∀ k, k ∉ S → Ideal.exp (s k - M) = 0 := fun k hk => by rw [hb k hk]; simp
  obtain ⟨L, hL, eL⟩ := total_pos hs S hM
  have eU : ∑ k, Ideal.exp (s k - M) = (L : EReal) := by
    rw [← eL]; exact (Finset.sum_subset (Finset.subset_univ S) fun k _ hk => hout k hk).symm
  have el : l = L := by rw [Hl.2, Hl.1, hM, ← eL]; unfold wsum; simp
  have ea : a = ∑ k ∈ S, Ideal.exp (s k - M) * v k := by rw [Ha.2, Ha.1, hM]; rfl
  unfold attn
  rw [hsup, hM, eU, el, Ideal.div_coe hL.ne', ea, mul_comm, coe_mul_sum (by positivity)]
  rw [Finset.sum_subset (Finset.subset_univ S) fun k _ hk => by rw [hout k hk, zero_mul, mul_zero]]
  refine Finset.sum_congr rfl fun k _ => ?_
  rw [Ideal.div_coe hL.ne', ← mul_assoc, mul_comm ((1 / L : ℝ) : EReal)]

/-- Weighted exponentials summed, over the exponentials summed. -/
def quot [Fintype κ] (s v : κ → EReal) : EReal :=
  Ideal.div (∑ k, Ideal.exp (s k - Finset.univ.sup s) * v k) (∑ k, Ideal.exp (s k - Finset.univ.sup s))

/-- Dividing once is dividing each weight. -/
theorem quot_eq [Fintype κ] {s v : κ → EReal} (hs : ∀ k, s k ≠ ⊤) (k₀ : κ) (h₀ : s k₀ ≠ ⊥) : quot s v = attn s v :=
  attn_eq (S := Finset.univ) hs (fun k hk => absurd (Finset.mem_univ k) hk) (Finset.mem_univ k₀) h₀ ⟨rfl, rfl⟩
    ⟨rfl, by simp only [wsum, mul_one]⟩

end Softmax
-- ==== Proof.RowMax.lean ====
module

public import Idealize.ShloMosaic.Lib.Pointwise

/-! The largest entry of each row, as a host program and a kernel take it. -/

@[expose] public section

noncomputable section

namespace Softmax

open Idealize.ShloMosaic

/-- The word of minus infinity. -/
theorem negInf : Ideal.ofBits FTy.f32 4286578688#32 = (⊥ : EReal) := by
  simp [Ideal.ofBits, Ideal.ieee]

/-- A fold of `max` from the bottom is the supremum. -/
theorem fold_sup {κ : Type} (S : Finset κ) (f : κ → EReal) : S.fold max ⊥ f = S.sup f := rfl

/-- A host program's maximum over the last of four axes. -/
theorem host_max {n0 n1 n2 n3 : ℕ} {u : Shape} (x : FVec Ideal ⟨4, ![n0, n1, n2, n3]⟩ .f32) (init : u.Idx → Ideal .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.univ.fold max (init (Shape.Idx.first hu)) fun k : Fin n3 => x (ix4 a b c k) := by
  rw [Host.reduce_eq_fold, Shape.ReducesTo.fold_fiber_r4_a3]
  rfl

/-- The same from minus infinity: the supremum of the row. -/
theorem host_sup {n0 n1 n2 n3 : ℕ} {u : Shape} (x : FVec Ideal ⟨4, ![n0, n1, n2, n3]⟩ .f32) (init : u.Idx → Ideal .f32)
    (h : (⟨4, ![n0, n1, n2, n3]⟩ : Shape).ReducesTo [3] ⟨3, ![n0, n1, n2]⟩) (hu : 0 < u.numel) (a : Fin n0) (b : Fin n1) (c : Fin n2)
    (hi : init (Shape.Idx.first hu) = (⊥ : EReal)) :
    Host.reduce FloatOps.maximumf x init h hu (ix3 a b c) = Finset.univ.sup fun k : Fin n3 => (x (ix4 a b c k) : EReal) := by
  rw [host_max, hi]
  exact fold_sup _ _

end Softmax
-- ==== Proof.RecallBlock.lean ====
module

public import proofs.«01_k».proof.Proof.Softmax
public import proofs.«01_k».proof.Proof.RowMax
public import proofs.«01_k».proof.Proof.Gen.RecallIdeal.Value
public import Idealize.ShloMosaic.Lib.Pointwise
public import Idealize.ShloMosaic.Lib.Pipeline.ReadBack
public import Idealize.ShloMosaic.Lib.Pipeline.ValueKit

/-! One block of the attention over the shared memory: each head of a row is a quotient of two sums. -/

@[expose] public section

set_option maxRecDepth 16384

noncomputable section

namespace Cert.RecallIdeal.BlockValue

open Cert.RecallIdeal Cert.RecallIdeal.Gen Idealize.ShloMosaic Idealize.ShloMosaic.TcCoe Idealize.SL.Sem
open Idealize.ShloMosaic.Pipeline (Dat)

/-- The score of a query row against one memory key, over one head's 256 columns. -/
def score (q k : Fin 256 → EReal) : EReal := (∑ x, q x * k x) * Ideal.ofBits FTy.f32 1031798784#32

theorem head0 (q : Vec Ideal S512x256 .bf16) (k v : Vec Ideal S256x256 .bf16) (r : Fin 512) (j : Fin 256) :
    k0_pay2 q k v (ix2 r j) = Softmax.quot (fun kk : Fin 256 => score (fun x => q (ix2 r x)) fun x => k (ix2 kk x)) fun kk => v (ix2 kk j) := by
  pointwise [k0_pay2]
  rw [Softmax.negInf]
  rfl

theorem head1 (q : Vec Ideal S512x256 .bf16) (k v : Vec Ideal S256x256 .bf16) (r : Fin 512) (j : Fin 256) :
    k0_pay6 v (k0_pay4 q k) (k0_pay5 q k) (constant S512x256 .f32 0x00000000#32) (ix2 r j) = Softmax.quot (fun kk : Fin 256 => score (fun x => q (ix2 r x)) fun x => k (ix2 kk x)) fun kk => v (ix2 kk j) := by
  pointwise [k0_pay6, k0_pay4, k0_pay5, k0_pay3]
  rw [Softmax.negInf]
  rfl

theorem head2 (q : Vec Ideal S512x256 .bf16) (k v : Vec Ideal S256x256 .bf16) (r : Fin 512) (j : Fin 256) :
    k0_pay7 q k v (ix2 r j) = Softmax.quot (fun kk : Fin 256 => score (fun x => q (ix2 r x)) fun x => k (ix2 kk x)) fun kk => v (ix2 kk j) := by
  pointwise [k0_pay7]
  rw [Softmax.negInf]
  rfl

theorem head3 (q : Vec Ideal S512x256 .bf16) (k v : Vec Ideal S256x256 .bf16) (r : Fin 512) (j : Fin 256) :
    k0_pay1 v (k0_pay8 q k) (ix2 r j) = Softmax.quot (fun kk : Fin 256 => score (fun x => q (ix2 r x)) fun x => k (ix2 kk x)) fun kk => v (ix2 kk j) := by
  pointwise [k0_pay1, k0_pay8]
  rw [Softmax.negInf]
  rfl

/-- The block of the result, spelt as one function. -/
def memBlk (q : Vec Ideal S512x1024 .bf16) (k v : Vec Ideal S256x1024 .bf16) : S512x1024.Idx → Elt Ideal .bf16 := fun i =>
  Softmax.quot (fun kk : Fin 256 => score (fun x => q (ix2 (i 0) ⟨256 * ((i 1).val / 256) + x.val, by have : (i 1).val < 1024 := (i 1).isLt; omega⟩))
      fun x => k (ix2 kk ⟨256 * ((i 1).val / 256) + x.val, by have : (i 1).val < 1024 := (i 1).isLt; omega⟩))
    fun kk => v (ix2 kk (i 1))

theorem piece0 (q : Vec Ideal S512x1024 .bf16) (k v : Vec Ideal S256x1024 .bf16) (x : S512x256.Idx) :
    k0_pay2 (View.ld q r0_0) (View.ld k r0_1) (View.ld v r0_1) x = memBlk q k v (r0_0.emb x) := by
  obtain ⟨r, j, rfl⟩ : ∃ (r : Fin 512) (j : Fin 256), x = ix2 r j := ⟨x 0, x 1, eq_ix2 x⟩
  rw [show r0_0.emb (ix2 r j) = ix2 r (⟨0 + j.val, by omega⟩ : Fin 1024) from by blk_ext, head0]
  have e : (0 + j.val) / 256 = 0 := by omega
  unfold memBlk
  have eq : ∀ x : Fin 256, View.ld q r0_0 (ix2 r x) = q (ix2 r ⟨0 + x.val, by omega⟩) := fun x =>
    congrArg q (show r0_0.emb (ix2 r x) = ix2 r (⟨0 + x.val, by omega⟩ : Fin 1024) from by blk_ext)
  have ek : ∀ (y : Vec Ideal S256x1024 .bf16) (kk x : Fin 256), View.ld y r0_1 (ix2 kk x) = y (ix2 kk ⟨0 + x.val, by omega⟩) := fun y kk x =>
    congrArg y (show r0_1.emb (ix2 kk x) = ix2 kk (⟨0 + x.val, by omega⟩ : Fin 1024) from by blk_ext)
  refine congrArg₂ Softmax.quot (funext fun kk => congrArg₂ score (funext fun x => (eq x).trans (congrArg q ?_)) (funext fun x => (ek k kk x).trans (congrArg k ?_))) (funext fun kk => ek v kk j)
  · exact congrArg (ix2 r) (Fin.ext (by show 0 + x.val = 256 * ((0 + j.val) / 256) + x.val; rw [e]))
  · exact congrArg (ix2 kk) (Fin.ext (by show 0 + x.val = 256 * ((0 + j.val) / 256) + x.val; rw [e]))

theorem piece1 (q : Vec Ideal S512x1024 .bf16) (k v : Vec Ideal S256x1024 .bf16) (x : S512x256.Idx) :
    k0_pay6 (View.ld v r0_3) (k0_pay4 (View.ld q r0_2) (View.ld k r0_3)) (k0_pay5 (View.ld q r0_2) (View.ld k r0_3)) (constant S512x256 .f32 0x00000000#32) x = memBlk q k v (r0_2.emb x) := by
  obtain ⟨r, j, rfl⟩ : ∃ (r : Fin 512) (j : Fin 256), x = ix2 r j := ⟨x 0, x 1, eq_ix2 x⟩
  rw [show r0_2.emb (ix2 r j) = ix2 r (⟨256 + j.val, by omega⟩ : Fin 1024) from by blk_ext, head1]
  have e : (256 + j.val) / 256 = 1 := by omega
  unfold memBlk
  have eq : ∀ x : Fin 256, View.ld q r0_2 (ix2 r x) = q (ix2 r ⟨256 + x.val, by omega⟩) := fun x =>
    congrArg q (show r0_2.emb (ix2 r x) = ix2 r (⟨256 + x.val, by omega⟩ : Fin 1024) from by blk_ext)
  have ek : ∀ (y : Vec Ideal S256x1024 .bf16) (kk x : Fin 256), View.ld y r0_3 (ix2 kk x) = y (ix2 kk ⟨256 + x.val, by omega⟩) := fun y kk x =>
    congrArg y (show r0_3.emb (ix2 kk x) = ix2 kk (⟨256 + x.val, by omega⟩ : Fin 1024) from by blk_ext)
  refine congrArg₂ Softmax.quot (funext fun kk => congrArg₂ score (funext fun x => (eq x).trans (congrArg q ?_)) (funext fun x => (ek k kk x).trans (congrArg k ?_))) (funext fun kk => ek v kk j)
  · exact congrArg (ix2 r) (Fin.ext (by show 256 + x.val = 256 * ((256 + j.val) / 256) + x.val; rw [e]))
  · exact congrArg (ix2 kk) (Fin.ext (by show 256 + x.val = 256 * ((256 + j.val) / 256) + x.val; rw [e]))

theorem piece2 (q : Vec Ideal S512x1024 .bf16) (k v : Vec Ideal S256x1024 .bf16) (x : S512x256.Idx) :
    k0_pay7 (View.ld q r0_4) (View.ld k r0_5) (View.ld v r0_5) x = memBlk q k v (r0_4.emb x) := by
  obtain ⟨r, j, rfl⟩ : ∃ (r : Fin 512) (j : Fin 256), x = ix2 r j := ⟨x 0, x 1, eq_ix2 x⟩
  rw [show r0_4.emb (ix2 r j) = ix2 r (⟨512 + j.val, by omega⟩ : Fin 1024) from by blk_ext, head2]
  have e : (512 + j.val) / 256 = 2 := by omega
  unfold memBlk
  have eq : ∀ x : Fin 256, View.ld q r0_4 (ix2 r x) = q (ix2 r ⟨512 + x.val, by omega⟩) := fun x =>
    congrArg q (show r0_4.emb (ix2 r x) = ix2 r (⟨512 + x.val, by omega⟩ : Fin 1024) from by blk_ext)
  have ek : ∀ (y : Vec Ideal S256x1024 .bf16) (kk x : Fin 256), View.ld y r0_5 (ix2 kk x) = y (ix2 kk ⟨512 + x.val, by omega⟩) := fun y kk x =>
    congrArg y (show r0_5.emb (ix2 kk x) = ix2 kk (⟨512 + x.val, by omega⟩ : Fin 1024) from by blk_ext)
  refine congrArg₂ Softmax.quot (funext fun kk => congrArg₂ score (funext fun x => (eq x).trans (congrArg q ?_)) (funext fun x => (ek k kk x).trans (congrArg k ?_))) (funext fun kk => ek v kk j)
  · exact congrArg (ix2 r) (Fin.ext (by show 512 + x.val = 256 * ((512 + j.val) / 256) + x.val; rw [e]))
  · exact congrArg (ix2 kk) (Fin.ext (by show 512 + x.val = 256 * ((512 + j.val) / 256) + x.val; rw [e]))

theorem piece3 (q : Vec Ideal S512x1024 .bf16) (k v : Vec Ideal S256x1024 .bf16) (x : S512x256.Idx) :
    k0_pay1 (View.ld v r0_7) (k0_pay8 (View.ld q r0_6) (View.ld k r0_7)) x = memBlk q k v (r0_6.emb x) := by
  obtain ⟨r, j, rfl⟩ : ∃ (r : Fin 512) (j : Fin 256), x = ix2 r j := ⟨x 0, x 1, eq_ix2 x⟩
  rw [show r0_6.emb (ix2 r j) = ix2 r (⟨768 + j.val, by omega⟩ : Fin 1024) from by blk_ext, head3]
  have e : (768 + j.val) / 256 = 3 := by omega
  unfold memBlk
  have eq : ∀ x : Fin 256, View.ld q r0_6 (ix2 r x) = q (ix2 r ⟨768 + x.val, by omega⟩) := fun x =>
    congrArg q (show r0_6.emb (ix2 r x) = ix2 r (⟨768 + x.val, by omega⟩ : Fin 1024) from by blk_ext)
  have ek : ∀ (y : Vec Ideal S256x1024 .bf16) (kk x : Fin 256), View.ld y r0_7 (ix2 kk x) = y (ix2 kk ⟨768 + x.val, by omega⟩) := fun y kk x =>
    congrArg y (show r0_7.emb (ix2 kk x) = ix2 kk (⟨768 + x.val, by omega⟩ : Fin 1024) from by blk_ext)
  refine congrArg₂ Softmax.quot (funext fun kk => congrArg₂ score (funext fun x => (eq x).trans (congrArg q ?_)) (funext fun x => (ek k kk x).trans (congrArg k ?_))) (funext fun kk => ek v kk j)
  · exact congrArg (ix2 r) (Fin.ext (by show 768 + x.val = 256 * ((768 + j.val) / 256) + x.val; rw [e]))
  · exact congrArg (ix2 kk) (Fin.ext (by show 768 + x.val = 256 * ((768 + j.val) / 256) + x.val; rw [e]))

theorem out_eq (q : Vec Ideal S512x1024 .bf16) (k v : Vec Ideal S256x1024 .bf16) (y : S512x1024.Idx) : out0_3 q k v y = memBlk q k v y := by
  unfold out0_3
  refine View.canon_apply_of_pieces (memBlk q k v) _ ?_ y (cover0_3 _ _ _ _ y)
  intro pc hpc x
  simp only [List.mem_cons, List.not_mem_nil, or_false] at hpc
  rcases hpc with rfl | rfl | rfl | rfl
  · exact piece3 q k v x
  · exact piece2 q k v x
  · exact piece1 q k v x
  · exact piece0 q k v x

end Cert.RecallIdeal.BlockValue

end
-- ==== Proof.RecallArray.lean ====
module

public import proofs.«01_k».proof.Proof.RecallBlock
public import Idealize.ShloMosaic.Lib.Pipeline.ReadBack
public import Idealize.ShloMosaic.Lib.Pipeline.ValueKit

/-! The attention over the shared memory: the array after the run. -/

@[expose] public section

set_option maxRecDepth 16384

noncomputable section

namespace Cert.RecallIdeal.BlockValue

open Cert.RecallIdeal Cert.RecallIdeal.Gen Idealize.ShloMosaic Idealize.ShloMosaic.TcCoe Idealize.SL.Sem
open Idealize.ShloMosaic.Pipeline (Dat)

variable (m : (ℓ : Loc nD τ sig) → Buf (Elt Ideal) ℓ)

/-- The index maps: sixteen blocks of rows a sequence, one block of keys and values a sequence. -/
theorem idx : ∀ t : Fin cfg0.N, win0_0.index t = ![t.val, 0]
    ∧ win0_1.index t = ![t.val / 16, 0]
    ∧ win0_2.index t = ![t.val / 16, 0]
    ∧ win0_3.index t = ![t.val, 0] :=
  (by decide +kernel : ∀ t : Fin grid0.N, win0_0.index t = ![t.val, 0]
    ∧ win0_1.index t = ![t.val / 16, 0]
    ∧ win0_2.index t = ![t.val / 16, 0]
    ∧ win0_3.index t = ![t.val, 0])

theorem lt32 (t : Fin cfg0.N) : t.val < 32 := t.isLt

/-- The scores of a row of the whole array, over the keys of its sequence. -/
def scores (q : S16384x1024.Idx → EReal) (k : S512x1024.Idx → EReal) (r : Fin 16384) (j : Fin 1024) : Fin 256 → EReal := fun kk =>
  (∑ x : Fin 256, q (ix2 r (⟨256 * (j.val / 256) + x.val, by omega⟩ : Fin 1024))
    * k (ix2 (⟨256 * (r.val / 8192) + kk.val, by omega⟩ : Fin 512) (⟨256 * (j.val / 256) + x.val, by omega⟩ : Fin 1024))) * Ideal.ofBits FTy.f32 1031798784#32

/-- A column of the values of a row's sequence. -/
def vals (v : S512x1024.Idx → EReal) (r : Fin 16384) (j : Fin 1024) : Fin 256 → EReal := fun kk =>
  v (ix2 (⟨256 * (r.val / 8192) + kk.val, by omega⟩ : Fin 512) j)

/-- The array after the run, from the arguments. -/
def G3 (c : Dev nD) : S16384x1024.Idx → EReal := fun i =>
  Softmax.quot (scores (m ((c : Thread nD τ).loc main_arg0)) (m ((c : Thread nD τ).loc main_arg1)) (i 0) (i 1))
    (vals (m ((c : Thread nD τ).loc main_arg2)) (i 0) (i 1))

set_option maxHeartbeats 2000000 in
theorem final3 (c : Dev nD) : (dats m 0 c).arrAt 3 cfg0.N = G3 m c := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, eq_ix2 y⟩
  have ht := lt32 t
  have e : (win0_3.blk t).view.emb (ix2 r j) = ix2 (⟨512 * t.val + r.val, by omega⟩ : Fin 16384) j := by blk_ext [idx t]
  rw [e]
  refine (out_eq _ _ _ _).trans ?_
  have e8 : (512 * t.val + r.val) / 8192 = t.val / 16 := by omega
  have eq : ∀ x : Fin 1024, iblk m c 0 t (ix2 r x) = m ((c : Thread nD τ).loc main_arg0) (ix2 (⟨512 * t.val + r.val, by omega⟩ : Fin 16384) x) := fun x => by
    blk_ext [iblk, V, idx t]
  have ek : ∀ (kk : Fin 256) (x : Fin 1024), iblk m c 1 t (ix2 kk x) = m ((c : Thread nD τ).loc main_arg1) (ix2 (⟨256 * ((512 * t.val + r.val) / 8192) + kk.val, by omega⟩ : Fin 512) x) := fun kk x => by
    simp only [e8]
    blk_ext [iblk, V, idx t]
  have ev : ∀ (kk : Fin 256) (x : Fin 1024), iblk m c 2 t (ix2 kk x) = m ((c : Thread nD τ).loc main_arg2) (ix2 (⟨256 * ((512 * t.val + r.val) / 8192) + kk.val, by omega⟩ : Fin 512) x) := fun kk x => by
    simp only [e8]
    blk_ext [iblk, V, idx t]
  unfold memBlk G3
  refine congrArg₂ Softmax.quot (funext fun kk => ?_) (funext fun kk => ev kk j)
  unfold scores score
  exact congrArg (· * _) (Finset.sum_congr rfl fun x _ => congrArg₂ (· * ·) (eq _) (ek kk _))

end Cert.RecallIdeal.BlockValue

end
-- ==== Proof.RecallRefRow.lean ====
module

public import proofs.«01_k».proof.Proof.Softmax
public import proofs.«01_k».proof.Proof.RowMax
public import proofs.«01_k».proof.Proof.Gen.RecallRefIdeal.Read
public import Idealize.ShloMosaic.Lib.Pointwise

/-! The attention over the shared memory: the reference at one result, as softmax attention over 256 memory keys. -/

@[expose] public section

set_option maxRecDepth 16384

noncomputable section

namespace Cert.RecallRefIdeal.RowValue
open Cert.RecallRefIdeal Cert.RecallRefIdeal.Gen Idealize.ShloMosaic Idealize.ShloMosaic.TcCoe Idealize.SL.Sem
open Cert.RecallRefIdeal.Read
variable (x0 : (⟨2, ![16384, 1024]⟩ : Shape).Idx → EReal) (x1 x2 : (⟨2, ![512, 1024]⟩ : Shape).Idx → EReal)

/-- The scaled scores of the reference. -/
abbrev sc (b : Fin 2) (h : Fin 4) (t : Fin 8192) : Fin 256 → EReal := fun k => val_main_v8 (F := Ideal) x0 x1 (ix4 b h t k)

theorem sc_apply (b : Fin 2) (h : Fin 4) (t : Fin 8192) (k : Fin 256) :
    sc x0 x1 b h t k = (∑ x : Fin 256, x0 (ix2 (⟨b.val * 8192 + t.val, by omega⟩ : Fin 16384) (⟨h.val * 256 + x.val, by omega⟩ : Fin 1024))
      * x1 (ix2 (⟨b.val * 256 + k.val, by omega⟩ : Fin 512) (⟨h.val * 256 + x.val, by omega⟩ : Fin 1024))) * Ideal.ofBits FTy.f32 1031798784#32 := by
  unfold sc
  pointwise [val_main_v8, val_main_v7, val_main_v6, val_main_v5, val_main_v4, val_main_v3, val_main_v2, val_main_v1, val_main_v0, val_main_cst]

theorem m0_apply (b : Fin 2) (h : Fin 4) (t : Fin 8192) :
    val_main_v9 (F := Ideal) x0 x1 (ix3 b h t) = Finset.univ.sup (sc x0 x1 b h t) := by
  unfold val_main_v9
  exact Softmax.host_sup (n0 := 2) (n1 := 4) (n2 := 8192) (n3 := 256) _ _ _ _ b h t Softmax.negInf

theorem m_apply (b : Fin 2) (h : Fin 4) (t : Fin 8192) :
    val_main_v11 (F := Ideal) x0 x1 (ix3 b h t) = Finset.univ.sup (sc x0 x1 b h t) := by
  rw [val_main_v11_apply, val_main_v10_apply, val_main_cst_1_apply, m0_apply]
  change max (Ideal.ofBits FTy.f32 4286578688#32) _ = _
  rw [Softmax.negInf]
  exact max_eq_right bot_le

theorem e_apply (b : Fin 2) (h : Fin 4) (t : Fin 8192) (k : Fin 256) :
    val_main_v15 (F := Ideal) x0 x1 (ix4 b h t k) = Ideal.exp (sc x0 x1 b h t k - Finset.univ.sup (sc x0 x1 b h t)) := by
  have e : idx_main_v12 (idx_main_v13 (ix4 b h t k)) = ix3 b h t := by
    funext a
    match a with
    | ⟨0, _⟩ => rfl
    | ⟨1, _⟩ => rfl
    | ⟨2, _⟩ => rfl
  rw [val_main_v15_apply, val_main_v14_apply, val_main_v13_apply, val_main_v12_apply, e, m_apply]
  rfl

theorem l_apply (b : Fin 2) (h : Fin 4) (t : Fin 8192) :
    val_main_v16 (F := Ideal) x0 x1 (ix3 b h t) = ∑ k, Ideal.exp (sc x0 x1 b h t k - Finset.univ.sup (sc x0 x1 b h t)) := by
  rw [val_main_v16_apply]
  have e : ∀ k : Fin 256, idx_main_v16 (ix3 b h t) k = ix4 b h t k := fun k => by
    funext a
    match a with
    | ⟨0, _⟩ => rfl
    | ⟨1, _⟩ => rfl
    | ⟨2, _⟩ => rfl
    | ⟨3, _⟩ => rfl
  simp only [e, e_apply]
  rw [show val_main_cst_2 (F := Ideal) (Shape.Idx.first h_S_) = (0 : EReal) from by
    show Ideal.ofBits FTy.f32 0x00000000#32 = 0
    simp [Ideal.ofBits, Ideal.ieee], zero_add]

theorem p_apply (b : Fin 2) (h : Fin 4) (t : Fin 8192) (k : Fin 256) :
    val_main_v19 (F := Ideal) x0 x1 (ix4 b h t k) = Ideal.div (Ideal.exp (sc x0 x1 b h t k - Finset.univ.sup (sc x0 x1 b h t)))
      (∑ k, Ideal.exp (sc x0 x1 b h t k - Finset.univ.sup (sc x0 x1 b h t))) := by
  have e : idx_main_v17 (idx_main_v18 (ix4 b h t k)) = ix3 b h t := by
    funext a
    match a with
    | ⟨0, _⟩ => rfl
    | ⟨1, _⟩ => rfl
    | ⟨2, _⟩ => rfl
  rw [val_main_v19_apply, val_main_v18_apply, val_main_v17_apply, e, l_apply, e_apply]
  rfl

theorem v_apply (b : Fin 2) (k : Fin 256) (h : Fin 4) (d : Fin 256) :
    val_main_v5 (F := Ideal) x2 (ix4 b k h d) = x2 (ix2 (⟨b.val * 256 + k.val, by omega⟩ : Fin 512) (⟨h.val * 256 + d.val, by omega⟩ : Fin 1024)) := by
  pointwise [val_main_v5, val_main_v4]

theorem o_apply (b : Fin 2) (h : Fin 4) (d : Fin 256) (t : Fin 8192) :
    val_main_v20 (F := Ideal) x0 x1 x2 (ix4 b h d t)
      = Softmax.attn (sc x0 x1 b h t) fun k => x2 (ix2 (⟨b.val * 256 + k.val, by omega⟩ : Fin 512) (⟨h.val * 256 + d.val, by omega⟩ : Fin 1024)) := by
  rw [val_main_v20_apply]
  have el : ∀ k : Fin 256, lidx_main_v20 (ix4 b h d t) k = ix4 b k h d := fun k => by
    funext a
    match a with
    | ⟨0, _⟩ => rfl
    | ⟨1, _⟩ => rfl
    | ⟨2, _⟩ => rfl
    | ⟨3, _⟩ => rfl
  have er : ∀ k : Fin 256, ridx_main_v20 (ix4 b h d t) k = ix4 b h t k := fun k => by
    funext a
    match a with
    | ⟨0, _⟩ => rfl
    | ⟨1, _⟩ => rfl
    | ⟨2, _⟩ => rfl
    | ⟨3, _⟩ => rfl
  simp only [el, er, v_apply, p_apply]
  exact Finset.sum_congr rfl fun k _ => mul_comm _ _

/-- The reference's result at a row and a column: softmax attention over the keys of the row's sequence and the column's head. -/
theorem row_apply (r : Fin 16384) (j : Fin 1024) :
    val_main_v23 (F := Ideal) x0 x1 x2 (ix2 r j)
      = Softmax.attn (fun k : Fin 256 => (∑ x : Fin 256, x0 (ix2 r (⟨256 * (j.val / 256) + x.val, by omega⟩ : Fin 1024))
          * x1 (ix2 (⟨256 * (r.val / 8192) + k.val, by omega⟩ : Fin 512) (⟨256 * (j.val / 256) + x.val, by omega⟩ : Fin 1024))) * Ideal.ofBits FTy.f32 1031798784#32)
        fun k => x2 (ix2 (⟨256 * (r.val / 8192) + k.val, by omega⟩ : Fin 512) j) := by
  have hr := r.isLt
  have hj := j.isLt
  have e : idx_main_v21 (idx_main_v22 (ix2 r j)) = ix4 (⟨r.val / 8192, by omega⟩ : Fin 2) (⟨j.val / 256, by omega⟩ : Fin 4) (⟨j.val % 256, by omega⟩ : Fin 256) (⟨r.val % 8192, by omega⟩ : Fin 8192) := by
    funext a
    match a with
    | ⟨0, _⟩ => exact Fin.ext (by show (r.val * 1024 + j.val) / 8388608 = r.val / 8192; omega)
    | ⟨1, _⟩ => exact Fin.ext (by show (r.val * 1024 + j.val) / 256 % 4 = j.val / 256; omega)
    | ⟨2, _⟩ => exact Fin.ext (by show (r.val * 1024 + j.val) % 256 = j.val % 256; omega)
    | ⟨3, _⟩ => exact Fin.ext (by show (r.val * 1024 + j.val) / 1024 % 8192 = r.val % 8192; omega)
  rw [val_main_v23_apply]
  change val_main_v22 (F := Ideal) x0 x1 x2 (ix2 r j) = _
  rw [val_main_v22_apply, val_main_v21_apply, e, o_apply]
  refine congrArg₂ Softmax.attn (funext fun k => (sc_apply x0 x1 _ _ _ k).trans ?_) (funext fun k => congrArg x2 (congrArg₂ ix2 (Fin.ext ?_) (Fin.ext ?_)))
  · refine congrArg (· * _) (Finset.sum_congr rfl fun x _ => congrArg₂ (· * ·) (congrArg x0 (congrArg₂ ix2 (Fin.ext ?_) (Fin.ext ?_))) (congrArg x1 (congrArg₂ ix2 (Fin.ext ?_) (Fin.ext ?_))))
    all_goals (simp only; omega)
  all_goals (simp only; omega)

end Cert.RecallRefIdeal.RowValue

end
-- ==== Proof.RecallClaim.lean ====
module

public import proofs.«01_k».proof.Defs
public import proofs.«01_k».proof.Proof.Finite
public import proofs.«01_k».proof.Proof.RecallArray
public import proofs.«01_k».proof.Proof.RecallRefRow
public import proofs.«01_k».proof.Proof.Gen.Pre_mem_finite
public import proofs.«01_k».proof.Proof.Gen.RecallIdeal
public import proofs.«01_k».proof.Proof.Gen.RecallRefIdeal
public import proofs.«01_k».proof.Proof.Gen.RecallRefIdeal.Run

/-! The attention over the shared memory: the kernel divides once by the sum of the exponentials, the reference divides
    each weight. With finite queries and keys the two are equal. -/

@[expose] public section

set_option maxRecDepth 16384

noncomputable section

namespace Cert.RecallValue

open Idealize.ShloMosaic Idealize.ShloMosaic.TcCoe Idealize.SL.Sem

variable (m : (ℓ : Loc RecallIdeal.nD RecallIdeal.τ RecallIdeal.sig) → Buf (Elt Ideal) ℓ)
    (m' : (ℓ : Loc RecallRefIdeal.nD RecallRefIdeal.τ RecallRefIdeal.sig) → Buf (Elt Ideal) ℓ) (c : Dev RecallIdeal.nD)

/-- The two programs' arguments are the same. -/
abbrev same : Prop :=
    m' ((c.tc : Thread RecallRefIdeal.nD RecallRefIdeal.τ).loc RecallRefIdeal.main_arg0) = m ((c.tc : Thread RecallIdeal.nD RecallIdeal.τ).loc RecallIdeal.main_arg0)
    ∧ m' ((c.tc : Thread RecallRefIdeal.nD RecallRefIdeal.τ).loc RecallRefIdeal.main_arg1) = m ((c.tc : Thread RecallIdeal.nD RecallIdeal.τ).loc RecallIdeal.main_arg1)
    ∧ m' ((c.tc : Thread RecallRefIdeal.nD RecallRefIdeal.τ).loc RecallRefIdeal.main_arg2) = m ((c.tc : Thread RecallIdeal.nD RecallIdeal.τ).loc RecallIdeal.main_arg2)

/-- The queries and the keys are real numbers. -/
theorem reals (hp : Pre_RecallIdeal_mem_finite m) :
    (∀ i, ∃ r : ℝ, m ((c.tc : Thread RecallIdeal.nD RecallIdeal.τ).loc RecallIdeal.main_arg0) i = (r : EReal))
    ∧ ∀ i, ∃ r : ℝ, m ((c.tc : Thread RecallIdeal.nD RecallIdeal.τ).loc RecallIdeal.main_arg1) i = (r : EReal) :=
  ⟨fun i => Softmax.real_of_lt _ (congrFun (hp c).1 i), fun i => Softmax.real_of_lt _ (congrFun (hp c).2 i)⟩

/-- So is each score. -/
theorem real_score (hp : Pre_RecallIdeal_mem_finite m) (r : Fin 16384) (j : Fin 1024) (k : Fin 256) :
    ∃ x : ℝ, RecallIdeal.BlockValue.scores (m ((c.tc : Thread RecallIdeal.nD RecallIdeal.τ).loc RecallIdeal.main_arg0))
      (m ((c.tc : Thread RecallIdeal.nD RecallIdeal.τ).loc RecallIdeal.main_arg1)) r j k = (x : EReal) := by
  obtain ⟨hq, hk⟩ := reals m c hp
  unfold RecallIdeal.BlockValue.scores
  obtain ⟨x, hx⟩ := Softmax.real_dot Finset.univ
    (fun x : Fin 256 => (m ((c.tc : Thread RecallIdeal.nD RecallIdeal.τ).loc RecallIdeal.main_arg0) (ix2 r (⟨256 * (j.val / 256) + x.val, by omega⟩ : Fin 1024)) : EReal))
    (fun x : Fin 256 => (m ((c.tc : Thread RecallIdeal.nD RecallIdeal.τ).loc RecallIdeal.main_arg1) (ix2 (⟨256 * (r.val / 8192) + k.val, by omega⟩ : Fin 512) (⟨256 * (j.val / 256) + x.val, by omega⟩ : Fin 1024)) : EReal))
    (fun _ => hq _) (fun _ => hk _)
  have hc : Ideal.ofBits FTy.f32 1031798784#32 = ((1 / 16 : ℝ) : EReal) := by
    simp [Ideal.ofBits, Ideal.ieee, -EReal.coe_mul]
    norm_num
  refine ⟨x * (1 / 16), ?_⟩
  rw [hc, EReal.coe_mul]
  exact congrArg (· * _) hx

set_option maxHeartbeats 2000000 in
/-- The reference's result is the same function of the arguments. -/
theorem ref_eq0 (hp : Pre_RecallIdeal_mem_finite m) (h : same m m' c) : RecallRefIdeal.Read.val_main_v23 (F := Ideal) (m' ((c.tc : Thread RecallRefIdeal.nD RecallRefIdeal.τ).loc RecallRefIdeal.main_arg0)) (m' ((c.tc : Thread RecallRefIdeal.nD RecallRefIdeal.τ).loc RecallRefIdeal.main_arg1)) (m' ((c.tc : Thread RecallRefIdeal.nD RecallRefIdeal.τ).loc RecallRefIdeal.main_arg2)) = RecallIdeal.BlockValue.G3 m c := by
  rw [h.1, h.2.1, h.2.2]
  funext i
  obtain ⟨r, j, rfl⟩ : ∃ (r : Fin 16384) (j : Fin 1024), i = ix2 r j := ⟨i 0, i 1, eq_ix2 i⟩
  refine (RecallRefIdeal.RowValue.row_apply _ _ _ r j).trans (Softmax.quot_eq (fun k => ?_) (⟨0, by omega⟩ : Fin 256) ?_).symm
  · obtain ⟨x, hx⟩ := real_score m c hp r j k
    exact fun e => EReal.coe_ne_top x (hx.symm.trans e)
  · obtain ⟨x, hx⟩ := real_score m c hp r j ⟨0, by omega⟩
    exact fun e => EReal.coe_ne_bot x (hx.symm.trans e)

/-- The attention over the shared memory: the kernel and the reference end with equal results. -/
theorem algebraic : Cert.algebraic_RecallIdeal_RecallRefIdeal_pre_mem_finite := fun m g m' g' hp hag =>
  ⟨fun c => RecallIdeal.BlockValue.G3 m c,
    (θ_run _ _ _).mono (fun _ h c => ⟨(h c).1.trans (RecallIdeal.BlockValue.final3 m c), (h c).2⟩) (RecallIdeal.Value.run_blocks m g),
    (θ_run _ _ _).mono (fun _ h c => ⟨(h c).1.trans ((RecallRefIdeal.Read.val_main_v23_eq _ _ _).trans (ref_eq0 m m' c hp (hag c))), (h c).2⟩) (RecallRefIdeal.Value.run m' g')⟩

end Cert.RecallValue

end
-- ==== Proof.MobaBlock.lean ====
module

public import proofs.«01_k».proof.Proof.Softmax
public import proofs.«01_k».proof.Proof.Gen.MobaIdeal.Value
public import Idealize.ShloMosaic.Lib.Pointwise
public import Idealize.ShloMosaic.Lib.Pipeline.ReadBack
public import Idealize.ShloMosaic.Lib.Pipeline.ValueKit

/-! One block of the causal attention: what the body computes, its loops opened. -/

@[expose] public section

set_option maxRecDepth 16384

noncomputable section

namespace Cert.MobaIdeal.BlockValue

open Cert.MobaIdeal Cert.MobaIdeal.Gen Idealize.ShloMosaic Idealize.ShloMosaic.TcCoe Idealize.SL.Sem
open Idealize.ShloMosaic.Pipeline (Dat)

theorem hz2 : (![0, 0] : Fin 2 → ℕ) = fun _ => 0 := by decide +kernel

/-- What the two running attentions carry. -/
abbrev Acc := FVec Ideal S1x1024 .f32 × FVec Ideal S144x1024 .f32 × FVec Ideal S1x1024 .f32 × FVec Ideal S144x1024 .f32

/-- One trip of the loop over earlier chunks. -/
def trip (i : grid0.Coords) (q : Vec Ideal S256x1024 .bf16) (x1 : Vec Ideal S8192x256 .bf16) (x2 : Vec Ideal S32x128x256 .bf16)
    (k : Fin (k0_t1_loop i).trips) (a : Acc) : Acc :=
  let e := View.ld x1 (Rect.unit (s := S8192x256) (k0_off5 i k) S512x256.size (k0_off5_inb i k))
  let o := View.ld x1 (Rect.unit (s := S8192x256) (k0_off6 i k) S512x256.size (k0_off6_inb i k))
  let v7 := fun (w : Fin 2) => View.ld x2 (Rect.unit (s := S32x128x256) (k0_off7 i k (BitVec.ofNat 32 w.val)) S1x128x256.size (k0_off7_inb i k w))
  let v8 := fun (w : Fin 2) => View.ld x2 (Rect.unit (s := S32x128x256) (k0_off8 i k (BitVec.ofNat 32 w.val)) S1x128x256.size (k0_off8_inb i k w))
  (k0_pay11 q a.1 e, k0_pay5 k0_pay24 (k0_pay13 q a.1 e) (k0_pay15 q a.1 a.2.1 e) (k0_pay16 (v7 0)) (v7 1),
    k0_pay14 q a.2.2.1 o, k0_pay6 k0_pay24 a.2.2.1 a.2.2.2 (k0_pay12 q o) (k0_pay14 q a.2.2.1 o) (v8 0) (v8 1))

set_option maxHeartbeats 4000000 in
theorem trip_eq (c : Dev nD) (i : grid0.Coords) (arg3 : Memref sig .tc .vmem S256x1024 .bf16) (harg3 : arg3.IsWhole) (arg4 : Memref sig .tc .vmem S8192x256 .bf16) (harg4 : arg4.IsWhole) (arg5 : Memref sig .tc .vmem S32x128x256 .bf16) (harg5 : arg5.IsWhole) (arg6 : Memref sig .tc .vmem S1024x128 .bf16) (harg6 : arg6.IsWhole)
    (q : Vec Ideal S256x1024 .bf16) (x1 : Vec Ideal S8192x256 .bf16) (x2 : Vec Ideal S32x128x256 .bf16) (k : Fin (k0_t1_loop i).trips) (a : Acc) :
    tripR_k0_t1 (F := Ideal) Variants.none c none i arg3 harg3 arg4 harg4 arg5 harg5 arg6 harg6 q k0_pay24 (harg4.unread x1) (harg5.unread x2) k a
      = trip i q x1 x2 k a := by
  unfold tripR_k0_t1 trip_k0_t1
  dsimp only
  sl_unfold_words
  simp only [View.readAt_eq_ld, harg4.read_unread, harg5.read_unread]
  rfl

/-- The carried values before the loop: the diagonal chunks' attention, and an empty one. -/
def start (i : grid0.Coords) (q : Vec Ideal S256x1024 .bf16) (x1 : Vec Ideal S8192x256 .bf16) (x2 : Vec Ideal S32x128x256 .bf16) : Acc :=
  let n : BitVec 32 := BitVec.ofNat 32 (i 2).val
  let e := View.ld x1 (Rect.unit (s := S8192x256) (k0_off1 i) S512x256.size (k0_off1_inb i))
  let o := View.ld x1 (Rect.unit (s := S8192x256) (k0_off3 i) S512x256.size (k0_off3_inb i))
  let ve := fun (w : Fin 2) => View.ld x2 (Rect.unit (s := S32x128x256) (k0_off2 i (BitVec.ofNat 32 w.val)) S1x128x256.size (k0_off2_inb i w))
  let vo := fun (w : Fin 2) => View.ld x2 (Rect.unit (s := S32x128x256) (k0_off4 i (BitVec.ofNat 32 w.val)) S1x128x256.size (k0_off4_inb i w))
  (k0_pay1 (k0_pay26 i q e) (k0_pay31 n q (Scalar.muli n 2#32) (k0_pay26 i q e) o),
    k0_pay2 k0_pay24 (k0_pay29 (k0_pay27 (ve 0) (ve 1)) (k0_pay28 i q e)) (k0_pay30 n q (Scalar.muli n 2#32) o)
      (k0_pay31 n q (Scalar.muli n 2#32) (k0_pay26 i q e) o)
      (k0_pay32 n q (Scalar.muli n 2#32) (k0_pay26 i q e) (k0_pay27 (ve 0) (ve 1)) (k0_pay28 i q e) o) (k0_pay33 (vo 0)) (vo 1),
    k0_pay3, k0_pay4)

/-- The carried values before trip `k`. -/
def run (i : grid0.Coords) (q : Vec Ideal S256x1024 .bf16) (x1 : Vec Ideal S8192x256 .bf16) (x2 : Vec Ideal S32x128x256 .bf16) : ℕ → Acc
  | 0 => start i q x1 x2
  | k + 1 => if h : k < (k0_t1_loop i).trips then trip i q x1 x2 ⟨k, h⟩ (run i q x1 x2 k) else run i q x1 x2 k

theorem trips1 (i : grid0.Coords) : (k0_t1_loop i).trips = (i 2).val :=
  (by decide : ∀ n : Fin 8, Scf.trips (0#32) (Scalar.addi (0#32) (Scalar.muli (Scalar.divsi (Scalar.subi (Scalar.muli (BitVec.ofNat 32 n.val) 1#32) 0#32) 1#32) 1#32)) 1#32 = n.val) (i 2)

theorem trips2 (i : grid0.Coords) : (k0_t2_loop i).trips = 0 := by
  unfold k0_t2_loop Scf.Loop.trips
  dsimp only
  have h : (i 2).val < 8 := (i 2).isLt
  generalize (i 2).val = n at h
  interval_cases n <;> decide

theorem st_eq (c : Dev nD) (i : grid0.Coords) (arg3 : Memref sig .tc .vmem S256x1024 .bf16) (harg3 : arg3.IsWhole) (arg4 : Memref sig .tc .vmem S8192x256 .bf16) (harg4 : arg4.IsWhole) (arg5 : Memref sig .tc .vmem S32x128x256 .bf16) (harg5 : arg5.IsWhole) (arg6 : Memref sig .tc .vmem S1024x128 .bf16) (harg6 : arg6.IsWhole)
    (q : Vec Ideal S256x1024 .bf16) (x1 : Vec Ideal S8192x256 .bf16) (x2 : Vec Ideal S32x128x256 .bf16) :
    ∀ k, k ≤ (k0_t1_loop i).trips → st_k0_t1 (F := Ideal) Variants.none c none i arg3 harg3 arg4 harg4 arg5 harg5 arg6 harg6 q k0_pay24 (harg4.unread x1) (harg5.unread x2) (start i q x1 x2) k
      = run i q x1 x2 k
  | 0, _ => rfl
  | k + 1, h => by
    rw [st_k0_t1_succ (F := Ideal) Variants.none c none i arg3 harg3 arg4 harg4 arg5 harg5 arg6 harg6 q k0_pay24 (harg4.unread x1) (harg5.unread x2) (start i q x1 x2) ⟨k, h⟩,
      st_eq c i arg3 harg3 arg4 harg4 arg5 harg5 arg6 harg6 q x1 x2 k (Nat.le_of_succ_le h), trip_eq]
    rw [run, dif_pos (Nat.lt_of_succ_le h)]

set_option maxHeartbeats 4000000 in
/-- What a grid point leaves in the output's block. -/
theorem outsAt0_eq (m : (ℓ : Loc nD τ sig) → Buf (Elt Ideal) ℓ) (c : Dev nD) (t : Fin cfg0.N) :
    outsAt0 m c t =
      let a := run (grid0.coords t) (iblk m c 0 t) (iblk m c 1 t) (iblk m c 2 t) (k0_t1_loop (grid0.coords t)).trips
      k0_pay9 a.1 a.2.1 a.2.2.1 a.2.2.2 := by
  rw [← st_eq c (grid0.coords t) (ms0_0 t) (hs0_0 t) (ms0_1 t) (hs0_1 t) (ms0_2 t) (hs0_2 t) (ms0_3 t) (hs0_3 t) _ _ _ _ le_rfl]
  unfold outsAt0 out0_A_3
  rw [View.read_writes_eq_canon _ _ _ (cover0_A_3 c _ _ _ _ _ _ _ _ _ _ _ _)]
  unfold kernelRun0_A
  dsimp only
  rw [View.canon_cons_unit_zero (S := S1024x128) hz2]
  rw [show Scf.trips _ _ _ = 0 from trips2 (grid0.coords t)]
  sl_unfold_words
  simp only [View.readAt_eq_ld, (hs0_0 t).read_unread, (hs0_1 t).read_unread, (hs0_2 t).read_unread, (hs0_3 t).read_unread]
  rw [View.ld_unit_zero (S := S256x1024) hz2]
  rfl

end Cert.MobaIdeal.BlockValue

end
-- ==== Proof.MobaCol.lean ====
module

public import proofs.«01_k».proof.Proof.MobaBlock
public import proofs.«01_k».proof.Proof.RowMax

/-! The body's values, one column of a block at a time. -/

@[expose] public section

set_option maxRecDepth 16384

noncomputable section

namespace Cert.MobaIdeal.BlockValue

open Cert.MobaIdeal Cert.MobaIdeal.Gen Idealize.ShloMosaic Idealize.ShloMosaic.TcCoe Idealize.SL.Sem

/-- A sum over 512 in halves. -/
theorem sum_halves (f : Fin 512 → EReal) :
    ∑ x : Fin 256, f ⟨x.val, by omega⟩ + ∑ x : Fin 256, f ⟨256 + x.val, by omega⟩ = ∑ u, f u :=
  (Fin.sum_univ_add (a := 256) (b := 256) f).symm

/-- A maximum over eight slices of the maxima within each row of 64. -/
theorem sup_slices (f : Fin 512 → EReal) :
    (Finset.univ.fold max ⊥ fun x : Fin 64 => Finset.univ.fold max ⊥ fun y : Fin 8 => f ⟨y.val * 64 + x.val, by omega⟩) = Finset.univ.sup f := by
  refine le_antisymm ?_ (Finset.sup_le fun u _ => ?_)
  · refine Finset.sup_le (f := fun x : Fin 64 => Finset.univ.sup fun y : Fin 8 => f ⟨y.val * 64 + x.val, by omega⟩) fun x _ => Finset.sup_le fun y _ => Finset.le_sup (f := f) (Finset.mem_univ _)
  · have h1 := Finset.le_sup (f := fun x : Fin 64 => Finset.univ.sup fun y : Fin 8 => f ⟨y.val * 64 + x.val, by omega⟩) (Finset.mem_univ (⟨u.val % 64, by omega⟩ : Fin 64))
    refine le_trans ?_ h1
    have h2 := Finset.le_sup (f := fun y : Fin 8 => f ⟨y.val * 64 + u.val % 64, by omega⟩) (Finset.mem_univ (⟨u.val / 64, by omega⟩ : Fin 8))
    refine le_trans (le_of_eq (congrArg f (Fin.ext ?_))) h2
    show u.val = u.val / 64 * 64 + u.val % 64
    omega

/-- Two blocks of values side by side, rows of ones below. -/
def vals (v w : Vec Ideal S1x128x256 .bf16) (r : Fin 144) (u : Fin 512) : EReal :=
  if h : r.val < 128 then if h' : u.val < 256 then v (ix3 0 ⟨r.val, h⟩ ⟨u.val, h'⟩) else w (ix3 0 ⟨r.val, h⟩ ⟨u.val - 256, by omega⟩) else 1

theorem vals_lo (v w : Vec Ideal S1x128x256 .bf16) (r : Fin 144) (x : Fin 256) :
    (if h : r.val < 128 then v (ix3 0 ⟨r.val, h⟩ x) else 1) = vals v w r ⟨x.val, by omega⟩ := by
  unfold vals
  by_cases h : r.val < 128
  · rw [dif_pos h, dif_pos h, dif_pos x.isLt]
  · rw [dif_neg h, dif_neg h]

theorem vals_hi (v w : Vec Ideal S1x128x256 .bf16) (r : Fin 144) (x : Fin 256) :
    (if h : r.val < 128 then w (ix3 0 ⟨r.val, h⟩ x) else 1) = vals v w r ⟨256 + x.val, by omega⟩ := by
  unfold vals
  by_cases h : r.val < 128
  · rw [dif_pos h, dif_pos h, dif_neg (by show ¬ 256 + x.val < 256; omega)]
    exact congrArg (fun y => w (ix3 0 ⟨r.val, h⟩ y)) (Fin.ext (by show x.val = 256 + x.val - 256; omega))
  · rw [dif_neg h, dif_neg h]

theorem vals_sum (v w : Vec Ideal S1x128x256 .bf16) (r : Fin 144) (e : Fin 512 → EReal) :
    (∑ x : Fin 256, (if h : r.val < 128 then v (ix3 0 ⟨r.val, h⟩ x) else 1) * e ⟨x.val, by omega⟩)
      + (∑ x : Fin 256, (if h : r.val < 128 then w (ix3 0 ⟨r.val, h⟩ x) else 1) * e ⟨256 + x.val, by omega⟩)
    = ∑ u, vals v w r u * e u := by
  rw [← sum_halves]
  simp only [vals_lo v w, vals_hi v w]

theorem dot_apply (q : Vec Ideal S256x1024 .bf16) (K : Vec Ideal S512x256 .bf16) (u : Fin 512) (t : Fin 1024) :
    k0_pay10 q K (ix2 u t) = ∑ x : Fin 256, K (ix2 u x) * q (ix2 x t) := by
  pointwise [k0_pay10]

theorem max_apply (q : Vec Ideal S256x1024 .bf16) (K : Vec Ideal S512x256 .bf16) (a : FVec Ideal S1x1024 .f32) (t : Fin 1024) :
    k0_pay11 q a K (ix2 0 t) = max (a (ix2 0 t)) (Finset.univ.sup fun u : Fin 512 => k0_pay10 q K (ix2 u t)) := by
  unfold k0_pay11
  generalize k0_pay10 q K = y
  pointwise []
  rw [Softmax.negInf, ← sup_slices]

theorem even_apply (q : Vec Ideal S256x1024 .bf16) (K : Vec Ideal S512x256 .bf16) (a : FVec Ideal S1x1024 .f32) (b : FVec Ideal S144x1024 .f32)
    (v w : Vec Ideal S1x128x256 .bf16) (r : Fin 144) (t : Fin 1024) :
    k0_pay5 k0_pay24 (k0_pay13 q a K) (k0_pay15 q a b K) (k0_pay16 v) w (ix2 r t)
      = Ideal.exp (a (ix2 0 t) - k0_pay11 q a K (ix2 0 t)) * b (ix2 r t)
        + ∑ u, vals v w r u * Ideal.exp (k0_pay10 q K (ix2 u t) - k0_pay11 q a K (ix2 0 t)) := by
  unfold k0_pay13 k0_pay15
  generalize k0_pay10 q K = y
  generalize k0_pay11 q a K = z
  pointwise [k0_pay5, k0_pay16, k0_pay24]
  exact congrArg _ (vals_sum v w r fun u => Ideal.exp (y (ix2 u t) - z (ix2 0 t)))

theorem odd_apply (q : Vec Ideal S256x1024 .bf16) (K : Vec Ideal S512x256 .bf16) (a : FVec Ideal S1x1024 .f32) (b : FVec Ideal S144x1024 .f32)
    (v w : Vec Ideal S1x128x256 .bf16) (r : Fin 144) (t : Fin 1024) :
    k0_pay6 k0_pay24 a b (k0_pay12 q K) (k0_pay14 q a K) v w (ix2 r t)
      = Ideal.exp (a (ix2 0 t) - k0_pay11 q a K (ix2 0 t)) * b (ix2 r t)
        + ∑ u, vals v w r u * Ideal.exp (k0_pay10 q K (ix2 u t) - k0_pay11 q a K (ix2 0 t)) := by
  rw [show k0_pay12 q K = k0_pay10 q K from rfl, show k0_pay14 q a K = k0_pay11 q a K from rfl]
  generalize k0_pay10 q K = y
  generalize k0_pay11 q a K = z
  pointwise [k0_pay6, k0_pay24]
  exact congrArg _ (vals_sum v w r fun u => Ideal.exp (y (ix2 u t) - z (ix2 0 t)))

theorem mask_eq : (Named.named κ "mask" 0xF1800000#32 : Ideal .f32) = ⊥ :=
  IdealRules.named_const.ideal_named_scalar _ _ _ _ rfl

/-- A signed comparison of two words, as a comparison of the naturals they hold. -/
theorem sle_iff (a b : ℕ) (ha : a < 2 ^ 31) (hb : b < 2 ^ 31) {α : Type} (x y : α) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    show BitVec.ofBool ((BitVec.ofNat 32 a).sle (BitVec.ofNat 32 b)) = _
    rw [BitVec.sle_eq_decide, BitVec.toInt_eq_toNat_of_lt, BitVec.toInt_eq_toNat_of_lt]
    · simp only [BitVec.toNat_ofNat, Nat.mod_eq_of_lt (show a < 2 ^ 32 by omega), Nat.mod_eq_of_lt (show b < 2 ^ 32 by omega)]
      simp
    · simp only [BitVec.toNat_ofNat]; omega
    · simp only [BitVec.toNat_ofNat]; omega
  rw [h]
  by_cases hab : a ≤ b
  · rw [if_pos hab, decide_eq_true hab]; rfl
  · rw [if_neg hab, decide_eq_false hab]; rfl

theorem mask_apply (i : grid0.Coords) (q : Vec Ideal S256x1024 .bf16) (K : Vec Ideal S512x256 .bf16) (u : Fin 512) (t : Fin 1024) :
    k0_pay25 i q K (ix2 u t) = if 512 * (2 * (i 2).val) + u.val ≤ 1024 * (i 2).val + t.val then ∑ x : Fin 256, K (ix2 u x) * q (ix2 x t) else ⊥ := by
  pointwise [k0_pay25]
  rw [mask_eq]
  have h : (i 2).val < 8 := (i 2).isLt
  refine (congrArg₂ (fun a b => Scalar.select (IntOp.cmpi CmpIPredicate.sle a b) _ _) ?_ ?_).trans (sle_iff (512 * (2 * (i 2).val) + u.val) (1024 * (i 2).val + t.val) (by omega) (by omega) _ _)
  · refine BitVec.eq_of_toNat_eq ?_
    show (BitVec.ofNat 32 (i 2).val * 2#32 * 512#32 + BitVec.ofNat 32 u.val).toNat = _
    simp only [BitVec.toNat_add, BitVec.toNat_mul, BitVec.toNat_ofNat]
    omega
  · refine BitVec.eq_of_toNat_eq ?_
    show (BitVec.ofNat 32 (i 2).val * 1024#32 + 0#32 + BitVec.ofNat 32 t.val).toNat = _
    simp only [BitVec.toNat_add, BitVec.toNat_mul, BitVec.toNat_ofNat]
    omega

theorem pay26_apply (i : grid0.Coords) (q : Vec Ideal S256x1024 .bf16) (K : Vec Ideal S512x256 .bf16) (t : Fin 1024) :
    k0_pay26 i q K (ix2 0 t) = Finset.univ.sup fun u : Fin 512 => k0_pay25 i q K (ix2 u t) := by
  unfold k0_pay26
  generalize k0_pay25 i q K = y
  pointwise []
  rw [Softmax.negInf, ← sup_slices]

theorem pay29_apply (i : grid0.Coords) (q : Vec Ideal S256x1024 .bf16) (K : Vec Ideal S512x256 .bf16) (v w : Vec Ideal S1x128x256 .bf16) (r : Fin 144) (t : Fin 1024) :
    k0_pay29 (k0_pay27 v w) (k0_pay28 i q K) (ix2 r t)
      = ∑ u, vals v w r u * Ideal.exp (k0_pay25 i q K (ix2 u t) - k0_pay26 i q K (ix2 0 t)) := by
  unfold k0_pay28
  generalize k0_pay25 i q K = y
  generalize k0_pay26 i q K = z
  pointwise [k0_pay29, k0_pay27, k0_pay24]
  exact vals_sum v w r fun u => Ideal.exp (y (ix2 u t) - z (ix2 0 t))

theorem pay30_apply (i : grid0.Coords) (q : Vec Ideal S256x1024 .bf16) (K : Vec Ideal S512x256 .bf16) (u t : Fin 512) :
    k0_pay30 (BitVec.ofNat 32 (i 2).val) q (Scalar.muli (BitVec.ofNat 32 (i 2).val) 2#32) K (ix2 u t)
      = if 512 * (2 * (i 2).val + 1) + u.val ≤ 1024 * (i 2).val + (512 + t.val) then ∑ x : Fin 256, K (ix2 u x) * q (ix2 x (⟨512 + t.val, by omega⟩ : Fin 1024)) else ⊥ := by
  pointwise [k0_pay30]
  rw [mask_eq]
  have h : (i 2).val < 8 := (i 2).isLt
  refine (congrArg₂ (fun a b => Scalar.select (IntOp.cmpi CmpIPredicate.sle a b) _ _) ?_ ?_).trans (sle_iff (512 * (2 * (i 2).val + 1) + u.val) (1024 * (i 2).val + (512 + t.val)) (by omega) (by omega) _ _)
  · refine BitVec.eq_of_toNat_eq ?_
    show ((BitVec.ofNat 32 (i 2).val * 2#32 + 1#32) * 512#32 + BitVec.ofNat 32 u.val).toNat = _
    simp only [BitVec.toNat_add, BitVec.toNat_mul, BitVec.toNat_ofNat]
    omega
  · refine BitVec.eq_of_toNat_eq ?_
    show (BitVec.ofNat 32 (i 2).val * 1024#32 + 512#32 + BitVec.ofNat 32 t.val).toNat = _
    simp only [BitVec.toNat_add, BitVec.toNat_mul, BitVec.toNat_ofNat]
    omega

theorem pay31_apply (n p : BitVec 32) (q : Vec Ideal S256x1024 .bf16) (K : Vec Ideal S512x256 .bf16) (a : FVec Ideal S1x1024 .f32) (t : Fin 512) :
    k0_pay31 n q p a K (ix2 0 t) = max (a (ix2 0 ⟨512 + t.val, by omega⟩)) (Finset.univ.sup fun u : Fin 512 => k0_pay30 n q p K (ix2 u t)) := by
  unfold k0_pay31
  generalize k0_pay30 n q p K = y
  pointwise []
  rw [Softmax.negInf, ← sup_slices]

theorem start_max (a : FVec Ideal S1x1024 .f32) (b : FVec Ideal S1x512 .f32) (t : Fin 1024) :
    k0_pay1 a b (ix2 0 t) = if h : t.val < 512 then a (ix2 0 t) else b (ix2 0 ⟨t.val - 512, by omega⟩) := by
  pointwise [k0_pay1]

theorem start_lo (v1 : FVec Ideal S16x512 .bf16) (b : FVec Ideal S144x1024 .f32) (y : FVec Ideal S512x512 .f32) (z : FVec Ideal S1x512 .f32) (d : FVec Ideal S144x512 .f32)
    (v : FVec Ideal S128x256 .bf16) (w : Vec Ideal S1x128x256 .bf16) (r : Fin 144) (t : Fin 1024) (h : t.val < 512) :
    k0_pay2 v1 b y z d v w (ix2 r t) = b (ix2 r t) := by
  pointwise [k0_pay2]
  rw [dif_pos h]

theorem start_hi (n p : BitVec 32) (q : Vec Ideal S256x1024 .bf16) (K : Vec Ideal S512x256 .bf16) (a : FVec Ideal S1x1024 .f32) (b : FVec Ideal S144x512 .bf16) (c : FVec Ideal S512x1024 .f32)
    (v w : Vec Ideal S1x128x256 .bf16) (r : Fin 144) (t : Fin 512) :
    k0_pay2 k0_pay24 (k0_pay29 b c) (k0_pay30 n q p K) (k0_pay31 n q p a K) (k0_pay32 n q p a b c K) (k0_pay33 v) w (ix2 r (⟨512 + t.val, by omega⟩ : Fin 1024))
      = Ideal.exp (a (ix2 0 (⟨512 + t.val, by omega⟩ : Fin 1024)) - k0_pay31 n q p a K (ix2 0 t)) * k0_pay29 b c (ix2 r (⟨512 + t.val, by omega⟩ : Fin 1024))
        + ∑ u, vals v w r u * Ideal.exp (k0_pay30 n q p K (ix2 u t) - k0_pay31 n q p a K (ix2 0 t)) := by
  unfold k0_pay32
  generalize k0_pay29 b c = g
  generalize k0_pay30 n q p K = y
  generalize k0_pay31 n q p a K = z
  pointwise [k0_pay2, k0_pay33, k0_pay24]
  exact congrArg _ (vals_sum v w r fun u => Ideal.exp (y (ix2 u t) - z (ix2 0 t)))

theorem zero_apply (r : Fin 144) (t : Fin 1024) : (k0_pay4 : FVec Ideal S144x1024 .f32) (ix2 r t) = (0 : EReal) := by
  pointwise [k0_pay4]

theorem bot_apply (t : Fin 1024) : (k0_pay3 : FVec Ideal S1x1024 .f32) (ix2 0 t) = (⊥ : EReal) := by
  pointwise [k0_pay3]
  exact mask_eq

theorem fin_apply (a c : FVec Ideal S1x1024 .f32) (b d : FVec Ideal S144x1024 .f32) (r : Fin 128) (t : Fin 1024) :
    k0_pay9 a b c d (ix2 t r)
      = Ideal.div (Ideal.exp (a (ix2 0 t) - max (a (ix2 0 t)) (c (ix2 0 t))) * b (ix2 ⟨r.val, by omega⟩ t)
          + Ideal.exp (c (ix2 0 t) - max (a (ix2 0 t)) (c (ix2 0 t))) * d (ix2 ⟨r.val, by omega⟩ t))
        (Ideal.exp (a (ix2 0 t) - max (a (ix2 0 t)) (c (ix2 0 t))) * b (ix2 128 t)
          + Ideal.exp (c (ix2 0 t) - max (a (ix2 0 t)) (c (ix2 0 t))) * d (ix2 128 t)) := by
  pointwise [k0_pay9]

end Cert.MobaIdeal.BlockValue

end
-- ==== Proof.MobaRow.lean ====
module

public import proofs.«01_k».proof.Proof.MobaCol

/-! One column of a block is one query: the chunks it visits hold every key the query may see. -/

@[expose] public section

set_option maxRecDepth 16384

noncomputable section

namespace Softmax

open Idealize.ShloMosaic

variable {κ : Type} [DecidableEq κ] {n : ℕ}

theorem wsum_map (s v : κ → EReal) (e : Fin n ↪ κ) {y w : Fin n → EReal} (hy : ∀ u, y u = s (e u)) (hw : ∀ u, w u = v (e u)) (M : EReal) :
    wsum s v (Finset.univ.map e) M = ∑ u, w u * Ideal.exp (y u - M) := by
  unfold wsum
  rw [Finset.sum_map]
  exact Finset.sum_congr rfl fun u _ => by rw [hy, hw, mul_comm]

theorem sup_map (s : κ → EReal) (e : Fin n ↪ κ) {y : Fin n → EReal} (hy : ∀ u, y u = s (e u)) : (Finset.univ.map e).sup s = Finset.univ.sup y := by
  rw [Finset.sup_map, show y = s ∘ e from funext hy]

/-- The state of one listed chunk of keys. -/
theorem State.first (s v : κ → EReal) (e : Fin n ↪ κ) {y w : Fin n → EReal} (hy : ∀ u, y u = s (e u)) (hw : ∀ u, w u = v (e u)) :
    State s v (Finset.univ.map e) (Finset.univ.sup y) (∑ u, w u * Ideal.exp (y u - Finset.univ.sup y)) := by
  rw [← wsum_map s v e hy hw, ← sup_map s e hy]
  exact State.of s v _

/-- A state takes a listed chunk of keys. -/
theorem State.chunk {s v : κ → EReal} (hs : ∀ k, s k ≠ ⊤) (e : Fin n ↪ κ) {S : Finset κ} (hd : Disjoint S (Finset.univ.map e)) {y w : Fin n → EReal}
    (hy : ∀ u, y u = s (e u)) (hw : ∀ u, w u = v (e u)) {m a : EReal} (H : State s v S m a) :
    State s v (S ∪ Finset.univ.map e) (max m (Finset.univ.sup y))
      (Ideal.exp (m - max m (Finset.univ.sup y)) * a + ∑ u, w u * Ideal.exp (y u - max m (Finset.univ.sup y))) := by
  rw [← wsum_map s v e hy hw, ← sup_map s e hy]
  exact State.step hs hd H

end Softmax

namespace Cert.MobaIdeal.BlockValue

open Cert.MobaIdeal Cert.MobaIdeal.Gen Idealize.ShloMosaic Idealize.ShloMosaic.TcCoe Idealize.SL.Sem

/-- Chunk `c` of the keys, in order. -/
def chunk (c : ℕ) (hc : c < 16) : Fin 512 ↪ Fin 8192 :=
  ⟨fun u => ⟨512 * c + u.val, by omega⟩, fun u w h => Fin.ext (by have := congrArg Fin.val h; simp only at this; omega)⟩

theorem mem_chunk (c : ℕ) (hc : c < 16) (n : Fin 8192) : n ∈ Finset.univ.map (chunk c hc) ↔ n.val / 512 = c := by
  rw [Finset.mem_map]
  constructor
  · rintro ⟨u, -, rfl⟩
    show (512 * c + u.val) / 512 = c
    omega
  · intro h
    exact ⟨⟨n.val % 512, by omega⟩, Finset.mem_univ _, Fin.ext (by show 512 * c + n.val % 512 = n.val; omega)⟩

variable (i : grid0.Coords) (q : Vec Ideal S256x1024 .bf16) (x1 : Vec Ideal S8192x256 .bf16) (x2 : Vec Ideal S32x128x256 .bf16)

/-- The product of key `n` and the query of column `t`. -/
def dot (t : Fin 1024) (n : Fin 8192) : EReal := ∑ x : Fin 256, x1 (ix2 n x) * q (ix2 x t)

/-- The score of key `n` for the query of column `t`: nothing after the query. -/
def sc (t : Fin 1024) (n : Fin 8192) : EReal := if n.val ≤ 1024 * (i 2).val + t.val then dot q x1 t n else ⊥

/-- Row `r` of the values, a row of ones below them. -/
def vrow (r : Fin 144) (n : Fin 8192) : EReal :=
  if h : r.val < 128 then x2 (ix3 (⟨n.val / 256, by omega⟩ : Fin 32) (⟨r.val, h⟩ : Fin 128) (⟨n.val % 256, by omega⟩ : Fin 256)) else 1

theorem ld_key (o : Fin 2 → ℕ) (h) (c : ℕ) (hc : c < 16) (ho : o = ![512 * c, 0]) (u : Fin 512) (x : Fin 256) :
    View.ld x1 (Rect.unit (s := S8192x256) o S512x256.size h) (ix2 u x) = x1 (ix2 (chunk c hc u) x) := by
  subst ho
  exact congrArg x1 (show (Rect.unit (s := S8192x256) ![512 * c, 0] S512x256.size h).emb (ix2 u x) = ix2 (⟨512 * c + u.val, by omega⟩ : Fin 8192) x from by blk_ext)

theorem ld_val (o : Fin 3 → ℕ) (h) (b : ℕ) (hb : b < 32) (ho : o = ![b, 0, 0]) (r : Fin 128) (x : Fin 256) :
    View.ld x2 (Rect.unit (s := S32x128x256) o S1x128x256.size h) (ix3 0 r x) = x2 (ix3 (⟨b, hb⟩ : Fin 32) r x) := by
  subst ho
  exact congrArg x2 (show (Rect.unit (s := S32x128x256) ![b, 0, 0] S1x128x256.size h).emb (ix3 (0 : Fin 1) r x) = ix3 (⟨b, hb⟩ : Fin 32) r x from by blk_ext)

theorem vals_eq (c : ℕ) (hc : c < 16) (o o' : Fin 3 → ℕ) (h h') (ho : o = ![2 * c, 0, 0]) (ho' : o' = ![2 * c + 1, 0, 0]) (r : Fin 144) (u : Fin 512) :
    vals (View.ld x2 (Rect.unit (s := S32x128x256) o S1x128x256.size h)) (View.ld x2 (Rect.unit (s := S32x128x256) o' S1x128x256.size h')) r u
      = vrow x2 r (chunk c hc u) := by
  unfold vals vrow
  by_cases hr : r.val < 128
  · rw [dif_pos hr, dif_pos hr]
    by_cases hu : u.val < 256
    · rw [dif_pos hu, ld_val x2 o h (2 * c) (by omega) ho]
      refine congrArg₂ (fun a b => x2 (ix3 a _ b)) (Fin.ext ?_) (Fin.ext ?_)
      · show 2 * c = (512 * c + u.val) / 256; omega
      · show u.val = (512 * c + u.val) % 256; omega
    · rw [dif_neg hu, ld_val x2 o' h' (2 * c + 1) (by omega) ho']
      refine congrArg₂ (fun a b => x2 (ix3 a _ b)) (Fin.ext ?_) (Fin.ext ?_)
      · show 2 * c + 1 = (512 * c + u.val) / 256; omega
      · show u.val - 256 = (512 * c + u.val) % 256; omega
  · rw [dif_neg hr, dif_neg hr]

theorem off1_eq : k0_off1 i = ![512 * (2 * (i 2).val), 0] := by
  have h : (i 2).val < 8 := (i 2).isLt
  refine congrArg (fun n : ℕ => ![n, 0]) ?_
  show (BitVec.ofNat 32 (i 2).val * 2#32 * 512#32).toNat = _
  simp only [BitVec.toNat_add, BitVec.toNat_mul, BitVec.toNat_ofNat]
  omega

theorem off3_eq : k0_off3 i = ![512 * (2 * (i 2).val + 1), 0] := by
  have h : (i 2).val < 8 := (i 2).isLt
  refine congrArg (fun n : ℕ => ![n, 0]) ?_
  show ((BitVec.ofNat 32 (i 2).val * 2#32 + 1#32) * 512#32).toNat = _
  simp only [BitVec.toNat_add, BitVec.toNat_mul, BitVec.toNat_ofNat]
  omega

theorem off2_eq (w : Fin 2) : k0_off2 i (BitVec.ofNat 32 w.val) = ![2 * (2 * (i 2).val) + w.val, 0, 0] := by
  have h : (i 2).val < 8 := (i 2).isLt
  refine congrArg (fun n : ℕ => ![n, 0, 0]) ?_
  show (BitVec.ofNat 32 (i 2).val * 2#32 * 2#32 + BitVec.ofNat 32 w.val).toNat = _
  simp only [BitVec.toNat_add, BitVec.toNat_mul, BitVec.toNat_ofNat]
  omega

theorem off4_eq (w : Fin 2) : k0_off4 i (BitVec.ofNat 32 w.val) = ![2 * (2 * (i 2).val + 1) + w.val, 0, 0] := by
  have h : (i 2).val < 8 := (i 2).isLt
  refine congrArg (fun n : ℕ => ![n, 0, 0]) ?_
  show ((BitVec.ofNat 32 (i 2).val * 2#32 + 1#32) * 2#32 + BitVec.ofNat 32 w.val).toNat = _
  simp only [BitVec.toNat_add, BitVec.toNat_mul, BitVec.toNat_ofNat]
  omega

theorem lt8 (k : Fin (k0_t1_loop i).trips) : k.val < (i 2).val := (trips1 i) ▸ k.isLt

theorem off5_eq (k : Fin (k0_t1_loop i).trips) : k0_off5 i k = ![512 * (2 * k.val), 0] := by
  have h : (i 2).val < 8 := (i 2).isLt
  have hk := lt8 i k
  refine congrArg (fun n : ℕ => ![n, 0]) ?_
  show (2#32 * (0#32 + BitVec.ofNat 32 k.val * 1#32) * 512#32).toNat = _
  simp only [BitVec.toNat_add, BitVec.toNat_mul, BitVec.toNat_ofNat]
  omega

theorem off6_eq (k : Fin (k0_t1_loop i).trips) : k0_off6 i k = ![512 * (2 * k.val + 1), 0] := by
  have h : (i 2).val < 8 := (i 2).isLt
  have hk := lt8 i k
  refine congrArg (fun n : ℕ => ![n, 0]) ?_
  show ((2#32 * (0#32 + BitVec.ofNat 32 k.val * 1#32) + 1#32) * 512#32).toNat = _
  simp only [BitVec.toNat_add, BitVec.toNat_mul, BitVec.toNat_ofNat]
  omega

theorem off7_eq (k : Fin (k0_t1_loop i).trips) (w : Fin 2) : k0_off7 i k (BitVec.ofNat 32 w.val) = ![2 * (2 * k.val) + w.val, 0, 0] := by
  have h : (i 2).val < 8 := (i 2).isLt
  have hk := lt8 i k
  refine congrArg (fun n : ℕ => ![n, 0, 0]) ?_
  show (2#32 * (0#32 + BitVec.ofNat 32 k.val * 1#32) * 2#32 + BitVec.ofNat 32 w.val).toNat = _
  simp only [BitVec.toNat_add, BitVec.toNat_mul, BitVec.toNat_ofNat]
  omega

theorem off8_eq (k : Fin (k0_t1_loop i).trips) (w : Fin 2) : k0_off8 i k (BitVec.ofNat 32 w.val) = ![2 * (2 * k.val + 1) + w.val, 0, 0] := by
  have h : (i 2).val < 8 := (i 2).isLt
  have hk := lt8 i k
  refine congrArg (fun n : ℕ => ![n, 0, 0]) ?_
  show ((2#32 * (0#32 + BitVec.ofNat 32 k.val * 1#32) + 1#32) * 2#32 + BitVec.ofNat 32 w.val).toNat = _
  simp only [BitVec.toNat_add, BitVec.toNat_mul, BitVec.toNat_ofNat]
  omega

/-- The keys the first attention holds before trip `k`. -/
def keysA (t : Fin 1024) (k : ℕ) : Finset (Fin 8192) := Finset.univ.filter fun n =>
  n.val / 512 = 2 * (i 2).val ∨ (512 ≤ t.val ∧ n.val / 512 = 2 * (i 2).val + 1) ∨ (n.val / 512 < 2 * k ∧ n.val / 512 % 2 = 0)

/-- The keys the second attention holds before trip `k`. -/
def keysB (k : ℕ) : Finset (Fin 8192) := Finset.univ.filter fun n => n.val / 512 < 2 * k ∧ n.val / 512 % 2 = 1

/-- A column of the upper half. -/
theorem upper (t : Fin 512) : 512 + t.val < 1024 := by omega

open Softmax

/-- The carried values are the states of those keys. -/
def Inv (t : Fin 1024) (r : Fin 144) (k : ℕ) (a : Acc) : Prop :=
  State (sc i q x1 t) (vrow x2 r) (keysA i t k) (a.1 (ix2 0 t)) (a.2.1 (ix2 r t))
    ∧ State (sc i q x1 t) (vrow x2 r) (keysB k) (a.2.2.1 (ix2 0 t)) (a.2.2.2 (ix2 r t))

/-- An earlier chunk is seen whole. -/
theorem sc_early (t : Fin 1024) (c : ℕ) (hc : c < 16) (h : c < 2 * (i 2).val) (u : Fin 512) : sc i q x1 t (chunk c hc u) = dot q x1 t (chunk c hc u) :=
  if_pos (by show 512 * c + u.val ≤ _; omega)

theorem inv_step (t : Fin 1024) (hs : ∀ n, sc i q x1 t n ≠ ⊤) (r : Fin 144) (k : Fin (k0_t1_loop i).trips) (a : Acc) (H : Inv i q x1 x2 t r k.val a) :
    Inv i q x1 x2 t r (k.val + 1) (trip i q x1 x2 k a) := by
  have h : (i 2).val < 8 := (i 2).isLt
  have hk := lt8 i k
  obtain ⟨HA, HB⟩ := H
  constructor
  · have e : keysA i t (k.val + 1) = keysA i t k.val ∪ Finset.univ.map (chunk (2 * k.val) (by omega)) := by
      ext n
      rw [Finset.mem_union, mem_chunk, keysA, keysA, Finset.mem_filter, Finset.mem_filter]
      simp only [Finset.mem_univ, true_and]
      omega
    rw [e]
    unfold trip
    dsimp only
    rw [even_apply, max_apply]
    refine State.chunk hs (chunk (2 * k.val) (by omega)) ?_ (fun u => ?_) (fun u => vals_eq x2 (2 * k.val) (by omega) _ _ _ _ (off7_eq i k 0) (off7_eq i k 1) r u) HA
    · refine Finset.disjoint_left.2 fun n hn hn' => ?_
      rw [mem_chunk] at hn'
      rw [keysA, Finset.mem_filter] at hn
      have := hn.2
      omega
    · rw [dot_apply, sc_early i q x1 t _ _ (by omega)]
      exact Finset.sum_congr rfl fun x _ => congrArg (· * _) (ld_key x1 _ _ _ (by omega) (off5_eq i k) u x)
  · have e : keysB (k.val + 1) = keysB k.val ∪ Finset.univ.map (chunk (2 * k.val + 1) (by omega)) := by
      ext n
      rw [Finset.mem_union, mem_chunk, keysB, keysB, Finset.mem_filter, Finset.mem_filter]
      simp only [Finset.mem_univ, true_and]
      omega
    rw [e]
    unfold trip
    dsimp only
    rw [odd_apply, show k0_pay14 q a.2.2.1 _ = k0_pay11 q a.2.2.1 _ from rfl, max_apply]
    refine State.chunk hs (chunk (2 * k.val + 1) (by omega)) ?_ (fun u => ?_) (fun u => vals_eq x2 (2 * k.val + 1) (by omega) _ _ _ _ (off8_eq i k 0) (off8_eq i k 1) r u) HB
    · refine Finset.disjoint_left.2 fun n hn hn' => ?_
      rw [mem_chunk] at hn'
      rw [keysB, Finset.mem_filter] at hn
      have := hn.2
      omega
    · rw [dot_apply, sc_early i q x1 t _ _ (by omega)]
      exact Finset.sum_congr rfl fun x _ => congrArg (· * _) (ld_key x1 _ _ _ (by omega) (off6_eq i k) u x)

theorem inv_start (t : Fin 1024) (hs : ∀ n, sc i q x1 t n ≠ ⊤) (r : Fin 144) : Inv i q x1 x2 t r 0 (start i q x1 x2) := by
  have h : (i 2).val < 8 := (i 2).isLt
  have hF : ∀ t : Fin 1024, State (sc i q x1 t) (vrow x2 r) (Finset.univ.map (chunk (2 * (i 2).val) (by omega)))
      (k0_pay26 i q (View.ld x1 (Rect.unit (s := S8192x256) (k0_off1 i) S512x256.size (k0_off1_inb i))) (ix2 0 t))
      (k0_pay29 (k0_pay27 (View.ld x2 (Rect.unit (s := S32x128x256) (k0_off2 i (BitVec.ofNat 32 (0 : Fin 2).val)) S1x128x256.size (k0_off2_inb i 0)))
          (View.ld x2 (Rect.unit (s := S32x128x256) (k0_off2 i (BitVec.ofNat 32 (1 : Fin 2).val)) S1x128x256.size (k0_off2_inb i 1))))
        (k0_pay28 i q (View.ld x1 (Rect.unit (s := S8192x256) (k0_off1 i) S512x256.size (k0_off1_inb i)))) (ix2 r t)) := by
    intro t
    rw [pay29_apply, pay26_apply]
    refine State.first _ _ (chunk (2 * (i 2).val) (by omega)) (fun u => ?_) (fun u => vals_eq x2 (2 * (i 2).val) (by omega) _ _ _ _ (off2_eq i 0) (off2_eq i 1) r u)
    rw [mask_apply]
    unfold sc dot
    refine if_congr Iff.rfl (Finset.sum_congr rfl fun x _ => congrArg (· * _) (ld_key x1 _ _ _ (by omega) (off1_eq i) u x)) rfl
  constructor
  · unfold start
    dsimp only
    rw [start_max]
    by_cases ht : t.val < 512
    · have e : keysA i t 0 = Finset.univ.map (chunk (2 * (i 2).val) (by omega)) := by
        ext n
        rw [mem_chunk, keysA, Finset.mem_filter]
        simp only [Finset.mem_univ, true_and]
        omega
      rw [dif_pos ht, start_lo _ _ _ _ _ _ _ _ _ ht, e]
      exact hF t
    · obtain ⟨t', rfl⟩ : ∃ t' : Fin 512, t = ⟨512 + t'.val, upper t'⟩ := ⟨⟨t.val - 512, by omega⟩, Fin.ext (by show t.val = 512 + (t.val - 512); omega)⟩
      have e : keysA i ⟨512 + t'.val, upper t'⟩ 0 = Finset.univ.map (chunk (2 * (i 2).val) (by omega)) ∪ Finset.univ.map (chunk (2 * (i 2).val + 1) (by omega)) := by
        ext n
        rw [Finset.mem_union, mem_chunk, mem_chunk, keysA, Finset.mem_filter]
        simp only [Finset.mem_univ, true_and]
        omega
      rw [dif_neg ht, e]
      have et : (⟨512 + t'.val - 512, by omega⟩ : Fin 512) = t' := Fin.ext (by show 512 + t'.val - 512 = t'.val; omega)
      rw [start_hi]
      simp only [et]
      rw [pay31_apply]
      refine State.chunk hs (chunk (2 * (i 2).val + 1) (by omega)) ?_ (fun u => ?_) (fun u => vals_eq x2 (2 * (i 2).val + 1) (by omega) _ _ _ _ (off4_eq i 0) (off4_eq i 1) r u) (hF _)
      · refine Finset.disjoint_left.2 fun n hn hn' => ?_
        rw [mem_chunk] at hn hn'
        omega
      · rw [pay30_apply]
        unfold sc dot
        refine if_congr Iff.rfl (Finset.sum_congr rfl fun x _ => congrArg (· * _) (ld_key x1 _ _ _ (by omega) (off3_eq i) u x)) rfl
  · have e : keysB 0 = ∅ := by
      ext n
      rw [keysB, Finset.mem_filter]
      simp
    rw [e]
    unfold start
    dsimp only
    rw [bot_apply, zero_apply]
    exact State.empty _ _

theorem inv_run (t : Fin 1024) (hs : ∀ n, sc i q x1 t n ≠ ⊤) (r : Fin 144) : ∀ k, k ≤ (k0_t1_loop i).trips → Inv i q x1 x2 t r k (run i q x1 x2 k)
  | 0, _ => inv_start i q x1 x2 t hs r
  | k + 1, h => by
    rw [run, dif_pos (Nat.lt_of_succ_le h)]
    exact inv_step i q x1 x2 t hs r ⟨k, h⟩ _ (inv_run t hs r k (Nat.le_of_succ_le h))

/-- What the body leaves for the query of column `t`: its attention over all the keys. -/
theorem block_apply (t : Fin 1024) (hs : ∀ n, sc i q x1 t n ≠ ⊤) (hd : ∀ n, dot q x1 t n ≠ ⊥) (r : Fin 128) (a : Acc) (ha : a = run i q x1 x2 (k0_t1_loop i).trips) :
    k0_pay9 a.1 a.2.1 a.2.2.1 a.2.2.2 (ix2 t r) = Softmax.attn (sc i q x1 t) (vrow x2 ⟨r.val, by omega⟩) := by
  have h : (i 2).val < 8 := (i 2).isLt
  rw [fin_apply]
  have hdj : Disjoint (keysA i t (i 2).val) (keysB (i 2).val) := by
    refine Finset.disjoint_left.2 fun n hn hn' => ?_
    rw [keysA, Finset.mem_filter] at hn
    rw [keysB, Finset.mem_filter] at hn'
    have h1 := hn.2
    have h2 := hn'.2
    omega
  have HJ := fun r : Fin 144 => inv_run i q x1 x2 t hs r (k0_t1_loop i).trips le_rfl
  rw [← ha] at HJ
  rw [trips1] at HJ
  have ones : vrow x2 (128 : Fin 144) = fun _ => 1 := funext fun n => dif_neg (by decide)
  have Ha := State.join hs hdj (HJ ⟨r.val, by omega⟩).1 (HJ ⟨r.val, by omega⟩).2
  have Hl := State.join hs hdj (HJ 128).1 (HJ 128).2
  rw [ones] at Hl
  refine attn_eq hs (S := keysA i t (i 2).val ∪ keysB (i 2).val) (fun n hn => ?_) (k₀ := ⟨1024 * (i 2).val + t.val, by omega⟩) ?_ ?_ Ha Hl
  · rw [Finset.mem_union, keysA, keysB, Finset.mem_filter, Finset.mem_filter] at hn
    simp only [Finset.mem_univ, true_and] at hn
    exact if_neg (by omega)
  · rw [Finset.mem_union, keysA, Finset.mem_filter]
    left
    refine ⟨Finset.mem_univ _, ?_⟩
    show (1024 * (i 2).val + t.val) / 512 = _ ∨ (_ ∧ (1024 * (i 2).val + t.val) / 512 = _) ∨ _
    omega
  · unfold sc
    rw [if_pos (le_refl _)]
    exact hd _

end Cert.MobaIdeal.BlockValue

end
-- ==== Proof.MobaArray.lean ====
module

public import proofs.«01_k».proof.Proof.MobaRow
public import Idealize.ShloMosaic.Lib.Pipeline.ReadBack
public import Idealize.ShloMosaic.Lib.Pipeline.ValueKit

/-! The causal attention over the prompt: the array after the run. -/

@[expose] public section

set_option maxRecDepth 16384

noncomputable section

namespace Cert.MobaIdeal.BlockValue

open Cert.MobaIdeal Cert.MobaIdeal.Gen Idealize.ShloMosaic Idealize.ShloMosaic.TcCoe Idealize.SL.Sem
open Idealize.ShloMosaic.Pipeline (Dat)

variable (m : (ℓ : Loc nD τ sig) → Buf (Elt Ideal) ℓ)

/-- The index maps: a grid point is a sequence, a head and a block of 1024 queries. -/
theorem idx : ∀ t : Fin cfg0.N, win0_0.index t = ![t.val / 8, t.val % 8]
    ∧ win0_1.index t = ![t.val / 64, t.val / 8 % 8]
    ∧ win0_2.index t = ![t.val / 64, t.val / 8 % 8, 0]
    ∧ win0_3.index t = ![8 * (t.val / 64) + t.val % 8, t.val / 8 % 8] :=
  (by decide +kernel : ∀ t : Fin grid0.N, win0_0.index t = ![t.val / 8, t.val % 8]
    ∧ win0_1.index t = ![t.val / 64, t.val / 8 % 8]
    ∧ win0_2.index t = ![t.val / 64, t.val / 8 % 8, 0]
    ∧ win0_3.index t = ![8 * (t.val / 64) + t.val % 8, t.val / 8 % 8])

/-- The last grid coordinate is the block of queries. -/
theorem coord2 : ∀ t : Fin cfg0.N, (grid0.coords t 2).val = t.val % 8 :=
  (by decide +kernel : ∀ t : Fin grid0.N, (grid0.coords t 2).val = t.val % 8)

theorem lt128 (t : Fin cfg0.N) : t.val < 128 := t.isLt

section
variable (q : S4096x8192.Idx → EReal) (k : S16384x2048.Idx → EReal) (v : S64x1024x256.Idx → EReal) (r : Fin 16384) (j : Fin 1024)

/-- The product of a key and a query of one head. -/
def prod (n : Fin 8192) : EReal := ∑ x : Fin 256,
  k (ix2 (⟨8192 * (r.val / 8192) + n.val, by omega⟩ : Fin 16384) (⟨256 * (j.val / 128) + x.val, by omega⟩ : Fin 2048))
    * q (ix2 (⟨256 * (8 * (r.val / 8192) + j.val / 128) + x.val, by omega⟩ : Fin 4096) (⟨r.val % 8192, by omega⟩ : Fin 8192))

/-- The scores of a row of the result: a query sees the keys up to its own position. -/
def scores (n : Fin 8192) : EReal := if n.val ≤ r.val % 8192 then prod q k r j n else ⊥

/-- A column of the values of a row's sequence. -/
def column (n : Fin 8192) : EReal := v (ix3 (⟨32 * (r.val / 8192) + n.val / 256, by omega⟩ : Fin 64) j (⟨n.val % 256, by omega⟩ : Fin 256))

end

/-- The array after the run, from the arguments. -/
def G (c : Dev nD) : S16384x1024.Idx → EReal := fun i =>
  Softmax.attn (scores (m ((c : Thread nD τ).loc main_arg0)) (m ((c : Thread nD τ).loc main_arg1)) (i 0) (i 1))
    (column (m ((c : Thread nD τ).loc main_arg2)) (i 0) (i 1))

set_option maxHeartbeats 2000000 in
theorem final (c : Dev nD) (hr : ∀ r j n, ∃ x : ℝ, prod (m ((c : Thread nD τ).loc main_arg0)) (m ((c : Thread nD τ).loc main_arg1)) r j n = (x : EReal)) :
    (dats m 0 c).arrAt 3 cfg0.N = G m c := by
  refine (dats m 0 c).arrAt_eq_of_covers 3 _ (by decide +kernel) fun t hf y => ?_
  blk_simp
  rw [after0_3, outsAt0_eq]
  obtain ⟨u, d, rfl⟩ : ∃ (u : Fin 1024) (d : Fin 128), y = ix2 u d := ⟨y 0, y 1, eq_ix2 y⟩
  have ht := lt128 t
  have e : (win0_3.blk t).view.emb (ix2 u d) = ix2 (⟨1024 * (8 * (t.val / 64) + t.val % 8) + u.val, by omega⟩ : Fin 16384) (⟨128 * (t.val / 8 % 8) + d.val, by omega⟩ : Fin 1024) := by blk_ext [idx t]
  rw [e]
  generalize hR : (⟨1024 * (8 * (t.val / 64) + t.val % 8) + u.val, by omega⟩ : Fin 16384) = R
  generalize hJ : (⟨128 * (t.val / 8 % 8) + d.val, by omega⟩ : Fin 1024) = J
  have hR' : R.val = 1024 * (8 * (t.val / 64) + t.val % 8) + u.val := hR ▸ rfl
  have hJ' : J.val = 128 * (t.val / 8 % 8) + d.val := hJ ▸ rfl
  have e1 : R.val / 8192 = t.val / 64 := by omega
  have e2 : R.val % 8192 = 1024 * (t.val % 8) + u.val := by omega
  have e3 : J.val / 128 = t.val / 8 % 8 := by omega
  have e4 : 8 * (t.val / 64) + t.val / 8 % 8 = t.val / 8 := by omega
  have eq : ∀ x : Fin 256, iblk m c 0 t (ix2 x u) = m ((c : Thread nD τ).loc main_arg0) (ix2 (⟨256 * (8 * (R.val / 8192) + J.val / 128) + x.val, by omega⟩ : Fin 4096) (⟨R.val % 8192, by omega⟩ : Fin 8192)) := fun x => by
    simp only [e1, e2, e3, e4]
    blk_ext [iblk, V, idx t]
  have ek : ∀ (n : Fin 8192) (x : Fin 256), iblk m c 1 t (ix2 n x) = m ((c : Thread nD τ).loc main_arg1) (ix2 (⟨8192 * (R.val / 8192) + n.val, by omega⟩ : Fin 16384) (⟨256 * (J.val / 128) + x.val, by omega⟩ : Fin 2048)) := fun n x => by
    simp only [e1, e3]
    blk_ext [iblk, V, idx t]
  have ev : ∀ n : Fin 8192, iblk m c 2 t (ix3 (⟨n.val / 256, by omega⟩ : Fin 32) d (⟨n.val % 256, by omega⟩ : Fin 256)) = m ((c : Thread nD τ).loc main_arg2) (ix3 (⟨32 * (R.val / 8192) + n.val / 256, by omega⟩ : Fin 64) J (⟨n.val % 256, by omega⟩ : Fin 256)) := fun n => by
    subst hJ
    simp only [e1]
    blk_ext [iblk, V, idx t]
  have hdot : ∀ n, dot (iblk m c 0 t) (iblk m c 1 t) u n = prod (m ((c : Thread nD τ).loc main_arg0)) (m ((c : Thread nD τ).loc main_arg1)) R J n := fun n =>
    Finset.sum_congr rfl fun x _ => congrArg₂ (· * ·) (ek n x) (eq x)
  have hsc : ∀ n, sc (grid0.coords t) (iblk m c 0 t) (iblk m c 1 t) u n = scores (m ((c : Thread nD τ).loc main_arg0)) (m ((c : Thread nD τ).loc main_arg1)) R J n := fun n => by
    unfold sc scores
    rw [hdot, coord2 t, e2]
  refine (block_apply (grid0.coords t) (iblk m c 0 t) (iblk m c 1 t) (iblk m c 2 t) u (fun n => ?_) (fun n => ?_) d _ rfl).trans ?_
  · rw [hsc]
    unfold scores
    obtain ⟨x, hx⟩ := hr R J n
    split
    · rw [hx]; exact EReal.coe_ne_top x
    · exact bot_ne_top
  · rw [hdot]
    obtain ⟨x, hx⟩ := hr R J n
    rw [hx]; exact EReal.coe_ne_bot x
  · refine congrArg₂ Softmax.attn (funext hsc) (funext fun n => ?_)
    unfold vrow column
    rw [dif_pos d.isLt]
    exact ev n

end Cert.MobaIdeal.BlockValue

end
-- ==== Proof.MobaRefRow.lean ====
module

public import proofs.«01_k».proof.Proof.Softmax
public import proofs.«01_k».proof.Proof.RowMax
public import proofs.«01_k».proof.Proof.MobaArray
public import proofs.«01_k».proof.Proof.Gen.MobaRefIdeal.Read
public import Idealize.ShloMosaic.Lib.Pointwise

/-! The causal attention over the prompt: the reference at one result, as softmax attention over the keys up to the query. -/

@[expose] public section

set_option maxRecDepth 16384

noncomputable section

namespace Cert.MobaRefIdeal.RowValue
open Cert.MobaRefIdeal Cert.MobaRefIdeal.Gen Idealize.ShloMosaic Idealize.ShloMosaic.TcCoe Idealize.SL.Sem
open Cert.MobaRefIdeal.Read
variable (x0 : (⟨2, ![4096, 8192]⟩ : Shape).Idx → EReal) (x1 : (⟨2, ![16384, 2048]⟩ : Shape).Idx → EReal) (x2 : (⟨3, ![64, 1024, 256]⟩ : Shape).Idx → EReal)

/-- The masked scores of the reference. -/
abbrev sc (b : Fin 2) (h : Fin 8) (t : Fin 8192) : Fin 8192 → EReal := fun k => val_main_v15 (F := Ideal) x0 x1 (ix4 b h t k)

theorem q_apply (b : Fin 2) (h : Fin 8) (x : Fin 256) (t : Fin 8192) :
    val_main_v1 (F := Ideal) x0 (ix4 b h x t) = x0 (ix2 (⟨256 * (8 * b.val + h.val) + x.val, by omega⟩ : Fin 4096) t) := by
  rw [val_main_v1_apply]
  change val_main_v0 (F := Ideal) x0 (ix4 b h x t) = _
  rw [val_main_v0_apply]
  refine congrArg x0 (funext fun a => ?_)
  match a with
  | ⟨0, _⟩ => exact Fin.ext (by show (((b.val * 8 + h.val) * 256 + x.val) * 8192 + t.val) / 8192 = 256 * (8 * b.val + h.val) + x.val; omega)
  | ⟨1, _⟩ => exact Fin.ext (by show (((b.val * 8 + h.val) * 256 + x.val) * 8192 + t.val) % 8192 = t.val; omega)

theorem k_apply (b : Fin 2) (n : Fin 8192) (h : Fin 8) (x : Fin 256) :
    val_main_v3 (F := Ideal) x1 (ix4 b n h x) = x1 (ix2 (⟨8192 * b.val + n.val, by omega⟩ : Fin 16384) (⟨256 * h.val + x.val, by omega⟩ : Fin 2048)) := by
  rw [val_main_v3_apply]
  change val_main_v2 (F := Ideal) x1 (ix4 b n h x) = _
  rw [val_main_v2_apply]
  refine congrArg x1 (funext fun a => ?_)
  match a with
  | ⟨0, _⟩ => exact Fin.ext (by show (((b.val * 8192 + n.val) * 8 + h.val) * 256 + x.val) / 2048 = 8192 * b.val + n.val; omega)
  | ⟨1, _⟩ => exact Fin.ext (by show (((b.val * 8192 + n.val) * 8 + h.val) * 256 + x.val) % 2048 = 256 * h.val + x.val; omega)

theorem v_apply (b : Fin 2) (n : Fin 8192) (h : Fin 8) (d : Fin 128) :
    val_main_v7 (F := Ideal) x2 (ix4 b n h d) = x2 (ix3 (⟨32 * b.val + n.val / 256, by omega⟩ : Fin 64) (⟨128 * h.val + d.val, by omega⟩ : Fin 1024) (⟨n.val % 256, by omega⟩ : Fin 256)) := by
  have e6 : idx_main_v6 (ix4 b n h d) = ix5 b (⟨n.val / 256, by omega⟩ : Fin 32) (⟨n.val % 256, by omega⟩ : Fin 256) h d := funext fun a => by
    match a with
    | ⟨0, _⟩ => exact Fin.ext (by show (((b.val * 8192 + n.val) * 8 + h.val) * 128 + d.val) / 8388608 = b.val; omega)
    | ⟨1, _⟩ => exact Fin.ext (by show (((b.val * 8192 + n.val) * 8 + h.val) * 128 + d.val) / 262144 % 32 = n.val / 256; omega)
    | ⟨2, _⟩ => exact Fin.ext (by show (((b.val * 8192 + n.val) * 8 + h.val) * 128 + d.val) / 1024 % 256 = n.val % 256; omega)
    | ⟨3, _⟩ => exact Fin.ext (by show (((b.val * 8192 + n.val) * 8 + h.val) * 128 + d.val) / 128 % 8 = h.val; omega)
    | ⟨4, _⟩ => exact Fin.ext (by show (((b.val * 8192 + n.val) * 8 + h.val) * 128 + d.val) % 128 = d.val; omega)
  have e5 : ∀ (w : Fin 32) (y : Fin 256), idx_main_v5 (ix5 b w y h d) = ix5 b w h d y := fun w y => funext fun a => by
    match a with
    | ⟨0, _⟩ => rfl
    | ⟨1, _⟩ => rfl
    | ⟨2, _⟩ => rfl
    | ⟨3, _⟩ => rfl
    | ⟨4, _⟩ => rfl
  have e4 : ∀ (w : Fin 32) (y : Fin 256), idx_main_v4 (ix5 b w h d y) = ix3 (⟨32 * b.val + w.val, by omega⟩ : Fin 64) (⟨128 * h.val + d.val, by omega⟩ : Fin 1024) y := fun w y => funext fun a => by
    match a with
    | ⟨0, _⟩ => exact Fin.ext (by show ((((b.val * 32 + w.val) * 8 + h.val) * 128 + d.val) * 256 + y.val) / 262144 = 32 * b.val + w.val; omega)
    | ⟨1, _⟩ => exact Fin.ext (by show ((((b.val * 32 + w.val) * 8 + h.val) * 128 + d.val) * 256 + y.val) / 256 % 1024 = 128 * h.val + d.val; omega)
    | ⟨2, _⟩ => exact Fin.ext (by show ((((b.val * 32 + w.val) * 8 + h.val) * 128 + d.val) * 256 + y.val) % 256 = y.val; omega)
  rw [val_main_v7_apply]
  change val_main_v6 (F := Ideal) x2 (ix4 b n h d) = _
  rw [val_main_v6_apply, e6, val_main_v5_apply, e5, val_main_v4_apply, e4]

theorem logit_apply (b : Fin 2) (h : Fin 8) (t n : Fin 8192) :
    val_main_v8 (F := Ideal) x0 x1 (ix4 b h t n) = ∑ x : Fin 256, x1 (ix2 (⟨8192 * b.val + n.val, by omega⟩ : Fin 16384) (⟨256 * h.val + x.val, by omega⟩ : Fin 2048))
      * x0 (ix2 (⟨256 * (8 * b.val + h.val) + x.val, by omega⟩ : Fin 4096) t) := by
  have el : ∀ x : Fin 256, lidx_main_v8 (ix4 b h t n) x = ix4 b h x t := fun x => funext fun a => by
    match a with
    | ⟨0, _⟩ => rfl
    | ⟨1, _⟩ => rfl
    | ⟨2, _⟩ => rfl
    | ⟨3, _⟩ => rfl
  have er : ∀ x : Fin 256, ridx_main_v8 (ix4 b h t n) x = ix4 b n h x := fun x => funext fun a => by
    match a with
    | ⟨0, _⟩ => rfl
    | ⟨1, _⟩ => rfl
    | ⟨2, _⟩ => rfl
    | ⟨3, _⟩ => rfl
  rw [val_main_v8_apply]
  refine Finset.sum_congr rfl fun x _ => ?_
  rw [el, er, q_apply, k_apply]
  exact mul_comm _ _

theorem mask_apply (b : Fin 2) (h : Fin 8) (t n : Fin 8192) :
    val_main_call0_v1 (F := Ideal) (ix4 b h t n) = IntOp.cmpi CmpIPredicate.sle (BitVec.ofNat 32 n.val) (BitVec.ofNat 32 t.val) := by
  rw [val_main_call0_v1_apply, val_main_v14_apply, val_main_v12_apply, val_main_v13_apply, val_main_v10_apply, val_main_v11_apply, val_main_v9_apply, val_main_v9_apply]
  rfl

theorem sc_apply (b : Fin 2) (h : Fin 8) (t n : Fin 8192) :
    sc x0 x1 b h t n = if n.val ≤ t.val then ∑ x : Fin 256, x1 (ix2 (⟨8192 * b.val + n.val, by omega⟩ : Fin 16384) (⟨256 * h.val + x.val, by omega⟩ : Fin 2048))
      * x0 (ix2 (⟨256 * (8 * b.val + h.val) + x.val, by omega⟩ : Fin 4096) t) else ⊥ := by
  unfold sc
  rw [val_main_v15_apply, mask_apply, MobaIdeal.BlockValue.sle_iff _ _ (by omega) (by omega), logit_apply, val_main_call0_v2_apply, val_main_call0_v0_apply, val_main_cst_apply]
  change (if _ then _ else Ideal.ofBits FTy.f32 4286578688#32) = _
  rw [Softmax.negInf]

theorem m0_apply (b : Fin 2) (h : Fin 8) (t : Fin 8192) :
    val_main_v16 (F := Ideal) x0 x1 (ix3 b h t) = Finset.univ.sup (sc x0 x1 b h t) := by
  unfold val_main_v16
  exact Softmax.host_sup (n0 := 2) (n1 := 8) (n2 := 8192) (n3 := 8192) _ _ _ _ b h t Softmax.negInf

theorem m_apply (b : Fin 2) (h : Fin 8) (t : Fin 8192) :
    val_main_v18 (F := Ideal) x0 x1 (ix3 b h t) = Finset.univ.sup (sc x0 x1 b h t) := by
  rw [val_main_v18_apply, val_main_v17_apply, val_main_cst_1_apply, m0_apply]
  change max (Ideal.ofBits FTy.f32 4286578688#32) _ = _
  rw [Softmax.negInf]
  exact max_eq_right bot_le

theorem e_apply (b : Fin 2) (h : Fin 8) (t n : Fin 8192) :
    val_main_v22 (F := Ideal) x0 x1 (ix4 b h t n) = Ideal.exp (sc x0 x1 b h t n - Finset.univ.sup (sc x0 x1 b h t)) := by
  have e : idx_main_v19 (idx_main_v20 (ix4 b h t n)) = ix3 b h t := by
    funext a
    match a with
    | ⟨0, _⟩ => rfl
    | ⟨1, _⟩ => rfl
    | ⟨2, _⟩ => rfl
  rw [val_main_v22_apply, val_main_v21_apply, val_main_v20_apply, val_main_v19_apply, e, m_apply]
  rfl

theorem l_apply (b : Fin 2) (h : Fin 8) (t : Fin 8192) :
    val_main_v23 (F := Ideal) x0 x1 (ix3 b h t) = ∑ n, Ideal.exp (sc x0 x1 b h t n - Finset.univ.sup (sc x0 x1 b h t)) := by
  rw [val_main_v23_apply]
  have e : ∀ n : Fin 8192, idx_main_v23 (ix3 b h t) n = ix4 b h t n := fun n => by
    funext a
    match a with
    | ⟨0, _⟩ => rfl
    | ⟨1, _⟩ => rfl
    | ⟨2, _⟩ => rfl
    | ⟨3, _⟩ => rfl
  simp only [e, e_apply]
  rw [show val_main_cst_2 (F := Ideal) (Shape.Idx.first h_S_) = (0 : EReal) from by
    show Ideal.ofBits FTy.f32 0x00000000#32 = 0
    simp [Ideal.ofBits, Ideal.ieee], zero_add]

theorem p_apply (b : Fin 2) (h : Fin 8) (t n : Fin 8192) :
    val_main_v26 (F := Ideal) x0 x1 (ix4 b h t n) = Ideal.div (Ideal.exp (sc x0 x1 b h t n - Finset.univ.sup (sc x0 x1 b h t)))
      (∑ k, Ideal.exp (sc x0 x1 b h t k - Finset.univ.sup (sc x0 x1 b h t))) := by
  have e : idx_main_v24 (idx_main_v25 (ix4 b h t n)) = ix3 b h t := by
    funext a
    match a with
    | ⟨0, _⟩ => rfl
    | ⟨1, _⟩ => rfl
    | ⟨2, _⟩ => rfl
  rw [val_main_v26_apply, val_main_v25_apply, val_main_v24_apply, e, l_apply, e_apply]
  rfl

theorem o_apply (b : Fin 2) (h : Fin 8) (d : Fin 128) (t : Fin 8192) :
    val_main_v27 (F := Ideal) x0 x1 x2 (ix4 b h d t)
      = Softmax.attn (sc x0 x1 b h t) fun n => x2 (ix3 (⟨32 * b.val + n.val / 256, by omega⟩ : Fin 64) (⟨128 * h.val + d.val, by omega⟩ : Fin 1024) (⟨n.val % 256, by omega⟩ : Fin 256)) := by
  rw [val_main_v27_apply]
  have el : ∀ n : Fin 8192, lidx_main_v27 (ix4 b h d t) n = ix4 b n h d := fun n => by
    funext a
    match a with
    | ⟨0, _⟩ => rfl
    | ⟨1, _⟩ => rfl
    | ⟨2, _⟩ => rfl
    | ⟨3, _⟩ => rfl
  have er : ∀ n : Fin 8192, ridx_main_v27 (ix4 b h d t) n = ix4 b h t n := fun n => by
    funext a
    match a with
    | ⟨0, _⟩ => rfl
    | ⟨1, _⟩ => rfl
    | ⟨2, _⟩ => rfl
    | ⟨3, _⟩ => rfl
  simp only [el, er, v_apply, p_apply]
  exact Finset.sum_congr rfl fun n _ => mul_comm _ _

/-- The reference's result at a row and a column: softmax attention over the keys of the row's sequence and the column's head
    up to the row's own position. -/
theorem row_apply (r : Fin 16384) (j : Fin 1024) :
    val_main_v30 (F := Ideal) x0 x1 x2 (ix2 r j)
      = Softmax.attn (MobaIdeal.BlockValue.scores x0 x1 r j) (MobaIdeal.BlockValue.column x2 r j) := by
  have hr := r.isLt
  have hj := j.isLt
  have e : idx_main_v28 (idx_main_v29 (ix2 r j)) = ix4 (⟨r.val / 8192, by omega⟩ : Fin 2) (⟨j.val / 128, by omega⟩ : Fin 8) (⟨j.val % 128, by omega⟩ : Fin 128) (⟨r.val % 8192, by omega⟩ : Fin 8192) := by
    funext a
    match a with
    | ⟨0, _⟩ => exact Fin.ext (by show (r.val * 1024 + j.val) / 8388608 = r.val / 8192; omega)
    | ⟨1, _⟩ => exact Fin.ext (by show (r.val * 1024 + j.val) / 128 % 8 = j.val / 128; omega)
    | ⟨2, _⟩ => exact Fin.ext (by show (r.val * 1024 + j.val) % 128 = j.val % 128; omega)
    | ⟨3, _⟩ => exact Fin.ext (by show (r.val * 1024 + j.val) / 1024 % 8192 = r.val % 8192; omega)
  rw [val_main_v30_apply]
  change val_main_v29 (F := Ideal) x0 x1 x2 (ix2 r j) = _
  rw [val_main_v29_apply, val_main_v28_apply, e, o_apply]
  refine congrArg₂ Softmax.attn (funext fun n => (sc_apply x0 x1 _ _ _ n).trans rfl) (funext fun n => congrArg x2 (congrArg (fun w => ix3 _ w _) (Fin.ext ?_)))
  show 128 * (j.val / 128) + j.val % 128 = j.val
  omega

end Cert.MobaRefIdeal.RowValue

end
-- ==== Proof.MobaClaim.lean ====
module

public import proofs.«01_k».proof.Defs
public import proofs.«01_k».proof.Proof.Finite
public import proofs.«01_k».proof.Proof.MobaArray
public import proofs.«01_k».proof.Proof.MobaRefRow
public import proofs.«01_k».proof.Proof.Gen.Pre_moba_finite
public import proofs.«01_k».proof.Proof.Gen.MobaIdeal
public import proofs.«01_k».proof.Proof.Gen.MobaRefIdeal
public import proofs.«01_k».proof.Proof.Gen.MobaRefIdeal.Run

/-! The causal attention over the prompt: the kernel walks the keys in two running softmaxes and joins them, the reference
    takes one softmax over all keys. With finite queries and keys the two are equal. -/

@[expose] public section

set_option maxRecDepth 16384

noncomputable section

namespace Cert.MobaValue

open Idealize.ShloMosaic Idealize.ShloMosaic.TcCoe Idealize.SL.Sem

variable (m : (ℓ : Loc MobaIdeal.nD MobaIdeal.τ MobaIdeal.sig) → Buf (Elt Ideal) ℓ)
    (m' : (ℓ : Loc MobaRefIdeal.nD MobaRefIdeal.τ MobaRefIdeal.sig) → Buf (Elt Ideal) ℓ) (c : Dev MobaIdeal.nD)

/-- The two programs' arguments are the same. -/
abbrev same : Prop :=
    m' ((c.tc : Thread MobaRefIdeal.nD MobaRefIdeal.τ).loc MobaRefIdeal.main_arg0) = m ((c.tc : Thread MobaIdeal.nD MobaIdeal.τ).loc MobaIdeal.main_arg0)
    ∧ m' ((c.tc : Thread MobaRefIdeal.nD MobaRefIdeal.τ).loc MobaRefIdeal.main_arg1) = m ((c.tc : Thread MobaIdeal.nD MobaIdeal.τ).loc MobaIdeal.main_arg1)
    ∧ m' ((c.tc : Thread MobaRefIdeal.nD MobaRefIdeal.τ).loc MobaRefIdeal.main_arg2) = m ((c.tc : Thread MobaIdeal.nD MobaIdeal.τ).loc MobaIdeal.main_arg2)

/-- With finite queries and keys, each product of a key and a query is a real number. -/
theorem real_prod (hp : Pre_MobaIdeal_moba_finite m) (r : Fin 16384) (j : Fin 1024) (n : Fin 8192) :
    ∃ x : ℝ, MobaIdeal.BlockValue.prod (m ((c.tc : Thread MobaIdeal.nD MobaIdeal.τ).loc MobaIdeal.main_arg0))
      (m ((c.tc : Thread MobaIdeal.nD MobaIdeal.τ).loc MobaIdeal.main_arg1)) r j n = (x : EReal) :=
  Softmax.real_dot Finset.univ
    (fun x : Fin 256 => (m ((c.tc : Thread MobaIdeal.nD MobaIdeal.τ).loc MobaIdeal.main_arg1) (ix2 (⟨8192 * (r.val / 8192) + n.val, by omega⟩ : Fin 16384) (⟨256 * (j.val / 128) + x.val, by omega⟩ : Fin 2048)) : EReal))
    (fun x : Fin 256 => (m ((c.tc : Thread MobaIdeal.nD MobaIdeal.τ).loc MobaIdeal.main_arg0) (ix2 (⟨256 * (8 * (r.val / 8192) + j.val / 128) + x.val, by omega⟩ : Fin 4096) (⟨r.val % 8192, by omega⟩ : Fin 8192)) : EReal))
    (fun _ => Softmax.real_of_lt _ (congrFun (hp c).2 _)) (fun _ => Softmax.real_of_lt _ (congrFun (hp c).1 _))

set_option maxHeartbeats 2000000 in
/-- The reference's result is the same function of the arguments. -/
theorem ref_eq (h : same m m' c) : MobaRefIdeal.Read.val_main_v30 (F := Ideal) (m' ((c.tc : Thread MobaRefIdeal.nD MobaRefIdeal.τ).loc MobaRefIdeal.main_arg0)) (m' ((c.tc : Thread MobaRefIdeal.nD MobaRefIdeal.τ).loc MobaRefIdeal.main_arg1)) (m' ((c.tc : Thread MobaRefIdeal.nD MobaRefIdeal.τ).loc MobaRefIdeal.main_arg2)) = MobaIdeal.BlockValue.G m c := by
  rw [h.1, h.2.1, h.2.2]
  funext i
  obtain ⟨r, j, rfl⟩ : ∃ (r : Fin 16384) (j : Fin 1024), i = ix2 r j := ⟨i 0, i 1, eq_ix2 i⟩
  exact MobaRefIdeal.RowValue.row_apply _ _ _ r j

/-- The causal attention over the prompt: the kernel and the reference end with equal results. -/
theorem algebraic : Cert.algebraic_MobaIdeal_MobaRefIdeal_pre_moba_finite := fun m g m' g' hp hag =>
  ⟨fun c => MobaIdeal.BlockValue.G m c,
    (θ_run _ _ _).mono (fun _ h c => ⟨(h c).1.trans (MobaIdeal.BlockValue.final m c fun r j n => real_prod m c hp r j n), (h c).2⟩) (MobaIdeal.Value.run_blocks m g),
    (θ_run _ _ _).mono (fun _ h c => ⟨(h c).1.trans ((MobaRefIdeal.Read.val_main_v30_eq _ _).trans (ref_eq m m' c (hag c))), (h c).2⟩) (MobaRefIdeal.Value.run m' g')⟩

end Cert.MobaValue

end
-- ==== Proof.GateHeads.lean ====
module

public import proofs.«01_k».proof.Proof.Gen.GateIdeal.Value
public import Idealize.ShloMosaic.Lib.Pointwise

/-! The body computes its eight heads in one way: the rows below a head's queries, as one function of the head's queries,
    its means and its own rows. -/

@[expose] public section

set_option maxRecDepth 16384

noncomputable section

namespace Cert.GateIdeal.BlockValue

open Cert.GateIdeal Cert.GateIdeal.Gen Idealize.ShloMosaic Idealize.ShloMosaic.TcCoe Idealize.SL.Sem

/-- The rows' numbers. -/
def rowsW : IVec S48x512 32 := iota .tc S48x512 32 [0] iota_S48x512_d0_w32

/-- A head's gates: the product of its means with its queries' three parts, minus infinity at the blocks not past. -/
def gates (el : IVec S48x512 1) (q : FVec Ideal S128x512 .f32) (km : Vec Ideal S1x1x48x384 .bf16) : FVec Ideal S48x512 .f32 :=
  k0_pay16 el (truncf .bf16 q bitsLt_bf16_f32) (subf q (extf .f32 (truncf .bf16 q bitsLt_bf16_f32) bitsLt_bf16_f32)) km

/-- A head's rows below its queries. -/
def rows (dg : FVec Ideal S16x512 .f32) (z : FVec Ideal S72x512 .f32) (el : IVec S48x512 1) (g : FVec Ideal S48x512 .f32) (qr : Vec Ideal S1x16x128 .f32) : FVec Ideal S128x512 .bf16 :=
  k0_pay46 dg z rowsW (k0_pay43 rowsW el g) (k0_pay44 rowsW g) qr

/-- A head's queries scaled. -/
abbrev scaled (q : FVec Ideal S128x512 .f32) : FVec Ideal S128x512 .bf16 := k0_pay22 q

section
variable (dg : FVec Ideal S16x512 .f32) (z : FVec Ideal S72x512 .f32) (el : IVec S48x512 1) (p : FVec Ideal S1024x512 .f32)
  (km : Vec Ideal S1x1x48x384 .bf16) (qr : Vec Ideal S1x16x128 .f32)

theorem head0 : k0_pay23 dg z rowsW (k0_pay18 rowsW el (k0_pay14 p) (k0_pay15 p) km) (k0_pay19 rowsW el (k0_pay14 p) (k0_pay15 p) km)
    (k0_pay20 rowsW el (k0_pay14 p) (k0_pay15 p) km) k0_pay21 qr = rows dg z el (gates el (k0_pay13 p) km) qr := rfl

theorem head1 : k0_pay37 dg z rowsW (k0_pay32 rowsW el (k0_pay25 p) (k0_pay26 p) (k0_pay27 km)) (k0_pay34 rowsW el (k0_pay25 p) (k0_pay26 p) (k0_pay27 km))
    (k0_pay35 rowsW el (k0_pay25 p) (k0_pay26 p) (k0_pay27 km)) (Scalar.ofBits .f32 0xFF800000#32) qr = rows dg z el (gates el (k0_pay24 p) km) qr := rfl

theorem head2 : k0_pay46 dg z rowsW (k0_pay43 rowsW el (k0_pay39 p el km)) (k0_pay44 rowsW (k0_pay39 p el km)) qr = rows dg z el (gates el (k0_pay38 p) km) qr := rfl

theorem head3 : k0_pay58 dg z (k0_pay55 rowsW el (k0_pay48 p el km) (k0_pay50 p el km) (k0_pay51 p el km))
    (k0_pay56 rowsW (k0_pay48 p el km) (k0_pay50 p el km) (k0_pay51 p el km)) qr = rows dg z el (gates el (k0_pay47 p) km) qr := rfl

theorem head4 : k0_pay64 dg z (k0_pay62 rowsW el (k0_pay60 p el km) (k0_pay61 p rowsW el km)) qr = rows dg z el (gates el (k0_pay59 p) km) qr := rfl

theorem head5 : k0_pay72 z (k0_pay69 rowsW (k0_pay66 p el km) (k0_pay67 p rowsW el km) (k0_pay68 p rowsW el km) (Scalar.ofBits .f32 0xFF800000#32)) (k0_pay70 dg qr)
    = rows dg z el (gates el (k0_pay65 p) km) qr := rfl

theorem head6 : k0_pay82 (k0_pay80 dg z rowsW (k0_pay76 p rowsW el km) (k0_pay77 p rowsW el km) (k0_pay78 p rowsW el km) (k0_pay79 p rowsW el km) qr)
    = rows dg z el (gates el (k0_pay73 p) km) qr := rfl

theorem head7 : k0_pay91 dg z rowsW (k0_pay86 p rowsW el km) (k0_pay87 p rowsW el km) (k0_pay88 p rowsW el km) k0_pay89 qr
    = rows dg z el (gates el (k0_pay83 p) km) qr := rfl

end

end Cert.GateIdeal.BlockValue

end
-- ==== Proof.GateTop.lean ====
module

public import proofs.«01_k».proof.Proof.ConvMath

/-! The three greatest of a column of gates: taken off one after another, the first of equals each time; and counted, a gate
    being among them when fewer than three stand above it. -/

@[expose] public section

noncomputable section

namespace Cert.Gate

open Idealize.ShloMosaic

variable {N : ℕ}

/-- `n` is the first place where the greatest gate stands, and that gate is above minus infinity. -/
def Pick (g : Fin N → EReal) (n : Fin N) : Prop :=
  (g n = Finset.univ.sup g ∧ ⊥ < Finset.univ.sup g) ∧ ∀ k, k < n → ¬(g k = Finset.univ.sup g ∧ ⊥ < Finset.univ.sup g)

open Classical in
/-- The gates without that one. -/
def drop (g : Fin N → EReal) : Fin N → EReal := fun n => if Pick g n then ⊥ else g n

/-- Gate `k` stands above gate `n`: it is greater, or as great and earlier. -/
def Above (g : Fin N → EReal) (n k : Fin N) : Prop := g n < g k ∨ g k = g n ∧ k < n

open Classical in
/-- How many gates stand above gate `n`. -/
def rank (g : Fin N → EReal) (n : Fin N) : ℕ := (Finset.univ.filter (Above g n)).card

theorem pick_lt {g : Fin N → EReal} {n k : Fin N} (h : Pick g k) (hn : n ≠ k) : Above g n k := by
  have hle : g n ≤ Finset.univ.sup g := Finset.le_sup (Finset.mem_univ n)
  rcases lt_or_eq_of_le hle with hlt | he
  · exact .inl (h.1.1.symm ▸ hlt)
  · rcases lt_trichotomy n k with hk | hk | hk
    · exact absurd ⟨he, h.1.2⟩ (h.2 n hk)
    · exact absurd hk hn
    · exact .inr ⟨h.1.1.trans he.symm, hk⟩

/-- Above minus infinity there is something to pick. -/
theorem exists_pick {g : Fin N → EReal} {n : Fin N} (hn : g n ≠ ⊥) : ∃ k, Pick g k := by
  classical
  have hb : ⊥ < Finset.univ.sup g := lt_of_lt_of_le (bot_lt_iff_ne_bot.2 hn) (Finset.le_sup (Finset.mem_univ n))
  obtain ⟨j, -, hj⟩ := Finset.exists_mem_eq_sup Finset.univ ⟨n, Finset.mem_univ n⟩ g
  have hne : (Finset.univ.filter fun k => g k = Finset.univ.sup g).Nonempty := ⟨j, by simp [hj]⟩
  refine ⟨(Finset.univ.filter fun k => g k = Finset.univ.sup g).min' hne, ⟨?_, hb⟩, fun k hk h => ?_⟩
  · exact (Finset.mem_filter.1 (Finset.min'_mem _ hne)).2
  · exact absurd (Finset.min'_le _ k (Finset.mem_filter.2 ⟨Finset.mem_univ k, h.1⟩)) (not_le.2 hk)

theorem not_above_pick {g : Fin N → EReal} {n k : Fin N} (h : Pick g n) : ¬ Above g n k := by
  rintro (hlt | ⟨he, hk⟩)
  · exact absurd (Finset.le_sup (f := g) (Finset.mem_univ k)) (not_le.2 (h.1.1 ▸ hlt))
  · exact h.2 k hk ⟨he.trans h.1.1, h.1.2⟩

/-- The one picked is the one nothing stands above. -/
theorem pick_iff {g : Fin N → EReal} {n : Fin N} (hn : g n ≠ ⊥) : Pick g n ↔ rank g n = 0 := by
  classical
  unfold rank
  rw [Finset.card_eq_zero, Finset.filter_eq_empty_iff]
  refine ⟨fun h k _ => not_above_pick h, fun h => ?_⟩
  obtain ⟨k, hk⟩ := exists_pick hn
  by_cases e : n = k
  · exact e ▸ hk
  · exact absurd (pick_lt hk e) (h (Finset.mem_univ k))

theorem drop_of_not {g : Fin N → EReal} {n : Fin N} (h : ¬ Pick g n) : drop g n = g n := if_neg h

/-- Off with the greatest, one fewer stands above each of the others. -/
theorem rank_drop {g : Fin N → EReal} {n : Fin N} (hn : g n ≠ ⊥) (h : ¬ Pick g n) : rank (drop g) n + 1 = rank g n := by
  classical
  obtain ⟨k, hk⟩ := exists_pick hn
  have hnk : n ≠ k := fun e => h (e ▸ hk)
  have hmem : k ∈ Finset.univ.filter (Above g n) := Finset.mem_filter.2 ⟨Finset.mem_univ k, pick_lt hk hnk⟩
  have hset : Finset.univ.filter (Above (drop g) n) = (Finset.univ.filter (Above g n)).erase k := by
    ext j
    rw [Finset.mem_erase, Finset.mem_filter, Finset.mem_filter]
    unfold Above
    rw [drop_of_not h]
    by_cases hj : Pick g j
    · have hjk : j = k := by
        by_contra hne
        exact not_above_pick hk (pick_lt hj fun e => hne e.symm)
      have hd : drop g j = ⊥ := if_pos hj
      rw [hd]
      constructor
      · rintro ⟨-, hlt | ⟨he, -⟩⟩
        · exact absurd hlt not_lt_bot
        · exact absurd he.symm hn
      · rintro ⟨hne, -⟩
        exact absurd hjk hne
    · rw [drop_of_not hj]
      exact ⟨fun ⟨hu, ha⟩ => ⟨fun e => hj (e ▸ hk), hu, ha⟩, fun ⟨_, hu, ha⟩ => ⟨hu, ha⟩⟩
  unfold rank
  rw [hset]
  exact Finset.card_erase_add_one hmem

/-- Left after three rounds is what three or more stand above. -/
theorem left_iff {g : Fin N → EReal} {n : Fin N} (hn : g n ≠ ⊥) :
    (¬ Pick g n ∧ ¬ Pick (drop g) n ∧ ¬ Pick (drop (drop g)) n) ↔ 3 ≤ rank g n := by
  by_cases h0 : Pick g n
  · have := (pick_iff hn).1 h0
    exact ⟨fun h => absurd h0 h.1, fun h => by omega⟩
  have r0 := rank_drop hn h0
  have p0 := mt (pick_iff hn).2 h0
  have hn1 : drop g n ≠ ⊥ := by rw [drop_of_not h0]; exact hn
  by_cases h1 : Pick (drop g) n
  · have := (pick_iff hn1).1 h1
    exact ⟨fun h => absurd h1 h.2.1, fun h => by omega⟩
  have r1 := rank_drop hn1 h1
  have p1 := mt (pick_iff hn1).2 h1
  have hn2 : drop (drop g) n ≠ ⊥ := by rw [drop_of_not h1]; exact hn1
  have p2 := pick_iff hn2
  refine ⟨fun h => ?_, fun h => ⟨h0, h1, fun e => ?_⟩⟩
  · have := mt p2.2 h.2.2
    omega
  · have := p2.1 e
    omega

/-- The least of the words of the places where `P` holds, 48 elsewhere, is the word of `n` when `n` is the first place. -/
theorem first_iff (P : Fin 48 → Prop) (f : Fin 48 → BitVec 32) (h1 : ∀ k, P k → f k = BitVec.ofNat 32 k.val) (h0 : ∀ k, ¬ P k → f k = 48#32) (n : Fin 48) :
    BitVec.ofNat 32 n.val = Finset.univ.fold IntOp.minsi 2147483647#32 f ↔ P n ∧ ∀ k, k < n → ¬ P k := by
  classical
  have hW : ∀ k : Fin 48, (BitVec.ofNat 32 k.val).toInt = (k.val : ℤ) := by decide +kernel
  have hI : ∀ k : Fin 48, (f k).toInt = if P k then (k.val : ℤ) else 48 := by
    intro k
    by_cases h : P k
    · rw [if_pos h, h1 k h]; exact hW k
    · rw [if_neg h, h0 k h]; decide +kernel
  have hN : (BitVec.ofNat 32 n.val).toInt = (n.val : ℤ) := hW n
  have hm : ∀ x y : BitVec 32, (IntOp.minsi x y).toInt = min x.toInt y.toInt := by
    intro x y
    unfold IntOp.minsi
    rw [BitVec.slt_eq_decide]
    by_cases h : x.toInt < y.toInt
    · rw [decide_eq_true h]; simp only [if_true]; exact (min_eq_left h.le).symm
    · rw [decide_eq_false h]; simp only [Bool.false_eq_true, if_false]; exact (min_eq_right (not_lt.1 h)).symm
  have hf := Finset.fold_hom (s := (Finset.univ : Finset (Fin 48))) (op := IntOp.minsi) (op' := min) (m := BitVec.toInt)
    (b := 2147483647#32) (f := f) hm
  rw [← BitVec.toInt_inj, ← hf, hN]
  simp only [hI]
  rw [show (2147483647#32 : BitVec 32).toInt = 2147483647 by decide +kernel]
  constructor
  · intro h
    have h1 := Finset.le_fold_min (n.val : ℤ) |>.1 (le_of_eq h)
    have h2 := Finset.fold_min_le (n.val : ℤ) |>.1 (le_of_eq h.symm)
    have hlt : ∀ k, k < n → ¬ P k := by
      intro k hk hp
      have := h1.2 k (Finset.mem_univ k)
      rw [if_pos hp] at this
      omega
    refine ⟨?_, hlt⟩
    rcases h2 with h2 | ⟨k, -, hk⟩
    · omega
    · by_cases hp : P k
      · rw [if_pos hp] at hk
        have : k = n := by
          by_contra hne
          exact hlt k (by omega) hp
        exact this ▸ hp
      · rw [if_neg hp] at hk
        omega
  · rintro ⟨hp, hl⟩
    refine le_antisymm (Finset.le_fold_min (n.val : ℤ) |>.2 ⟨by omega, fun k _ => ?_⟩) (Finset.fold_min_le (n.val : ℤ) |>.2 (.inr ⟨n, Finset.mem_univ n, ?_⟩))
    · by_cases h : P k
      · rw [if_pos h]
        by_contra hne
        exact hl k (by omega) h
      · rw [if_neg h]; omega
    · rw [if_pos hp]

/-- The count of what stands above, as a sum of ones. -/
theorem rank_sum (g : Fin N → EReal) (n : Fin N) (f : Fin N → EReal) (h1 : ∀ k, Above g n k → f k = 1) (h0 : ∀ k, ¬ Above g n k → f k = 0) :
    ∑ k, f k = ((rank g n : ℝ) : EReal) := by
  classical
  have : ∀ k, f k = if Above g n k then (1 : EReal) else 0 := by
    intro k
    by_cases h : Above g n k
    · rw [if_pos h, h1 k h]
    · rw [if_neg h, h0 k h]
  simp only [this]
  rw [Finset.sum_boole]
  unfold rank
  norm_cast

end Cert.Gate
-- ==== Proof.GateMath.lean ====
module

public import proofs.«01_k».proof.Proof.KvMath
public import proofs.«01_k».proof.Proof.GateTop
public import proofs.«01_k».proof.Proof.Finite
public import proofs.«01_k».proof.Proof.Softmax

/-! The augmented queries of the prompt group: a head's queries scaled, the mask of the blocks not chosen, the position digits. -/

@[expose] public section

set_option maxRecDepth 16384

noncomputable section

namespace Cert.Gate

open Idealize.ShloMosaic

/-- The word of plus infinity. -/
theorem posInf : Ideal.ofBits FTy.f32 2139095040#32 = (⊤ : EReal) := by
  simp [Ideal.ofBits, Ideal.ieee]

/-- An absolute value below infinity is that of a real number. -/
theorem real_of_lt (x : EReal) (h : Ideal.cmp .olt (max x (-x)) (Ideal.ofBits FTy.f32 2139095040#32) = 1#1) : ∃ r : ℝ, x = r := by
  refine Softmax.real_of_lt x ?_
  rw [Softmax.posInf]
  rwa [posInf] at h

theorem bits_1024 : Ideal.ofBits .f32 1149239296#32 = ((1024 : ℝ) : EReal) := by
  simp [Ideal.ofBits, Ideal.ieee, -EReal.coe_mul]; norm_num

theorem bits_eps : Ideal.ofBits .f32 925353388#32 = ((10995116 / 1099511627776 : ℝ) : EReal) := by
  simp [Ideal.ofBits, Ideal.ieee, -EReal.coe_mul]; norm_num

theorem sq_nonneg (x : EReal) : 0 ≤ x * x := by
  induction x with
  | bot => rw [EReal.bot_mul_bot]; exact le_top
  | coe r => rw [← EReal.coe_mul]; exact EReal.coe_nonneg.2 (mul_self_nonneg r)
  | top => rw [EReal.top_mul_top]; exact le_top

/-- The normed row is real where its gain is: an infinity in the row makes it zero. -/
theorem real_rms (v g : Fin 1024 → EReal) (hg : ∀ k, ∃ r : ℝ, g k = r) (j : Fin 1024) : ∃ r : ℝ, Layer.rms v g j = r := by
  by_cases hv : ∀ k, ∃ r : ℝ, v k = r
  · choose a ha using hv
    choose b hb using hg
    have hs : (∑ k, v k * v k) = ((∑ k, a k * a k : ℝ) : EReal) := by
      simp only [ha, ← EReal.coe_mul]
      exact Softmax.coe_sum _ _
    unfold Layer.rms
    rw [hs, bits_1024, bits_eps, Ideal.div_coe (by norm_num : (1024 : ℝ) ≠ 0), ← EReal.coe_mul, ← EReal.coe_add, Ideal.rsqrt_coe]
    have hp : 0 < (∑ k, a k * a k) * (1 / 1024 : ℝ) + 10995116 / 1099511627776 :=
      add_pos_of_nonneg_of_pos (mul_nonneg (Finset.sum_nonneg fun k _ => mul_self_nonneg _) (by norm_num)) (by norm_num)
    rw [if_neg (not_lt.2 hp.le), if_neg hp.ne', ha, hb, ← EReal.coe_mul, ← EReal.coe_mul]
    exact ⟨_, rfl⟩
  · obtain ⟨k, hk⟩ := not_forall.1 hv
    have hkk : v k * v k = ⊤ := by
      generalize v k = x at hk
      induction x with
      | bot => exact EReal.bot_mul_bot
      | coe r => exact absurd ⟨r, rfl⟩ hk
      | top => exact EReal.top_mul_top
    have hs : (∑ k, v k * v k) = ⊤ :=
      top_le_iff.1 (hkk ▸ Finset.single_le_sum (f := fun k => v k * v k) (fun i _ => sq_nonneg (v i)) (Finset.mem_univ k))
    unfold Layer.rms
    rw [hs, bits_1024, bits_eps, Ideal.div_coe (by norm_num : (1024 : ℝ) ≠ 0), EReal.top_mul_coe_of_pos (by norm_num), EReal.top_add_coe,
      show Ideal.rsqrt ⊤ = 0 from rfl, mul_zero, zero_mul]
    exact ⟨0, EReal.coe_zero.symm⟩

/-- So is a column of its projection by real weights. -/
theorem real_proj {n : ℕ} (v g : Fin 1024 → EReal) (w : Fin 1024 → Fin n → EReal) (hg : ∀ k, ∃ r : ℝ, g k = r)
    (j : Fin n) (hw : ∀ k, ∃ r : ℝ, w k j = r) : ∃ r : ℝ, Layer.proj v g w j = r :=
  Softmax.real_dot _ _ _ (real_rms v g hg) hw

/-- The prompt group's queries (the first thousand of columns) and memory queries (the second). -/
def qP (x0 : (⟨2, ![16384, 1024]⟩ : Shape).Idx → EReal) (x1 : (⟨2, ![4, 1024]⟩ : Shape).Idx → EReal)
    (x2 : (⟨3, ![2, 1024, 2048]⟩ : Shape).Idx → EReal) (r : Fin 16384) : Fin 2048 → EReal :=
  Layer.proj (fun k => x0 (ix2 r k)) (fun k => x1 (ix2 2 k)) (fun k j => x2 (ix3 0 k j))

/-- The gate of a block's mean (the first and the last third of its row, added) for a query. -/
def dot (km : Fin 384 → EReal) (q : Fin 128 → EReal) : EReal := ∑ d : Fin 128, (km ⟨d.val, by omega⟩ + km ⟨256 + d.val, by omega⟩) * q d

/-- A column of gates at position `s`: minus infinity where the block is not past. -/
def col (km : Fin 48 → Fin 384 → EReal) (q : Fin 128 → EReal) (s : ℕ) (n : Fin 48) : EReal := if n.val < s / 256 then dot (km n) q else ⊥

open Classical in
/-- The mask of block `n`: the mask's constant at a past block below the three best, zero at the others. -/
def mask (g : Fin 48 → EReal) (s : ℕ) (n : Fin 48) : EReal :=
  if n.val < s / 256 ∧ 3 ≤ rank g n then Ideal.ofBits FTy.f32 0xF1800000#32 else 0

/-- A row of the position digits: the high digit negated in rows 6 to 8, the low one negated in rows 9 to 11; `p` the
    position and `low` its low digit, as words. -/
def digitW (p low : BitVec 32) (a : Fin 16) : EReal :=
  Scalar.select (IntOp.andi (IntOp.cmpi .sge (BitVec.ofNat 32 a) 6#32) (IntOp.cmpi .slt (BitVec.ofNat 32 a) 9#32))
    (-(FloatOps.sitofp (F := Ideal) FTy.f32 (IntOp.subi p low) : EReal))
    (Scalar.select (IntOp.andi (IntOp.cmpi .sge (BitVec.ofNat 32 a) 9#32) (IntOp.cmpi .slt (BitVec.ofNat 32 a) 12#32))
      (-(FloatOps.sitofp (F := Ideal) FTy.f32 low : EReal)) 0)

/-- The digits of position `s`. -/
def digit (s : ℕ) (a : Fin 16) : EReal := digitW (BitVec.ofNat 32 s) (BitVec.ofNat 32 (s % 128)) a

/-- A head's row below its queries: 40 masks, 16 digits plus the head's own rows, zeros. -/
def below (g : Fin 48 → EReal) (s : ℕ) (qr : Fin 16 → EReal) (c : Fin 128) : EReal :=
  if h : c.val < 40 then mask g s ⟨c.val, by omega⟩
  else if h' : c.val < 56 then digit s ⟨c.val - 40, by omega⟩ + qr ⟨c.val - 40, by omega⟩ else 0

/-- The queries of head `h`. -/
abbrev head (p : Fin 2048 → EReal) (h : Fin 8) (d : Fin 128) : EReal := p ⟨128 * h.val + d.val, by omega⟩

/-- An entry of the augmented queries: in each head's 256 rows the queries scaled, then the rows below. -/
def augQ (p : Fin 2048 → EReal) (km : Fin 8 → Fin 48 → Fin 384 → EReal) (s : ℕ) (qr : Fin 8 → Fin 16 → EReal) (j : Fin 2048) : EReal :=
  if h : j.val % 256 < 128 then head p ⟨j.val / 256, by omega⟩ ⟨j.val % 256, h⟩ * Ideal.ofBits FTy.f32 0x3DB504F3#32
  else below (col (km ⟨j.val / 256, by omega⟩) (head p ⟨j.val / 256, by omega⟩) s) s (qr ⟨j.val / 256, by omega⟩) ⟨j.val % 256 - 128, by omega⟩

/-- A query's three parts: itself, its rounding error, itself. -/
def three (q : Fin 128 → EReal) (k : Fin 384) : EReal :=
  if h : k.val < 128 then q ⟨k.val, h⟩ else if h' : k.val < 256 then q ⟨k.val - 128, by omega⟩ - q ⟨k.val - 128, by omega⟩ else q ⟨k.val - 256, by omega⟩

theorem three_lo (q : Fin 128 → EReal) (d : Fin 128) : three q ⟨d.val, by omega⟩ = q d := dif_pos d.isLt

theorem three_mid (q : Fin 128 → EReal) (d : Fin 128) : three q ⟨128 + d.val, by omega⟩ = q d - q d := by
  have e : (⟨128 + d.val - 128, by omega⟩ : Fin 128) = d := Fin.ext (by show 128 + d.val - 128 = d.val; omega)
  unfold three
  rw [dif_neg (show ¬ 128 + d.val < 128 by omega), dif_pos (show 128 + d.val < 256 by omega)]
  exact congrArg₂ (· - ·) (congrArg q e) (congrArg q e)

theorem three_hi (q : Fin 128 → EReal) (d : Fin 128) : three q ⟨256 + d.val, by omega⟩ = q d := by
  have e : (⟨256 + d.val - 256, by omega⟩ : Fin 128) = d := Fin.ext (by show 256 + d.val - 256 = d.val; omega)
  unfold three
  rw [dif_neg (show ¬ 256 + d.val < 128 by omega), dif_neg (show ¬ 256 + d.val < 256 by omega)]
  exact congrArg q e

/-- A sum over 384 in thirds. -/
theorem sum_thirds (f : Fin 384 → EReal) :
    ∑ k, f k = ∑ d : Fin 128, f ⟨d.val, by omega⟩ + (∑ d : Fin 128, f ⟨128 + d.val, by omega⟩ + ∑ d : Fin 128, f ⟨256 + d.val, by omega⟩) := by
  have h1 := Fin.sum_univ_two_halves 128 256 rfl f
  have h2 := Fin.sum_univ_two_halves 128 128 rfl fun k : Fin 256 => f ⟨128 + k.val, by omega⟩
  simp only [← Nat.add_assoc, Nat.reduceAdd] at h1 h2
  rw [h1, h2]

/-- The gate as the product of the row with those. -/
theorem dot_eq (km : Fin 384 → EReal) (q : Fin 128 → EReal) (hk : ∀ k, k.val < 128 ∨ 256 ≤ k.val → ∃ r : ℝ, km k = r) (hq : ∀ d, ∃ r : ℝ, q d = r) :
    ∑ k : Fin 384, km k * three q k = dot km q := by
  choose b hb using hq
  rw [sum_thirds]
  simp only [three_lo, three_mid, three_hi]
  have hz : ∀ d : Fin 128, q d - q d = 0 := fun d => by rw [hb, ← EReal.coe_sub, sub_self, EReal.coe_zero]
  simp only [hz, mul_zero, Finset.sum_const_zero, zero_add]
  unfold dot
  rw [← Finset.sum_add_distrib]
  refine Finset.sum_congr rfl fun d _ => ?_
  obtain ⟨a, ha⟩ := hk ⟨d.val, by omega⟩ (.inl d.isLt)
  obtain ⟨a', ha'⟩ := hk ⟨256 + d.val, by omega⟩ (.inr (Nat.le_add_right _ _))
  rw [ha, ha', hb, ← EReal.coe_mul, ← EReal.coe_mul, ← EReal.coe_add, ← EReal.coe_add, ← EReal.coe_mul, add_mul]

/-- The gate of real rows is real. -/
theorem real_gate (km : Fin 384 → EReal) (q : Fin 128 → EReal) (hk : ∀ k, k.val < 128 ∨ 256 ≤ k.val → ∃ r : ℝ, km k = r) (hq : ∀ d, ∃ r : ℝ, q d = r) :
    ∃ r : ℝ, dot km q = r := by
  refine Softmax.real_dot _ _ _ (fun d => ?_) hq
  obtain ⟨a, ha⟩ := hk ⟨d.val, by omega⟩ (.inl d.isLt)
  obtain ⟨b, hb⟩ := hk ⟨256 + d.val, by omega⟩ (.inr (Nat.le_add_right _ _))
  exact ⟨a + b, by rw [ha, hb, EReal.coe_add]⟩

open Classical in
/-- The mask is what three rounds leave. -/
theorem mask_rounds (km : Fin 48 → Fin 384 → EReal) (q : Fin 128 → EReal) (s : ℕ) (n : Fin 48) (hk : ∀ k, k.val < 128 ∨ 256 ≤ k.val → ∃ r : ℝ, km n k = r) (hq : ∀ d, ∃ r : ℝ, q d = r) :
    mask (col km q s) s n = if n.val < s / 256 ∧ ¬ Pick (col km q s) n ∧ ¬ Pick (drop (col km q s)) n ∧ ¬ Pick (drop (drop (col km q s))) n
      then Ideal.ofBits FTy.f32 0xF1800000#32 else 0 := by
  unfold mask
  refine if_congr (and_congr_right fun h => (left_iff ?_).symm) rfl rfl
  unfold col
  rw [if_pos h]
  obtain ⟨r, hr⟩ := real_gate (km n) q hk hq
  rw [hr]
  exact EReal.coe_ne_bot r

end Cert.Gate
-- ==== Proof.GateBlock.lean ====
module

public import proofs.«01_k».proof.Proof.GateHeads
public import proofs.«01_k».proof.Proof.GateMath
public import proofs.«01_k».proof.Proof.RowMax
public import Idealize.ShloMosaic.Lib.Pipeline.ReadBack
public import Idealize.ShloMosaic.Lib.Pipeline.ValueKit

/-! The body's values, entry by entry. -/

@[expose] public section

set_option maxRecDepth 16384

noncomputable section

namespace Cert.GateIdeal.BlockValue

open Cert.GateIdeal Cert.GateIdeal.Gen Idealize.ShloMosaic Idealize.ShloMosaic.TcCoe Idealize.SL.Sem

/-- A choice on a truth value. -/
theorem select_ofBool {α : Type} (P : Prop) [Decidable P] (x y : α) : Scalar.select (BitVec.ofBool (decide P)) x y = if P then x else y := by
  by_cases h : P
  · rw [if_pos h, decide_eq_true h]; rfl
  · rw [if_neg h, decide_eq_false h]; rfl

theorem andi_ofBool (P Q : Prop) [Decidable P] [Decidable Q] : IntOp.andi (BitVec.ofBool (decide P)) (BitVec.ofBool (decide Q)) = BitVec.ofBool (decide (P ∧ Q)) := by
  by_cases h : P <;> by_cases h' : Q <;> simp [h, h'] <;> rfl

theorem not_ofBool (P : Prop) [Decidable P] : IntOp.xori (BitVec.ofBool (decide P)) 1#1 = BitVec.ofBool (decide (¬ P)) := by
  by_cases h : P <;> simp [h] <;> rfl

/-- The round's comparison of words. -/
theorem pick_word (y : Fin 48 → EReal) (M : EReal) (n : Fin 48) [∀ k, Decidable (y k = M)] [Decidable (⊥ < M)] [Decidable ((y n = M ∧ ⊥ < M) ∧ ∀ k, k < n → ¬ (y k = M ∧ ⊥ < M))] :
    IntOp.cmpi CmpIPredicate.eq (BitVec.ofNat 32 n.val) (Finset.fold IntOp.minsi 2147483647#32
      (fun k : Fin 48 => Scalar.select (IntOp.andi (BitVec.ofBool (decide (y k = M))) (BitVec.ofBool (decide (⊥ < M)))) (BitVec.ofNat 32 k.val) 48#32) Finset.univ)
      = BitVec.ofBool (decide ((y n = M ∧ ⊥ < M) ∧ ∀ k, k < n → ¬ (y k = M ∧ ⊥ < M))) := by
  simp only [andi_ofBool, select_ofBool]
  have h := Gate.first_iff (fun k => y k = M ∧ ⊥ < M) (fun k => if y k = M ∧ ⊥ < M then BitVec.ofNat 32 k.val else 48#32) (fun k hk => if_pos hk) (fun k hk => if_neg hk) n
  refine congrArg BitVec.ofBool (Bool.eq_iff_iff.2 ?_)
  rw [decide_eq_true_iff]
  refine Iff.trans ?_ h
  exact beq_iff_eq

open Classical in
/-- One round picks the first of the greatest gates. -/
theorem pick_apply (g : FVec Ideal S48x512 .f32) (n : Fin 48) (t : Fin 512) :
    k0_pay40 rowsW g (ix2 n t) = BitVec.ofBool (decide (Gate.Pick (fun n => g (ix2 n t)) n)) := by
  pointwise [k0_pay40, rowsW]
  rw [Softmax.negInf]
  unfold Gate.Pick
  rw [← Softmax.fold_sup Finset.univ fun n => (g (ix2 n t) : EReal)]
  generalize (Finset.fold max ⊥ (fun x : Fin 48 => (g (ix2 x t) : EReal)) Finset.univ : EReal) = M
  exact (pick_word (fun k => (g (ix2 k t) : EReal)) M n).trans (congrArg BitVec.ofBool (decide_eq_decide.2 Iff.rfl))

/-- It leaves the others. -/
theorem drop_apply (g : FVec Ideal S48x512 .f32) (n : Fin 48) (t : Fin 512) :
    k0_pay41 rowsW g (ix2 n t) = Gate.drop (fun n => g (ix2 n t)) n := by
  have h := pick_apply g n t
  unfold k0_pay41
  generalize k0_pay40 rowsW g = p at h ⊢
  pointwise
  rw [h, select_ofBool, Softmax.negInf]
  rfl

/-- The memory queries of a row of a block. -/
theorem qm_apply (x : Vec Ideal S512x1024 .f32) (g : Vec Ideal S1x1024 .f32) (w : Vec Ideal S1024x1024 .bf16) (r : Fin 512) (j : Fin 1024) :
    k0_pay2 x g w (ix2 r j) = Layer.proj (fun k => x (ix2 r k)) (fun k => g (ix2 0 k)) (fun k j => w (ix2 k j)) j := by
  pointwise [k0_pay2, k0_pay1, Layer.proj, Layer.rms]

/-- The queries of a row of a block, transposed. -/
theorem q_apply (x : Vec Ideal S512x1024 .f32) (g : Vec Ideal S1x1024 .f32) (w : Vec Ideal S1024x1024 .bf16) (r : Fin 512) (j : Fin 1024) :
    k0_pay3 x g w (ix2 j r) = Layer.proj (fun k => x (ix2 r k)) (fun k => g (ix2 0 k)) (fun k j => w (ix2 j k)) j := by
  pointwise [k0_pay3, k0_pay1, Layer.proj, Layer.rms]
  exact Finset.sum_congr rfl fun k _ => mul_comm _ _

/-- The gates of a head. -/
theorem gates_apply (el : IVec S48x512 1) (q : FVec Ideal S128x512 .f32) (km : Vec Ideal S1x1x48x384 .bf16) (n : Fin 48) (t : Fin 512) :
    gates el q km (ix2 n t) = Scalar.select (el (ix2 n t)) (∑ k : Fin 384, (km (ix4 0 0 n k) : EReal) * Gate.three (fun d => q (ix2 d t)) k) ⊥ := by
  pointwise [gates, k0_pay16]
  rw [Softmax.negInf]
  refine congrArg (fun y : EReal => Scalar.select (el (ix2 n t)) y ⊥) (Finset.sum_congr rfl fun k _ => congrArg (fun y : EReal => (km (ix4 0 0 n k) : EReal) * y) ?_)
  unfold Gate.three
  by_cases h : k.val < 128
  · rw [dif_pos h, dif_pos h]
  · rw [dif_neg h, dif_neg h]
    by_cases h' : k.val < 256
    · rw [dif_pos h', dif_pos (show k.val - 128 < 128 by omega)]
    · rw [dif_neg h', dif_neg (show ¬ k.val - 128 < 128 by omega)]
      exact congrArg (fun d => (q (ix2 d t) : EReal)) (Fin.ext (by show k.val - 128 - 128 = k.val - 256; omega))

/-- The blocks left after three rounds. -/
def left (el p1 p2 p3 : IVec S48x512 1) : IVec S48x512 1 :=
  andi (andi (andi el (xori p1 (constantI S48x512 1 1#1))) (xori p2 (constantI S48x512 1 1#1))) (xori p3 (constantI S48x512 1 1#1))

/-- A head's rows below its queries, from the blocks left. -/
def stack (dg : FVec Ideal S16x512 .f32) (z : FVec Ideal S72x512 .f32) (l : IVec S48x512 1) (qr : Vec Ideal S1x16x128 .f32) : FVec Ideal S128x512 .bf16 :=
  have m : FVec Ideal S48x512 .f32 := select l (broadcast S48x512 (Scalar.ofBits .f32 0xF1800000#32)) (broadcast S48x512 (Scalar.ofBits .f32 0x00000000#32))
  have m' : FVec Ideal S40x512 .f32 := extractStridedSlice S40x512 ![0, 0] m slices_S48x512_o0_0_S40x512
  have r : FVec Ideal S16x128 .f32 := shapeCast S16x128 qr shapeCasts_S1x16x128_S16x128
  have r' : FVec Ideal S16x512 .f32 := concatenate S16x512 1 [⟨S16x128, r⟩, ⟨S16x128, r⟩, ⟨S16x128, r⟩, ⟨S16x128, r⟩] concatenates_S16x128_S16x128_S16x128_S16x128_S16x512_d1
  truncf .bf16 (concatenate S128x512 0 [⟨S40x512, m'⟩, ⟨S16x512, addf dg r'⟩, ⟨S72x512, z⟩] concatenates_S40x512_S16x512_S72x512_S128x512_d0) bitsLt_bf16_f32

theorem rows_eq (dg : FVec Ideal S16x512 .f32) (z : FVec Ideal S72x512 .f32) (el : IVec S48x512 1) (g : FVec Ideal S48x512 .f32) (qr : Vec Ideal S1x16x128 .f32) :
    rows dg z el g qr = stack dg z (left el (k0_pay40 rowsW g) (k0_pay40 rowsW (k0_pay41 rowsW g)) (k0_pay40 rowsW (k0_pay41 rowsW (k0_pay41 rowsW g)))) qr := rfl

open Classical in
theorem left_apply (el : IVec S48x512 1) (g : FVec Ideal S48x512 .f32) (n : Fin 48) (t : Fin 512) (P : Prop) (hel : el (ix2 n t) = BitVec.ofBool (decide P)) :
    left el (k0_pay40 rowsW g) (k0_pay40 rowsW (k0_pay41 rowsW g)) (k0_pay40 rowsW (k0_pay41 rowsW (k0_pay41 rowsW g))) (ix2 n t)
      = BitVec.ofBool (decide (P ∧ ¬ Gate.Pick (fun n => g (ix2 n t)) n ∧ ¬ Gate.Pick (Gate.drop fun n => g (ix2 n t)) n
          ∧ ¬ Gate.Pick (Gate.drop (Gate.drop fun n => g (ix2 n t))) n)) := by
  have e1 : (fun n => k0_pay41 rowsW g (ix2 n t)) = Gate.drop fun n => g (ix2 n t) := funext fun n => drop_apply g n t
  have e2 : (fun n => k0_pay41 rowsW (k0_pay41 rowsW g) (ix2 n t)) = Gate.drop (Gate.drop fun n => g (ix2 n t)) :=
    (funext fun n => drop_apply (k0_pay41 rowsW g) n t).trans (congrArg Gate.drop e1)
  have h1 := pick_apply g n t
  have h2 := pick_apply (k0_pay41 rowsW g) n t
  have h3 := pick_apply (k0_pay41 rowsW (k0_pay41 rowsW g)) n t
  rw [e1] at h2
  rw [e2] at h3
  show IntOp.andi (IntOp.andi (IntOp.andi (el (ix2 n t)) (IntOp.xori (k0_pay40 rowsW g (ix2 n t)) 1#1)) (IntOp.xori (k0_pay40 rowsW (k0_pay41 rowsW g) (ix2 n t)) 1#1))
    (IntOp.xori (k0_pay40 rowsW (k0_pay41 rowsW (k0_pay41 rowsW g)) (ix2 n t)) 1#1) = _
  rw [hel, h1, h2, h3, not_ofBool, not_ofBool, not_ofBool, andi_ofBool, andi_ofBool, andi_ofBool]
  exact congrArg BitVec.ofBool (decide_eq_decide.2 (by simp only [and_assoc]))

theorem stack_mask (dg : FVec Ideal S16x512 .f32) (z : FVec Ideal S72x512 .f32) (l : IVec S48x512 1) (qr : Vec Ideal S1x16x128 .f32) (c : Fin 128) (t : Fin 512) (h : c.val < 40) :
    stack dg z l qr (ix2 c t) = Scalar.select (l (ix2 (⟨c.val, by omega⟩ : Fin 48) t)) (Ideal.ofBits FTy.f32 0xF1800000#32) 0 := by
  pointwise [stack]
  rw [dif_pos h]

theorem stack_digit (dg : FVec Ideal S16x512 .f32) (z : FVec Ideal S72x512 .f32) (l : IVec S48x512 1) (qr : Vec Ideal S1x16x128 .f32) (c : Fin 128) (t : Fin 512) (h : ¬ c.val < 40)
    (h' : c.val < 56) : stack dg z l qr (ix2 c t) = dg (ix2 (⟨c.val - 40, by omega⟩ : Fin 16) t) + qr (ix3 0 (⟨c.val - 40, by omega⟩ : Fin 16) (⟨t.val % 128, by omega⟩ : Fin 128)) := by
  pointwise [stack]
  rw [dif_neg h, dif_pos (show c.val - 40 < 16 by omega)]
  refine congrArg (fun y : EReal => (dg (ix2 (⟨c.val - 40, by omega⟩ : Fin 16) t) : EReal) + y) ?_
  have e : ∀ (k : ℕ) (hk : k < 128), k = t.val % 128 → (qr (ix3 0 (⟨c.val - 40, by omega⟩ : Fin 16) (⟨k, hk⟩ : Fin 128)) : EReal) = qr (ix3 0 (⟨c.val - 40, by omega⟩ : Fin 16) (⟨t.val % 128, by omega⟩ : Fin 128)) := by
    intro k hk he
    subst he
    rfl
  by_cases h1 : t.val < 128
  · rw [dif_pos h1]; exact e _ _ (by omega)
  rw [dif_neg h1]
  by_cases h2 : t.val - 128 < 128
  · rw [dif_pos h2]; exact e _ _ (by omega)
  rw [dif_neg h2]
  by_cases h3 : t.val - 128 - 128 < 128
  · rw [dif_pos h3]; exact e _ _ (by omega)
  rw [dif_neg h3]
  exact e _ _ (by omega)

theorem stack_zero (dg : FVec Ideal S16x512 .f32) (z : FVec Ideal S72x512 .f32) (l : IVec S48x512 1) (qr : Vec Ideal S1x16x128 .f32) (c : Fin 128) (t : Fin 512) (h : ¬ c.val < 56) :
    stack dg z l qr (ix2 c t) = z (ix2 (⟨c.val - 56, by omega⟩ : Fin 72) t) := by
  pointwise [stack]
  rw [dif_neg (show ¬ c.val < 40 by omega), dif_neg (show ¬ c.val - 40 < 16 by omega)]
  exact congrArg (fun x => z (ix2 x t)) (Fin.ext (by show c.val - 40 - 16 = c.val - 56; omega))

theorem pos_word : ∀ (b : Fin 16) (t : Fin 512), IntOp.addi (Scalar.muli (BitVec.ofNat 32 b.val) 512#32) (BitVec.ofNat 32 t.val) = BitVec.ofNat 32 (512 * b.val + t.val) := by
  decide +kernel

/-- A position's block, as the body's words compute it. -/
theorem blk_word : ∀ s : Fin 8192,
    Scalar.select
        (IntOp.andi
          (IntOp.cmpi CmpIPredicate.ne
            (IntOp.subi (BitVec.setWidth 32 (IntOp.cmpi CmpIPredicate.sgt (BitVec.ofNat 32 s.val) 0#32)) (BitVec.setWidth 32 (IntOp.cmpi CmpIPredicate.slt (BitVec.ofNat 32 s.val) 0#32)))
            (Scalar.subi (Scalar.extui (Scalar.cmpi CmpIPredicate.sgt 256#32 0#32)) (Scalar.extui (Scalar.cmpi CmpIPredicate.slt 256#32 0#32))))
          (IntOp.cmpi CmpIPredicate.ne (IntOp.remsi ArithUnit.vector (BitVec.ofNat 32 s.val) 256#32) 0#32))
        (IntOp.subi (IntOp.divsi ArithUnit.vector (BitVec.ofNat 32 s.val) 256#32) 1#32)
        (IntOp.divsi ArithUnit.vector (BitVec.ofNat 32 s.val) 256#32)
      = BitVec.ofNat 32 (s.val / 256) := by decide +kernel

theorem low_word : ∀ s : Fin 8192, IntOp.andi (BitVec.ofNat 32 s.val) 127#32 = BitVec.ofNat 32 (s.val % 128) := by
  decide +kernel

theorem slt_word : ∀ (n : Fin 48) (k : Fin 32), IntOp.cmpi CmpIPredicate.slt (BitVec.ofNat 32 n.val) (BitVec.ofNat 32 k.val) = BitVec.ofBool (decide (n.val < k.val)) := by
  decide +kernel

/-- The blocks that are past. -/
theorem past_apply (i : grid0.Coords) (n : Fin 48) (t : Fin 512) :
    k0_pay12 (Scalar.muli (BitVec.ofNat 32 (i 1).val) 512#32) (ix2 n t) = BitVec.ofBool (decide (n.val < (512 * (i 1).val + t.val) / 256)) := by
  have hi : (i 1).val < 16 := (i 1).isLt
  pointwise [k0_pay12]
  rw [pos_word ⟨(i 1).val, hi⟩ t, blk_word ⟨512 * (i 1).val + t.val, by omega⟩]
  exact slt_word n ⟨(512 * (i 1).val + t.val) / 256, by omega⟩

/-- The position digits. -/
theorem digit_apply (i : grid0.Coords) (a : Fin 16) (t : Fin 512) :
    k0_pay10 (iota .tc S16x512 32 [0] iota_S16x512_d0_w32) (k0_pay6 (F := Ideal) i) (k0_pay7 (F := Ideal) i) k0_pay8 k0_pay9 (ix2 a t) = Gate.digit (512 * (i 1).val + t.val) a := by
  have hi : (i 1).val < 16 := (i 1).isLt
  pointwise [k0_pay10, k0_pay6, k0_pay7, k0_pay8, k0_pay9, k0_pay5, k0_pay4]
  rw [pos_word ⟨(i 1).val, hi⟩ t, low_word ⟨512 * (i 1).val + t.val, by omega⟩]
  simp only [zero_sub]
  rfl

end Cert.GateIdeal.BlockValue

end
-- ==== Proof.GatePieces.lean ====
module

public import proofs.«01_k».proof.Proof.GateBlock

/-! The block of augmented queries a grid point leaves: its sixteen stores as one function of the head. -/

@[expose] public section

set_option maxRecDepth 16384

noncomputable section

namespace Cert.GateIdeal.BlockValue

open Cert.GateIdeal Cert.GateIdeal.Gen Idealize.ShloMosaic Idealize.ShloMosaic.TcCoe Idealize.SL.Sem

/-- Head `h`'s queries, means and rows. -/
def headQ (p : FVec Ideal S1024x512 .f32) (h : Fin 8) : FVec Ideal S128x512 .f32 := fun y =>
  p (ix2 (⟨128 * h.val + (y 0).val, by have : (y 0).val < 128 := (y 0).isLt; omega⟩ : Fin 1024) (y 1))
def headK (km : Vec Ideal S1x8x48x384 .bf16) (h : Fin 8) : Vec Ideal S1x1x48x384 .bf16 := fun y => km (ix4 0 h (y 2) (y 3))
def headR (qr : Vec Ideal S8x16x128 .f32) (h : Fin 8) : Vec Ideal S1x16x128 .f32 := fun y => qr (ix3 h (y 1) (y 2))

/-- The rows below head `h`'s queries. -/
abbrev lower (dg : FVec Ideal S16x512 .f32) (z : FVec Ideal S72x512 .f32) (el : IVec S48x512 1) (p : FVec Ideal S1024x512 .f32)
    (km : Vec Ideal S1x8x48x384 .bf16) (qr : Vec Ideal S8x16x128 .f32) (h : Fin 8) : FVec Ideal S128x512 .bf16 :=
  rows dg z el (gates el (headQ p h) (headK km h)) (headR qr h)

/-- The block of the augmented queries, spelt as one function. -/
def augBlk (dg : FVec Ideal S16x512 .f32) (z : FVec Ideal S72x512 .f32) (el : IVec S48x512 1) (p : FVec Ideal S1024x512 .f32)
    (km : Vec Ideal S1x8x48x384 .bf16) (qr : Vec Ideal S8x16x128 .f32) : S2048x512.Idx → Elt Ideal .bf16 := fun i =>
  if h : (i 0).val % 256 < 128 then scaled (headQ p ⟨(i 0).val / 256, by have : (i 0).val < 2048 := (i 0).isLt; omega⟩) (ix2 (⟨(i 0).val % 256, h⟩ : Fin 128) (i 1))
  else lower dg z el p km qr ⟨(i 0).val / 256, by have : (i 0).val < 2048 := (i 0).isLt; omega⟩ (ix2 (⟨(i 0).val % 256 - 128, by omega⟩ : Fin 128) (i 1))

variable (dg : FVec Ideal S16x512 .f32) (z : FVec Ideal S72x512 .f32) (el : IVec S48x512 1) (p : FVec Ideal S1024x512 .f32)
  (km : Vec Ideal S1x8x48x384 .bf16) (qr : Vec Ideal S8x16x128 .f32)

theorem augBlk_upper (h : Fin 8) (j : Fin 128) (t : Fin 512) (k : Fin 2048) (hk : k.val = 256 * h.val + j.val) :
    augBlk dg z el p km qr (ix2 k t) = scaled (headQ p h) (ix2 j t) := by
  obtain ⟨k, hk'⟩ := k
  simp only at hk
  subst hk
  have e1 : (256 * h.val + j.val) / 256 = h.val := by omega
  have e2 : (256 * h.val + j.val) % 256 = j.val := by omega
  have e : ∀ (a b : ℕ) (ha : a < 8) (hb : b < 128), a = h.val → b = j.val → scaled (headQ p ⟨a, ha⟩) (ix2 (⟨b, hb⟩ : Fin 128) t) = scaled (headQ p h) (ix2 j t) := by
    intro a b ha hb h1 h2; subst h1; subst h2; rfl
  exact (dif_pos (show (256 * h.val + j.val) % 256 < 128 by omega)).trans (e _ _ _ _ e1 e2)

theorem augBlk_lower (h : Fin 8) (j : Fin 128) (t : Fin 512) (k : Fin 2048) (hk : k.val = 256 * h.val + 128 + j.val) :
    augBlk dg z el p km qr (ix2 k t) = lower dg z el p km qr h (ix2 j t) := by
  obtain ⟨k, hk'⟩ := k
  simp only at hk
  subst hk
  have e1 : (256 * h.val + 128 + j.val) / 256 = h.val := by omega
  have e2 : (256 * h.val + 128 + j.val) % 256 - 128 = j.val := by omega
  have e : ∀ (a b : ℕ) (ha : a < 8) (hb : b < 128), a = h.val → b = j.val → lower dg z el p km qr ⟨a, ha⟩ (ix2 (⟨b, hb⟩ : Fin 128) t) = lower dg z el p km qr h (ix2 j t) := by
    intro a b ha hb h1 h2; subst h1; subst h2; rfl
  exact (dif_neg (show ¬ (256 * h.val + 128 + j.val) % 256 < 128 by omega)).trans (e _ _ _ _ e1 e2)

theorem q0 : k0_pay13 p = headQ p 0 := by
  funext y
  obtain ⟨j, t, rfl⟩ : ∃ (j : Fin 128) (t : Fin 512), y = ix2 j t := ⟨y 0, y 1, eq_ix2 y⟩
  pointwise [k0_pay13]
  exact congrArg (fun x => p (ix2 x t)) (Fin.ext (by show j.val = 128 * 0 + j.val; omega))

theorem k0 : View.ld km r0_3 = headK km 0 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_3.emb (ix4 0 0 n d) = ix4 0 (0 : Fin 8) n d
  blk_ext

theorem r0 : View.ld qr r0_4 = headR qr 0 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_4.emb (ix3 0 n d) = ix3 (0 : Fin 8) n d
  blk_ext

theorem upper0 (x : S128x512.Idx) : k0_pay22 (k0_pay13 p) x = augBlk dg z el p km qr (r0_5.emb x) := by
  obtain ⟨j, t, rfl⟩ : ∃ (j : Fin 128) (t : Fin 512), x = ix2 j t := ⟨x 0, x 1, eq_ix2 x⟩
  rw [show r0_5.emb (ix2 j t) = ix2 (⟨0 + j.val, by omega⟩ : Fin 2048) t from by blk_ext, q0,
    augBlk_upper dg z el p km qr 0 j t ⟨0 + j.val, by omega⟩ rfl]

theorem lower0 (x : S128x512.Idx) :
    k0_pay23 dg z rowsW (k0_pay18 rowsW el (k0_pay14 p) (k0_pay15 p) (View.ld km r0_3)) (k0_pay19 rowsW el (k0_pay14 p) (k0_pay15 p) (View.ld km r0_3)) (k0_pay20 rowsW el (k0_pay14 p) (k0_pay15 p) (View.ld km r0_3)) k0_pay21 (View.ld qr r0_4) x
      = augBlk dg z el p km qr (r0_6.emb x) := by
  obtain ⟨j, t, rfl⟩ : ∃ (j : Fin 128) (t : Fin 512), x = ix2 j t := ⟨x 0, x 1, eq_ix2 x⟩
  rw [show r0_6.emb (ix2 j t) = ix2 (⟨128 + j.val, by omega⟩ : Fin 2048) t from by blk_ext, head0, q0, k0, r0,
    augBlk_lower dg z el p km qr 0 j t ⟨128 + j.val, by omega⟩ rfl]

theorem q1 : k0_pay24 p = headQ p 1 := by
  funext y
  obtain ⟨j, t, rfl⟩ : ∃ (j : Fin 128) (t : Fin 512), y = ix2 j t := ⟨y 0, y 1, eq_ix2 y⟩
  pointwise [k0_pay24]
  exact congrArg (fun x => p (ix2 x t)) (Fin.ext (by show _ = 128 * 1 + j.val; simp only []))

theorem k1 : View.ld km r0_7 = headK km 1 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_7.emb (ix4 0 0 n d) = ix4 0 (1 : Fin 8) n d
  blk_ext

theorem r1 : View.ld qr r0_8 = headR qr 1 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_8.emb (ix3 0 n d) = ix3 (1 : Fin 8) n d
  blk_ext

theorem upper1 (x : S128x512.Idx) : k0_pay36 (k0_pay24 p) x = augBlk dg z el p km qr (r0_9.emb x) := by
  obtain ⟨j, t, rfl⟩ : ∃ (j : Fin 128) (t : Fin 512), x = ix2 j t := ⟨x 0, x 1, eq_ix2 x⟩
  rw [show r0_9.emb (ix2 j t) = ix2 (⟨256 + j.val, by omega⟩ : Fin 2048) t from by blk_ext, q1,
    augBlk_upper dg z el p km qr 1 j t ⟨256 + j.val, by omega⟩ rfl]
  rfl

theorem lower1 (x : S128x512.Idx) :
    k0_pay37 dg z rowsW (k0_pay32 rowsW el (k0_pay25 p) (k0_pay26 p) (k0_pay27 (View.ld km r0_7))) (k0_pay34 rowsW el (k0_pay25 p) (k0_pay26 p) (k0_pay27 (View.ld km r0_7))) (k0_pay35 rowsW el (k0_pay25 p) (k0_pay26 p) (k0_pay27 (View.ld km r0_7))) (Scalar.ofBits .f32 0xFF800000#32) (View.ld qr r0_8) x
      = augBlk dg z el p km qr (r0_10.emb x) := by
  obtain ⟨j, t, rfl⟩ : ∃ (j : Fin 128) (t : Fin 512), x = ix2 j t := ⟨x 0, x 1, eq_ix2 x⟩
  rw [show r0_10.emb (ix2 j t) = ix2 (⟨384 + j.val, by omega⟩ : Fin 2048) t from by blk_ext, head1, q1, k1, r1,
    augBlk_lower dg z el p km qr 1 j t ⟨384 + j.val, by omega⟩ rfl]

theorem q2 : k0_pay38 p = headQ p 2 := by
  funext y
  obtain ⟨j, t, rfl⟩ : ∃ (j : Fin 128) (t : Fin 512), y = ix2 j t := ⟨y 0, y 1, eq_ix2 y⟩
  pointwise [k0_pay38]
  exact congrArg (fun x => p (ix2 x t)) (Fin.ext (by show _ = 128 * 2 + j.val; simp only []))

theorem k2 : View.ld km r0_11 = headK km 2 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_11.emb (ix4 0 0 n d) = ix4 0 (2 : Fin 8) n d
  blk_ext

theorem r2 : View.ld qr r0_12 = headR qr 2 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_12.emb (ix3 0 n d) = ix3 (2 : Fin 8) n d
  blk_ext

theorem upper2 (x : S128x512.Idx) : k0_pay45 (k0_pay38 p) x = augBlk dg z el p km qr (r0_13.emb x) := by
  obtain ⟨j, t, rfl⟩ : ∃ (j : Fin 128) (t : Fin 512), x = ix2 j t := ⟨x 0, x 1, eq_ix2 x⟩
  rw [show r0_13.emb (ix2 j t) = ix2 (⟨512 + j.val, by omega⟩ : Fin 2048) t from by blk_ext, q2,
    augBlk_upper dg z el p km qr 2 j t ⟨512 + j.val, by omega⟩ rfl]
  rfl

theorem lower2 (x : S128x512.Idx) :
    k0_pay46 dg z rowsW (k0_pay43 rowsW el (k0_pay39 p el (View.ld km r0_11))) (k0_pay44 rowsW (k0_pay39 p el (View.ld km r0_11))) (View.ld qr r0_12) x
      = augBlk dg z el p km qr (r0_14.emb x) := by
  obtain ⟨j, t, rfl⟩ : ∃ (j : Fin 128) (t : Fin 512), x = ix2 j t := ⟨x 0, x 1, eq_ix2 x⟩
  rw [show r0_14.emb (ix2 j t) = ix2 (⟨640 + j.val, by omega⟩ : Fin 2048) t from by blk_ext, head2, q2, k2, r2,
    augBlk_lower dg z el p km qr 2 j t ⟨640 + j.val, by omega⟩ rfl]

theorem q3 : k0_pay47 p = headQ p 3 := by
  funext y
  obtain ⟨j, t, rfl⟩ : ∃ (j : Fin 128) (t : Fin 512), y = ix2 j t := ⟨y 0, y 1, eq_ix2 y⟩
  pointwise [k0_pay47]
  exact congrArg (fun x => p (ix2 x t)) (Fin.ext (by show _ = 128 * 3 + j.val; simp only []))

theorem k3 : View.ld km r0_15 = headK km 3 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_15.emb (ix4 0 0 n d) = ix4 0 (3 : Fin 8) n d
  blk_ext

theorem r3 : View.ld qr r0_16 = headR qr 3 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_16.emb (ix3 0 n d) = ix3 (3 : Fin 8) n d
  blk_ext

theorem upper3 (x : S128x512.Idx) : k0_pay57 (k0_pay47 p) x = augBlk dg z el p km qr (r0_17.emb x) := by
  obtain ⟨j, t, rfl⟩ : ∃ (j : Fin 128) (t : Fin 512), x = ix2 j t := ⟨x 0, x 1, eq_ix2 x⟩
  rw [show r0_17.emb (ix2 j t) = ix2 (⟨768 + j.val, by omega⟩ : Fin 2048) t from by blk_ext, q3,
    augBlk_upper dg z el p km qr 3 j t ⟨768 + j.val, by omega⟩ rfl]
  rfl

theorem lower3 (x : S128x512.Idx) :
    k0_pay58 dg z (k0_pay55 rowsW el (k0_pay48 p el (View.ld km r0_15)) (k0_pay50 p el (View.ld km r0_15)) (k0_pay51 p el (View.ld km r0_15))) (k0_pay56 rowsW (k0_pay48 p el (View.ld km r0_15)) (k0_pay50 p el (View.ld km r0_15)) (k0_pay51 p el (View.ld km r0_15))) (View.ld qr r0_16) x
      = augBlk dg z el p km qr (r0_18.emb x) := by
  obtain ⟨j, t, rfl⟩ : ∃ (j : Fin 128) (t : Fin 512), x = ix2 j t := ⟨x 0, x 1, eq_ix2 x⟩
  rw [show r0_18.emb (ix2 j t) = ix2 (⟨896 + j.val, by omega⟩ : Fin 2048) t from by blk_ext, head3, q3, k3, r3,
    augBlk_lower dg z el p km qr 3 j t ⟨896 + j.val, by omega⟩ rfl]

theorem q4 : k0_pay59 p = headQ p 4 := by
  funext y
  obtain ⟨j, t, rfl⟩ : ∃ (j : Fin 128) (t : Fin 512), y = ix2 j t := ⟨y 0, y 1, eq_ix2 y⟩
  pointwise [k0_pay59]
  exact congrArg (fun x => p (ix2 x t)) (Fin.ext (by show _ = 128 * 4 + j.val; simp only []))

theorem k4 : View.ld km r0_19 = headK km 4 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_19.emb (ix4 0 0 n d) = ix4 0 (4 : Fin 8) n d
  blk_ext

theorem r4 : View.ld qr r0_20 = headR qr 4 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_20.emb (ix3 0 n d) = ix3 (4 : Fin 8) n d
  blk_ext

theorem upper4 (x : S128x512.Idx) : k0_pay63 (k0_pay59 p) x = augBlk dg z el p km qr (r0_21.emb x) := by
  obtain ⟨j, t, rfl⟩ : ∃ (j : Fin 128) (t : Fin 512), x = ix2 j t := ⟨x 0, x 1, eq_ix2 x⟩
  rw [show r0_21.emb (ix2 j t) = ix2 (⟨1024 + j.val, by omega⟩ : Fin 2048) t from by blk_ext, q4,
    augBlk_upper dg z el p km qr 4 j t ⟨1024 + j.val, by omega⟩ rfl]
  rfl

theorem lower4 (x : S128x512.Idx) :
    k0_pay64 dg z (k0_pay62 rowsW el (k0_pay60 p el (View.ld km r0_19)) (k0_pay61 p rowsW el (View.ld km r0_19))) (View.ld qr r0_20) x
      = augBlk dg z el p km qr (r0_22.emb x) := by
  obtain ⟨j, t, rfl⟩ : ∃ (j : Fin 128) (t : Fin 512), x = ix2 j t := ⟨x 0, x 1, eq_ix2 x⟩
  rw [show r0_22.emb (ix2 j t) = ix2 (⟨1152 + j.val, by omega⟩ : Fin 2048) t from by blk_ext, head4, q4, k4, r4,
    augBlk_lower dg z el p km qr 4 j t ⟨1152 + j.val, by omega⟩ rfl]

theorem q5 : k0_pay65 p = headQ p 5 := by
  funext y
  obtain ⟨j, t, rfl⟩ : ∃ (j : Fin 128) (t : Fin 512), y = ix2 j t := ⟨y 0, y 1, eq_ix2 y⟩
  pointwise [k0_pay65]
  exact congrArg (fun x => p (ix2 x t)) (Fin.ext (by show _ = 128 * 5 + j.val; simp only []))

theorem k5 : View.ld km r0_23 = headK km 5 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_23.emb (ix4 0 0 n d) = ix4 0 (5 : Fin 8) n d
  blk_ext

theorem r5 : View.ld qr r0_24 = headR qr 5 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_24.emb (ix3 0 n d) = ix3 (5 : Fin 8) n d
  blk_ext

theorem upper5 (x : S128x512.Idx) : k0_pay71 (k0_pay65 p) x = augBlk dg z el p km qr (r0_25.emb x) := by
  obtain ⟨j, t, rfl⟩ : ∃ (j : Fin 128) (t : Fin 512), x = ix2 j t := ⟨x 0, x 1, eq_ix2 x⟩
  rw [show r0_25.emb (ix2 j t) = ix2 (⟨1280 + j.val, by omega⟩ : Fin 2048) t from by blk_ext, q5,
    augBlk_upper dg z el p km qr 5 j t ⟨1280 + j.val, by omega⟩ rfl]
  rfl

theorem lower5 (x : S128x512.Idx) :
    k0_pay72 z (k0_pay69 rowsW (k0_pay66 p el (View.ld km r0_23)) (k0_pay67 p rowsW el (View.ld km r0_23)) (k0_pay68 p rowsW el (View.ld km r0_23)) (Scalar.ofBits .f32 0xFF800000#32)) (k0_pay70 dg (View.ld qr r0_24)) x
      = augBlk dg z el p km qr (r0_26.emb x) := by
  obtain ⟨j, t, rfl⟩ : ∃ (j : Fin 128) (t : Fin 512), x = ix2 j t := ⟨x 0, x 1, eq_ix2 x⟩
  rw [show r0_26.emb (ix2 j t) = ix2 (⟨1408 + j.val, by omega⟩ : Fin 2048) t from by blk_ext, head5, q5, k5, r5,
    augBlk_lower dg z el p km qr 5 j t ⟨1408 + j.val, by omega⟩ rfl]

theorem q6 : k0_pay73 p = headQ p 6 := by
  funext y
  obtain ⟨j, t, rfl⟩ : ∃ (j : Fin 128) (t : Fin 512), y = ix2 j t := ⟨y 0, y 1, eq_ix2 y⟩
  pointwise [k0_pay73]
  exact congrArg (fun x => p (ix2 x t)) (Fin.ext (by show _ = 128 * 6 + j.val; simp only []))

theorem k6 : View.ld km r0_27 = headK km 6 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_27.emb (ix4 0 0 n d) = ix4 0 (6 : Fin 8) n d
  blk_ext

theorem r6 : View.ld qr r0_28 = headR qr 6 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_28.emb (ix3 0 n d) = ix3 (6 : Fin 8) n d
  blk_ext

theorem upper6 (x : S128x512.Idx) : k0_pay81 (k0_pay73 p) x = augBlk dg z el p km qr (r0_29.emb x) := by
  obtain ⟨j, t, rfl⟩ : ∃ (j : Fin 128) (t : Fin 512), x = ix2 j t := ⟨x 0, x 1, eq_ix2 x⟩
  rw [show r0_29.emb (ix2 j t) = ix2 (⟨1536 + j.val, by omega⟩ : Fin 2048) t from by blk_ext, q6,
    augBlk_upper dg z el p km qr 6 j t ⟨1536 + j.val, by omega⟩ rfl]
  rfl

theorem lower6 (x : S128x512.Idx) :
    k0_pay82 (k0_pay80 dg z rowsW (k0_pay76 p rowsW el (View.ld km r0_27)) (k0_pay77 p rowsW el (View.ld km r0_27)) (k0_pay78 p rowsW el (View.ld km r0_27)) (k0_pay79 p rowsW el (View.ld km r0_27)) (View.ld qr r0_28)) x
      = augBlk dg z el p km qr (r0_30.emb x) := by
  obtain ⟨j, t, rfl⟩ : ∃ (j : Fin 128) (t : Fin 512), x = ix2 j t := ⟨x 0, x 1, eq_ix2 x⟩
  rw [show r0_30.emb (ix2 j t) = ix2 (⟨1664 + j.val, by omega⟩ : Fin 2048) t from by blk_ext, head6, q6, k6, r6,
    augBlk_lower dg z el p km qr 6 j t ⟨1664 + j.val, by omega⟩ rfl]

theorem q7 : k0_pay83 p = headQ p 7 := by
  funext y
  obtain ⟨j, t, rfl⟩ : ∃ (j : Fin 128) (t : Fin 512), y = ix2 j t := ⟨y 0, y 1, eq_ix2 y⟩
  pointwise [k0_pay83]
  exact congrArg (fun x => p (ix2 x t)) (Fin.ext (by show _ = 128 * 7 + j.val; simp only []))

theorem k7 : View.ld km r0_31 = headK km 7 := by
  funext y
  obtain ⟨a, b, n, d, rfl⟩ : ∃ (a : Fin 1) (b : Fin 1) (n : Fin 48) (d : Fin 384), y = ix4 a b n d := ⟨y 0, y 1, y 2, y 3, eq_ix4 y⟩
  obtain rfl : a = 0 := Fin.ext (by omega)
  obtain rfl : b = 0 := Fin.ext (by omega)
  refine congrArg km ?_
  show r0_31.emb (ix4 0 0 n d) = ix4 0 (7 : Fin 8) n d
  blk_ext

theorem r7 : View.ld qr r0_32 = headR qr 7 := by
  funext y
  obtain ⟨a, n, d, rfl⟩ : ∃ (a : Fin 1) (n : Fin 16) (d : Fin 128), y = ix3 a n d := ⟨y 0, y 1, y 2, eq_ix3 y⟩
  obtain rfl : a = 0 := Fin.ext (by omega)
  refine congrArg qr ?_
  show r0_32.emb (ix3 0 n d) = ix3 (7 : Fin 8) n d
  blk_ext

theorem upper7 (x : S128x512.Idx) : k0_pay90 (k0_pay83 p) x = augBlk dg z el p km qr (r0_33.emb x) := by
  obtain ⟨j, t, rfl⟩ : ∃ (j : Fin 128) (t : Fin 512), x = ix2 j t := ⟨x 0, x 1, eq_ix2 x⟩
  rw [show r0_33.emb (ix2 j t) = ix2 (⟨1792 + j.val, by omega⟩ : Fin 2048) t from by blk_ext, q7,
    augBlk_upper dg z el p km qr 7 j t ⟨1792 + j.val, by omega⟩ rfl]
  rfl

theorem lower7 (x : S128x512.Idx) :
    k0_pay91 dg z rowsW (k0_pay86 p rowsW el (View.ld km r0_31)) (k0_pay87 p rowsW el (View.ld km r0_31)) (k0_pay88 p rowsW el (View.ld km r0_31)) k0_pay89 (View.ld qr r0_32) x
      = augBlk dg z el p km qr (r0_34.emb x) := by
  obtain ⟨j, t, rfl⟩ : ∃ (j : Fin 128) (t : Fin 512), x = ix2 j t := ⟨x 0, x 1, eq_ix2 x⟩
  rw [show r0_34.emb (ix2 j t) = ix2 (⟨1920 + j.val, by omega⟩ : Fin 2048) t from by blk_ext, head7, q7, k7, r7,
    augBlk_lower dg z el p km qr 7 j t ⟨1920 + j.val, by omega⟩ rfl]

/-- The augmented queries' block is that function. -/
theorem aug_eq (i : grid0.Coords) (x : Vec Ideal S512x1024 .f32) (g : Vec Ideal S1x1024 .f32) (w w' : Vec Ideal S1024x1024 .bf16)
    (km : Vec Ideal S1x8x48x384 .bf16) (qr : Vec Ideal S8x16x128 .f32) (y : S2048x512.Idx) :
    out0_6 i x g w w' km qr y = augBlk (k0_pay10 (iota .tc S16x512 32 [0] iota_S16x512_d0_w32) (k0_pay6 (F := Ideal) i) (k0_pay7 (F := Ideal) i) k0_pay8 k0_pay9)
      (k0_pay11 (F := Ideal)) (k0_pay12 (Scalar.muli (BitVec.ofNat 32 (i 1).val) 512#32)) (k0_pay3 (View.ld x r0_0) (View.ld g r0_1) (View.ld w r0_2)) km qr y := by
  unfold out0_6 k0_pay105 k0_pay104 k0_pay103 k0_pay102 k0_pay101 k0_pay100 k0_pay99 k0_pay98 k0_pay97 k0_pay96 k0_pay95 k0_pay94 k0_pay93 k0_pay92
  generalize k0_pay3 (View.ld x r0_0) (View.ld g r0_1) (View.ld w r0_2) = p
  generalize k0_pay10 (iota .tc S16x512 32 [0] iota_S16x512_d0_w32) (k0_pay6 (F := Ideal) i) (k0_pay7 (F := Ideal) i) k0_pay8 k0_pay9 = dg
  generalize k0_pay12 (Scalar.muli (BitVec.ofNat 32 (i 1).val) 512#32) = el
  generalize k0_pay11 (F := Ideal) = z
  refine View.canon_apply_of_pieces (augBlk dg z el p km qr) _ ?_ y (cover0_6 _ _ _ _ _ _ _ _ _ _ _ _ _ _ _ _ y)
  intro pc hpc
  rcases List.mem_cons.mp hpc with rfl | hpc
  · exact fun x => lower7 dg z el p km qr x
  rcases List.mem_cons.mp hpc with rfl | hpc
  · exact fun x => upper7 dg z el p km qr x
  rcases List.mem_cons.mp hpc with rfl | hpc
  · exact fun x => lower6 dg z el p km qr x
  rcases List.mem_cons.mp hpc with rfl | hpc
  · exact fun x => upper6 dg z el p km qr x
  rcases List.mem_cons.mp hpc with rfl | hpc
  · exact fun x => lower5 dg z el p km qr x
  rcases List.mem_cons.mp hpc with rfl | hpc
  · exact fun x => upper5 dg z el p km qr x
  rcases List.mem_cons.mp hpc with rfl | hpc
  · exact fun x => lower4 dg z el p km qr x
  rcases List.mem_cons.mp hpc with rfl | hpc
  · exact fun x => upper4 dg z el p km qr x
  rcases List.mem_cons.mp hpc with rfl | hpc
  · exact fun x => lower3 dg z el p km qr x
  rcases List.mem_cons.mp hpc with rfl | hpc
  · exact fun x => upper3 dg z el p km qr x
  rcases List.mem_cons.mp hpc with rfl | hpc
  · exact fun x => lower2 dg z el p km qr x
  rcases List.mem_cons.mp hpc with rfl | hpc
  · exact fun x => upper2 dg z el p km qr x
  rcases List.mem_cons.mp hpc with rfl | hpc
  · exact fun x => lower1 dg z el p km qr x
  rcases List.mem_cons.mp hpc with rfl | hpc
  · exact fun x => upper1 dg z el p km qr x
  rcases List.mem_cons.mp hpc with rfl | hpc
  · exact fun x => lower0 dg z el p km qr x
  rcases List.mem_cons.mp hpc with rfl | hpc
  · exact fun x => upper0 dg z el p km qr x
  nomatch hpc

end Cert.GateIdeal.BlockValue

end
-- ==== Proof.GateArray.lean ====
module

public import proofs.«01_k».proof.Proof.GatePieces

/-! The augmented queries and the memory queries of the prompt group: the arrays after the run. -/

@[expose] public section

set_option maxRecDepth 16384

noncomputable section

namespace Cert.GateIdeal.BlockValue

open Cert.GateIdeal Cert.GateIdeal.Gen Idealize.ShloMosaic Idealize.ShloMosaic.TcCoe Idealize.SL.Sem
open Idealize.ShloMosaic.Pipeline (Dat)

/-- A choice does not depend on how its condition is decided. -/
theorem ite_inst (P : Prop) (d d' : Decidable P) (x y : EReal) : @ite EReal P d x y = @ite EReal P d' x y := by
  by_cases h : P
  · rw [if_pos h, if_pos h]
  · rw [if_neg h, if_neg h]

theorem zero_apply (a : Fin 72) (t : Fin 512) : k0_pay11 (F := Ideal) (ix2 a t) = 0 := by
  pointwise [k0_pay11]

section
variable (i : grid0.Coords) (p : FVec Ideal S1024x512 .f32) (km : Vec Ideal S1x8x48x384 .bf16) (qr : Vec Ideal S8x16x128 .f32)

/-- A block's digits and its past blocks. -/
abbrev digits : FVec Ideal S16x512 .f32 := k0_pay10 (iota .tc S16x512 32 [0] iota_S16x512_d0_w32) (k0_pay6 (F := Ideal) i) (k0_pay7 (F := Ideal) i) k0_pay8 k0_pay9
abbrev past : IVec S48x512 1 := k0_pay12 (Scalar.muli (BitVec.ofNat 32 (i 1).val) 512#32)

/-- A column of a head's gates. -/
theorem col_apply (h : Fin 8) (t : Fin 512) (P : Fin 2048 → EReal) (hP : ∀ d : Fin 1024, p (ix2 d t) = P ⟨d.val, by omega⟩)
    (hk : ∀ n (k : Fin 384), k.val < 128 ∨ 256 ≤ k.val → ∃ r : ℝ, (km (ix4 0 h n k) : EReal) = r) (hr : ∀ j, j.val < 1024 → ∃ r : ℝ, P j = r) :
    (fun n => (gates (past i) (headQ p h) (headK km h) (ix2 n t) : EReal)) = Gate.col (fun n k => km (ix4 0 h n k)) (Gate.head P h) (512 * (i 1).val + t.val) := by
  funext n
  have hq : (fun d => (headQ p h (ix2 d t) : EReal)) = Gate.head P h := funext fun d => hP ⟨128 * h.val + d.val, by omega⟩
  have hp : past i (ix2 n t) = BitVec.ofBool (decide (n.val < (512 * (i 1).val + t.val) / 256)) := past_apply i n t
  rw [gates_apply, hp, select_ofBool, hq]
  unfold Gate.col
  exact if_congr Iff.rfl (Gate.dot_eq (fun k => km (ix4 0 h n k)) (Gate.head P h) (hk n) fun d => hr _ (by show 128 * h.val + d.val < 1024; omega)) rfl

open Classical in
/-- The rows below a head's queries. -/
theorem lower_apply (h : Fin 8) (c : Fin 128) (t : Fin 512) (P : Fin 2048 → EReal) (hP : ∀ d : Fin 1024, p (ix2 d t) = P ⟨d.val, by omega⟩)
    (hk : ∀ n (k : Fin 384), k.val < 128 ∨ 256 ≤ k.val → ∃ r : ℝ, (km (ix4 0 h n k) : EReal) = r) (hr : ∀ j, j.val < 1024 → ∃ r : ℝ, P j = r) (Q : Fin 16 → EReal) (hQ : ∀ a l, qr (ix3 h a l) = Q a) :
    lower (digits i) k0_pay11 (past i) p km qr h (ix2 c t)
      = Gate.below (Gate.col (fun n k => km (ix4 0 h n k)) (Gate.head P h) (512 * (i 1).val + t.val)) (512 * (i 1).val + t.val) Q c := by
  have hc := col_apply i p km h t P hP hk hr
  show rows (digits i) k0_pay11 (past i) (gates (past i) (headQ p h) (headK km h)) (headR qr h) (ix2 c t) = _
  rw [rows_eq]
  generalize gates (past i) (headQ p h) (headK km h) = g at hc ⊢
  unfold Gate.below
  by_cases h1 : c.val < 40
  · rw [dif_pos h1, stack_mask _ _ _ _ _ _ h1, left_apply (past i) g _ t (c.val < (512 * (i 1).val + t.val) / 256)
      ((past_apply i ⟨c.val, by omega⟩ t).trans (congrArg BitVec.ofBool (decide_eq_decide.2 Iff.rfl))), select_ofBool, hc]
    exact (ite_inst _ _ _ _ _).trans (Gate.mask_rounds (fun n k => km (ix4 0 h n k)) (Gate.head P h) (512 * (i 1).val + t.val) ⟨c.val, by omega⟩ (hk _) fun d => hr _ (by show 128 * h.val + d.val < 1024; omega)).symm
  rw [dif_neg h1]
  by_cases h2 : c.val < 56
  · rw [dif_pos h2, stack_digit _ _ _ _ _ _ h1 h2]
    exact congrArg₂ (fun x y : EReal => x + y) (digit_apply i _ t) (hQ _ _)
  · rw [dif_neg h2, stack_zero _ _ _ _ _ _ h2, zero_apply]

/-- A block of augmented queries. -/
theorem augBlk_apply (j : Fin 2048) (t : Fin 512) (P : Fin 2048 → EReal) (hP : ∀ d : Fin 1024, p (ix2 d t) = P ⟨d.val, by omega⟩)
    (K : Fin 8 → Fin 48 → Fin 384 → EReal) (hK : ∀ h n k, km (ix4 0 h n k) = K h n k)
    (hk : ∀ h n k, k.val < 128 ∨ 256 ≤ k.val → ∃ r : ℝ, K h n k = r) (hr : ∀ j, j.val < 1024 → ∃ r : ℝ, P j = r) (Q : Fin 8 → Fin 16 → EReal) (hQ : ∀ h a l, qr (ix3 h a l) = Q h a)
    (s : ℕ) (hs : 512 * (i 1).val + t.val = s) :
    augBlk (digits i) k0_pay11 (past i) p km qr (ix2 j t) = Gate.augQ P K s Q j := by
  subst hs
  obtain rfl : (fun h n k => km (ix4 0 h n k)) = K := funext fun h => funext fun n => funext fun k => hK h n k
  unfold augBlk Gate.augQ
  by_cases hj : j.val % 256 < 128
  · rw [dif_pos (show ((ix2 j t : S2048x512.Idx) 0).val % 256 < 128 from hj), dif_pos hj]
    refine Eq.trans ?_ (congrArg (fun y : EReal => y * Ideal.ofBits FTy.f32 0x3DB504F3#32) (hP ⟨128 * (j.val / 256) + j.val % 256, by omega⟩))
    pointwise [scaled, k0_pay22, headQ]
  · rw [dif_neg (show ¬ ((ix2 j t : S2048x512.Idx) 0).val % 256 < 128 from hj), dif_neg hj]
    exact lower_apply i p km qr ⟨j.val / 256, by omega⟩ ⟨j.val % 256 - 128, by omega⟩ t P hP (hk _) hr (Q ⟨j.val / 256, by omega⟩) (hQ _)

end

variable (m : (ℓ : Loc nD τ sig) → Buf (Elt Ideal) ℓ)

theorem hz2 : (![0, 0] : Fin 2 → ℕ) = fun _ => 0 := by decide +kernel

/-- The index maps. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val / 16, 0, 0, 0]
    ∧ win0_5.index t = ![0, 0, 0]
    ∧ win0_6.index t = ![t.val / 16, t.val % 16]
    ∧ win0_7.index t = ![t.val, 0] :=
  (by decide +kernel : ∀ t : Fin grid0.N, win0_0.index t = ![t.val, 0]
    ∧ win0_1.index t = ![0, 0]
    ∧ win0_2.index t = ![0, 0]
    ∧ win0_3.index t = ![0, 0]
    ∧ win0_4.index t = ![t.val / 16, 0, 0, 0]
    ∧ win0_5.index t = ![0, 0, 0]
    ∧ win0_6.index t = ![t.val / 16, t.val % 16]
    ∧ win0_7.index t = ![t.val, 0])

theorem lt32 (t : Fin cfg0.N) : t.val < 32 := t.isLt

theorem coord : ∀ t : Fin cfg0.N, (grid0.coords t 1).val = t.val % 16 :=
  (by decide +kernel : ∀ t : Fin grid0.N, (grid0.coords t 1).val = t.val % 16)

/-- The row of the arrays that a row of a block is. -/
abbrev rowOf (t : Fin cfg0.N) (r : Fin 512) : Fin 16384 := ⟨512 * t.val + r.val, by have := lt32 t; omega⟩

/-- The projection of a token from the arguments. -/
abbrev qOf (c : Dev nD) : Fin 16384 → Fin 2048 → EReal :=
  Gate.qP (m ((c : Thread nD τ).loc main_arg0)) (m ((c : Thread nD τ).loc main_arg1)) (m ((c : Thread nD τ).loc main_arg2))

/-- The memory queries from the blocks are those from the arguments. -/
theorem qm_blk (c : Dev nD) (t : Fin cfg0.N) (r : Fin 512) (j : Fin 1024) :
    k0_pay2 (iblk m c 0 t) (iblk m c 1 t) (iblk m c 3 t) (ix2 r j) = qOf m c (rowOf t r) ⟨1024 + j.val, by omega⟩ := by
  refine (qm_apply _ _ _ r j).trans ?_
  unfold qOf Gate.qP Layer.proj Layer.rms
  have h0 : ∀ k, iblk m c 0 t (ix2 r k) = m ((c : Thread nD τ).loc main_arg0) (ix2 (rowOf t r) k) := by intro k; blk_ext [iblk, V, idx t]
  have h1 : ∀ k, iblk m c 1 t (ix2 0 k) = m ((c : Thread nD τ).loc main_arg1) (ix2 2 k) := by intro k; blk_ext! [iblk, V, idx t]
  have h2 : ∀ k, iblk m c 3 t (ix2 k j) = m ((c : Thread nD τ).loc main_arg2) (ix3 0 k ⟨1024 + j.val, by omega⟩) := by intro k; blk_ext! [iblk, V, idx t]
  simp only [h0, h1, h2]

/-- So are the queries. -/
theorem q_blk (c : Dev nD) (t : Fin cfg0.N) (r : Fin 512) (j : Fin 1024) :
    k0_pay3 (iblk m c 0 t) (iblk m c 1 t) (iblk m c 2 t) (ix2 j r) = qOf m c (rowOf t r) ⟨j.val, by omega⟩ := by
  refine (q_apply _ _ _ r j).trans ?_
  unfold qOf Gate.qP Layer.proj Layer.rms
  have h0 : ∀ k, iblk m c 0 t (ix2 r k) = m ((c : Thread nD τ).loc main_arg0) (ix2 (rowOf t r) k) := by intro k; blk_ext [iblk, V, idx t]
  have h1 : ∀ k, iblk m c 1 t (ix2 0 k) = m ((c : Thread nD τ).loc main_arg1) (ix2 2 k) := by intro k; blk_ext! [iblk, V, idx t]
  have h2 : ∀ k, iblk m c 2 t (ix2 j k) = m ((c : Thread nD τ).loc main_arg2) (ix3 0 k ⟨j.val, by omega⟩) := by intro k; blk_ext! [iblk, V, idx t]
  simp only [h0, h1, h2]

/-- The arrays after the run, from the arguments: the augmented queries and the memory queries. -/
def G6 (c : Dev nD) : S4096x8192.Idx → EReal := fun i =>
  Gate.augQ (qOf m c ⟨8192 * ((i 0).val / 2048) + (i 1).val, by have : (i 0).val < 4096 := (i 0).isLt; have : (i 1).val < 8192 := (i 1).isLt; omega⟩)
    (fun h n k => m ((c : Thread nD τ).loc main_arg3) (ix4 (⟨(i 0).val / 2048, by have : (i 0).val < 4096 := (i 0).isLt; omega⟩ : Fin 2) h n k)) (i 1).val
    (fun h a => m ((c : Thread nD τ).loc main_arg4) (ix2 h a)) ⟨(i 0).val % 2048, by omega⟩
def G7 (c : Dev nD) : S16384x1024.Idx → EReal := fun i =>
  qOf m c (i 0) ⟨1024 + (i 1).val, by have : (i 1).val < 1024 := (i 1).isLt; omega⟩

set_option maxHeartbeats 2000000 in
theorem final7 (c : Dev nD) : (dats m 0 c).arrAt 7 cfg0.N = G7 m c := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  have e : (win0_7.blk t).view.emb (ix2 r j) = ix2 (rowOf t r) j := by blk_ext [idx t]
  rw [e]
  unfold out0_7
  rw [View.canon_cons_unit_zero (S := S512x1024) hz2, View.ld_unit_zero (S := S512x1024) hz2, View.ld_unit_zero (S := S1x1024) hz2, View.ld_unit_zero (S := S1024x1024) hz2]
  exact qm_blk m c t r j

set_option maxHeartbeats 2000000 in
theorem final6 (c : Dev nD) (hk : ∀ (b : Fin 2) (h : Fin 8) (n : Fin 48) (k : Fin 384), k.val < 128 ∨ 256 ≤ k.val → ∃ r : ℝ, m ((c : Thread nD τ).loc main_arg3) (ix4 b h n k) = (r : EReal))
    (hr : ∀ r j, j.val < 1024 → ∃ x : ℝ, qOf m c r j = x) :
    (dats m 0 c).arrAt 6 cfg0.N = G6 m c := by
  refine (dats m 0 c).arrAt_eq_of_covers 6 _ (by decide +kernel) fun t hf y => ?_
  blk_simp
  rw [after0_6]
  obtain ⟨j, r, rfl⟩ : ∃ (j : Fin 2048) (r : Fin 512), y = ix2 j r := ⟨y 0, y 1, eq_ix2 y⟩
  have ht := lt32 t
  have e : (win0_6.blk t).view.emb (ix2 j r) = ix2 (⟨2048 * (t.val / 16) + j.val, by omega⟩ : Fin 4096) (⟨512 * (t.val % 16) + r.val, by omega⟩ : Fin 8192) := by blk_ext [idx t]
  rw [e, aug_eq]
  rw [View.ld_unit_zero (S := S512x1024) hz2, View.ld_unit_zero (S := S1x1024) hz2, View.ld_unit_zero (S := S1024x1024) hz2]
  have hq := fun d => q_blk m c t r d
  have hK : ∀ (h : Fin 8) (n : Fin 48) (k : Fin 384), iblk m c 4 t (ix4 0 h n k) = m ((c : Thread nD τ).loc main_arg3) (ix4 (⟨t.val / 16, by omega⟩ : Fin 2) h n k) := by
    intro h n k; blk_ext [iblk, V, idx t]
  have hQ : ∀ (h : Fin 8) (a : Fin 16) (l : Fin 128), iblk m c 5 t (ix3 h a l) = m ((c : Thread nD τ).loc main_arg4) (ix2 h a) := by
    intro h a l; blk_ext! [iblk, V, idx t]
  refine (augBlk_apply (grid0.coords t) _ _ _ j r _ hq _ hK (fun _ _ _ => hk _ _ _ _) (fun _ => hr _ _) _ hQ (512 * (t.val % 16) + r.val) (by rw [coord t])).trans ?_
  have e0 : (2048 * (t.val / 16) + j.val) / 2048 = t.val / 16 := by omega
  have e1 : (2048 * (t.val / 16) + j.val) % 2048 = j.val := by omega
  have e2 : 8192 * (t.val / 16) + (512 * (t.val % 16) + r.val) = 512 * t.val + r.val := by omega
  have hg : ∀ (b s R J : ℕ) (hb : b < 2) (hR : R < 16384) (hJ : J < 2048), b = t.val / 16 → R = 512 * t.val + r.val → J = j.val →
      Gate.augQ (qOf m c (rowOf t r)) (fun h n k => m ((c : Thread nD τ).loc main_arg3) (ix4 (⟨t.val / 16, by omega⟩ : Fin 2) h n k)) s
        (fun h a => m ((c : Thread nD τ).loc main_arg4) (ix2 h a)) j
      = Gate.augQ (qOf m c ⟨R, hR⟩) (fun h n k => m ((c : Thread nD τ).loc main_arg3) (ix4 (⟨b, hb⟩ : Fin 2) h n k)) s
        (fun h a => m ((c : Thread nD τ).loc main_arg4) (ix2 h a)) ⟨J, hJ⟩ := by
    intro b s R J hb hR hJ h1 h2 h3
    subst h1; subst h2; subst h3; rfl
  exact hg _ _ _ _ _ _ _ e0 (by show 8192 * ((2048 * (t.val / 16) + j.val) / 2048) + (512 * (t.val % 16) + r.val) = _; rw [e0, e2]) e1

end Cert.GateIdeal.BlockValue
-- ==== Proof.GateRefRow.lean ====
module

public import proofs.«01_k».proof.Proof.Gen.GateRefIdeal.Run
public import proofs.«01_k».proof.Proof.Gen.GateRefIdeal.Read
public import proofs.«01_k».proof.Proof.GateMath
public import proofs.«01_k».proof.Proof.RowMax
public import Idealize.ShloMosaic.Lib.Tactic.CleanTypes

/-! The reference of the prompt group's queries, entry by entry. -/

@[expose] public section

set_option maxRecDepth 16384

noncomputable section

namespace Cert.GateRefIdeal.RowValue

open Cert.GateRefIdeal Cert.GateRefIdeal.Gen Idealize.ShloMosaic Idealize.ShloMosaic.TcCoe Idealize.SL.Sem
open Cert.GateRefIdeal.Read

variable (x0 : (⟨2, ![16384, 1024]⟩ : Shape).Idx → EReal) (x1 : (⟨2, ![4, 1024]⟩ : Shape).Idx → EReal) (x2 : (⟨3, ![2, 1024, 2048]⟩ : Shape).Idx → EReal)
  (x3 : (⟨4, ![2, 8, 48, 384]⟩ : Shape).Idx → EReal) (x4 : (⟨2, ![8, 16]⟩ : Shape).Idx → EReal)

theorem rms_apply (r : Fin 16384) (j : Fin 1024) :
    val_main_v14 (F := Ideal) x0 x1 (ix2 r j) = Layer.rms (fun k => x0 (ix2 r k)) (fun j => x1 (ix2 2 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.rms]

theorem proj_apply (r : Fin 16384) (j : Fin 2048) : val_main_v17 (F := Ideal) x0 x1 x2 (ix2 r j) = Gate.qP x0 x1 x2 r j := by
  have hn := fun j => rms_apply x0 x1 r j
  unfold val_main_v17 val_main_v16 val_main_v15
  generalize val_main_v14 (F := Ideal) x0 x1 = n at hn ⊢
  pointwise
  unfold Gate.qP Layer.proj
  simp only [hn]

/-- The memory queries. -/
theorem qm_apply (r : Fin 16384) (j : Fin 1024) : val_main_v100 (F := Ideal) x0 x1 x2 (ix2 r j) = Gate.qP x0 x1 x2 r ⟨1024 + j.val, by omega⟩ := by
  have hp := fun j => proj_apply x0 x1 x2 r j
  unfold val_main_v100 val_main_v19
  generalize val_main_v17 (F := Ideal) x0 x1 x2 = p at hp ⊢
  pointwise
  exact hp _

/-- The queries, by batch, position and head. -/
theorem q_apply (b : Fin 2) (s : Fin 8192) (h : Fin 8) (d : Fin 128) :
    val_main_v20 (F := Ideal) x0 x1 x2 (ix4 b s h d) = Gate.head (Gate.qP x0 x1 x2 ⟨8192 * b.val + s.val, by omega⟩) h d := by
  have hp := proj_apply x0 x1 x2 ⟨8192 * b.val + s.val, by omega⟩ ⟨128 * h.val + d.val, by omega⟩
  unfold val_main_v20 val_main_v18
  generalize val_main_v17 (F := Ideal) x0 x1 x2 = p at hp ⊢
  refine Eq.trans ?_ hp
  pointwise
  simp only [Nat.mul_comm]

theorem mean_apply (b : Fin 2) (h : Fin 8) (n : Fin 48) (d : Fin 128) :
    val_main_v25 (F := Ideal) x3 (ix4 b h n d) = x3 (ix4 b h n ⟨d.val, by omega⟩) + x3 (ix4 b h n ⟨256 + d.val, by omega⟩) := by
  pointwise [val_main_v25, val_main_v24, val_main_v23, val_main_v22, val_main_v21]

theorem dot_apply (b : Fin 2) (h : Fin 8) (n : Fin 48) (s : Fin 8192) :
    val_main_v26 (F := Ideal) x0 x1 x2 x3 (ix4 b h n s)
      = Gate.dot (fun k => x3 (ix4 b h n k)) (Gate.head (Gate.qP x0 x1 x2 ⟨8192 * b.val + s.val, by omega⟩) h) := by
  rw [val_main_v26_apply]
  refine Finset.sum_congr rfl fun k _ => ?_
  have e1 : lidx_main_v26 (ix4 b h n s) k = ix4 b h n k := by
    funext a; match a with | ⟨0, _⟩ => rfl | ⟨1, _⟩ => rfl | ⟨2, _⟩ => rfl | ⟨3, _⟩ => rfl
  have e2 : ridx_main_v26 (ix4 b h n s) k = ix4 b s h k := by
    funext a; match a with | ⟨0, _⟩ => rfl | ⟨1, _⟩ => rfl | ⟨2, _⟩ => rfl | ⟨3, _⟩ => rfl
  rw [e1, e2, mean_apply, q_apply]

/-- A position's block. -/
theorem blk_apply (r : Fin 8192) : val_main_v30 (F := Ideal) (ix1 r) = BitVec.ofNat 32 (r.val / 256) := by
  have e : val_main_call0_v0 (F := Ideal) = fun _ => 256#32 := rfl
  pointwise [val_main_v30, val_main_v27, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, e]
  revert r
  decide +kernel

theorem slt_word : ∀ (n : Fin 48) (k : Fin 48), IntOp.cmpi CmpIPredicate.slt (BitVec.ofNat 32 n.val) (BitVec.ofNat 32 k.val) = BitVec.ofBool (decide (n.val < k.val)) := by
  decide +kernel

/-- The blocks that are past. -/
theorem past_apply (n : Fin 48) (s : Fin 8192) : val_main_v34 (F := Ideal) (ix2 n s) = BitVec.ofBool (decide (n.val < s.val / 256)) := by
  have hb := blk_apply s
  unfold val_main_v34 val_main_v33 val_main_v31
  generalize val_main_v30 (F := Ideal) = b at hb ⊢
  refine Eq.trans ?_ (slt_word n ⟨s.val / 256, by omega⟩)
  show _ = IntOp.cmpi CmpIPredicate.slt (BitVec.ofNat 32 n.val) (BitVec.ofNat 32 (s.val / 256))
  rw [← hb]
  pointwise [val_main_v32, val_main_v29, val_main_v28]

theorem select_ofBool {α : Type} (P : Prop) [Decidable P] (x y : α) : Scalar.select (BitVec.ofBool (decide P)) x y = if P then x else y := by
  by_cases h : P
  · rw [if_pos h, decide_eq_true h]; rfl
  · rw [if_neg h, decide_eq_false h]; rfl

theorem andi_ofBool (P Q : Prop) [Decidable P] [Decidable Q] : IntOp.andi (BitVec.ofBool (decide P)) (BitVec.ofBool (decide Q)) = BitVec.ofBool (decide (P ∧ Q)) := by
  by_cases h : P <;> by_cases h' : Q <;> simp [h, h'] <;> rfl

theorem ori_ofBool (P Q : Prop) [Decidable P] [Decidable Q] : IntOp.ori (BitVec.ofBool (decide P)) (BitVec.ofBool (decide Q)) = BitVec.ofBool (decide (P ∨ Q)) := by
  by_cases h : P <;> by_cases h' : Q <;> simp [h, h'] <;> rfl

/-- A column of gates. -/
abbrev colOf (b : Fin 2) (h : Fin 8) (s : Fin 8192) : Fin 48 → EReal :=
  Gate.col (fun n k => x3 (ix4 b h n k)) (Gate.head (Gate.qP x0 x1 x2 ⟨8192 * b.val + s.val, by omega⟩) h) s.val

theorem col_apply (b : Fin 2) (h : Fin 8) (n : Fin 48) (s : Fin 8192) : val_main_v35 (F := Ideal) x0 x1 x2 x3 (ix4 b h n s) = colOf x0 x1 x2 x3 b h s n := by
  rw [val_main_v35_apply, dot_apply, val_main_call1_v1_apply, val_main_call1_v2_apply]
  have e1 : idx_main_call1_v1 (ix4 b h n s) = ix2 n s := by
    funext a; match a with | ⟨0, _⟩ => rfl | ⟨1, _⟩ => rfl
  rw [e1, past_apply, select_ofBool]
  exact if_congr Iff.rfl rfl Softmax.negInf

open Classical in
/-- Whether a gate stands above another, as one or zero. -/
theorem above_apply (b : Fin 2) (h : Fin 8) (n k : Fin 48) (s : Fin 8192) :
    val_main_v57 (F := Ideal) x0 x1 x2 x3 (ix5 b h n k s) = if Gate.Above (colOf x0 x1 x2 x3 b h s) n k then 1 else 0 := by
  have hc := fun n => col_apply x0 x1 x2 x3 b h n s
  have i38 : idx_main_v36 (idx_main_v38 (ix5 b h n k s)) = ix4 b h k s := by
    funext a; match a with | ⟨0, _⟩ => rfl | ⟨1, _⟩ => rfl | ⟨2, _⟩ => rfl | ⟨3, _⟩ => rfl
  have i39 : idx_main_v37 (idx_main_v39 (ix5 b h n k s)) = ix4 b h n s := by
    funext a; match a with | ⟨0, _⟩ => rfl | ⟨1, _⟩ => rfl | ⟨2, _⟩ => rfl | ⟨3, _⟩ => rfl
  have i43 : idx_main_v41 (idx_main_v43 (ix5 b h n k s)) = ix4 b h k s := by
    funext a; match a with | ⟨0, _⟩ => rfl | ⟨1, _⟩ => rfl | ⟨2, _⟩ => rfl | ⟨3, _⟩ => rfl
  have i44 : idx_main_v42 (idx_main_v44 (ix5 b h n k s)) = ix4 b h n s := by
    funext a; match a with | ⟨0, _⟩ => rfl | ⟨1, _⟩ => rfl | ⟨2, _⟩ => rfl | ⟨3, _⟩ => rfl
  have i53 : idx_main_v51 (idx_main_v52 (idx_main_v53 (ix5 b h n k s))) = ix2 n k := by
    funext a; match a with | ⟨0, _⟩ => rfl | ⟨1, _⟩ => rfl
  have h50 : val_main_v50 (F := Ideal) (ix2 n k) = BitVec.ofBool (decide (k.val < n.val)) := by
    refine Eq.trans ?_ (slt_word k n)
    pointwise [val_main_v50, val_main_v49, val_main_v48, val_main_v47, val_main_v46, val_main_v28]
  rw [val_main_v57_apply, val_main_v56_apply, val_main_v55_apply, val_main_v54_apply, val_main_v40_apply, val_main_v45_apply, val_main_v38_apply, val_main_v39_apply,
    val_main_v36_apply, val_main_v37_apply, val_main_v43_apply, val_main_v44_apply, val_main_v41_apply, val_main_v42_apply, val_main_v53_apply, val_main_v52_apply, val_main_v51_apply,
    i38, i39, i43, i44, i53, h50, hc, hc, val_main_call2_v0_apply, val_main_call2_v1_apply]
  generalize colOf x0 x1 x2 x3 b h s = g
  have e : IntOp.ori (FloatOps.cmpf (F := Ideal) (φ := FTy.f32) CmpFPredicate.ogt (g k) (g n)) (IntOp.andi (FloatOps.cmpf (F := Ideal) (φ := FTy.f32) CmpFPredicate.oeq (g k) (g n)) (BitVec.ofBool (decide (k.val < n.val))))
      = BitVec.ofBool (decide (Gate.Above g n k)) := by
    show IntOp.ori (BitVec.ofBool (decide (g n < g k))) (IntOp.andi (BitVec.ofBool (decide (g k = g n))) (BitVec.ofBool (decide (k.val < n.val)))) = _
    rw [andi_ofBool, ori_ofBool]
    exact congrArg BitVec.ofBool (decide_eq_decide.2 Iff.rfl)
  have one : Ideal.ofBits FTy.f32 0x3F800000#32 = (1 : EReal) := Ideal.ofBits_one_f32
  have zero : Ideal.ofBits FTy.f32 0x00000000#32 = (0 : EReal) := by
    simp [Ideal.ofBits, Ideal.ieee]
  refine (congrArg (fun w => Scalar.select w _ _) e).trans ?_
  rw [select_ofBool]
  exact if_congr Iff.rfl one zero

/-- How many stand above. -/
theorem rank_apply (b : Fin 2) (h : Fin 8) (n : Fin 48) (s : Fin 8192) :
    val_main_v58 (F := Ideal) x0 x1 x2 x3 (ix4 b h n s) = ((Gate.rank (colOf x0 x1 x2 x3 b h s) n : ℝ) : EReal) := by
  have zero : val_main_cst_5 (F := Ideal) (Shape.Idx.first h_S_) = (0 : EReal) := by
    show Ideal.ofBits FTy.f32 0x00000000#32 = (0 : EReal)
    simp [Ideal.ofBits, Ideal.ieee]
  have e : ∀ k : Fin 48, idx_main_v58 (ix4 b h n s) k = ix5 b h n k s := by
    intro k; funext a; match a with | ⟨0, _⟩ => rfl | ⟨1, _⟩ => rfl | ⟨2, _⟩ => rfl | ⟨3, _⟩ => rfl | ⟨4, _⟩ => rfl
  rw [val_main_v58_apply, zero, zero_add]
  refine Gate.rank_sum _ n _ (fun k hk => ?_) fun k hk => ?_
  · rw [e, above_apply, if_pos hk]
  · rw [e, above_apply, if_neg hk]

theorem bits_three : Ideal.ofBits FTy.f32 0x40400000#32 = ((3 : ℝ) : EReal) := by
  simp [Ideal.ofBits, Ideal.ieee, -EReal.coe_mul]; norm_num

/-- The mask. -/
theorem mask_apply (b : Fin 2) (h : Fin 8) (n : Fin 48) (s : Fin 8192) :
    val_main_v64 (F := Ideal) x0 x1 x2 x3 (ix4 b h n s) = Gate.mask (colOf x0 x1 x2 x3 b h s) s.val n := by
  have i62 : idx_main_v61 (idx_main_v62 (ix4 b h n s)) = ix2 n s := by
    funext a; match a with | ⟨0, _⟩ => rfl | ⟨1, _⟩ => rfl
  rw [val_main_v64_apply, val_main_v63_apply, val_main_v62_apply, val_main_v61_apply, val_main_v60_apply, i62, past_apply, rank_apply]
  generalize colOf x0 x1 x2 x3 b h s = g
  have e : FloatOps.cmpf (F := Ideal) (φ := FTy.f32) CmpFPredicate.oge (((Gate.rank g n : ℝ) : EReal)) (val_main_v59 (F := Ideal) (ix4 b h n s)) = BitVec.ofBool (decide (3 ≤ Gate.rank g n)) := by
    show Ideal.cmp CmpFPredicate.oge (((Gate.rank g n : ℝ) : EReal)) (Ideal.ofBits FTy.f32 0x40400000#32) = _
    rw [bits_three]
    show BitVec.ofBool (decide (((3 : ℝ) : EReal) ≤ ((Gate.rank g n : ℝ) : EReal))) = _
    refine congrArg BitVec.ofBool (decide_eq_decide.2 ?_)
    rw [EReal.coe_le_coe_iff]
    exact_mod_cast Iff.rfl
  refine (congrArg (fun w => Scalar.select (IntOp.andi _ w) _ _) e).trans ?_
  rw [andi_ofBool, select_ofBool]
  unfold Gate.mask
  have zero : Ideal.ofBits FTy.f32 0x00000000#32 = (0 : EReal) := by
    simp [Ideal.ofBits, Ideal.ieee]
  exact if_congr Iff.rfl rfl zero

/-- The masks kept. -/
theorem mask40_apply (b : Fin 2) (h : Fin 8) (n : Fin 40) (s : Fin 8192) :
    val_main_v96 (F := Ideal) x0 x1 x2 x3 (ix4 b h n s) = Gate.mask (colOf x0 x1 x2 x3 b h s) s.val ⟨n.val, by omega⟩ := by
  have e : idx_main_v65 (ix4 b h n s) = ix4 b h (⟨n.val, by omega⟩ : Fin 48) s := by
    funext a
    match a with
    | ⟨0, _⟩ => rfl
    | ⟨1, _⟩ => rfl
    | ⟨2, _⟩ => rfl
    | ⟨3, _⟩ => rfl
  rw [val_main_v96_apply, val_main_v65_apply, e, mask_apply]

/-- A position's low digit. -/
theorem low_apply (r : Fin 8192) : val_main_v66 (F := Ideal) (ix1 r) = BitVec.ofNat 32 (r.val % 128) := by
  have e : val_main_call4_v0 (F := Ideal) = fun _ => 128#32 := rfl
  pointwise [val_main_v66, val_main_v27, val_main_call4_c, val_main_call4_v1, val_main_call4_c_0, val_main_call4_v2, val_main_call4_v3, val_main_call4_v4, val_main_call4_c_1, val_main_call4_v5, val_main_call4_v6, val_main_call4_c_2, val_main_call4_v7, val_main_call4_v8, val_main_call4_c_3, val_main_call4_v9, val_main_call4_v10, val_main_call4_v11, val_main_call4_v12, val_main_call4_v13, val_main_call4_v14, e]
  revert r
  decide +kernel

/-- The digits. -/
theorem digit_apply (a : Fin 16) (s : Fin 8192) : val_main_v85 (F := Ideal) (ix2 a s) = Gate.digit s.val a := by
  have hl := low_apply s
  unfold Gate.digit Gate.digitW
  rw [← hl]
  unfold val_main_v85 val_main_v84 val_main_call5_v2 val_main_call6_v1 val_main_v83 val_main_v82 val_main_v76 val_main_v75 val_main_v74
  generalize val_main_v66 (F := Ideal) = l
  have e : val_main_call5_v0 (F := Ideal) = fun _ => (0 : EReal) := by
    funext x
    show Ideal.ofBits FTy.f32 0x00000000#32 = (0 : EReal)
    simp [Ideal.ofBits, Ideal.ieee]
  pointwise [e, val_main_call5_v1, val_main_call5_v3, val_main_cst_14, val_main_call6_v0, val_main_v81, val_main_v80, val_main_v79, val_main_c_13, val_main_v78, val_main_v77, val_main_c_12, val_main_v73, val_main_v72, val_main_v71, val_main_c_11, val_main_v70, val_main_v69, val_main_c_10, val_main_v68, val_main_v67, val_main_v27]

/-- The digits plus the head's own rows. -/
theorem tail_apply (b : Fin 2) (h : Fin 8) (a : Fin 16) (s : Fin 8192) :
    val_main_v91 (F := Ideal) x4 (ix4 b h a s) = Gate.digit s.val a + x4 (ix2 h a) := by
  have hd := digit_apply a s
  unfold val_main_v91 val_main_v90 val_main_v88 val_main_v86
  generalize val_main_v85 (F := Ideal) = d at hd ⊢
  refine Eq.trans ?_ (congrArg (fun y : EReal => y + x4 (ix2 h a)) hd)
  pointwise [val_main_v89, val_main_v87]

/-- The augmented queries. -/
theorem aug_apply (i : Fin 4096) (s : Fin 8192) :
    val_main_v99 (F := Ideal) x0 x1 x2 x3 x4 (ix2 i s) = Gate.augQ (Gate.qP x0 x1 x2 ⟨8192 * (i.val / 2048) + s.val, by omega⟩)
      (fun h n k => x3 (ix4 (⟨i.val / 2048, by omega⟩ : Fin 2) h n k)) s.val (fun h a => x4 (ix2 h a)) ⟨i.val % 2048, by omega⟩ := by
  have hq := fun b s h d => q_apply x0 x1 x2 b s h d
  have hm := fun b h n s => mask40_apply x0 x1 x2 x3 b h n s
  have ht := fun b h a s => tail_apply x4 b h a s
  unfold val_main_v99 val_main_v98 val_main_v97 val_main_v95 val_main_v93
  generalize val_main_v20 (F := Ideal) x0 x1 x2 = q at hq ⊢
  generalize val_main_v96 (F := Ideal) x0 x1 x2 x3 = mk at hm ⊢
  generalize val_main_v91 (F := Ideal) x4 = tl at ht ⊢
  unfold Gate.augQ Gate.below
  have e1 : (i.val % 2048) / 256 = i.val / 256 % 8 := by omega
  have e2 : (i.val % 2048) % 256 = i.val % 256 := by omega
  pointwise [val_main_v94, val_main_cst_16, val_main_v92, val_main_cst_15]
  simp only [e1, e2, hq, hm, ht]
  by_cases h1 : i.val % 256 < 128
  · rw [dif_pos h1, dif_pos h1]
  rw [dif_neg h1, dif_neg h1]
  by_cases h2 : i.val % 256 - 128 < 40
  · rw [dif_pos h2, dif_pos h2]
  rw [dif_neg h2, dif_neg h2]
  by_cases h3 : i.val % 256 - 128 < 56
  · rw [dif_pos h3, dif_pos (show i.val % 256 - 128 - 40 < 16 by omega)]
  · rw [dif_neg h3, dif_neg (show ¬ i.val % 256 - 128 - 40 < 16 by omega)]

end Cert.GateRefIdeal.RowValue
-- ==== Proof.GateClaim.lean ====
module

public import proofs.«01_k».proof.Defs
public import proofs.«01_k».proof.Proof.Finite
public import proofs.«01_k».proof.Proof.GateArray
public import proofs.«01_k».proof.Proof.GateRefRow
public import proofs.«01_k».proof.Proof.Gen.Pre_gate_finite
public import proofs.«01_k».proof.Proof.Gen.GateIdeal
public import proofs.«01_k».proof.Proof.Gen.GateRefIdeal
public import proofs.«01_k».proof.Proof.Gen.GateRefIdeal.Run

/-! The prompt group's queries: the kernel takes the three best blocks off one after another, from gates that it computes
    with each query split in two, the reference counts which gates stand above which. With finite scales, weights and means the two
    are equal. -/

@[expose] public section

set_option maxRecDepth 16384

noncomputable section

namespace Cert.GateValue

open Idealize.ShloMosaic Idealize.ShloMosaic.TcCoe Idealize.SL.Sem

variable (m : (ℓ : Loc GateIdeal.nD GateIdeal.τ GateIdeal.sig) → Buf (Elt Ideal) ℓ)
    (m' : (ℓ : Loc GateRefIdeal.nD GateRefIdeal.τ GateRefIdeal.sig) → Buf (Elt Ideal) ℓ) (c : Dev GateIdeal.nD)

/-- The two programs' arguments are the same. -/
abbrev same : Prop :=
    m' ((c.tc : Thread GateRefIdeal.nD GateRefIdeal.τ).loc GateRefIdeal.main_arg0) = m ((c.tc : Thread GateIdeal.nD GateIdeal.τ).loc GateIdeal.main_arg0)
    ∧ m' ((c.tc : Thread GateRefIdeal.nD GateRefIdeal.τ).loc GateRefIdeal.main_arg1) = m ((c.tc : Thread GateIdeal.nD GateIdeal.τ).loc GateIdeal.main_arg1)
    ∧ m' ((c.tc : Thread GateRefIdeal.nD GateRefIdeal.τ).loc GateRefIdeal.main_arg2) = m ((c.tc : Thread GateIdeal.nD GateIdeal.τ).loc GateIdeal.main_arg2)
    ∧ m' ((c.tc : Thread GateRefIdeal.nD GateRefIdeal.τ).loc GateRefIdeal.main_arg3) = m ((c.tc : Thread GateIdeal.nD GateIdeal.τ).loc GateIdeal.main_arg3)
    ∧ m' ((c.tc : Thread GateRefIdeal.nD GateRefIdeal.τ).loc GateRefIdeal.main_arg4) = m ((c.tc : Thread GateIdeal.nD GateIdeal.τ).loc GateIdeal.main_arg4)

/-- The two parts of each mean are real numbers. -/
theorem real_mean (hp : Pre_GateIdeal_gate_finite m) (b : Fin 2) (h : Fin 8) (n : Fin 48) (k : Fin 384) (hk : k.val < 128 ∨ 256 ≤ k.val) :
    ∃ x : ℝ, m ((c.tc : Thread GateIdeal.nD GateIdeal.τ).loc GateIdeal.main_arg3) (ix4 b h n k) = (x : EReal) := by
  have h3 := (hp c).2.2.1
  have h4 := (hp c).2.2.2
  generalize m ((c.tc : Thread GateIdeal.nD GateIdeal.τ).loc GateIdeal.main_arg3) = x3 at h3 h4 ⊢
  rcases hk with hk | hk
  · refine Softmax.real_of_lt _ (Eq.trans ?_ (congrFun h3 (ix4 b h n (⟨k.val, hk⟩ : Fin 128))))
    pointwise [Cert.Pre_gate_finite.fn]
    rfl
  · refine Softmax.real_of_lt _ (Eq.trans ?_ (congrFun h4 (ix4 b h n (⟨k.val - 256, by omega⟩ : Fin 128))))
    obtain ⟨k, hk'⟩ := k
    obtain ⟨d, rfl⟩ : ∃ d, k = 256 + d := ⟨k - 256, by simp only at hk; omega⟩
    pointwise [Cert.Pre_gate_finite.fn]
    rfl

/-- So are the queries. -/
theorem real_q (hp : Pre_GateIdeal_gate_finite m) (r : Fin 16384) (j : Fin 2048) (hj : j.val < 1024) :
    ∃ x : ℝ, GateIdeal.BlockValue.qOf m c r j = (x : EReal) := by
  have h1 := (hp c).1
  have h2 := (hp c).2.1
  unfold GateIdeal.BlockValue.qOf Gate.qP
  generalize m ((c.tc : Thread GateIdeal.nD GateIdeal.τ).loc GateIdeal.main_arg0) = x0 at h1 h2 ⊢
  generalize m ((c.tc : Thread GateIdeal.nD GateIdeal.τ).loc GateIdeal.main_arg1) = x1 at h1 h2 ⊢
  generalize m ((c.tc : Thread GateIdeal.nD GateIdeal.τ).loc GateIdeal.main_arg2) = x2 at h1 h2 ⊢
  refine Gate.real_proj _ _ _ (fun k => Gate.real_of_lt _ (Eq.trans ?_ (congrFun h1 (ix1 k)))) j
    (fun k => Gate.real_of_lt _ (Eq.trans ?_ (congrFun h2 (ix2 k (⟨j.val, hj⟩ : Fin 1024)))))
  · pointwise [Cert.Pre_gate_finite.fn]
    rfl
  · pointwise [Cert.Pre_gate_finite.fn]
    rfl

set_option maxHeartbeats 2000000 in
/-- The reference's results are the same functions of the arguments. -/
theorem ref_aug (h : same m m' c) : GateRefIdeal.Read.val_main_v99 (F := Ideal) (m' ((c.tc : Thread GateRefIdeal.nD GateRefIdeal.τ).loc GateRefIdeal.main_arg0)) (m' ((c.tc : Thread GateRefIdeal.nD GateRefIdeal.τ).loc GateRefIdeal.main_arg1)) (m' ((c.tc : Thread GateRefIdeal.nD GateRefIdeal.τ).loc GateRefIdeal.main_arg2)) (m' ((c.tc : Thread GateRefIdeal.nD GateRefIdeal.τ).loc GateRefIdeal.main_arg3)) (m' ((c.tc : Thread GateRefIdeal.nD GateRefIdeal.τ).loc GateRefIdeal.main_arg4)) = GateIdeal.BlockValue.G6 m c := by
  rw [h.1, h.2.1, h.2.2.1, h.2.2.2.1, h.2.2.2.2]
  funext i
  obtain ⟨r, j, rfl⟩ : ∃ (r : Fin 4096) (j : Fin 8192), i = ix2 r j := ⟨i 0, i 1, eq_ix2 i⟩
  exact GateRefIdeal.RowValue.aug_apply _ _ _ _ _ r j

set_option maxHeartbeats 2000000 in
theorem ref_qm (h : same m m' c) : GateRefIdeal.Read.val_main_v100 (F := Ideal) (m' ((c.tc : Thread GateRefIdeal.nD GateRefIdeal.τ).loc GateRefIdeal.main_arg0)) (m' ((c.tc : Thread GateRefIdeal.nD GateRefIdeal.τ).loc GateRefIdeal.main_arg1)) (m' ((c.tc : Thread GateRefIdeal.nD GateRefIdeal.τ).loc GateRefIdeal.main_arg2)) = GateIdeal.BlockValue.G7 m c := by
  rw [h.1, h.2.1, h.2.2.1]
  funext i
  obtain ⟨r, j, rfl⟩ : ∃ (r : Fin 16384) (j : Fin 1024), i = ix2 r j := ⟨i 0, i 1, eq_ix2 i⟩
  exact GateRefIdeal.RowValue.qm_apply _ _ _ r j

/-- The prompt group's queries: the kernel and the reference end with equal results. -/
theorem algebraic : Cert.algebraic_GateIdeal_GateRefIdeal_pre_gate_finite := fun m g m' g' hp hag =>
  ⟨fun c => GateIdeal.BlockValue.G6 m c, fun c => GateIdeal.BlockValue.G7 m c,
    (θ_run _ _ _).mono (fun _ h c => ⟨(h c).1.trans (GateIdeal.BlockValue.final6 m c (real_mean m c hp) (real_q m c hp)),
      (h c).2.1.trans (GateIdeal.BlockValue.final7 m c), (h c).2.2⟩) (GateIdeal.Value.run_blocks m g),
    (θ_run _ _ _).mono (fun _ h c => ⟨(h c).1.trans ((GateRefIdeal.Read.val_main_v99_eq _ _).trans (ref_aug m m' c (hag c))),
      (h c).2.1.trans ((GateRefIdeal.Read.val_main_v100_eq _ _ _).trans (ref_qm m m' c (hag c))), (h c).2.2⟩) (GateRefIdeal.Value.run m' g')⟩

end Cert.GateValue

end
-- ==== Proof.lean ====
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.ConvClaim
public import proofs.«01_k».proof.Proof.Gen.ConvS
public import proofs.«01_k».proof.Proof.Gen.ConvS.Frame
public import proofs.«01_k».proof.Proof.Gen.ConvSIdeal
public import proofs.«01_k».proof.Proof.Gen.ConvSIdeal.Frame
public import proofs.«01_k».proof.Proof.Gen.ConvSRefIdeal
public import proofs.«01_k».proof.Proof.Gen.ConvSRefIdeal.Run
public import proofs.«01_k».proof.Proof.ConvSClaim
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.PostClaim
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastRefIdeal
public import proofs.«01_k».proof.Proof.Gen.LastRefIdeal.Run
public import proofs.«01_k».proof.Proof.LastClaim
public import proofs.«01_k».proof.Proof.Gen.LastS
public import proofs.«01_k».proof.Proof.Gen.LastS.Frame
public import proofs.«01_k».proof.Proof.Gen.LastSIdeal
public import proofs.«01_k».proof.Proof.Gen.LastSIdeal.Frame
public import proofs.«01_k».proof.Proof.Gen.LastSRefIdeal
public import proofs.«01_k».proof.Proof.Gen.LastSRefIdeal.Run
public import proofs.«01_k».proof.Proof.LastSClaim
public import proofs.«01_k».proof.Proof.Gen.Keys
public import proofs.«01_k».proof.Proof.Gen.Keys.Frame
public import proofs.«01_k».proof.Proof.Gen.KeysIdeal
public import proofs.«01_k».proof.Proof.Gen.KeysIdeal.Frame
public import proofs.«01_k».proof.Proof.Gen.KeysRefIdeal
public import proofs.«01_k».proof.Proof.Gen.KeysRefIdeal.Run
public import proofs.«01_k».proof.Proof.KeysClaim
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvRefIdeal.Run
public import proofs.«01_k».proof.Proof.KvClaim
public import proofs.«01_k».proof.Proof.Gen.KvS
public import proofs.«01_k».proof.Proof.Gen.KvS.Frame
public import proofs.«01_k».proof.Proof.Gen.KvSIdeal
public import proofs.«01_k».proof.Proof.Gen.KvSIdeal.Frame
public import proofs.«01_k».proof.Proof.Gen.KvSRefIdeal
public import proofs.«01_k».proof.Proof.Gen.KvSRefIdeal.Run
public import proofs.«01_k».proof.Proof.KvSClaim
public import proofs.«01_k».proof.Proof.Gen.Recall
public import proofs.«01_k».proof.Proof.Gen.Recall.Frame
public import proofs.«01_k».proof.Proof.Gen.RecallIdeal
public import proofs.«01_k».proof.Proof.Gen.RecallIdeal.Frame
public import proofs.«01_k».proof.Proof.Gen.RecallRefIdeal
public import proofs.«01_k».proof.Proof.Gen.RecallRefIdeal.Run
public import proofs.«01_k».proof.Proof.RecallClaim
public import proofs.«01_k».proof.Proof.Gen.Pre_mem_finite
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.MobaRefIdeal
public import proofs.«01_k».proof.Proof.Gen.MobaRefIdeal.Run
public import proofs.«01_k».proof.Proof.MobaClaim
public import proofs.«01_k».proof.Proof.Gen.Pre_moba_finite
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.GateClaim
public import proofs.«01_k».proof.Proof.Gen.Pre_gate_finite
public import Idealize.ShloMosaic.Adequacy
public import Idealize.ShloMosaic.Init

@[expose] public section

noncomputable section

namespace Cert.Proof

open Idealize.ShloMosaic Idealize.SL.Sem

/-- The frame of the reference `ConvRefIdeal`: its arguments end unchanged, and it has no semaphore. -/
theorem frameConvRef : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The frame of the reference `ConvSRefIdeal`: its arguments end unchanged, and it has no semaphore. -/
theorem frameConvSRef : Cert.quiescent_ConvSRefIdeal := fun m ρ _ =>
  (θ_run Cert.ConvSRefIdeal.defs _ _).mono (fun r h => ⟨fun c => (h c).2.2.2, sem_eq_zero_of_no_sems (by decide) r.2⟩)
    (Cert.ConvSRefIdeal.Value.run (F := Ideal) m ρ)

/-- The frame of the reference `PostRefIdeal`: its arguments end unchanged, and it has no semaphore. -/
theorem framePostRef : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The frame of the reference `LastRefIdeal`: its arguments end unchanged, and it has no semaphore. -/
theorem frameLastRef : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The frame of the reference `LastSRefIdeal`: its arguments end unchanged, and it has no semaphore. -/
theorem frameLastSRef : Cert.quiescent_LastSRefIdeal := fun m ρ _ =>
  (θ_run Cert.LastSRefIdeal.defs _ _).mono (fun r h => ⟨fun c => (h c).2, sem_eq_zero_of_no_sems (by decide) r.2⟩)
    (Cert.LastSRefIdeal.Value.run (F := Ideal) m ρ)

/-- The frame of the reference `KeysRefIdeal`: its arguments end unchanged, and it has no semaphore. -/
theorem frameKeysRef : Cert.quiescent_KeysRefIdeal := fun m ρ _ =>
  (θ_run Cert.KeysRefIdeal.defs _ _).mono (fun r h => ⟨fun c => (h c).2.2.2.2, sem_eq_zero_of_no_sems (by decide) r.2⟩)
    (Cert.KeysRefIdeal.Value.run (F := Ideal) m ρ)

/-- The frame of the reference `KvRefIdeal`: its arguments end unchanged, and it has no semaphore. -/
theorem frameKvRef : Cert.quiescent_KvRefIdeal := fun m ρ _ =>
  (θ_run Cert.KvRefIdeal.defs _ _).mono (fun r h => ⟨fun c => (h c).2.2.2.2.2, sem_eq_zero_of_no_sems (by decide) r.2⟩)
    (Cert.KvRefIdeal.Value.run (F := Ideal) m ρ)

/-- The frame of the reference `KvSRefIdeal`: its arguments end unchanged, and it has no semaphore. -/
theorem frameKvSRef : Cert.quiescent_KvSRefIdeal := fun m ρ _ =>
  (θ_run Cert.KvSRefIdeal.defs _ _).mono (fun r h => ⟨fun c => (h c).2.2, sem_eq_zero_of_no_sems (by decide) r.2⟩)
    (Cert.KvSRefIdeal.Value.run (F := Ideal) m ρ)

/-- The frame of the reference `RecallRefIdeal`: its arguments end unchanged, and it has no semaphore. -/
theorem frameRecallRef : Cert.quiescent_RecallRefIdeal := fun m ρ _ =>
  (θ_run Cert.RecallRefIdeal.defs _ _).mono (fun r h => ⟨fun c => (h c).2, sem_eq_zero_of_no_sems (by decide) r.2⟩)
    (Cert.RecallRefIdeal.Value.run (F := Ideal) m ρ)

/-- The frame of the reference `MobaRefIdeal`: its arguments end unchanged, and it has no semaphore. -/
theorem frameMobaRef : Cert.quiescent_MobaRefIdeal := fun m ρ _ =>
  (θ_run Cert.MobaRefIdeal.defs _ _).mono (fun r h => ⟨fun c => (h c).2, sem_eq_zero_of_no_sems (by decide) r.2⟩)
    (Cert.MobaRefIdeal.Value.run (F := Ideal) m ρ)

/-- The frame of the reference `GateRefIdeal`: its arguments end unchanged, and it has no semaphore. -/
theorem frameGateRef : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- The claim. -/
theorem claim : Cert.Claim :=
  ⟨Cert.Conv.Gen.facts, Cert.ConvIdeal.Gen.facts, Cert.ConvRefIdeal.Gen.facts, Cert.ConvS.Gen.facts, Cert.ConvSIdeal.Gen.facts, Cert.ConvSRefIdeal.Gen.facts, Cert.Post.Gen.facts, Cert.PostIdeal.Gen.facts, Cert.PostRefIdeal.Gen.facts, Cert.Last.Gen.facts, Cert.LastIdeal.Gen.facts, Cert.LastRefIdeal.Gen.facts, Cert.LastS.Gen.facts, Cert.LastSIdeal.Gen.facts, Cert.LastSRefIdeal.Gen.facts, Cert.Keys.Gen.facts, Cert.KeysIdeal.Gen.facts, Cert.KeysRefIdeal.Gen.facts, Cert.Kv.Gen.facts, Cert.KvIdeal.Gen.facts, Cert.KvRefIdeal.Gen.facts, Cert.KvS.Gen.facts, Cert.KvSIdeal.Gen.facts, Cert.KvSRefIdeal.Gen.facts, Cert.Recall.Gen.facts, Cert.RecallIdeal.Gen.facts, Cert.RecallRefIdeal.Gen.facts, Cert.Moba.Gen.facts, Cert.MobaIdeal.Gen.facts, Cert.MobaRefIdeal.Gen.facts, Cert.Gate.Gen.facts, Cert.GateIdeal.Gen.facts, Cert.GateRefIdeal.Gen.facts, Cert.Pre_mem_finite.Gen.facts, Cert.Pre_moba_finite.Gen.facts, Cert.Pre_gate_finite.Gen.facts,
    fun m ρ _ => Cert.Conv.Gen.frame m ρ, fun m ρ _ => Cert.ConvIdeal.Gen.frame m ρ, frameConvRef,
    fun m ρ _ => Cert.ConvS.Gen.frame m ρ, fun m ρ _ => Cert.ConvSIdeal.Gen.frame m ρ, frameConvSRef,
    fun m ρ _ => Cert.Post.Gen.frame m ρ, fun m ρ _ => Cert.PostIdeal.Gen.frame m ρ, framePostRef,
    fun m ρ _ => Cert.Last.Gen.frame m ρ, fun m ρ _ => Cert.LastIdeal.Gen.frame m ρ, frameLastRef,
    fun m ρ _ => Cert.LastS.Gen.frame m ρ, fun m ρ _ => Cert.LastSIdeal.Gen.frame m ρ, frameLastSRef,
    fun m ρ _ => Cert.Keys.Gen.frame m ρ, fun m ρ _ => Cert.KeysIdeal.Gen.frame m ρ, frameKeysRef,
    fun m ρ _ => Cert.Kv.Gen.frame m ρ, fun m ρ _ => Cert.KvIdeal.Gen.frame m ρ, frameKvRef,
    fun m ρ _ => Cert.KvS.Gen.frame m ρ, fun m ρ _ => Cert.KvSIdeal.Gen.frame m ρ, frameKvSRef,
    fun m ρ _ => Cert.Recall.Gen.frame m ρ, fun m ρ _ => Cert.RecallIdeal.Gen.frame m ρ, fun m ρ _ => Cert.RecallIdeal.Gen.frame m ρ, frameRecallRef, fun m ρ _ => frameRecallRef m ρ trivial,
    fun m ρ _ => Cert.Moba.Gen.frame m ρ, fun m ρ _ => Cert.MobaIdeal.Gen.frame m ρ, fun m ρ _ => Cert.MobaIdeal.Gen.frame m ρ, frameMobaRef, fun m ρ _ => frameMobaRef m ρ trivial,
    fun m ρ _ => Cert.Gate.Gen.frame m ρ, fun m ρ _ => Cert.GateIdeal.Gen.frame m ρ, fun m ρ _ => Cert.GateIdeal.Gen.frame m ρ, frameGateRef, fun m ρ _ => frameGateRef m ρ trivial,
    trivial, Cert.ConvValue.algebraic, trivial, Cert.ConvSValue.algebraic, trivial, Cert.PostValue.algebraic, trivial, Cert.LastValue.algebraic, trivial, Cert.LastSValue.algebraic, trivial, Cert.KeysValue.algebraic, trivial, Cert.KvValue.algebraic, trivial, Cert.KvSValue.algebraic, trivial, Cert.RecallValue.algebraic, IdealRules.named_const.statement Cert.MobaIdeal.κ "mask" .f32 0xF1800000#32 ⊥ rfl, Cert.MobaValue.algebraic, trivial, Cert.GateValue.algebraic⟩

end Cert.Proof

end
